-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v497) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v21)) (v1 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_v22) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v106) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts) (hPre_finite : Cert.Pre_finite.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S4x4096x1024 : Shape := ⟨3, ![4, 4096, 1024]⟩
abbrev S4x4096x2048 : Shape := ⟨3, ![4, 4096, 2048]⟩
abbrev S4x12288 : Shape := ⟨2, ![4, 12288]⟩
abbrev S1024 : Shape := ⟨1, ![1024]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x2048 : S_.BroadcastsInDim S4x4096x2048 (![] : Fin 0 → Fin S4x4096x2048.rank)
  reducesTo_S4x4096x2048_S_d0_1_2 : S4x4096x2048.ReducesTo [0, 1, 2] S_
  bcast_S_S4x12288 : S_.BroadcastsInDim S4x12288 (![] : Fin 0 → Fin S4x12288.rank)
  reducesTo_S4x12288_S_d0_1 : S4x12288.ReducesTo [0, 1] S_
  bcast_S_S1024 : S_.BroadcastsInDim S1024 (![] : Fin 0 → Fin S1024.rank)
  reducesTo_S1024_S_d0 : S1024.ReducesTo [0] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x4 : S_.BroadcastsInDim S2048x4 (![] : Fin 0 → Fin S2048x4.rank)
  reducesTo_S2048x4_S_d0_1 : S2048x4.ReducesTo [0, 1] S_
  bcast_S_S4 : S_.BroadcastsInDim S4 (![] : Fin 0 → Fin S4.rank)
  reducesTo_S4_S_d0 : S4.ReducesTo [0] S_
  bcast_S_S2048x32 : S_.BroadcastsInDim S2048x32 (![] : Fin 0 → Fin S2048x32.rank)
  reducesTo_S2048x32_S_d0_1 : S2048x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_v48 : IVec S_ 1) (main_v49 : FVec F S2048x32 .f32) (main_v50 : FVec F S2048x32 .f32) : IVec S_ 1 :=
  let main_v51 : IVec S2048x32 1 := cmpf .olt main_v49 main_v50
  let main_c_19 : IVec S_ 1 := constantI S_ 1 1#1
  let main_v52 : IVec S_ 1 := (fun x v => Host.reduce IntOp.andi x v reducesTo_S2048x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S2048x2048 .f32) (main_arg8 : FVec F S2048x4 .f32) (main_arg9 : FVec F S4 .f32) (main_arg10 : FVec F S2048x32 .f32) (main_arg11 : FVec F S32 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x4 .f32 := Host.absf main_arg8
  let main_cst_14 : FVec F S_ .f32 := constant S_ .f32 0x7F800000#32
  let main_v40 : FVec F S2048x4 .f32 := broadcastInDim S2048x4 ![] bcast_S_S2048x4 main_cst_14
  let main_v41 : IVec S2048x4 1 := cmpf .olt main_v39 main_v40
  let main_c_15 : IVec S_ 1 := constantI S_ 1 1#1
  let main_v42 : IVec S_ 1 := (fun x v => Host.reduce IntOp.andi x v reducesTo_S2048x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S2048x32 .f32 := Host.absf main_arg10
  let main_cst_18 : FVec F S_ .f32 := constant S_ .f32 0x7F800000#32
  let main_v50 : FVec F S2048x32 .f32 := broadcastInDim S2048x32 ![] bcast_S_S2048x32 main_cst_18
  fn_part3 (F := F) main_arg11 main_v48 main_v49 main_v50

def fn_part1 {F : FTy → Type} [FloatOps F] (main_arg4 : FVec F S1024 .f32) (main_arg5 : FVec F S1024 .f32) (main_arg6 : FVec F S2048 .f32) (main_arg7 : FVec F S2048x2048 .f32) (main_arg8 : FVec F S2048x4 .f32) (main_arg9 : FVec F S4 .f32) (main_arg10 : FVec F S2048x32 .f32) (main_arg11 : FVec F S32 .f32) (main_v13 : IVec S_ 1) (main_v16 : IVec S4x12288 1) : IVec S_ 1 :=
  let main_c_5 : IVec S_ 1 := constantI S_ 1 1#1
  let main_v17 : IVec S_ 1 := (fun x v => Host.reduce IntOp.andi x v reducesTo_S4x12288_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x4096x1024 .bf16) (main_arg1 : FVec F S4x4096x1024 .bf16) (main_arg2 : FVec F S4x4096x2048 .f32) (main_arg3 : FVec F S4x12288 .f32) (main_arg4 : FVec F S1024 .f32) (main_arg5 : FVec F S1024 .f32) (main_arg6 : FVec F S2048 .f32) (main_arg7 : FVec F S2048x2048 .f32) (main_arg8 : FVec F S2048x4 .f32) (main_arg9 : FVec F S4 .f32) (main_arg10 : FVec F S2048x32 .f32) (main_arg11 : FVec F S32 .f32) : IVec S_ 1 :=
  let main_v0 : FVec F S4x4096x1024 .bf16 := Host.absf main_arg0
  let main_cst : FVec F S_ .bf16 := constant S_ .bf16 0x7F80#16
  let main_v1 : FVec F S4x4096x1024 .bf16 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .bf16 := Host.absf main_arg1
  let main_cst_0 : FVec F S_ .bf16 := constant S_ .bf16 0x7F80#16
  let main_v5 : FVec F S4x4096x1024 .bf16 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x2048 .f32 := Host.absf main_arg2
  let main_cst_2 : FVec F S_ .f32 := constant S_ .f32 0x7F800000#32
  let main_v10 : FVec F S4x4096x2048 .f32 := broadcastInDim S4x4096x2048 ![] bcast_S_S4x4096x2048 main_cst_2
  let main_v11 : IVec S4x4096x2048 1 := cmpf .olt main_v9 main_v10
  let main_c_3 : IVec S_ 1 := constantI S_ 1 1#1
  let main_v12 : IVec S_ 1 := (fun x v => Host.reduce IntOp.andi x v reducesTo_S4x4096x2048_S_d0_1_2 h_S_) main_v11 main_c_3
  let main_v13 : IVec S_ 1 := andi main_v8 main_v12
  let main_v14 : FVec F S4x12288 .f32 := Host.absf main_arg3
  let main_cst_4 : FVec F S_ .f32 := constant S_ .f32 0x7F800000#32
  let main_v15 : FVec F S4x12288 .f32 := broadcastInDim S4x12288 ![] bcast_S_S4x12288 main_cst_4
  let main_v16 : IVec S4x12288 1 := cmpf .olt main_v14 main_v15
  fn_part1 (F := F) main_arg4 main_arg5 main_arg6 main_arg7 main_arg8 main_arg9 main_arg10 main_arg11 main_v13 main_v16
-- ==== Pre_routed.lean ====
abbrev S32 : Shape := ⟨1, ![32]⟩
abbrev S49152x2048 : Shape := ⟨2, ![49152, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S49152x2048 .f32) (main_arg2 : FVec F S32x2048x512 .f32) (main_arg3 : FVec F S32x2048x512 .f32) (main_arg4 : FVec F S32x512x2048 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 32768#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg0 main_c_1
  let main_c_2 : IVec S_ 32 := constantI S_ 32 32768#32
  let main_v6 : IVec S_ 1 := cmpi .eq main_v5 main_c_2
  let main_v7 : IVec S32 1 := broadcastInDim S32 ![] bcast_S_S32 main_v6
  let main_v8 : IVec S32 1 := andi main_v4 main_v7
  main_v8
-- ==== Kernel.lean ====
abbrev S32 : Shape := ⟨1, ![32]⟩
abbrev S49152x2048 : Shape := ⟨2, ![49152, 2048]⟩
abbrev S32x2048x512 : Shape := ⟨3, ![32, 2048, 512]⟩
abbrev S32x512x2048 : Shape := ⟨3, ![32, 512, 2048]⟩
abbrev S_ : Shape := ⟨0, ![]⟩
abbrev S1 : Shape := ⟨1, ![1]⟩
abbrev S96 : Shape := ⟨1, ![96]⟩
abbrev S96x1 : Shape := ⟨2, ![96, 1]⟩
abbrev S1x32 : Shape := ⟨2, ![1, 32]⟩
abbrev S96x32 : Shape := ⟨2, ![96, 32]⟩
abbrev S32x1 : Shape := ⟨2, ![32, 1]⟩
abbrev S32x32 : Shape := ⟨2, ![32, 32]⟩
abbrev S512x2048 : Shape := ⟨2, ![512, 2048]⟩
abbrev S2048x512 : Shape := ⟨2, ![2048, 512]⟩
abbrev S1x2048x512 : Shape := ⟨3, ![1, 2048, 512]⟩
abbrev S1x512x2048 : Shape := ⟨3, ![1, 512, 2048]⟩
abbrev S512x512 : Shape := ⟨2, ![512, 512]⟩

abbrev nBuf : Space → Nat
  | .hbm => 91
  | .vmem => 10
  | .smem => 3
  | _ => 0

abbrev bufTy : (tb : Table) → Fin (tcTables nBuf tb) → BufTy
  | .hbm, ⟨0, _⟩ => ⟨S32, .i32⟩
  | .hbm, ⟨1, _⟩ => ⟨S49152x2048, .f32⟩
  | .hbm, ⟨2, _⟩ => ⟨S32x2048x512, .f32⟩
  | .hbm, ⟨3, _⟩ => ⟨S32x2048x512, .f32⟩
  | .hbm, ⟨4, _⟩ => ⟨S32x512x2048, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S1, .i32⟩
  | .hbm, ⟨33, _⟩ => ⟨S_, .i32⟩
  | .hbm, ⟨34, _⟩ => ⟨S96, .i32⟩
  | .hbm, ⟨35, _⟩ => ⟨S96x1, .i32⟩
  | .hbm, ⟨36, _⟩ => ⟨S1x32, .i32⟩
  | .hbm, ⟨37, _⟩ => ⟨S96x32, .i32⟩
  | .hbm, ⟨38, _⟩ => ⟨S96x32, .i32⟩
  | .hbm, ⟨39, _⟩ => ⟨S96x32, .i1⟩
  | .hbm, ⟨40, _⟩ => ⟨S96x32, .i32⟩
  | .hbm, ⟨41, _⟩ => ⟨S_, .i32⟩
  | .hbm, ⟨42, _⟩ => ⟨S96, .i32⟩
  | .hbm, ⟨43, _⟩ => ⟨S_, .i32⟩
  | .hbm, ⟨44, _⟩ => ⟨S_, .i32⟩
  | .hbm, ⟨45, _⟩ => ⟨S32, .i32⟩
  | .hbm, ⟨46, _⟩ => ⟨S32, .i1⟩
  | .hbm, ⟨47, _⟩ => ⟨S32, .i32⟩
  | .hbm, ⟨48, _⟩ => ⟨S_, .i32⟩
  | .hbm, ⟨49, _⟩ => ⟨S_, .i32⟩
  | .hbm, ⟨50, _⟩ => ⟨S96, .i32⟩
  | .hbm, ⟨51, _⟩ => ⟨S96, .i1⟩
  | .hbm, ⟨52, _⟩ => ⟨S96, .i32⟩
  | .hbm, ⟨53, _⟩ => ⟨S32, .i32⟩
  | .hbm, ⟨54, _⟩ => ⟨S1x32, .i32⟩
  | .hbm, ⟨55, _⟩ => ⟨S32x1, .i32⟩
  | .hbm, ⟨56, _⟩ => ⟨S32x32, .i32⟩
  | .hbm, ⟨57, _⟩ => ⟨S32x32, .i32⟩
  | .hbm, ⟨58, _⟩ => ⟨S32x32, .i1⟩
  | .hbm, ⟨59, _⟩ => ⟨S1x32, .i32⟩
  | .hbm, ⟨60, _⟩ => ⟨S_, .i32⟩
  | .hbm, ⟨61, _⟩ => ⟨S1x32, .i32⟩
  | .hbm, ⟨62, _⟩ => ⟨S1x32, .i1⟩
  | .hbm, ⟨63, _⟩ => ⟨S32x32, .i1⟩
  | .hbm, ⟨64, _⟩ => ⟨S32x32, .i1⟩
  | .hbm, ⟨65, _⟩ => ⟨S1x32, .i32⟩
  | .hbm, ⟨66, _⟩ => ⟨S_, .i32⟩
  | .hbm, ⟨67, _⟩ => ⟨S_, .i32⟩
  | .hbm, ⟨68, _⟩ => ⟨S32x32, .i32⟩
  | .hbm, ⟨69, _⟩ => ⟨S32x32, .i32⟩
  | .hbm, ⟨70, _⟩ => ⟨S32x32, .i32⟩
  | .hbm, ⟨71, _⟩ => ⟨S_, .i32⟩
  | .hbm, ⟨72, _⟩ => ⟨S32, .i32⟩
  | .hbm, ⟨73, _⟩ => ⟨S_, .i32⟩
  | .hbm, ⟨74, _⟩ => ⟨S32, .i32⟩
  | .hbm, ⟨75, _⟩ => ⟨S32, .i1⟩
  | .hbm, ⟨76, _⟩ => ⟨S_, .i32⟩
  | .hbm, ⟨77, _⟩ => ⟨S_, .i32⟩
  | .hbm, ⟨78, _⟩ => ⟨S32, .i32⟩
  | .hbm, ⟨79, _⟩ => ⟨S32, .i32⟩
  | .hbm, ⟨80, _⟩ => ⟨S96x1, .i32⟩
  | .hbm, ⟨81, _⟩ => ⟨S1x32, .i32⟩
  | .hbm, ⟨82, _⟩ => ⟨S96x32, .i32⟩
  | .hbm, ⟨83, _⟩ => ⟨S96x32, .i32⟩
  | .hbm, ⟨84, _⟩ => ⟨S96x32, .i1⟩
  | .hbm, ⟨85, _⟩ => ⟨S96x32, .i32⟩
  | .hbm, ⟨86, _⟩ => ⟨S1x32, .i32⟩
  | .hbm, ⟨87, _⟩ => ⟨S96x32, .i32⟩
  | .hbm, ⟨88, _⟩ => ⟨S96x32, .i32⟩
  | .hbm, ⟨89, _⟩ => ⟨S_, .i32⟩
  | .hbm, ⟨90, _⟩ => ⟨S49152x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S96, .i32⟩
  | .local _ .smem, ⟨1, _⟩ => ⟨S96, .i32⟩
  | .local _ .smem, ⟨2, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_call2_v0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v36 : Ref sig .tc := ⟨.hbm, 70, rfl⟩
abbrev main_c_7 : Ref sig .tc := ⟨.hbm, 71, rfl⟩
abbrev main_v37 : Ref sig .tc := ⟨.hbm, 72, rfl⟩
abbrev main_c_8 : Ref sig .tc := ⟨.hbm, 73, rfl⟩
abbrev main_v38 : Ref sig .tc := ⟨.hbm, 74, rfl⟩
abbrev main_v39 : Ref sig .tc := ⟨.hbm, 75, rfl⟩
abbrev main_c_9 : Ref sig .tc := ⟨.hbm, 76, rfl⟩
abbrev main_call4_v0 : Ref sig .tc := ⟨.hbm, 77, rfl⟩
abbrev main_call4_v1 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_10 : Ref sig .tc := ⟨.hbm, 89, rfl⟩
abbrev main_v52 : Ref sig .tc := ⟨.hbm, 90, rfl⟩
abbrev main_v23 : Ref sig .tc := ⟨.smem, 0, rfl⟩
abbrev main_v50 : Ref sig .tc := ⟨.smem, 1, rfl⟩
abbrev main_v51 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

abbrev pre0 : Pipeline.Prefetch sig := ⟨3, ![main_v23.idx, main_v50.idx, main_v51.idx], fun | 0 => main_v23.names | 1 => main_v50.names | 2 => main_v51.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (v10 : BitVec 32) : Fin 3 → Nat :=
  let c0_i32_5 : BitVec 32 := 0#32
  let c0_i32_6 : BitVec 32 := 0#32
  ![v10.toNat, 0, 0]

def k0_off2 (v10 : BitVec 32) : Fin 3 → Nat :=
  let c0_i32_11 : BitVec 32 := 0#32
  let c0_i32_12 : BitVec 32 := 0#32
  ![v10.toNat, 0, 0]

def k0_chk1 (i : grid0.Coords) (v10 : BitVec 32) : Prop :=
  (∀ (k0_h1 : k0_cond1 i = 1#1), ∀ a, (k0_off1 v10) a + S1x2048x512.size a ≤ S32x2048x512.size a) ∧
  (∀ (k0_h1 : k0_cond1 i = 1#1), ∀ a, (k0_off2 v10) a + S1x512x2048.size a ≤ S32x512x2048.size a)
theorem k0_off1_inb : ∀ (i : grid0.Coords) (v10 : BitVec 32) (k0_hw1 : k0_chk1 i v10), ∀ (k0_h1 : k0_cond1 i = 1#1), ∀ a, (k0_off1 v10) a + S1x2048x512.size a ≤ S32x2048x512.size a := fun i v10 k0_hw1 k0_h1 => k0_hw1.1 k0_h1
theorem k0_off2_inb : ∀ (i : grid0.Coords) (v10 : BitVec 32) (k0_hw1 : k0_chk1 i v10), ∀ (k0_h1 : k0_cond1 i = 1#1), ∀ a, (k0_off2 v10) a + S1x512x2048.size a ≤ S32x512x2048.size a := fun i v10 k0_hw1 k0_h1 => k0_hw1.2 k0_h1

def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let c1_i32 : BitVec 32 := 1#32
  let v13 : BitVec 32 := Scalar.subi arg0 c1_i32
  let c0_i32_4 : BitVec 32 := 0#32
  let v14 : BitVec 32 := Scalar.maxsi v13 c0_i32_4
  let v15 : Index := Scalar.indexCast v14
  ![v15.toNat]
def k0_off5 (i : grid0.Coords) : Fin 1 → Nat :=
  let arg0 : BitVec 32 := BitVec.ofNat 32 (i 0).val
  let v61 : Index := Scalar.indexCast arg0
  ![v61.toNat]
def k0_off6 (i : grid0.Coords) : Fin 1 → Nat :=
  let arg0 : BitVec 32 := BitVec.ofNat 32 (i 0).val
  let v66 : Index := Scalar.indexCast arg0
  ![v66.toNat]
def k0_off7 (v67 : BitVec 32) : Fin 3 → Nat :=
  let c0_i32_45 : BitVec 32 := 0#32
  let c0_i32_46 : BitVec 32 := 0#32
  ![v67.toNat, 0, 0]
def k0_cond2 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_cond3 (i : grid0.Coords) (v12 : BitVec 32) (v16 : BitVec 32) : BitVec 1 :=
  let arg0 : BitVec 32 := BitVec.ofNat 32 (i 0).val
  let c0_i32_3 : BitVec 32 := 0#32
  let v10 : BitVec 1 := Scalar.cmpi .eq arg0 c0_i32_3
  let v17 : BitVec 1 := Scalar.cmpi .ne v12 v16
  let v18 : BitVec 1 := Scalar.ori v10 v17
  let v19 : BitVec 32 := Scalar.extui v18
  let c0_i32_5 : BitVec 32 := 0#32
  let v20 : BitVec 1 := Scalar.cmpi .ne v19 c0_i32_5
  v20

def k0_cond4 (v62 : BitVec 32) : BitVec 1 :=
  let c0_i32_42 : BitVec 32 := 0#32
  let v63 : BitVec 1 := Scalar.cmpi .sge v62 c0_i32_42
  let v64 : BitVec 32 := Scalar.extui v63
  let c0_i32_43 : BitVec 32 := 0#32
  let v65 : BitVec 1 := Scalar.cmpi .ne v64 c0_i32_43
  v65

def k0_off8 (v67 : BitVec 32) : Fin 3 → Nat :=
  let c0_i32_51 : BitVec 32 := 0#32
  let c0_i32_52 : BitVec 32 := 0#32
  ![v67.toNat, 0, 0]

def k0_chk2 (i : grid0.Coords) (v0 : BitVec 32) (v12 : BitVec 32) (v16 : BitVec 32) (v62 : BitVec 32) (v67 : BitVec 32) : Prop :=
  (∀ (k0_h2 : k0_cond2 i v0 = 1#1), ∀ (k0_h3 : k0_cond3 i v12 v16 = 1#1), ∀ (k0_h4 : k0_cond4 v62 = 1#1), ∀ a, (k0_off7 v67) a + S1x2048x512.size a ≤ S32x2048x512.size a) ∧
  (∀ (k0_h2 : k0_cond2 i v0 = 1#1), ∀ (k0_h3 : k0_cond3 i v12 v16 = 1#1), ∀ (k0_h4 : k0_cond4 v62 = 1#1), ∀ a, (k0_off8 v67) a + S1x512x2048.size a ≤ S32x512x2048.size a)
theorem k0_off7_inb : ∀ (i : grid0.Coords) (v0 : BitVec 32) (v12 : BitVec 32) (v16 : BitVec 32) (v62 : BitVec 32) (v67 : BitVec 32) (k0_hw2 : k0_chk2 i v0 v12 v16 v62 v67), ∀ (k0_h2 : k0_cond2 i v0 = 1#1), ∀ (k0_h3 : k0_cond3 i v12 v16 = 1#1), ∀ (k0_h4 : k0_cond4 v62 = 1#1), ∀ a, (k0_off7 v67) a + S1x2048x512.size a ≤ S32x2048x512.size a := fun i v0 v12 v16 v62 v67 k0_hw2 k0_h2 k0_h3 k0_h4 => k0_hw2.1 k0_h2 k0_h3 k0_h4
theorem k0_off8_inb : ∀ (i : grid0.Coords) (v0 : BitVec 32) (v12 : BitVec 32) (v16 : BitVec 32) (v62 : BitVec 32) (v67 : BitVec 32) (k0_hw2 : k0_chk2 i v0 v12 v16 v62 v67), ∀ (k0_h2 : k0_cond2 i v0 = 1#1), ∀ (k0_h3 : k0_cond3 i v12 v16 = 1#1), ∀ (k0_h4 : k0_cond4 v62 = 1#1), ∀ a, (k0_off8 v67) a + S1x512x2048.size a ≤ S32x512x2048.size a := fun i v0 v12 v16 v62 v67 k0_hw2 k0_h2 k0_h3 k0_h4 => k0_hw2.2 k0_h2 k0_h3 k0_h4

def k0_cond5 (i : grid0.Coords) (v0 : BitVec 32) : BitVec 1 :=
  let arg0 : BitVec 32 := BitVec.ofNat 32 (i 0).val
  let v7 : BitVec 1 := Scalar.cmpi .sge arg0 v0
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32 : Shape := ⟨1, ![32]⟩
abbrev S49152x2048 : Shape := ⟨2, ![49152, 2048]⟩
abbrev S32x2048x512 : Shape := ⟨3, ![32, 2048, 512]⟩
abbrev S32x512x2048 : Shape := ⟨3, ![32, 512, 2048]⟩
abbrev S_ : Shape := ⟨0, ![]⟩
abbrev S49152 : Shape := ⟨1, ![49152]⟩
abbrev S49152x1 : Shape := ⟨2, ![49152, 1]⟩
abbrev S1x32 : Shape := ⟨2, ![1, 32]⟩
abbrev S49152x32 : Shape := ⟨2, ![49152, 32]⟩
abbrev S1x2048x512 : Shape := ⟨3, ![1, 2048, 512]⟩
abbrev S2048x512 : Shape := ⟨2, ![2048, 512]⟩
abbrev S49152x512 : Shape := ⟨2, ![49152, 512]⟩
abbrev S1x512x2048 : Shape := ⟨3, ![1, 512, 2048]⟩
abbrev S512x2048 : Shape := ⟨2, ![512, 2048]⟩

abbrev nBuf : Space → Nat
  | .hbm => 788
  | .vmem => 0
  | .smem => 0
  | _ => 0

abbrev hbmTy0_0 (i : Nat) : BufTy := match i % 128 with
  | 0 => ⟨S32, .i32⟩
  | 1 => ⟨S49152x2048, .f32⟩
  | 2 => ⟨S32x2048x512, .f32⟩
  | 3 => ⟨S32x2048x512, .f32⟩
  | 4 => ⟨S32x512x2048, .f32⟩
  | 5 => ⟨S_, .i32⟩
  | 6 => ⟨S32, .i32⟩
  | 7 => ⟨S32, .i32⟩
  | 8 => ⟨S_, .i32⟩
  | 9 => ⟨S32, .i32⟩
  | 10 => ⟨S32, .i32⟩
  | 11 => ⟨S_, .i32⟩
  | 12 => ⟨S_, .i32⟩
  | 13 => ⟨S32, .i32⟩
  | 14 => ⟨S32, .i32⟩
  | 15 => ⟨S32, .i32⟩
  | 16 => ⟨S_, .i32⟩
  | 17 => ⟨S32, .i32⟩
  | 18 => ⟨S32, .i1⟩
  | 19 => ⟨S32, .i32⟩
  | 20 => ⟨S32, .i32⟩
  | 21 => ⟨S_, .i32⟩
  | 22 => ⟨S32, .i32⟩
  | 23 => ⟨S32, .i1⟩
  | 24 => ⟨S32, .i1⟩
  | 25 => ⟨S_, .i32⟩
  | 26 => ⟨S32, .i32⟩
  | 27 => ⟨S32, .i32⟩
  | 28 => ⟨S32, .i32⟩
  | 29 => ⟨S_, .i32⟩
  | 30 => ⟨S_, .i32⟩
  | 31 => ⟨S32, .i32⟩
  | 32 => ⟨S_, .i32⟩
  | 33 => ⟨S32, .i32⟩
  | 34 => ⟨S32, .i32⟩
  | 35 => ⟨S49152, .i32⟩
  | 36 => ⟨S49152x1, .i32⟩
  | 37 => ⟨S1x32, .i32⟩
  | 38 => ⟨S49152x32, .i32⟩
  | 39 => ⟨S49152x32, .i32⟩
  | 40 => ⟨S49152x32, .i1⟩
  | 41 => ⟨S49152x32, .i32⟩
  | 42 => ⟨S_, .i32⟩
  | 43 => ⟨S49152, .i32⟩
  | 44 => ⟨S49152x1, .i32⟩
  | 45 => ⟨S1x32, .i32⟩
  | 46 => ⟨S49152x32, .i32⟩
  | 47 => ⟨S49152x32, .i32⟩
  | 48 => ⟨S49152x32, .i1⟩
  | 49 => ⟨S49152x32, .f32⟩
  | 50 => ⟨S_, .f32⟩
  | 51 => ⟨S49152x2048, .f32⟩
  | 52 => ⟨S1x2048x512, .f32⟩
  | 53 => ⟨S2048x512, .f32⟩
  | 54 => ⟨S49152x512, .f32⟩
  | 55 => ⟨S49152x512, .f32⟩
  | 56 => ⟨S49152x512, .f32⟩
  | 57 => ⟨S_, .f32⟩
  | 58 => ⟨S49152x512, .f32⟩
  | 59 => ⟨S49152x512, .f32⟩
  | 60 => ⟨S_, .f32⟩
  | 61 => ⟨S49152x512, .f32⟩
  | 62 => ⟨S49152x512, .f32⟩
  | 63 => ⟨S49152x512, .f32⟩
  | 64 => ⟨S1x2048x512, .f32⟩
  | 65 => ⟨S2048x512, .f32⟩
  | 66 => ⟨S49152x512, .f32⟩
  | 67 => ⟨S49152x512, .f32⟩
  | 68 => ⟨S49152x1, .f32⟩
  | 69 => ⟨S1x512x2048, .f32⟩
  | 70 => ⟨S512x2048, .f32⟩
  | 71 => ⟨S49152x2048, .f32⟩
  | 72 => ⟨S49152x2048, .f32⟩
  | 73 => ⟨S49152x2048, .f32⟩
  | 74 => ⟨S49152x2048, .f32⟩
  | 75 => ⟨S1x2048x512, .f32⟩
  | 76 => ⟨S2048x512, .f32⟩
  | 77 => ⟨S49152x512, .f32⟩
  | 78 => ⟨S49152x512, .f32⟩
  | 79 => ⟨S49152x512, .f32⟩
  | 80 => ⟨S_, .f32⟩
  | 81 => ⟨S49152x512, .f32⟩
  | 82 => ⟨S49152x512, .f32⟩
  | 83 => ⟨S_, .f32⟩
  | 84 => ⟨S49152x512, .f32⟩
  | 85 => ⟨S49152x512, .f32⟩
  | 86 => ⟨S49152x512, .f32⟩
  | 87 => ⟨S1x2048x512, .f32⟩
  | 88 => ⟨S2048x512, .f32⟩
  | 89 => ⟨S49152x512, .f32⟩
  | 90 => ⟨S49152x512, .f32⟩
  | 91 => ⟨S49152x1, .f32⟩
  | 92 => ⟨S1x512x2048, .f32⟩
  | 93 => ⟨S512x2048, .f32⟩
  | 94 => ⟨S49152x2048, .f32⟩
  | 95 => ⟨S49152x2048, .f32⟩
  | 96 => ⟨S49152x2048, .f32⟩
  | 97 => ⟨S49152x2048, .f32⟩
  | 98 => ⟨S1x2048x512, .f32⟩
  | 99 => ⟨S2048x512, .f32⟩
  | 100 => ⟨S49152x512, .f32⟩
  | 101 => ⟨S49152x512, .f32⟩
  | 102 => ⟨S49152x512, .f32⟩
  | 103 => ⟨S_, .f32⟩
  | 104 => ⟨S49152x512, .f32⟩
  | 105 => ⟨S49152x512, .f32⟩
  | 106 => ⟨S_, .f32⟩
  | 107 => ⟨S49152x512, .f32⟩
  | 108 => ⟨S49152x512, .f32⟩
  | 109 => ⟨S49152x512, .f32⟩
  | 110 => ⟨S1x2048x512, .f32⟩
  | 111 => ⟨S2048x512, .f32⟩
  | 112 => ⟨S49152x512, .f32⟩
  | 113 => ⟨S49152x512, .f32⟩
  | 114 => ⟨S49152x1, .f32⟩
  | 115 => ⟨S1x512x2048, .f32⟩
  | 116 => ⟨S512x2048, .f32⟩
  | 117 => ⟨S49152x2048, .f32⟩
  | 118 => ⟨S49152x2048, .f32⟩
  | 119 => ⟨S49152x2048, .f32⟩
  | 120 => ⟨S49152x2048, .f32⟩
  | 121 => ⟨S1x2048x512, .f32⟩
  | 122 => ⟨S2048x512, .f32⟩
  | 123 => ⟨S49152x512, .f32⟩
  | 124 => ⟨S49152x512, .f32⟩
  | 125 => ⟨S49152x512, .f32⟩
  | 126 => ⟨S_, .f32⟩
  | 127 => ⟨S49152x512, .f32⟩
  | _ => ⟨S32, .i32⟩

abbrev hbmTy0_1 (i : Nat) : BufTy := match i % 128 with
  | 0 => ⟨S49152x512, .f32⟩
  | 1 => ⟨S_, .f32⟩
  | 2 => ⟨S49152x512, .f32⟩
  | 3 => ⟨S49152x512, .f32⟩
  | 4 => ⟨S49152x512, .f32⟩
  | 5 => ⟨S1x2048x512, .f32⟩
  | 6 => ⟨S2048x512, .f32⟩
  | 7 => ⟨S49152x512, .f32⟩
  | 8 => ⟨S49152x512, .f32⟩
  | 9 => ⟨S49152x1, .f32⟩
  | 10 => ⟨S1x512x2048, .f32⟩
  | 11 => ⟨S512x2048, .f32⟩
  | 12 => ⟨S49152x2048, .f32⟩
  | 13 => ⟨S49152x2048, .f32⟩
  | 14 => ⟨S49152x2048, .f32⟩
  | 15 => ⟨S49152x2048, .f32⟩
  | 16 => ⟨S1x2048x512, .f32⟩
  | 17 => ⟨S2048x512, .f32⟩
  | 18 => ⟨S49152x512, .f32⟩
  | 19 => ⟨S49152x512, .f32⟩
  | 20 => ⟨S49152x512, .f32⟩
  | 21 => ⟨S_, .f32⟩
  | 22 => ⟨S49152x512, .f32⟩
  | 23 => ⟨S49152x512, .f32⟩
  | 24 => ⟨S_, .f32⟩
  | 25 => ⟨S49152x512, .f32⟩
  | 26 => ⟨S49152x512, .f32⟩
  | 27 => ⟨S49152x512, .f32⟩
  | 28 => ⟨S1x2048x512, .f32⟩
  | 29 => ⟨S2048x512, .f32⟩
  | 30 => ⟨S49152x512, .f32⟩
  | 31 => ⟨S49152x512, .f32⟩
  | 32 => ⟨S49152x1, .f32⟩
  | 33 => ⟨S1x512x2048, .f32⟩
  | 34 => ⟨S512x2048, .f32⟩
  | 35 => ⟨S49152x2048, .f32⟩
  | 36 => ⟨S49152x2048, .f32⟩
  | 37 => ⟨S49152x2048, .f32⟩
  | 38 => ⟨S49152x2048, .f32⟩
  | 39 => ⟨S1x2048x512, .f32⟩
  | 40 => ⟨S2048x512, .f32⟩
  | 41 => ⟨S49152x512, .f32⟩
  | 42 => ⟨S49152x512, .f32⟩
  | 43 => ⟨S49152x512, .f32⟩
  | 44 => ⟨S_, .f32⟩
  | 45 => ⟨S49152x512, .f32⟩
  | 46 => ⟨S49152x512, .f32⟩
  | 47 => ⟨S_, .f32⟩
  | 48 => ⟨S49152x512, .f32⟩
  | 49 => ⟨S49152x512, .f32⟩
  | 50 => ⟨S49152x512, .f32⟩
  | 51 => ⟨S1x2048x512, .f32⟩
  | 52 => ⟨S2048x512, .f32⟩
  | 53 => ⟨S49152x512, .f32⟩
  | 54 => ⟨S49152x512, .f32⟩
  | 55 => ⟨S49152x1, .f32⟩
  | 56 => ⟨S1x512x2048, .f32⟩
  | 57 => ⟨S512x2048, .f32⟩
  | 58 => ⟨S49152x2048, .f32⟩
  | 59 => ⟨S49152x2048, .f32⟩
  | 60 => ⟨S49152x2048, .f32⟩
  | 61 => ⟨S49152x2048, .f32⟩
  | 62 => ⟨S1x2048x512, .f32⟩
  | 63 => ⟨S2048x512, .f32⟩
  | 64 => ⟨S49152x512, .f32⟩
  | 65 => ⟨S49152x512, .f32⟩
  | 66 => ⟨S49152x512, .f32⟩
  | 67 => ⟨S_, .f32⟩
  | 68 => ⟨S49152x512, .f32⟩
  | 69 => ⟨S49152x512, .f32⟩
  | 70 => ⟨S_, .f32⟩
  | 71 => ⟨S49152x512, .f32⟩
  | 72 => ⟨S49152x512, .f32⟩
  | 73 => ⟨S49152x512, .f32⟩
  | 74 => ⟨S1x2048x512, .f32⟩
  | 75 => ⟨S2048x512, .f32⟩
  | 76 => ⟨S49152x512, .f32⟩
  | 77 => ⟨S49152x512, .f32⟩
  | 78 => ⟨S49152x1, .f32⟩
  | 79 => ⟨S1x512x2048, .f32⟩
  | 80 => ⟨S512x2048, .f32⟩
  | 81 => ⟨S49152x2048, .f32⟩
  | 82 => ⟨S49152x2048, .f32⟩
  | 83 => ⟨S49152x2048, .f32⟩
  | 84 => ⟨S49152x2048, .f32⟩
  | 85 => ⟨S1x2048x512, .f32⟩
  | 86 => ⟨S2048x512, .f32⟩
  | 87 => ⟨S49152x512, .f32⟩
  | 88 => ⟨S49152x512, .f32⟩
  | 89 => ⟨S49152x512, .f32⟩
  | 90 => ⟨S_, .f32⟩
  | 91 => ⟨S49152x512, .f32⟩
  | 92 => ⟨S49152x512, .f32⟩
  | 93 => ⟨S_, .f32⟩
  | 94 => ⟨S49152x512, .f32⟩
  | 95 => ⟨S49152x512, .f32⟩
  | 96 => ⟨S49152x512, .f32⟩
  | 97 => ⟨S1x2048x512, .f32⟩
  | 98 => ⟨S2048x512, .f32⟩
  | 99 => ⟨S49152x512, .f32⟩
  | 100 => ⟨S49152x512, .f32⟩
  | 101 => ⟨S49152x1, .f32⟩
  | 102 => ⟨S1x512x2048, .f32⟩
  | 103 => ⟨S512x2048, .f32⟩
  | 104 => ⟨S49152x2048, .f32⟩
  | 105 => ⟨S49152x2048, .f32⟩
  | 106 => ⟨S49152x2048, .f32⟩
  | 107 => ⟨S49152x2048, .f32⟩
  | 108 => ⟨S1x2048x512, .f32⟩
  | 109 => ⟨S2048x512, .f32⟩
  | 110 => ⟨S49152x512, .f32⟩
  | 111 => ⟨S49152x512, .f32⟩
  | 112 => ⟨S49152x512, .f32⟩
  | 113 => ⟨S_, .f32⟩
  | 114 => ⟨S49152x512, .f32⟩
  | 115 => ⟨S49152x512, .f32⟩
  | 116 => ⟨S_, .f32⟩
  | 117 => ⟨S49152x512, .f32⟩
  | 118 => ⟨S49152x512, .f32⟩
  | 119 => ⟨S49152x512, .f32⟩
  | 120 => ⟨S1x2048x512, .f32⟩
  | 121 => ⟨S2048x512, .f32⟩
  | 122 => ⟨S49152x512, .f32⟩
  | 123 => ⟨S49152x512, .f32⟩
  | 124 => ⟨S49152x1, .f32⟩
  | 125 => ⟨S1x512x2048, .f32⟩
  | 126 => ⟨S512x2048, .f32⟩
  | 127 => ⟨S49152x2048, .f32⟩
  | _ => ⟨S32, .i32⟩

abbrev hbmTy0_2 (i : Nat) : BufTy := match i % 128 with
  | 0 => ⟨S49152x2048, .f32⟩
  | 1 => ⟨S49152x2048, .f32⟩
  | 2 => ⟨S49152x2048, .f32⟩
  | 3 => ⟨S1x2048x512, .f32⟩
  | 4 => ⟨S2048x512, .f32⟩
  | 5 => ⟨S49152x512, .f32⟩
  | 6 => ⟨S49152x512, .f32⟩
  | 7 => ⟨S49152x512, .f32⟩
  | 8 => ⟨S_, .f32⟩
  | 9 => ⟨S49152x512, .f32⟩
  | 10 => ⟨S49152x512, .f32⟩
  | 11 => ⟨S_, .f32⟩
  | 12 => ⟨S49152x512, .f32⟩
  | 13 => ⟨S49152x512, .f32⟩
  | 14 => ⟨S49152x512, .f32⟩
  | 15 => ⟨S1x2048x512, .f32⟩
  | 16 => ⟨S2048x512, .f32⟩
  | 17 => ⟨S49152x512, .f32⟩
  | 18 => ⟨S49152x512, .f32⟩
  | 19 => ⟨S49152x1, .f32⟩
  | 20 => ⟨S1x512x2048, .f32⟩
  | 21 => ⟨S512x2048, .f32⟩
  | 22 => ⟨S49152x2048, .f32⟩
  | 23 => ⟨S49152x2048, .f32⟩
  | 24 => ⟨S49152x2048, .f32⟩
  | 25 => ⟨S49152x2048, .f32⟩
  | 26 => ⟨S1x2048x512, .f32⟩
  | 27 => ⟨S2048x512, .f32⟩
  | 28 => ⟨S49152x512, .f32⟩
  | 29 => ⟨S49152x512, .f32⟩
  | 30 => ⟨S49152x512, .f32⟩
  | 31 => ⟨S_, .f32⟩
  | 32 => ⟨S49152x512, .f32⟩
  | 33 => ⟨S49152x512, .f32⟩
  | 34 => ⟨S_, .f32⟩
  | 35 => ⟨S49152x512, .f32⟩
  | 36 => ⟨S49152x512, .f32⟩
  | 37 => ⟨S49152x512, .f32⟩
  | 38 => ⟨S1x2048x512, .f32⟩
  | 39 => ⟨S2048x512, .f32⟩
  | 40 => ⟨S49152x512, .f32⟩
  | 41 => ⟨S49152x512, .f32⟩
  | 42 => ⟨S49152x1, .f32⟩
  | 43 => ⟨S1x512x2048, .f32⟩
  | 44 => ⟨S512x2048, .f32⟩
  | 45 => ⟨S49152x2048, .f32⟩
  | 46 => ⟨S49152x2048, .f32⟩
  | 47 => ⟨S49152x2048, .f32⟩
  | 48 => ⟨S49152x2048, .f32⟩
  | 49 => ⟨S1x2048x512, .f32⟩
  | 50 => ⟨S2048x512, .f32⟩
  | 51 => ⟨S49152x512, .f32⟩
  | 52 => ⟨S49152x512, .f32⟩
  | 53 => ⟨S49152x512, .f32⟩
  | 54 => ⟨S_, .f32⟩
  | 55 => ⟨S49152x512, .f32⟩
  | 56 => ⟨S49152x512, .f32⟩
  | 57 => ⟨S_, .f32⟩
  | 58 => ⟨S49152x512, .f32⟩
  | 59 => ⟨S49152x512, .f32⟩
  | 60 => ⟨S49152x512, .f32⟩
  | 61 => ⟨S1x2048x512, .f32⟩
  | 62 => ⟨S2048x512, .f32⟩
  | 63 => ⟨S49152x512, .f32⟩
  | 64 => ⟨S49152x512, .f32⟩
  | 65 => ⟨S49152x1, .f32⟩
  | 66 => ⟨S1x512x2048, .f32⟩
  | 67 => ⟨S512x2048, .f32⟩
  | 68 => ⟨S49152x2048, .f32⟩
  | 69 => ⟨S49152x2048, .f32⟩
  | 70 => ⟨S49152x2048, .f32⟩
  | 71 => ⟨S49152x2048, .f32⟩
  | 72 => ⟨S1x2048x512, .f32⟩
  | 73 => ⟨S2048x512, .f32⟩
  | 74 => ⟨S49152x512, .f32⟩
  | 75 => ⟨S49152x512, .f32⟩
  | 76 => ⟨S49152x512, .f32⟩
  | 77 => ⟨S_, .f32⟩
  | 78 => ⟨S49152x512, .f32⟩
  | 79 => ⟨S49152x512, .f32⟩
  | 80 => ⟨S_, .f32⟩
  | 81 => ⟨S49152x512, .f32⟩
  | 82 => ⟨S49152x512, .f32⟩
  | 83 => ⟨S49152x512, .f32⟩
  | 84 => ⟨S1x2048x512, .f32⟩
  | 85 => ⟨S2048x512, .f32⟩
  | 86 => ⟨S49152x512, .f32⟩
  | 87 => ⟨S49152x512, .f32⟩
  | 88 => ⟨S49152x1, .f32⟩
  | 89 => ⟨S1x512x2048, .f32⟩
  | 90 => ⟨S512x2048, .f32⟩
  | 91 => ⟨S49152x2048, .f32⟩
  | 92 => ⟨S49152x2048, .f32⟩
  | 93 => ⟨S49152x2048, .f32⟩
  | 94 => ⟨S49152x2048, .f32⟩
  | 95 => ⟨S1x2048x512, .f32⟩
  | 96 => ⟨S2048x512, .f32⟩
  | 97 => ⟨S49152x512, .f32⟩
  | 98 => ⟨S49152x512, .f32⟩
  | 99 => ⟨S49152x512, .f32⟩
  | 100 => ⟨S_, .f32⟩
  | 101 => ⟨S49152x512, .f32⟩
  | 102 => ⟨S49152x512, .f32⟩
  | 103 => ⟨S_, .f32⟩
  | 104 => ⟨S49152x512, .f32⟩
  | 105 => ⟨S49152x512, .f32⟩
  | 106 => ⟨S49152x512, .f32⟩
  | 107 => ⟨S1x2048x512, .f32⟩
  | 108 => ⟨S2048x512, .f32⟩
  | 109 => ⟨S49152x512, .f32⟩
  | 110 => ⟨S49152x512, .f32⟩
  | 111 => ⟨S49152x1, .f32⟩
  | 112 => ⟨S1x512x2048, .f32⟩
  | 113 => ⟨S512x2048, .f32⟩
  | 114 => ⟨S49152x2048, .f32⟩
  | 115 => ⟨S49152x2048, .f32⟩
  | 116 => ⟨S49152x2048, .f32⟩
  | 117 => ⟨S49152x2048, .f32⟩
  | 118 => ⟨S1x2048x512, .f32⟩
  | 119 => ⟨S2048x512, .f32⟩
  | 120 => ⟨S49152x512, .f32⟩
  | 121 => ⟨S49152x512, .f32⟩
  | 122 => ⟨S49152x512, .f32⟩
  | 123 => ⟨S_, .f32⟩
  | 124 => ⟨S49152x512, .f32⟩
  | 125 => ⟨S49152x512, .f32⟩
  | 126 => ⟨S_, .f32⟩
  | 127 => ⟨S49152x512, .f32⟩
  | _ => ⟨S32, .i32⟩

abbrev hbmTy0_3 (i : Nat) : BufTy := match i % 128 with
  | 0 => ⟨S49152x512, .f32⟩
  | 1 => ⟨S49152x512, .f32⟩
  | 2 => ⟨S1x2048x512, .f32⟩
  | 3 => ⟨S2048x512, .f32⟩
  | 4 => ⟨S49152x512, .f32⟩
  | 5 => ⟨S49152x512, .f32⟩
  | 6 => ⟨S49152x1, .f32⟩
  | 7 => ⟨S1x512x2048, .f32⟩
  | 8 => ⟨S512x2048, .f32⟩
  | 9 => ⟨S49152x2048, .f32⟩
  | 10 => ⟨S49152x2048, .f32⟩
  | 11 => ⟨S49152x2048, .f32⟩
  | 12 => ⟨S49152x2048, .f32⟩
  | 13 => ⟨S1x2048x512, .f32⟩
  | 14 => ⟨S2048x512, .f32⟩
  | 15 => ⟨S49152x512, .f32⟩
  | 16 => ⟨S49152x512, .f32⟩
  | 17 => ⟨S49152x512, .f32⟩
  | 18 => ⟨S_, .f32⟩
  | 19 => ⟨S49152x512, .f32⟩
  | 20 => ⟨S49152x512, .f32⟩
  | 21 => ⟨S_, .f32⟩
  | 22 => ⟨S49152x512, .f32⟩
  | 23 => ⟨S49152x512, .f32⟩
  | 24 => ⟨S49152x512, .f32⟩
  | 25 => ⟨S1x2048x512, .f32⟩
  | 26 => ⟨S2048x512, .f32⟩
  | 27 => ⟨S49152x512, .f32⟩
  | 28 => ⟨S49152x512, .f32⟩
  | 29 => ⟨S49152x1, .f32⟩
  | 30 => ⟨S1x512x2048, .f32⟩
  | 31 => ⟨S512x2048, .f32⟩
  | 32 => ⟨S49152x2048, .f32⟩
  | 33 => ⟨S49152x2048, .f32⟩
  | 34 => ⟨S49152x2048, .f32⟩
  | 35 => ⟨S49152x2048, .f32⟩
  | 36 => ⟨S1x2048x512, .f32⟩
  | 37 => ⟨S2048x512, .f32⟩
  | 38 => ⟨S49152x512, .f32⟩
  | 39 => ⟨S49152x512, .f32⟩
  | 40 => ⟨S49152x512, .f32⟩
  | 41 => ⟨S_, .f32⟩
  | 42 => ⟨S49152x512, .f32⟩
  | 43 => ⟨S49152x512, .f32⟩
  | 44 => ⟨S_, .f32⟩
  | 45 => ⟨S49152x512, .f32⟩
  | 46 => ⟨S49152x512, .f32⟩
  | 47 => ⟨S49152x512, .f32⟩
  | 48 => ⟨S1x2048x512, .f32⟩
  | 49 => ⟨S2048x512, .f32⟩
  | 50 => ⟨S49152x512, .f32⟩
  | 51 => ⟨S49152x512, .f32⟩
  | 52 => ⟨S49152x1, .f32⟩
  | 53 => ⟨S1x512x2048, .f32⟩
  | 54 => ⟨S512x2048, .f32⟩
  | 55 => ⟨S49152x2048, .f32⟩
  | 56 => ⟨S49152x2048, .f32⟩
  | 57 => ⟨S49152x2048, .f32⟩
  | 58 => ⟨S49152x2048, .f32⟩
  | 59 => ⟨S1x2048x512, .f32⟩
  | 60 => ⟨S2048x512, .f32⟩
  | 61 => ⟨S49152x512, .f32⟩
  | 62 => ⟨S49152x512, .f32⟩
  | 63 => ⟨S49152x512, .f32⟩
  | 64 => ⟨S_, .f32⟩
  | 65 => ⟨S49152x512, .f32⟩
  | 66 => ⟨S49152x512, .f32⟩
  | 67 => ⟨S_, .f32⟩
  | 68 => ⟨S49152x512, .f32⟩
  | 69 => ⟨S49152x512, .f32⟩
  | 70 => ⟨S49152x512, .f32⟩
  | 71 => ⟨S1x2048x512, .f32⟩
  | 72 => ⟨S2048x512, .f32⟩
  | 73 => ⟨S49152x512, .f32⟩
  | 74 => ⟨S49152x512, .f32⟩
  | 75 => ⟨S49152x1, .f32⟩
  | 76 => ⟨S1x512x2048, .f32⟩
  | 77 => ⟨S512x2048, .f32⟩
  | 78 => ⟨S49152x2048, .f32⟩
  | 79 => ⟨S49152x2048, .f32⟩
  | 80 => ⟨S49152x2048, .f32⟩
  | 81 => ⟨S49152x2048, .f32⟩
  | 82 => ⟨S1x2048x512, .f32⟩
  | 83 => ⟨S2048x512, .f32⟩
  | 84 => ⟨S49152x512, .f32⟩
  | 85 => ⟨S49152x512, .f32⟩
  | 86 => ⟨S49152x512, .f32⟩
  | 87 => ⟨S_, .f32⟩
  | 88 => ⟨S49152x512, .f32⟩
  | 89 => ⟨S49152x512, .f32⟩
  | 90 => ⟨S_, .f32⟩
  | 91 => ⟨S49152x512, .f32⟩
  | 92 => ⟨S49152x512, .f32⟩
  | 93 => ⟨S49152x512, .f32⟩
  | 94 => ⟨S1x2048x512, .f32⟩
  | 95 => ⟨S2048x512, .f32⟩
  | 96 => ⟨S49152x512, .f32⟩
  | 97 => ⟨S49152x512, .f32⟩
  | 98 => ⟨S49152x1, .f32⟩
  | 99 => ⟨S1x512x2048, .f32⟩
  | 100 => ⟨S512x2048, .f32⟩
  | 101 => ⟨S49152x2048, .f32⟩
  | 102 => ⟨S49152x2048, .f32⟩
  | 103 => ⟨S49152x2048, .f32⟩
  | 104 => ⟨S49152x2048, .f32⟩
  | 105 => ⟨S1x2048x512, .f32⟩
  | 106 => ⟨S2048x512, .f32⟩
  | 107 => ⟨S49152x512, .f32⟩
  | 108 => ⟨S49152x512, .f32⟩
  | 109 => ⟨S49152x512, .f32⟩
  | 110 => ⟨S_, .f32⟩
  | 111 => ⟨S49152x512, .f32⟩
  | 112 => ⟨S49152x512, .f32⟩
  | 113 => ⟨S_, .f32⟩
  | 114 => ⟨S49152x512, .f32⟩
  | 115 => ⟨S49152x512, .f32⟩
  | 116 => ⟨S49152x512, .f32⟩
  | 117 => ⟨S1x2048x512, .f32⟩
  | 118 => ⟨S2048x512, .f32⟩
  | 119 => ⟨S49152x512, .f32⟩
  | 120 => ⟨S49152x512, .f32⟩
  | 121 => ⟨S49152x1, .f32⟩
  | 122 => ⟨S1x512x2048, .f32⟩
  | 123 => ⟨S512x2048, .f32⟩
  | 124 => ⟨S49152x2048, .f32⟩
  | 125 => ⟨S49152x2048, .f32⟩
  | 126 => ⟨S49152x2048, .f32⟩
  | 127 => ⟨S49152x2048, .f32⟩
  | _ => ⟨S32, .i32⟩

abbrev hbmTy0_4 (i : Nat) : BufTy := match i % 128 with
  | 0 => ⟨S1x2048x512, .f32⟩
  | 1 => ⟨S2048x512, .f32⟩
  | 2 => ⟨S49152x512, .f32⟩
  | 3 => ⟨S49152x512, .f32⟩
  | 4 => ⟨S49152x512, .f32⟩
  | 5 => ⟨S_, .f32⟩
  | 6 => ⟨S49152x512, .f32⟩
  | 7 => ⟨S49152x512, .f32⟩
  | 8 => ⟨S_, .f32⟩
  | 9 => ⟨S49152x512, .f32⟩
  | 10 => ⟨S49152x512, .f32⟩
  | 11 => ⟨S49152x512, .f32⟩
  | 12 => ⟨S1x2048x512, .f32⟩
  | 13 => ⟨S2048x512, .f32⟩
  | 14 => ⟨S49152x512, .f32⟩
  | 15 => ⟨S49152x512, .f32⟩
  | 16 => ⟨S49152x1, .f32⟩
  | 17 => ⟨S1x512x2048, .f32⟩
  | 18 => ⟨S512x2048, .f32⟩
  | 19 => ⟨S49152x2048, .f32⟩
  | 20 => ⟨S49152x2048, .f32⟩
  | 21 => ⟨S49152x2048, .f32⟩
  | 22 => ⟨S49152x2048, .f32⟩
  | 23 => ⟨S1x2048x512, .f32⟩
  | 24 => ⟨S2048x512, .f32⟩
  | 25 => ⟨S49152x512, .f32⟩
  | 26 => ⟨S49152x512, .f32⟩
  | 27 => ⟨S49152x512, .f32⟩
  | 28 => ⟨S_, .f32⟩
  | 29 => ⟨S49152x512, .f32⟩
  | 30 => ⟨S49152x512, .f32⟩
  | 31 => ⟨S_, .f32⟩
  | 32 => ⟨S49152x512, .f32⟩
  | 33 => ⟨S49152x512, .f32⟩
  | 34 => ⟨S49152x512, .f32⟩
  | 35 => ⟨S1x2048x512, .f32⟩
  | 36 => ⟨S2048x512, .f32⟩
  | 37 => ⟨S49152x512, .f32⟩
  | 38 => ⟨S49152x512, .f32⟩
  | 39 => ⟨S49152x1, .f32⟩
  | 40 => ⟨S1x512x2048, .f32⟩
  | 41 => ⟨S512x2048, .f32⟩
  | 42 => ⟨S49152x2048, .f32⟩
  | 43 => ⟨S49152x2048, .f32⟩
  | 44 => ⟨S49152x2048, .f32⟩
  | 45 => ⟨S49152x2048, .f32⟩
  | 46 => ⟨S1x2048x512, .f32⟩
  | 47 => ⟨S2048x512, .f32⟩
  | 48 => ⟨S49152x512, .f32⟩
  | 49 => ⟨S49152x512, .f32⟩
  | 50 => ⟨S49152x512, .f32⟩
  | 51 => ⟨S_, .f32⟩
  | 52 => ⟨S49152x512, .f32⟩
  | 53 => ⟨S49152x512, .f32⟩
  | 54 => ⟨S_, .f32⟩
  | 55 => ⟨S49152x512, .f32⟩
  | 56 => ⟨S49152x512, .f32⟩
  | 57 => ⟨S49152x512, .f32⟩
  | 58 => ⟨S1x2048x512, .f32⟩
  | 59 => ⟨S2048x512, .f32⟩
  | 60 => ⟨S49152x512, .f32⟩
  | 61 => ⟨S49152x512, .f32⟩
  | 62 => ⟨S49152x1, .f32⟩
  | 63 => ⟨S1x512x2048, .f32⟩
  | 64 => ⟨S512x2048, .f32⟩
  | 65 => ⟨S49152x2048, .f32⟩
  | 66 => ⟨S49152x2048, .f32⟩
  | 67 => ⟨S49152x2048, .f32⟩
  | 68 => ⟨S49152x2048, .f32⟩
  | 69 => ⟨S1x2048x512, .f32⟩
  | 70 => ⟨S2048x512, .f32⟩
  | 71 => ⟨S49152x512, .f32⟩
  | 72 => ⟨S49152x512, .f32⟩
  | 73 => ⟨S49152x512, .f32⟩
  | 74 => ⟨S_, .f32⟩
  | 75 => ⟨S49152x512, .f32⟩
  | 76 => ⟨S49152x512, .f32⟩
  | 77 => ⟨S_, .f32⟩
  | 78 => ⟨S49152x512, .f32⟩
  | 79 => ⟨S49152x512, .f32⟩
  | 80 => ⟨S49152x512, .f32⟩
  | 81 => ⟨S1x2048x512, .f32⟩
  | 82 => ⟨S2048x512, .f32⟩
  | 83 => ⟨S49152x512, .f32⟩
  | 84 => ⟨S49152x512, .f32⟩
  | 85 => ⟨S49152x1, .f32⟩
  | 86 => ⟨S1x512x2048, .f32⟩
  | 87 => ⟨S512x2048, .f32⟩
  | 88 => ⟨S49152x2048, .f32⟩
  | 89 => ⟨S49152x2048, .f32⟩
  | 90 => ⟨S49152x2048, .f32⟩
  | 91 => ⟨S49152x2048, .f32⟩
  | 92 => ⟨S1x2048x512, .f32⟩
  | 93 => ⟨S2048x512, .f32⟩
  | 94 => ⟨S49152x512, .f32⟩
  | 95 => ⟨S49152x512, .f32⟩
  | 96 => ⟨S49152x512, .f32⟩
  | 97 => ⟨S_, .f32⟩
  | 98 => ⟨S49152x512, .f32⟩
  | 99 => ⟨S49152x512, .f32⟩
  | 100 => ⟨S_, .f32⟩
  | 101 => ⟨S49152x512, .f32⟩
  | 102 => ⟨S49152x512, .f32⟩
  | 103 => ⟨S49152x512, .f32⟩
  | 104 => ⟨S1x2048x512, .f32⟩
  | 105 => ⟨S2048x512, .f32⟩
  | 106 => ⟨S49152x512, .f32⟩
  | 107 => ⟨S49152x512, .f32⟩
  | 108 => ⟨S49152x1, .f32⟩
  | 109 => ⟨S1x512x2048, .f32⟩
  | 110 => ⟨S512x2048, .f32⟩
  | 111 => ⟨S49152x2048, .f32⟩
  | 112 => ⟨S49152x2048, .f32⟩
  | 113 => ⟨S49152x2048, .f32⟩
  | 114 => ⟨S49152x2048, .f32⟩
  | 115 => ⟨S1x2048x512, .f32⟩
  | 116 => ⟨S2048x512, .f32⟩
  | 117 => ⟨S49152x512, .f32⟩
  | 118 => ⟨S49152x512, .f32⟩
  | 119 => ⟨S49152x512, .f32⟩
  | 120 => ⟨S_, .f32⟩
  | 121 => ⟨S49152x512, .f32⟩
  | 122 => ⟨S49152x512, .f32⟩
  | 123 => ⟨S_, .f32⟩
  | 124 => ⟨S49152x512, .f32⟩
  | 125 => ⟨S49152x512, .f32⟩
  | 126 => ⟨S49152x512, .f32⟩
  | 127 => ⟨S1x2048x512, .f32⟩
  | _ => ⟨S32, .i32⟩

abbrev hbmTy0_5 (i : Nat) : BufTy := match i % 128 with
  | 0 => ⟨S2048x512, .f32⟩
  | 1 => ⟨S49152x512, .f32⟩
  | 2 => ⟨S49152x512, .f32⟩
  | 3 => ⟨S49152x1, .f32⟩
  | 4 => ⟨S1x512x2048, .f32⟩
  | 5 => ⟨S512x2048, .f32⟩
  | 6 => ⟨S49152x2048, .f32⟩
  | 7 => ⟨S49152x2048, .f32⟩
  | 8 => ⟨S49152x2048, .f32⟩
  | 9 => ⟨S49152x2048, .f32⟩
  | 10 => ⟨S1x2048x512, .f32⟩
  | 11 => ⟨S2048x512, .f32⟩
  | 12 => ⟨S49152x512, .f32⟩
  | 13 => ⟨S49152x512, .f32⟩
  | 14 => ⟨S49152x512, .f32⟩
  | 15 => ⟨S_, .f32⟩
  | 16 => ⟨S49152x512, .f32⟩
  | 17 => ⟨S49152x512, .f32⟩
  | 18 => ⟨S_, .f32⟩
  | 19 => ⟨S49152x512, .f32⟩
  | 20 => ⟨S49152x512, .f32⟩
  | 21 => ⟨S49152x512, .f32⟩
  | 22 => ⟨S1x2048x512, .f32⟩
  | 23 => ⟨S2048x512, .f32⟩
  | 24 => ⟨S49152x512, .f32⟩
  | 25 => ⟨S49152x512, .f32⟩
  | 26 => ⟨S49152x1, .f32⟩
  | 27 => ⟨S1x512x2048, .f32⟩
  | 28 => ⟨S512x2048, .f32⟩
  | 29 => ⟨S49152x2048, .f32⟩
  | 30 => ⟨S49152x2048, .f32⟩
  | 31 => ⟨S49152x2048, .f32⟩
  | 32 => ⟨S49152x2048, .f32⟩
  | 33 => ⟨S1x2048x512, .f32⟩
  | 34 => ⟨S2048x512, .f32⟩
  | 35 => ⟨S49152x512, .f32⟩
  | 36 => ⟨S49152x512, .f32⟩
  | 37 => ⟨S49152x512, .f32⟩
  | 38 => ⟨S_, .f32⟩
  | 39 => ⟨S49152x512, .f32⟩
  | 40 => ⟨S49152x512, .f32⟩
  | 41 => ⟨S_, .f32⟩
  | 42 => ⟨S49152x512, .f32⟩
  | 43 => ⟨S49152x512, .f32⟩
  | 44 => ⟨S49152x512, .f32⟩
  | 45 => ⟨S1x2048x512, .f32⟩
  | 46 => ⟨S2048x512, .f32⟩
  | 47 => ⟨S49152x512, .f32⟩
  | 48 => ⟨S49152x512, .f32⟩
  | 49 => ⟨S49152x1, .f32⟩
  | 50 => ⟨S1x512x2048, .f32⟩
  | 51 => ⟨S512x2048, .f32⟩
  | 52 => ⟨S49152x2048, .f32⟩
  | 53 => ⟨S49152x2048, .f32⟩
  | 54 => ⟨S49152x2048, .f32⟩
  | 55 => ⟨S49152x2048, .f32⟩
  | 56 => ⟨S1x2048x512, .f32⟩
  | 57 => ⟨S2048x512, .f32⟩
  | 58 => ⟨S49152x512, .f32⟩
  | 59 => ⟨S49152x512, .f32⟩
  | 60 => ⟨S49152x512, .f32⟩
  | 61 => ⟨S_, .f32⟩
  | 62 => ⟨S49152x512, .f32⟩
  | 63 => ⟨S49152x512, .f32⟩
  | 64 => ⟨S_, .f32⟩
  | 65 => ⟨S49152x512, .f32⟩
  | 66 => ⟨S49152x512, .f32⟩
  | 67 => ⟨S49152x512, .f32⟩
  | 68 => ⟨S1x2048x512, .f32⟩
  | 69 => ⟨S2048x512, .f32⟩
  | 70 => ⟨S49152x512, .f32⟩
  | 71 => ⟨S49152x512, .f32⟩
  | 72 => ⟨S49152x1, .f32⟩
  | 73 => ⟨S1x512x2048, .f32⟩
  | 74 => ⟨S512x2048, .f32⟩
  | 75 => ⟨S49152x2048, .f32⟩
  | 76 => ⟨S49152x2048, .f32⟩
  | 77 => ⟨S49152x2048, .f32⟩
  | 78 => ⟨S49152x2048, .f32⟩
  | 79 => ⟨S1x2048x512, .f32⟩
  | 80 => ⟨S2048x512, .f32⟩
  | 81 => ⟨S49152x512, .f32⟩
  | 82 => ⟨S49152x512, .f32⟩
  | 83 => ⟨S49152x512, .f32⟩
  | 84 => ⟨S_, .f32⟩
  | 85 => ⟨S49152x512, .f32⟩
  | 86 => ⟨S49152x512, .f32⟩
  | 87 => ⟨S_, .f32⟩
  | 88 => ⟨S49152x512, .f32⟩
  | 89 => ⟨S49152x512, .f32⟩
  | 90 => ⟨S49152x512, .f32⟩
  | 91 => ⟨S1x2048x512, .f32⟩
  | 92 => ⟨S2048x512, .f32⟩
  | 93 => ⟨S49152x512, .f32⟩
  | 94 => ⟨S49152x512, .f32⟩
  | 95 => ⟨S49152x1, .f32⟩
  | 96 => ⟨S1x512x2048, .f32⟩
  | 97 => ⟨S512x2048, .f32⟩
  | 98 => ⟨S49152x2048, .f32⟩
  | 99 => ⟨S49152x2048, .f32⟩
  | 100 => ⟨S49152x2048, .f32⟩
  | 101 => ⟨S49152x2048, .f32⟩
  | 102 => ⟨S1x2048x512, .f32⟩
  | 103 => ⟨S2048x512, .f32⟩
  | 104 => ⟨S49152x512, .f32⟩
  | 105 => ⟨S49152x512, .f32⟩
  | 106 => ⟨S49152x512, .f32⟩
  | 107 => ⟨S_, .f32⟩
  | 108 => ⟨S49152x512, .f32⟩
  | 109 => ⟨S49152x512, .f32⟩
  | 110 => ⟨S_, .f32⟩
  | 111 => ⟨S49152x512, .f32⟩
  | 112 => ⟨S49152x512, .f32⟩
  | 113 => ⟨S49152x512, .f32⟩
  | 114 => ⟨S1x2048x512, .f32⟩
  | 115 => ⟨S2048x512, .f32⟩
  | 116 => ⟨S49152x512, .f32⟩
  | 117 => ⟨S49152x512, .f32⟩
  | 118 => ⟨S49152x1, .f32⟩
  | 119 => ⟨S1x512x2048, .f32⟩
  | 120 => ⟨S512x2048, .f32⟩
  | 121 => ⟨S49152x2048, .f32⟩
  | 122 => ⟨S49152x2048, .f32⟩
  | 123 => ⟨S49152x2048, .f32⟩
  | 124 => ⟨S49152x2048, .f32⟩
  | 125 => ⟨S1x2048x512, .f32⟩
  | 126 => ⟨S2048x512, .f32⟩
  | 127 => ⟨S49152x512, .f32⟩
  | _ => ⟨S32, .i32⟩

abbrev hbmTy0_6 (i : Nat) : BufTy := match i % 128 with
  | 0 => ⟨S49152x512, .f32⟩
  | 1 => ⟨S49152x512, .f32⟩
  | 2 => ⟨S_, .f32⟩
  | 3 => ⟨S49152x512, .f32⟩
  | 4 => ⟨S49152x512, .f32⟩
  | 5 => ⟨S_, .f32⟩
  | 6 => ⟨S49152x512, .f32⟩
  | 7 => ⟨S49152x512, .f32⟩
  | 8 => ⟨S49152x512, .f32⟩
  | 9 => ⟨S1x2048x512, .f32⟩
  | 10 => ⟨S2048x512, .f32⟩
  | 11 => ⟨S49152x512, .f32⟩
  | 12 => ⟨S49152x512, .f32⟩
  | 13 => ⟨S49152x1, .f32⟩
  | 14 => ⟨S1x512x2048, .f32⟩
  | 15 => ⟨S512x2048, .f32⟩
  | 16 => ⟨S49152x2048, .f32⟩
  | 17 => ⟨S49152x2048, .f32⟩
  | 18 => ⟨S49152x2048, .f32⟩
  | 19 => ⟨S49152x2048, .f32⟩
  | _ => ⟨S32, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v16 : Ref sig .tc := ⟨.hbm, 49, rfl⟩
abbrev main_cst : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_call5_v0 : Ref sig .tc := ⟨.hbm, 101, rfl⟩
abbrev main_call5_v1 : Ref sig .tc := ⟨.hbm, 102, rfl⟩
abbrev main_call5_cst : Ref sig .tc := ⟨.hbm, 103, rfl⟩
abbrev main_call5_v2 : Ref sig .tc := ⟨.hbm, 104, rfl⟩
abbrev main_call5_v3 : Ref sig .tc := ⟨.hbm, 105, rfl⟩
abbrev main_call5_cst_0 : Ref sig .tc := ⟨.hbm, 106, rfl⟩
abbrev main_call5_v4 : Ref sig .tc := ⟨.hbm, 107, rfl⟩
abbrev main_call5_v5 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_call8_v0 : Ref sig .tc := ⟨.hbm, 170, rfl⟩
abbrev main_call8_v1 : Ref sig .tc := ⟨.hbm, 171, rfl⟩
abbrev main_call8_cst : Ref sig .tc := ⟨.hbm, 172, rfl⟩
abbrev main_call8_v2 : Ref sig .tc := ⟨.hbm, 173, rfl⟩
abbrev main_call8_v3 : Ref sig .tc := ⟨.hbm, 174, rfl⟩
abbrev main_call8_cst_0 : Ref sig .tc := ⟨.hbm, 175, rfl⟩
abbrev main_call8_v4 : Ref sig .tc := ⟨.hbm, 176, rfl⟩
abbrev main_call8_v5 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_call9_v0 : Ref sig .tc := ⟨.hbm, 193, rfl⟩
abbrev main_call9_v1 : Ref sig .tc := ⟨.hbm, 194, rfl⟩
abbrev main_call9_cst : Ref sig .tc := ⟨.hbm, 195, rfl⟩
abbrev main_call9_v2 : Ref sig .tc := ⟨.hbm, 196, rfl⟩
abbrev main_call9_v3 : Ref sig .tc := ⟨.hbm, 197, rfl⟩
abbrev main_call9_cst_0 : Ref sig .tc := ⟨.hbm, 198, rfl⟩
abbrev main_call9_v4 : Ref sig .tc := ⟨.hbm, 199, rfl⟩
abbrev main_call9_v5 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_call10_v0 : Ref sig .tc := ⟨.hbm, 216, rfl⟩
abbrev main_call10_v1 : Ref sig .tc := ⟨.hbm, 217, rfl⟩
abbrev main_call10_cst : Ref sig .tc := ⟨.hbm, 218, rfl⟩
abbrev main_call10_v2 : Ref sig .tc := ⟨.hbm, 219, rfl⟩
abbrev main_call10_v3 : Ref sig .tc := ⟨.hbm, 220, rfl⟩
abbrev main_call10_cst_0 : Ref sig .tc := ⟨.hbm, 221, rfl⟩
abbrev main_call10_v4 : Ref sig .tc := ⟨.hbm, 222, rfl⟩
abbrev main_call10_v5 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_call11_v0 : Ref sig .tc := ⟨.hbm, 239, rfl⟩
abbrev main_call11_v1 : Ref sig .tc := ⟨.hbm, 240, rfl⟩
abbrev main_call11_cst : Ref sig .tc := ⟨.hbm, 241, rfl⟩
abbrev main_call11_v2 : Ref sig .tc := ⟨.hbm, 242, rfl⟩
abbrev main_call11_v3 : Ref sig .tc := ⟨.hbm, 243, rfl⟩
abbrev main_call11_cst_0 : Ref sig .tc := ⟨.hbm, 244, rfl⟩
abbrev main_call11_v4 : Ref sig .tc := ⟨.hbm, 245, rfl⟩
abbrev main_call11_v5 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_call12_v0 : Ref sig .tc := ⟨.hbm, 262, rfl⟩
abbrev main_call12_v1 : Ref sig .tc := ⟨.hbm, 263, rfl⟩
abbrev main_call12_cst : Ref sig .tc := ⟨.hbm, 264, rfl⟩
abbrev main_call12_v2 : Ref sig .tc := ⟨.hbm, 265, rfl⟩
abbrev main_call12_v3 : Ref sig .tc := ⟨.hbm, 266, rfl⟩
abbrev main_call12_cst_0 : Ref sig .tc := ⟨.hbm, 267, rfl⟩
abbrev main_call12_v4 : Ref sig .tc := ⟨.hbm, 268, rfl⟩
abbrev main_call12_v5 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_call13_v0 : Ref sig .tc := ⟨.hbm, 285, rfl⟩
abbrev main_call13_v1 : Ref sig .tc := ⟨.hbm, 286, rfl⟩
abbrev main_call13_cst : Ref sig .tc := ⟨.hbm, 287, rfl⟩
abbrev main_call13_v2 : Ref sig .tc := ⟨.hbm, 288, rfl⟩
abbrev main_call13_v3 : Ref sig .tc := ⟨.hbm, 289, rfl⟩
abbrev main_call13_cst_0 : Ref sig .tc := ⟨.hbm, 290, rfl⟩
abbrev main_call13_v4 : Ref sig .tc := ⟨.hbm, 291, rfl⟩
abbrev main_call13_v5 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_call14_v0 : Ref sig .tc := ⟨.hbm, 308, rfl⟩
abbrev main_call14_v1 : Ref sig .tc := ⟨.hbm, 309, rfl⟩
abbrev main_call14_cst : Ref sig .tc := ⟨.hbm, 310, rfl⟩
abbrev main_call14_v2 : Ref sig .tc := ⟨.hbm, 311, rfl⟩
abbrev main_call14_v3 : Ref sig .tc := ⟨.hbm, 312, rfl⟩
abbrev main_call14_cst_0 : Ref sig .tc := ⟨.hbm, 313, rfl⟩
abbrev main_call14_v4 : Ref sig .tc := ⟨.hbm, 314, rfl⟩
abbrev main_call14_v5 : Ref sig .tc := ⟨.hbm, 315, rfl⟩
abbrev main_v186 : Ref sig .tc := ⟨.hbm, 316, rfl⟩
abbrev main_v187 : Ref sig .tc := ⟨.hbm, 317, rfl⟩
abbrev main_v188 : Ref sig .tc := ⟨.hbm, 318, rfl⟩
abbrev main_v189 : Ref sig .tc := ⟨.hbm, 319, rfl⟩
abbrev main_v190 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_call15_v0 : Ref sig .tc := ⟨.hbm, 331, rfl⟩
abbrev main_call15_v1 : Ref sig .tc := ⟨.hbm, 332, rfl⟩
abbrev main_call15_cst : Ref sig .tc := ⟨.hbm, 333, rfl⟩
abbrev main_call15_v2 : Ref sig .tc := ⟨.hbm, 334, rfl⟩
abbrev main_call15_v3 : Ref sig .tc := ⟨.hbm, 335, rfl⟩
abbrev main_call15_cst_0 : Ref sig .tc := ⟨.hbm, 336, rfl⟩
abbrev main_call15_v4 : Ref sig .tc := ⟨.hbm, 337, rfl⟩
abbrev main_call15_v5 : Ref sig .tc := ⟨.hbm, 338, rfl⟩
abbrev main_v201 : Ref sig .tc := ⟨.hbm, 339, rfl⟩
abbrev main_v202 : Ref sig .tc := ⟨.hbm, 340, rfl⟩
abbrev main_v203 : Ref sig .tc := ⟨.hbm, 341, rfl⟩
abbrev main_v204 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_v210 : Ref sig .tc := ⟨.hbm, 348, rfl⟩
abbrev main_v211 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_v215 : Ref sig .tc := ⟨.hbm, 353, rfl⟩
abbrev main_call16_v0 : Ref sig .tc := ⟨.hbm, 354, rfl⟩
abbrev main_call16_v1 : Ref sig .tc := ⟨.hbm, 355, rfl⟩
abbrev main_call16_cst : Ref sig .tc := ⟨.hbm, 356, rfl⟩
abbrev main_call16_v2 : Ref sig .tc := ⟨.hbm, 357, rfl⟩
abbrev main_call16_v3 : Ref sig .tc := ⟨.hbm, 358, rfl⟩
abbrev main_call16_cst_0 : Ref sig .tc := ⟨.hbm, 359, rfl⟩
abbrev main_call16_v4 : Ref sig .tc := ⟨.hbm, 360, rfl⟩
abbrev main_call16_v5 : Ref sig .tc := ⟨.hbm, 361, rfl⟩
abbrev main_v216 : Ref sig .tc := ⟨.hbm, 362, rfl⟩
abbrev main_v217 : Ref sig .tc := ⟨.hbm, 363, rfl⟩
abbrev main_v218 : Ref sig .tc := ⟨.hbm, 364, rfl⟩
abbrev main_v219 : Ref sig .tc := ⟨.hbm, 365, rfl⟩
abbrev main_v220 : Ref sig .tc := ⟨.hbm, 366, rfl⟩
abbrev main_v221 : Ref sig .tc := ⟨.hbm, 367, rfl⟩
abbrev main_v222 : Ref sig .tc := ⟨.hbm, 368, rfl⟩
abbrev main_v223 : Ref sig .tc := ⟨.hbm, 369, rfl⟩
abbrev main_v224 : Ref sig .tc := ⟨.hbm, 370, rfl⟩
abbrev main_v225 : Ref sig .tc := ⟨.hbm, 371, rfl⟩
abbrev main_v226 : Ref sig .tc := ⟨.hbm, 372, rfl⟩
abbrev main_v227 : Ref sig .tc := ⟨.hbm, 373, rfl⟩
abbrev main_v228 : Ref sig .tc := ⟨.hbm, 374, rfl⟩
abbrev main_v229 : Ref sig .tc := ⟨.hbm, 375, rfl⟩
abbrev main_v230 : Ref sig .tc := ⟨.hbm, 376, rfl⟩
abbrev main_call17_v0 : Ref sig .tc := ⟨.hbm, 377, rfl⟩
abbrev main_call17_v1 : Ref sig .tc := ⟨.hbm, 378, rfl⟩
abbrev main_call17_cst : Ref sig .tc := ⟨.hbm, 379, rfl⟩
abbrev main_call17_v2 : Ref sig .tc := ⟨.hbm, 380, rfl⟩
abbrev main_call17_v3 : Ref sig .tc := ⟨.hbm, 381, rfl⟩
abbrev main_call17_cst_0 : Ref sig .tc := ⟨.hbm, 382, rfl⟩
abbrev main_call17_v4 : Ref sig .tc := ⟨.hbm, 383, rfl⟩
abbrev main_call17_v5 : Ref sig .tc := ⟨.hbm, 384, rfl⟩
abbrev main_v231 : Ref sig .tc := ⟨.hbm, 385, rfl⟩
abbrev main_v232 : Ref sig .tc := ⟨.hbm, 386, rfl⟩
abbrev main_v233 : Ref sig .tc := ⟨.hbm, 387, rfl⟩
abbrev main_v234 : Ref sig .tc := ⟨.hbm, 388, rfl⟩
abbrev main_v235 : Ref sig .tc := ⟨.hbm, 389, rfl⟩
abbrev main_v236 : Ref sig .tc := ⟨.hbm, 390, rfl⟩
abbrev main_v237 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_v243 : Ref sig .tc := ⟨.hbm, 397, rfl⟩
abbrev main_v244 : Ref sig .tc := ⟨.hbm, 398, rfl⟩
abbrev main_v245 : Ref sig .tc := ⟨.hbm, 399, rfl⟩
abbrev main_call18_v0 : Ref sig .tc := ⟨.hbm, 400, rfl⟩
abbrev main_call18_v1 : Ref sig .tc := ⟨.hbm, 401, rfl⟩
abbrev main_call18_cst : Ref sig .tc := ⟨.hbm, 402, rfl⟩
abbrev main_call18_v2 : Ref sig .tc := ⟨.hbm, 403, rfl⟩
abbrev main_call18_v3 : Ref sig .tc := ⟨.hbm, 404, rfl⟩
abbrev main_call18_cst_0 : Ref sig .tc := ⟨.hbm, 405, rfl⟩
abbrev main_call18_v4 : Ref sig .tc := ⟨.hbm, 406, rfl⟩
abbrev main_call18_v5 : Ref sig .tc := ⟨.hbm, 407, rfl⟩
abbrev main_v246 : Ref sig .tc := ⟨.hbm, 408, rfl⟩
abbrev main_v247 : Ref sig .tc := ⟨.hbm, 409, rfl⟩
abbrev main_v248 : Ref sig .tc := ⟨.hbm, 410, rfl⟩
abbrev main_v249 : Ref sig .tc := ⟨.hbm, 411, rfl⟩
abbrev main_v250 : Ref sig .tc := ⟨.hbm, 412, rfl⟩
abbrev main_v251 : Ref sig .tc := ⟨.hbm, 413, rfl⟩
abbrev main_v252 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_call19_v0 : Ref sig .tc := ⟨.hbm, 423, rfl⟩
abbrev main_call19_v1 : Ref sig .tc := ⟨.hbm, 424, rfl⟩
abbrev main_call19_cst : Ref sig .tc := ⟨.hbm, 425, rfl⟩
abbrev main_call19_v2 : Ref sig .tc := ⟨.hbm, 426, rfl⟩
abbrev main_call19_v3 : Ref sig .tc := ⟨.hbm, 427, rfl⟩
abbrev main_call19_cst_0 : Ref sig .tc := ⟨.hbm, 428, rfl⟩
abbrev main_call19_v4 : Ref sig .tc := ⟨.hbm, 429, rfl⟩
abbrev main_call19_v5 : Ref sig .tc := ⟨.hbm, 430, rfl⟩
abbrev main_v261 : Ref sig .tc := ⟨.hbm, 431, rfl⟩
abbrev main_v262 : Ref sig .tc := ⟨.hbm, 432, rfl⟩
abbrev main_v263 : Ref sig .tc := ⟨.hbm, 433, rfl⟩
abbrev main_v264 : Ref sig .tc := ⟨.hbm, 434, rfl⟩
abbrev main_v265 : Ref sig .tc := ⟨.hbm, 435, rfl⟩
abbrev main_v266 : Ref sig .tc := ⟨.hbm, 436, rfl⟩
abbrev main_v267 : Ref sig .tc := ⟨.hbm, 437, rfl⟩
abbrev main_v268 : Ref sig .tc := ⟨.hbm, 438, rfl⟩
abbrev main_v269 : Ref sig .tc := ⟨.hbm, 439, rfl⟩
abbrev main_v270 : Ref sig .tc := ⟨.hbm, 440, rfl⟩
abbrev main_v271 : Ref sig .tc := ⟨.hbm, 441, rfl⟩
abbrev main_v272 : Ref sig .tc := ⟨.hbm, 442, rfl⟩
abbrev main_v273 : Ref sig .tc := ⟨.hbm, 443, rfl⟩
abbrev main_v274 : Ref sig .tc := ⟨.hbm, 444, rfl⟩
abbrev main_v275 : Ref sig .tc := ⟨.hbm, 445, rfl⟩
abbrev main_call20_v0 : Ref sig .tc := ⟨.hbm, 446, rfl⟩
abbrev main_call20_v1 : Ref sig .tc := ⟨.hbm, 447, rfl⟩
abbrev main_call20_cst : Ref sig .tc := ⟨.hbm, 448, rfl⟩
abbrev main_call20_v2 : Ref sig .tc := ⟨.hbm, 449, rfl⟩
abbrev main_call20_v3 : Ref sig .tc := ⟨.hbm, 450, rfl⟩
abbrev main_call20_cst_0 : Ref sig .tc := ⟨.hbm, 451, rfl⟩
abbrev main_call20_v4 : Ref sig .tc := ⟨.hbm, 452, rfl⟩
abbrev main_call20_v5 : Ref sig .tc := ⟨.hbm, 453, rfl⟩
abbrev main_v276 : Ref sig .tc := ⟨.hbm, 454, rfl⟩
abbrev main_v277 : Ref sig .tc := ⟨.hbm, 455, rfl⟩
abbrev main_v278 : Ref sig .tc := ⟨.hbm, 456, rfl⟩
abbrev main_v279 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_v283 : Ref sig .tc := ⟨.hbm, 461, rfl⟩
abbrev main_v284 : Ref sig .tc := ⟨.hbm, 462, rfl⟩
abbrev main_v285 : Ref sig .tc := ⟨.hbm, 463, rfl⟩
abbrev main_v286 : Ref sig .tc := ⟨.hbm, 464, rfl⟩
abbrev main_v287 : Ref sig .tc := ⟨.hbm, 465, rfl⟩
abbrev main_v288 : Ref sig .tc := ⟨.hbm, 466, rfl⟩
abbrev main_v289 : Ref sig .tc := ⟨.hbm, 467, rfl⟩
abbrev main_v290 : Ref sig .tc := ⟨.hbm, 468, rfl⟩
abbrev main_call21_v0 : Ref sig .tc := ⟨.hbm, 469, rfl⟩
abbrev main_call21_v1 : Ref sig .tc := ⟨.hbm, 470, rfl⟩
abbrev main_call21_cst : Ref sig .tc := ⟨.hbm, 471, rfl⟩
abbrev main_call21_v2 : Ref sig .tc := ⟨.hbm, 472, rfl⟩
abbrev main_call21_v3 : Ref sig .tc := ⟨.hbm, 473, rfl⟩
abbrev main_call21_cst_0 : Ref sig .tc := ⟨.hbm, 474, rfl⟩
abbrev main_call21_v4 : Ref sig .tc := ⟨.hbm, 475, rfl⟩
abbrev main_call21_v5 : Ref sig .tc := ⟨.hbm, 476, rfl⟩
abbrev main_v291 : Ref sig .tc := ⟨.hbm, 477, rfl⟩
abbrev main_v292 : Ref sig .tc := ⟨.hbm, 478, rfl⟩
abbrev main_v293 : Ref sig .tc := ⟨.hbm, 479, rfl⟩
abbrev main_v294 : Ref sig .tc := ⟨.hbm, 480, rfl⟩
abbrev main_v295 : Ref sig .tc := ⟨.hbm, 481, rfl⟩
abbrev main_v296 : Ref sig .tc := ⟨.hbm, 482, rfl⟩
abbrev main_v297 : Ref sig .tc := ⟨.hbm, 483, rfl⟩
abbrev main_v298 : Ref sig .tc := ⟨.hbm, 484, rfl⟩
abbrev main_v299 : Ref sig .tc := ⟨.hbm, 485, rfl⟩
abbrev main_v300 : Ref sig .tc := ⟨.hbm, 486, rfl⟩
abbrev main_v301 : Ref sig .tc := ⟨.hbm, 487, rfl⟩
abbrev main_v302 : Ref sig .tc := ⟨.hbm, 488, rfl⟩
abbrev main_v303 : Ref sig .tc := ⟨.hbm, 489, rfl⟩
abbrev main_v304 : Ref sig .tc := ⟨.hbm, 490, rfl⟩
abbrev main_v305 : Ref sig .tc := ⟨.hbm, 491, rfl⟩
abbrev main_call22_v0 : Ref sig .tc := ⟨.hbm, 492, rfl⟩
abbrev main_call22_v1 : Ref sig .tc := ⟨.hbm, 493, rfl⟩
abbrev main_call22_cst : Ref sig .tc := ⟨.hbm, 494, rfl⟩
abbrev main_call22_v2 : Ref sig .tc := ⟨.hbm, 495, rfl⟩
abbrev main_call22_v3 : Ref sig .tc := ⟨.hbm, 496, rfl⟩
abbrev main_call22_cst_0 : Ref sig .tc := ⟨.hbm, 497, rfl⟩
abbrev main_call22_v4 : Ref sig .tc := ⟨.hbm, 498, rfl⟩
abbrev main_call22_v5 : Ref sig .tc := ⟨.hbm, 499, rfl⟩
abbrev main_v306 : Ref sig .tc := ⟨.hbm, 500, rfl⟩
abbrev main_v307 : Ref sig .tc := ⟨.hbm, 501, rfl⟩
abbrev main_v308 : Ref sig .tc := ⟨.hbm, 502, rfl⟩
abbrev main_v309 : Ref sig .tc := ⟨.hbm, 503, rfl⟩
abbrev main_v310 : Ref sig .tc := ⟨.hbm, 504, rfl⟩
abbrev main_v311 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_v315 : Ref sig .tc := ⟨.hbm, 509, rfl⟩
abbrev main_v316 : Ref sig .tc := ⟨.hbm, 510, rfl⟩
abbrev main_v317 : Ref sig .tc := ⟨.hbm, 511, rfl⟩
abbrev main_v318 : Ref sig .tc := ⟨.hbm, 512, rfl⟩
abbrev main_v319 : Ref sig .tc := ⟨.hbm, 513, rfl⟩
abbrev main_v320 : Ref sig .tc := ⟨.hbm, 514, rfl⟩
abbrev main_call23_v0 : Ref sig .tc := ⟨.hbm, 515, rfl⟩
abbrev main_call23_v1 : Ref sig .tc := ⟨.hbm, 516, rfl⟩
abbrev main_call23_cst : Ref sig .tc := ⟨.hbm, 517, rfl⟩
abbrev main_call23_v2 : Ref sig .tc := ⟨.hbm, 518, rfl⟩
abbrev main_call23_v3 : Ref sig .tc := ⟨.hbm, 519, rfl⟩
abbrev main_call23_cst_0 : Ref sig .tc := ⟨.hbm, 520, rfl⟩
abbrev main_call23_v4 : Ref sig .tc := ⟨.hbm, 521, rfl⟩
abbrev main_call23_v5 : Ref sig .tc := ⟨.hbm, 522, rfl⟩
abbrev main_v321 : Ref sig .tc := ⟨.hbm, 523, rfl⟩
abbrev main_v322 : Ref sig .tc := ⟨.hbm, 524, rfl⟩
abbrev main_v323 : Ref sig .tc := ⟨.hbm, 525, rfl⟩
abbrev main_v324 : Ref sig .tc := ⟨.hbm, 526, rfl⟩
abbrev main_v325 : Ref sig .tc := ⟨.hbm, 527, rfl⟩
abbrev main_v326 : Ref sig .tc := ⟨.hbm, 528, rfl⟩
abbrev main_v327 : Ref sig .tc := ⟨.hbm, 529, rfl⟩
abbrev main_v328 : Ref sig .tc := ⟨.hbm, 530, rfl⟩
abbrev main_v329 : Ref sig .tc := ⟨.hbm, 531, rfl⟩
abbrev main_v330 : Ref sig .tc := ⟨.hbm, 532, rfl⟩
abbrev main_v331 : Ref sig .tc := ⟨.hbm, 533, rfl⟩
abbrev main_v332 : Ref sig .tc := ⟨.hbm, 534, rfl⟩
abbrev main_v333 : Ref sig .tc := ⟨.hbm, 535, rfl⟩
abbrev main_v334 : Ref sig .tc := ⟨.hbm, 536, rfl⟩
abbrev main_v335 : Ref sig .tc := ⟨.hbm, 537, rfl⟩
abbrev main_call24_v0 : Ref sig .tc := ⟨.hbm, 538, rfl⟩
abbrev main_call24_v1 : Ref sig .tc := ⟨.hbm, 539, rfl⟩
abbrev main_call24_cst : Ref sig .tc := ⟨.hbm, 540, rfl⟩
abbrev main_call24_v2 : Ref sig .tc := ⟨.hbm, 541, rfl⟩
abbrev main_call24_v3 : Ref sig .tc := ⟨.hbm, 542, rfl⟩
abbrev main_call24_cst_0 : Ref sig .tc := ⟨.hbm, 543, rfl⟩
abbrev main_call24_v4 : Ref sig .tc := ⟨.hbm, 544, rfl⟩
abbrev main_call24_v5 : Ref sig .tc := ⟨.hbm, 545, rfl⟩
abbrev main_v336 : Ref sig .tc := ⟨.hbm, 546, rfl⟩
abbrev main_v337 : Ref sig .tc := ⟨.hbm, 547, rfl⟩
abbrev main_v338 : Ref sig .tc := ⟨.hbm, 548, rfl⟩
abbrev main_v339 : Ref sig .tc := ⟨.hbm, 549, rfl⟩
abbrev main_v340 : Ref sig .tc := ⟨.hbm, 550, rfl⟩
abbrev main_v341 : Ref sig .tc := ⟨.hbm, 551, rfl⟩
abbrev main_v342 : Ref sig .tc := ⟨.hbm, 552, rfl⟩
abbrev main_v343 : Ref sig .tc := ⟨.hbm, 553, rfl⟩
abbrev main_v344 : Ref sig .tc := ⟨.hbm, 554, rfl⟩
abbrev main_v345 : Ref sig .tc := ⟨.hbm, 555, rfl⟩
abbrev main_v346 : Ref sig .tc := ⟨.hbm, 556, rfl⟩
abbrev main_v347 : Ref sig .tc := ⟨.hbm, 557, rfl⟩
abbrev main_v348 : Ref sig .tc := ⟨.hbm, 558, rfl⟩
abbrev main_v349 : Ref sig .tc := ⟨.hbm, 559, rfl⟩
abbrev main_v350 : Ref sig .tc := ⟨.hbm, 560, rfl⟩
abbrev main_call25_v0 : Ref sig .tc := ⟨.hbm, 561, rfl⟩
abbrev main_call25_v1 : Ref sig .tc := ⟨.hbm, 562, rfl⟩
abbrev main_call25_cst : Ref sig .tc := ⟨.hbm, 563, rfl⟩
abbrev main_call25_v2 : Ref sig .tc := ⟨.hbm, 564, rfl⟩
abbrev main_call25_v3 : Ref sig .tc := ⟨.hbm, 565, rfl⟩
abbrev main_call25_cst_0 : Ref sig .tc := ⟨.hbm, 566, rfl⟩
abbrev main_call25_v4 : Ref sig .tc := ⟨.hbm, 567, rfl⟩
abbrev main_call25_v5 : Ref sig .tc := ⟨.hbm, 568, rfl⟩
abbrev main_v351 : Ref sig .tc := ⟨.hbm, 569, rfl⟩
abbrev main_v352 : Ref sig .tc := ⟨.hbm, 570, rfl⟩
abbrev main_v353 : Ref sig .tc := ⟨.hbm, 571, rfl⟩
abbrev main_v354 : Ref sig .tc := ⟨.hbm, 572, rfl⟩
abbrev main_v355 : Ref sig .tc := ⟨.hbm, 573, rfl⟩
abbrev main_v356 : Ref sig .tc := ⟨.hbm, 574, rfl⟩
abbrev main_v357 : Ref sig .tc := ⟨.hbm, 575, rfl⟩
abbrev main_v358 : Ref sig .tc := ⟨.hbm, 576, rfl⟩
abbrev main_v359 : Ref sig .tc := ⟨.hbm, 577, rfl⟩
abbrev main_v360 : Ref sig .tc := ⟨.hbm, 578, rfl⟩
abbrev main_v361 : Ref sig .tc := ⟨.hbm, 579, rfl⟩
abbrev main_v362 : Ref sig .tc := ⟨.hbm, 580, rfl⟩
abbrev main_v363 : Ref sig .tc := ⟨.hbm, 581, rfl⟩
abbrev main_v364 : Ref sig .tc := ⟨.hbm, 582, rfl⟩
abbrev main_v365 : Ref sig .tc := ⟨.hbm, 583, rfl⟩
abbrev main_call26_v0 : Ref sig .tc := ⟨.hbm, 584, rfl⟩
abbrev main_call26_v1 : Ref sig .tc := ⟨.hbm, 585, rfl⟩
abbrev main_call26_cst : Ref sig .tc := ⟨.hbm, 586, rfl⟩
abbrev main_call26_v2 : Ref sig .tc := ⟨.hbm, 587, rfl⟩
abbrev main_call26_v3 : Ref sig .tc := ⟨.hbm, 588, rfl⟩
abbrev main_call26_cst_0 : Ref sig .tc := ⟨.hbm, 589, rfl⟩
abbrev main_call26_v4 : Ref sig .tc := ⟨.hbm, 590, rfl⟩
abbrev main_call26_v5 : Ref sig .tc := ⟨.hbm, 591, rfl⟩
abbrev main_v366 : Ref sig .tc := ⟨.hbm, 592, rfl⟩
abbrev main_v367 : Ref sig .tc := ⟨.hbm, 593, rfl⟩
abbrev main_v368 : Ref sig .tc := ⟨.hbm, 594, rfl⟩
abbrev main_v369 : Ref sig .tc := ⟨.hbm, 595, rfl⟩
abbrev main_v370 : Ref sig .tc := ⟨.hbm, 596, rfl⟩
abbrev main_v371 : Ref sig .tc := ⟨.hbm, 597, rfl⟩
abbrev main_v372 : Ref sig .tc := ⟨.hbm, 598, rfl⟩
abbrev main_v373 : Ref sig .tc := ⟨.hbm, 599, rfl⟩
abbrev main_v374 : Ref sig .tc := ⟨.hbm, 600, rfl⟩
abbrev main_v375 : Ref sig .tc := ⟨.hbm, 601, rfl⟩
abbrev main_v376 : Ref sig .tc := ⟨.hbm, 602, rfl⟩
abbrev main_v377 : Ref sig .tc := ⟨.hbm, 603, rfl⟩
abbrev main_v378 : Ref sig .tc := ⟨.hbm, 604, rfl⟩
abbrev main_v379 : Ref sig .tc := ⟨.hbm, 605, rfl⟩
abbrev main_v380 : Ref sig .tc := ⟨.hbm, 606, rfl⟩
abbrev main_call27_v0 : Ref sig .tc := ⟨.hbm, 607, rfl⟩
abbrev main_call27_v1 : Ref sig .tc := ⟨.hbm, 608, rfl⟩
abbrev main_call27_cst : Ref sig .tc := ⟨.hbm, 609, rfl⟩
abbrev main_call27_v2 : Ref sig .tc := ⟨.hbm, 610, rfl⟩
abbrev main_call27_v3 : Ref sig .tc := ⟨.hbm, 611, rfl⟩
abbrev main_call27_cst_0 : Ref sig .tc := ⟨.hbm, 612, rfl⟩
abbrev main_call27_v4 : Ref sig .tc := ⟨.hbm, 613, rfl⟩
abbrev main_call27_v5 : Ref sig .tc := ⟨.hbm, 614, rfl⟩
abbrev main_v381 : Ref sig .tc := ⟨.hbm, 615, rfl⟩
abbrev main_v382 : Ref sig .tc := ⟨.hbm, 616, rfl⟩
abbrev main_v383 : Ref sig .tc := ⟨.hbm, 617, rfl⟩
abbrev main_v384 : Ref sig .tc := ⟨.hbm, 618, rfl⟩
abbrev main_v385 : Ref sig .tc := ⟨.hbm, 619, rfl⟩
abbrev main_v386 : Ref sig .tc := ⟨.hbm, 620, rfl⟩
abbrev main_v387 : Ref sig .tc := ⟨.hbm, 621, rfl⟩
abbrev main_v388 : Ref sig .tc := ⟨.hbm, 622, rfl⟩
abbrev main_v389 : Ref sig .tc := ⟨.hbm, 623, rfl⟩
abbrev main_v390 : Ref sig .tc := ⟨.hbm, 624, rfl⟩
abbrev main_v391 : Ref sig .tc := ⟨.hbm, 625, rfl⟩
abbrev main_v392 : Ref sig .tc := ⟨.hbm, 626, rfl⟩
abbrev main_v393 : Ref sig .tc := ⟨.hbm, 627, rfl⟩
abbrev main_v394 : Ref sig .tc := ⟨.hbm, 628, rfl⟩
abbrev main_v395 : Ref sig .tc := ⟨.hbm, 629, rfl⟩
abbrev main_call28_v0 : Ref sig .tc := ⟨.hbm, 630, rfl⟩
abbrev main_call28_v1 : Ref sig .tc := ⟨.hbm, 631, rfl⟩
abbrev main_call28_cst : Ref sig .tc := ⟨.hbm, 632, rfl⟩
abbrev main_call28_v2 : Ref sig .tc := ⟨.hbm, 633, rfl⟩
abbrev main_call28_v3 : Ref sig .tc := ⟨.hbm, 634, rfl⟩
abbrev main_call28_cst_0 : Ref sig .tc := ⟨.hbm, 635, rfl⟩
abbrev main_call28_v4 : Ref sig .tc := ⟨.hbm, 636, rfl⟩
abbrev main_call28_v5 : Ref sig .tc := ⟨.hbm, 637, rfl⟩
abbrev main_v396 : Ref sig .tc := ⟨.hbm, 638, rfl⟩
abbrev main_v397 : Ref sig .tc := ⟨.hbm, 639, rfl⟩
abbrev main_v398 : Ref sig .tc := ⟨.hbm, 640, rfl⟩
abbrev main_v399 : Ref sig .tc := ⟨.hbm, 641, rfl⟩
abbrev main_v400 : Ref sig .tc := ⟨.hbm, 642, rfl⟩
abbrev main_v401 : Ref sig .tc := ⟨.hbm, 643, rfl⟩
abbrev main_v402 : Ref sig .tc := ⟨.hbm, 644, rfl⟩
abbrev main_v403 : Ref sig .tc := ⟨.hbm, 645, rfl⟩
abbrev main_v404 : Ref sig .tc := ⟨.hbm, 646, rfl⟩
abbrev main_v405 : Ref sig .tc := ⟨.hbm, 647, rfl⟩
abbrev main_v406 : Ref sig .tc := ⟨.hbm, 648, rfl⟩
abbrev main_v407 : Ref sig .tc := ⟨.hbm, 649, rfl⟩
abbrev main_v408 : Ref sig .tc := ⟨.hbm, 650, rfl⟩
abbrev main_v409 : Ref sig .tc := ⟨.hbm, 651, rfl⟩
abbrev main_v410 : Ref sig .tc := ⟨.hbm, 652, rfl⟩
abbrev main_call29_v0 : Ref sig .tc := ⟨.hbm, 653, rfl⟩
abbrev main_call29_v1 : Ref sig .tc := ⟨.hbm, 654, rfl⟩
abbrev main_call29_cst : Ref sig .tc := ⟨.hbm, 655, rfl⟩
abbrev main_call29_v2 : Ref sig .tc := ⟨.hbm, 656, rfl⟩
abbrev main_call29_v3 : Ref sig .tc := ⟨.hbm, 657, rfl⟩
abbrev main_call29_cst_0 : Ref sig .tc := ⟨.hbm, 658, rfl⟩
abbrev main_call29_v4 : Ref sig .tc := ⟨.hbm, 659, rfl⟩
abbrev main_call29_v5 : Ref sig .tc := ⟨.hbm, 660, rfl⟩
abbrev main_v411 : Ref sig .tc := ⟨.hbm, 661, rfl⟩
abbrev main_v412 : Ref sig .tc := ⟨.hbm, 662, rfl⟩
abbrev main_v413 : Ref sig .tc := ⟨.hbm, 663, rfl⟩
abbrev main_v414 : Ref sig .tc := ⟨.hbm, 664, rfl⟩
abbrev main_v415 : Ref sig .tc := ⟨.hbm, 665, rfl⟩
abbrev main_v416 : Ref sig .tc := ⟨.hbm, 666, rfl⟩
abbrev main_v417 : Ref sig .tc := ⟨.hbm, 667, rfl⟩
abbrev main_v418 : Ref sig .tc := ⟨.hbm, 668, rfl⟩
abbrev main_v419 : Ref sig .tc := ⟨.hbm, 669, rfl⟩
abbrev main_v420 : Ref sig .tc := ⟨.hbm, 670, rfl⟩
abbrev main_v421 : Ref sig .tc := ⟨.hbm, 671, rfl⟩
abbrev main_v422 : Ref sig .tc := ⟨.hbm, 672, rfl⟩
abbrev main_v423 : Ref sig .tc := ⟨.hbm, 673, rfl⟩
abbrev main_v424 : Ref sig .tc := ⟨.hbm, 674, rfl⟩
abbrev main_v425 : Ref sig .tc := ⟨.hbm, 675, rfl⟩
abbrev main_call30_v0 : Ref sig .tc := ⟨.hbm, 676, rfl⟩
abbrev main_call30_v1 : Ref sig .tc := ⟨.hbm, 677, rfl⟩
abbrev main_call30_cst : Ref sig .tc := ⟨.hbm, 678, rfl⟩
abbrev main_call30_v2 : Ref sig .tc := ⟨.hbm, 679, rfl⟩
abbrev main_call30_v3 : Ref sig .tc := ⟨.hbm, 680, rfl⟩
abbrev main_call30_cst_0 : Ref sig .tc := ⟨.hbm, 681, rfl⟩
abbrev main_call30_v4 : Ref sig .tc := ⟨.hbm, 682, rfl⟩
abbrev main_call30_v5 : Ref sig .tc := ⟨.hbm, 683, rfl⟩
abbrev main_v426 : Ref sig .tc := ⟨.hbm, 684, rfl⟩
abbrev main_v427 : Ref sig .tc := ⟨.hbm, 685, rfl⟩
abbrev main_v428 : Ref sig .tc := ⟨.hbm, 686, rfl⟩
abbrev main_v429 : Ref sig .tc := ⟨.hbm, 687, rfl⟩
abbrev main_v430 : Ref sig .tc := ⟨.hbm, 688, rfl⟩
abbrev main_v431 : Ref sig .tc := ⟨.hbm, 689, rfl⟩
abbrev main_v432 : Ref sig .tc := ⟨.hbm, 690, rfl⟩
abbrev main_v433 : Ref sig .tc := ⟨.hbm, 691, rfl⟩
abbrev main_v434 : Ref sig .tc := ⟨.hbm, 692, rfl⟩
abbrev main_v435 : Ref sig .tc := ⟨.hbm, 693, rfl⟩
abbrev main_v436 : Ref sig .tc := ⟨.hbm, 694, rfl⟩
abbrev main_v437 : Ref sig .tc := ⟨.hbm, 695, rfl⟩
abbrev main_v438 : Ref sig .tc := ⟨.hbm, 696, rfl⟩
abbrev main_v439 : Ref sig .tc := ⟨.hbm, 697, rfl⟩
abbrev main_v440 : Ref sig .tc := ⟨.hbm, 698, rfl⟩
abbrev main_call31_v0 : Ref sig .tc := ⟨.hbm, 699, rfl⟩
abbrev main_call31_v1 : Ref sig .tc := ⟨.hbm, 700, rfl⟩
abbrev main_call31_cst : Ref sig .tc := ⟨.hbm, 701, rfl⟩
abbrev main_call31_v2 : Ref sig .tc := ⟨.hbm, 702, rfl⟩
abbrev main_call31_v3 : Ref sig .tc := ⟨.hbm, 703, rfl⟩
abbrev main_call31_cst_0 : Ref sig .tc := ⟨.hbm, 704, rfl⟩
abbrev main_call31_v4 : Ref sig .tc := ⟨.hbm, 705, rfl⟩
abbrev main_call31_v5 : Ref sig .tc := ⟨.hbm, 706, rfl⟩
abbrev main_v441 : Ref sig .tc := ⟨.hbm, 707, rfl⟩
abbrev main_v442 : Ref sig .tc := ⟨.hbm, 708, rfl⟩
abbrev main_v443 : Ref sig .tc := ⟨.hbm, 709, rfl⟩
abbrev main_v444 : Ref sig .tc := ⟨.hbm, 710, rfl⟩
abbrev main_v445 : Ref sig .tc := ⟨.hbm, 711, rfl⟩
abbrev main_v446 : Ref sig .tc := ⟨.hbm, 712, rfl⟩
abbrev main_v447 : Ref sig .tc := ⟨.hbm, 713, rfl⟩
abbrev main_v448 : Ref sig .tc := ⟨.hbm, 714, rfl⟩
abbrev main_v449 : Ref sig .tc := ⟨.hbm, 715, rfl⟩
abbrev main_v450 : Ref sig .tc := ⟨.hbm, 716, rfl⟩
abbrev main_v451 : Ref sig .tc := ⟨.hbm, 717, rfl⟩
abbrev main_v452 : Ref sig .tc := ⟨.hbm, 718, rfl⟩
abbrev main_v453 : Ref sig .tc := ⟨.hbm, 719, rfl⟩
abbrev main_v454 : Ref sig .tc := ⟨.hbm, 720, rfl⟩
abbrev main_v455 : Ref sig .tc := ⟨.hbm, 721, rfl⟩
abbrev main_call32_v0 : Ref sig .tc := ⟨.hbm, 722, rfl⟩
abbrev main_call32_v1 : Ref sig .tc := ⟨.hbm, 723, rfl⟩
abbrev main_call32_cst : Ref sig .tc := ⟨.hbm, 724, rfl⟩
abbrev main_call32_v2 : Ref sig .tc := ⟨.hbm, 725, rfl⟩
abbrev main_call32_v3 : Ref sig .tc := ⟨.hbm, 726, rfl⟩
abbrev main_call32_cst_0 : Ref sig .tc := ⟨.hbm, 727, rfl⟩
abbrev main_call32_v4 : Ref sig .tc := ⟨.hbm, 728, rfl⟩
abbrev main_call32_v5 : Ref sig .tc := ⟨.hbm, 729, rfl⟩
abbrev main_v456 : Ref sig .tc := ⟨.hbm, 730, rfl⟩
abbrev main_v457 : Ref sig .tc := ⟨.hbm, 731, rfl⟩
abbrev main_v458 : Ref sig .tc := ⟨.hbm, 732, rfl⟩
abbrev main_v459 : Ref sig .tc := ⟨.hbm, 733, rfl⟩
abbrev main_v460 : Ref sig .tc := ⟨.hbm, 734, rfl⟩
abbrev main_v461 : Ref sig .tc := ⟨.hbm, 735, rfl⟩
abbrev main_v462 : Ref sig .tc := ⟨.hbm, 736, rfl⟩
abbrev main_v463 : Ref sig .tc := ⟨.hbm, 737, rfl⟩
abbrev main_v464 : Ref sig .tc := ⟨.hbm, 738, rfl⟩
abbrev main_v465 : Ref sig .tc := ⟨.hbm, 739, rfl⟩
abbrev main_v466 : Ref sig .tc := ⟨.hbm, 740, rfl⟩
abbrev main_v467 : Ref sig .tc := ⟨.hbm, 741, rfl⟩
abbrev main_v468 : Ref sig .tc := ⟨.hbm, 742, rfl⟩
abbrev main_v469 : Ref sig .tc := ⟨.hbm, 743, rfl⟩
abbrev main_v470 : Ref sig .tc := ⟨.hbm, 744, rfl⟩
abbrev main_call33_v0 : Ref sig .tc := ⟨.hbm, 745, rfl⟩
abbrev main_call33_v1 : Ref sig .tc := ⟨.hbm, 746, rfl⟩
abbrev main_call33_cst : Ref sig .tc := ⟨.hbm, 747, rfl⟩
abbrev main_call33_v2 : Ref sig .tc := ⟨.hbm, 748, rfl⟩
abbrev main_call33_v3 : Ref sig .tc := ⟨.hbm, 749, rfl⟩
abbrev main_call33_cst_0 : Ref sig .tc := ⟨.hbm, 750, rfl⟩
abbrev main_call33_v4 : Ref sig .tc := ⟨.hbm, 751, rfl⟩
abbrev main_call33_v5 : Ref sig .tc := ⟨.hbm, 752, rfl⟩
abbrev main_v471 : Ref sig .tc := ⟨.hbm, 753, rfl⟩
abbrev main_v472 : Ref sig .tc := ⟨.hbm, 754, rfl⟩
abbrev main_v473 : Ref sig .tc := ⟨.hbm, 755, rfl⟩
abbrev main_v474 : Ref sig .tc := ⟨.hbm, 756, rfl⟩
abbrev main_v475 : Ref sig .tc := ⟨.hbm, 757, rfl⟩
abbrev main_v476 : Ref sig .tc := ⟨.hbm, 758, rfl⟩
abbrev main_v477 : Ref sig .tc := ⟨.hbm, 759, rfl⟩
abbrev main_v478 : Ref sig .tc := ⟨.hbm, 760, rfl⟩
abbrev main_v479 : Ref sig .tc := ⟨.hbm, 761, rfl⟩
abbrev main_v480 : Ref sig .tc := ⟨.hbm, 762, rfl⟩
abbrev main_v481 : Ref sig .tc := ⟨.hbm, 763, rfl⟩
abbrev main_v482 : Ref sig .tc := ⟨.hbm, 764, rfl⟩
abbrev main_v483 : Ref sig .tc := ⟨.hbm, 765, rfl⟩
abbrev main_v484 : Ref sig .tc := ⟨.hbm, 766, rfl⟩
abbrev main_v485 : Ref sig .tc := ⟨.hbm, 767, rfl⟩
abbrev main_call34_v0 : Ref sig .tc := ⟨.hbm, 768, rfl⟩
abbrev main_call34_v1 : Ref sig .tc := ⟨.hbm, 769, rfl⟩
abbrev main_call34_cst : Ref sig .tc := ⟨.hbm, 770, rfl⟩
abbrev main_call34_v2 : Ref sig .tc := ⟨.hbm, 771, rfl⟩
abbrev main_call34_v3 : Ref sig .tc := ⟨.hbm, 772, rfl⟩
abbrev main_call34_cst_0 : Ref sig .tc := ⟨.hbm, 773, rfl⟩
abbrev main_call34_v4 : Ref sig .tc := ⟨.hbm, 774, rfl⟩
abbrev main_call34_v5 : Ref sig .tc := ⟨.hbm, 775, rfl⟩
abbrev main_v486 : Ref sig .tc := ⟨.hbm, 776, rfl⟩
abbrev main_v487 : Ref sig .tc := ⟨.hbm, 777, rfl⟩
abbrev main_v488 : Ref sig .tc := ⟨.hbm, 778, rfl⟩
abbrev main_v489 : Ref sig .tc := ⟨.hbm, 779, rfl⟩
abbrev main_v490 : Ref sig .tc := ⟨.hbm, 780, rfl⟩
abbrev main_v491 : Ref sig .tc := ⟨.hbm, 781, rfl⟩
abbrev main_v492 : Ref sig .tc := ⟨.hbm, 782, rfl⟩
abbrev main_v493 : Ref sig .tc := ⟨.hbm, 783, rfl⟩
abbrev main_v494 : Ref sig .tc := ⟨.hbm, 784, rfl⟩
abbrev main_v495 : Ref sig .tc := ⟨.hbm, 785, rfl⟩
abbrev main_v496 : Ref sig .tc := ⟨.hbm, 786, rfl⟩
abbrev main_v497 : Ref sig .tc := ⟨.hbm, 787, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x12288 : Shape := ⟨2, ![4, 12288]⟩
abbrev S2048 : Shape := ⟨1, ![2048]⟩
abbrev S2048x4608 : Shape := ⟨2, ![2048, 4608]⟩
abbrev S4x6x2048 : Shape := ⟨3, ![4, 6, 2048]⟩
abbrev S1x2048 : Shape := ⟨2, ![1, 2048]⟩
abbrev S4x4096x4608 : Shape := ⟨3, ![4, 4096, 4608]⟩
abbrev S1x512x2048 : Shape := ⟨3, ![1, 512, 2048]⟩
abbrev S1x6x2048 : Shape := ⟨3, ![1, 6, 2048]⟩
abbrev S1x512x4608 : Shape := ⟨3, ![1, 512, 4608]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048x4608, .f32⟩
  | .hbm, ⟨4, _⟩ => ⟨S4x6x2048, .f32⟩
  | .hbm, ⟨5, _⟩ => ⟨S2048x4608, .bf16⟩
  | .hbm, ⟨6, _⟩ => ⟨S1x2048, .f32⟩
  | .hbm, ⟨7, _⟩ => ⟨S4x4096x4608, .bf16⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x4608, .bf16⟩
  | .local _ .vmem, ⟨6, _⟩ => ⟨S1x512x4608, .bf16⟩
  | .local _ .vmem, ⟨7, _⟩ => ⟨S1x512x4608, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x4096x2048 : Shape := ⟨3, ![4, 4096, 2048]⟩
abbrev S4x12288 : Shape := ⟨2, ![4, 12288]⟩
abbrev S2048 : Shape := ⟨1, ![2048]⟩
abbrev S2048x4608 : Shape := ⟨2, ![2048, 4608]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x4608 : Shape := ⟨3, ![4, 4096, 4608]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048x4608, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S4x4096x4608, .f32⟩
  | .hbm, ⟨36, _⟩ => ⟨S4x4096x4608, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x2048 : Shape := ⟨3, ![4, 4096, 2048]⟩
abbrev S4x12288 : Shape := ⟨2, ![4, 12288]⟩
abbrev S1024 : Shape := ⟨1, ![1024]⟩
abbrev S2048 : Shape := ⟨1, ![2048]⟩
abbrev S2048x2048 : Shape := ⟨2, ![2048, 2048]⟩
abbrev S2048x128 : Shape := ⟨2, ![2048, 128]⟩
abbrev S128 : Shape := ⟨1, ![128]⟩
abbrev S4x6x2048 : Shape := ⟨3, ![4, 6, 2048]⟩
abbrev S1x1024 : Shape := ⟨2, ![1, 1024]⟩
abbrev S1x2048 : Shape := ⟨2, ![1, 2048]⟩
abbrev S1x128 : Shape := ⟨2, ![1, 128]⟩
abbrev S16384x128 : Shape := ⟨2, ![16384, 128]⟩
abbrev S8x16384 : Shape := ⟨2, ![8, 16384]⟩
abbrev S1x512x1024 : Shape := ⟨3, ![1, 512, 1024]⟩
abbrev S1x512x2048 : Shape := ⟨3, ![1, 512, 2048]⟩
abbrev S1x6x2048 : Shape := ⟨3, ![1, 6, 2048]⟩
abbrev S512x128 : Shape := ⟨2, ![512, 128]⟩
abbrev S8x512 : Shape := ⟨2, ![8, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1x1x2048 : Shape := ⟨3, ![1, 1, 2048]⟩
abbrev S1024x2048 : Shape := ⟨2, ![1024, 2048]⟩
abbrev S1024x128 : Shape := ⟨2, ![1024, 128]⟩
abbrev S8x128 : Shape := ⟨2, ![8, 128]⟩

abbrev nBuf : Space → Nat
  | .hbm => 20
  | .vmem => 22
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x2048, .f32⟩
  | .hbm, ⟨3, _⟩ => ⟨S4x12288, .f32⟩
  | .hbm, ⟨4, _⟩ => ⟨S1024, .f32⟩
  | .hbm, ⟨5, _⟩ => ⟨S1024, .f32⟩
  | .hbm, ⟨6, _⟩ => ⟨S2048, .f32⟩
  | .hbm, ⟨7, _⟩ => ⟨S2048x2048, .f32⟩
  | .hbm, ⟨8, _⟩ => ⟨S2048x128, .bf16⟩
  | .hbm, ⟨9, _⟩ => ⟨S128, .f32⟩
  | .hbm, ⟨10, _⟩ => ⟨S4x6x2048, .f32⟩
  | .hbm, ⟨11, _⟩ => ⟨S2048x2048, .bf16⟩
  | .hbm, ⟨12, _⟩ => ⟨S1x1024, .f32⟩
  | .hbm, ⟨13, _⟩ => ⟨S1x1024, .f32⟩
  | .hbm, ⟨14, _⟩ => ⟨S1x2048, .f32⟩
  | .hbm, ⟨15, _⟩ => ⟨S1x128, .f32⟩
  | .hbm, ⟨16, _⟩ => ⟨S4x4096x2048, .f32⟩
  | .hbm, ⟨17, _⟩ => ⟨S4x4096x2048, .f32⟩
  | .hbm, ⟨18, _⟩ => ⟨S16384x128, .f32⟩
  | .hbm, ⟨19, _⟩ => ⟨S8x16384, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S2048x2048, .bf16⟩
  | .local _ .vmem, ⟨12, _⟩ => ⟨S2048x128, .bf16⟩
  | .local _ .vmem, ⟨13, _⟩ => ⟨S1x128, .f32⟩
  | .local _ .vmem, ⟨14, _⟩ => ⟨S1x512x2048, .f32⟩
  | .local _ .vmem, ⟨15, _⟩ => ⟨S1x512x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x128, .f32⟩
  | .local _ .vmem, ⟨19, _⟩ => ⟨S512x128, .f32⟩
  | .local _ .vmem, ⟨20, _⟩ => ⟨S8x512, .f32⟩
  | .local _ .vmem, ⟨21, _⟩ => ⟨S8x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S4x4096x1024 : Shape := ⟨3, ![4, 4096, 1024]⟩
abbrev S4x4096x2048 : Shape := ⟨3, ![4, 4096, 2048]⟩
abbrev S4x12288 : Shape := ⟨2, ![4, 12288]⟩
abbrev S1024 : Shape := ⟨1, ![1024]⟩
abbrev S2048 : Shape := ⟨1, ![2048]⟩
abbrev S2048x2048 : Shape := ⟨2, ![2048, 2048]⟩
abbrev S2048x128 : Shape := ⟨2, ![2048, 128]⟩
abbrev S128 : Shape := ⟨1, ![128]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x2048 : Shape := ⟨3, ![4, 1, 2048]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x2048, .f32⟩
  | .hbm, ⟨3, _⟩ => ⟨S4x12288, .f32⟩
  | .hbm, ⟨4, _⟩ => ⟨S1024, .f32⟩
  | .hbm, ⟨5, _⟩ => ⟨S1024, .f32⟩
  | .hbm, ⟨6, _⟩ => ⟨S2048, .f32⟩
  | .hbm, ⟨7, _⟩ => ⟨S2048x2048, .f32⟩
  | .hbm, ⟨8, _⟩ => ⟨S2048x128, .bf16⟩
  | .hbm, ⟨9, _⟩ => ⟨S128, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x2048, .f32⟩
  | .hbm, ⟨51, _⟩ => ⟨S4x1x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S4x4096x2048, .f32⟩
  | .hbm, ⟨68, _⟩ => ⟨S4x4096x2048, .f32⟩
  | .hbm, ⟨69, _⟩ => ⟨S1x1x2048, .f32⟩
  | .hbm, ⟨70, _⟩ => ⟨S4x4096x2048, .f32⟩
  | .hbm, ⟨71, _⟩ => ⟨S4x4096x2048, .f32⟩
  | .hbm, ⟨72, _⟩ => ⟨S4x1x2048, .f32⟩
  | .hbm, ⟨73, _⟩ => ⟨S_, .f32⟩
  | .hbm, ⟨74, _⟩ => ⟨S4x1x2048, .f32⟩
  | .hbm, ⟨75, _⟩ => ⟨S4x1x2048, .f32⟩
  | .hbm, ⟨76, _⟩ => ⟨S4x4096x2048, .f32⟩
  | .hbm, ⟨77, _⟩ => ⟨S4x4096x2048, .f32⟩
  | .hbm, ⟨78, _⟩ => ⟨S4x1x2048, .f32⟩
  | .hbm, ⟨79, _⟩ => ⟨S4x4096x2048, .f32⟩
  | .hbm, ⟨80, _⟩ => ⟨S4x4096x2048, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Kernel4.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x2048x1 : Shape := ⟨3, ![4, 2048, 1]⟩
abbrev S4x2048x128 : Shape := ⟨3, ![4, 2048, 128]⟩
abbrev S1x12288 : Shape := ⟨2, ![1, 12288]⟩
abbrev S4x12288 : Shape := ⟨2, ![4, 12288]⟩
abbrev S2048x1024 : Shape := ⟨2, ![2048, 1024]⟩
abbrev S1x1024 : Shape := ⟨2, ![1, 1024]⟩
abbrev S4x1024 : Shape := ⟨2, ![4, 1024]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩

abbrev nBuf : Space → Nat
  | .hbm => 16
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048x1, .f32⟩
  | .hbm, ⟨13, _⟩ => ⟨S4x2048x128, .f32⟩
  | .hbm, ⟨14, _⟩ => ⟨S1x12288, .f32⟩
  | .hbm, ⟨15, _⟩ => ⟨S4x12288, .f32⟩
  | .local _ .vmem, ⟨0, _⟩ => ⟨S4x2048x128, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S4x1024, .f32⟩
  | .local _ .vmem, ⟨6, _⟩ => ⟨S4x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  v195
def k0_off1 (k0_t1 : Fin k0_t1_loop.trips) : Fin 3 → Nat :=
  let c0_150 : Index := 0#32
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v197 : Index := Scalar.indexCast v196
  let c0_151 : Index := 0#32
  ![0, v197.toNat, 0]
def k0_off2 (k0_t1 : Fin k0_t1_loop.trips) : Fin 3 → Nat :=
  let c1_152 : Index := 1#32
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v200 : Index := Scalar.indexCast v196
  let c0_153 : Index := 0#32
  ![1, v200.toNat, 0]
def k0_off3 (k0_t1 : Fin k0_t1_loop.trips) : Fin 3 → Nat :=
  let c2_154 : Index := 2#32
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v203 : Index := Scalar.indexCast v196
  let c0_155 : Index := 0#32
  ![2, v203.toNat, 0]
def k0_off4 (k0_t1 : Fin k0_t1_loop.trips) : Fin 3 → Nat :=
  let c3_156 : Index := 3#32
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v206 : Index := Scalar.indexCast v196
  let c0_157 : Index := 0#32
  ![3, v206.toNat, 0]
def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v209 : Index := Scalar.indexCast v196
  let c0_158 : Index := 0#32
  ![v209.toNat, 0]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v219 : Index := Scalar.indexCast v196
  let c128_159 : Index := 128#32
  ![v219.toNat, 128]
def k0_off7 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v229 : Index := Scalar.indexCast v196
  let c256_160 : Index := 256#32
  ![v229.toNat, 256]
def k0_off8 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v239 : Index := Scalar.indexCast v196
  let c384_161 : Index := 384#32
  ![v239.toNat, 384]
def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v249 : Index := Scalar.indexCast v196
  let c512_162 : Index := 512#32
  ![v249.toNat, 512]
def k0_off10 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v259 : Index := Scalar.indexCast v196
  let c640_163 : Index := 640#32
  ![v259.toNat, 640]
def k0_off11 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v269 : Index := Scalar.indexCast v196
  let c768_164 : Index := 768#32
  ![v269.toNat, 768]
def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v195 : BitVec 32 := Scalar.muli arg5 c8_i32
  let v196 : BitVec 32 := v195
  let v279 : Index := Scalar.indexCast v196
  let c896_165 : Index := 896#32
  ![v279.toNat, 896]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x12288, .f32⟩
  | .hbm, ⟨13, _⟩ => ⟨S1x12288, .f32⟩
  | .hbm, ⟨14, _⟩ => ⟨S4x12288, .f32⟩
  | .hbm, ⟨15, _⟩ => ⟨S4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096x2048 : Shape := ⟨3, ![4, 4096, 2048]⟩
abbrev S4x12288 : Shape := ⟨2, ![4, 12288]⟩
abbrev S1024 : Shape := ⟨1, ![1024]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S1 : Shape := ⟨1, ![1]⟩
abbrev S128 : Shape := ⟨1, ![128]⟩
abbrev S36 : Shape := ⟨1, ![36]⟩
abbrev S4x6x2048 : Shape := ⟨3, ![4, 6, 2048]⟩
abbrev S1x1024 : Shape := ⟨2, ![1, 1024]⟩
abbrev S1x2048 : Shape := ⟨2, ![1, 2048]⟩
abbrev S1x128 : Shape := ⟨2, ![1, 128]⟩
abbrev S16384x128 : Shape := ⟨2, ![16384, 128]⟩
abbrev S8x16384 : Shape := ⟨2, ![8, 16384]⟩
abbrev S1x512x1024 : Shape := ⟨3, ![1, 512, 1024]⟩
abbrev S1x512x2048 : Shape := ⟨3, ![1, 512, 2048]⟩
abbrev S1x6x2048 : Shape := ⟨3, ![1, 6, 2048]⟩
abbrev S512x128 : Shape := ⟨2, ![512, 128]⟩
abbrev S8x512 : Shape := ⟨2, ![8, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1x1x2048 : Shape := ⟨3, ![1, 1, 2048]⟩
abbrev S1024x2048 : Shape := ⟨2, ![1024, 2048]⟩
abbrev S1024x128 : Shape := ⟨2, ![1024, 128]⟩
abbrev S8x128 : Shape := ⟨2, ![8, 128]⟩
abbrev S16384x2 : Shape := ⟨2, ![16384, 2]⟩

abbrev nBuf : Space → Nat
  | .hbm => 43
  | .vmem => 22
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x2048, .f32⟩
  | .hbm, ⟨3, _⟩ => ⟨S4x12288, .f32⟩
  | .hbm, ⟨4, _⟩ => ⟨S1024, .f32⟩
  | .hbm, ⟨5, _⟩ => ⟨S1024, .f32⟩
  | .hbm, ⟨6, _⟩ => ⟨S2048, .f32⟩
  | .hbm, ⟨7, _⟩ => ⟨S2048x2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S2048x36, .f32⟩
  | .hbm, ⟨13, _⟩ => ⟨S2048x36, .bf16⟩
  | .hbm, ⟨14, _⟩ => ⟨S2048x36, .f32⟩
  | .hbm, ⟨15, _⟩ => ⟨S2048x36, .f32⟩
  | .hbm, ⟨16, _⟩ => ⟨S2048x36, .bf16⟩
  | .hbm, ⟨17, _⟩ => ⟨S_, .bf16⟩
  | .hbm, ⟨18, _⟩ => ⟨S2048x128, .bf16⟩
  | .hbm, ⟨19, _⟩ => ⟨S_, .i32⟩
  | .hbm, ⟨20, _⟩ => ⟨S1, .i32⟩
  | .hbm, ⟨21, _⟩ => ⟨S2048x128, .bf16⟩
  | .hbm, ⟨22, _⟩ => ⟨S_, .i32⟩
  | .hbm, ⟨23, _⟩ => ⟨S1, .i32⟩
  | .hbm, ⟨24, _⟩ => ⟨S2048x128, .bf16⟩
  | .hbm, ⟨25, _⟩ => ⟨S_, .f32⟩
  | .hbm, ⟨26, _⟩ => ⟨S128, .f32⟩
  | .hbm, ⟨27, _⟩ => ⟨S36, .f32⟩
  | .hbm, ⟨28, _⟩ => ⟨S_, .i32⟩
  | .hbm, ⟨29, _⟩ => ⟨S1, .i32⟩
  | .hbm, ⟨30, _⟩ => ⟨S128, .f32⟩
  | .hbm, ⟨31, _⟩ => ⟨S4x6x2048, .f32⟩
  | .hbm, ⟨32, _⟩ => ⟨S2048x2048, .bf16⟩
  | .hbm, ⟨33, _⟩ => ⟨S1x1024, .f32⟩
  | .hbm, ⟨34, _⟩ => ⟨S1x1024, .f32⟩
  | .hbm, ⟨35, _⟩ => ⟨S1x2048, .f32⟩
  | .hbm, ⟨36, _⟩ => ⟨S1x128, .f32⟩
  | .hbm, ⟨37, _⟩ => ⟨S4x4096x2048, .f32⟩
  | .hbm, ⟨38, _⟩ => ⟨S4x4096x2048, .f32⟩
  | .hbm, ⟨39, _⟩ => ⟨S16384x128, .f32⟩
  | .hbm, ⟨40, _⟩ => ⟨S8x16384, .f32⟩
  | .hbm, ⟨41, _⟩ => ⟨S16384x2, .f32⟩
  | .hbm, ⟨42, _⟩ => ⟨S16384x2, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S2048x2048, .bf16⟩
  | .local _ .vmem, ⟨12, _⟩ => ⟨S2048x128, .bf16⟩
  | .local _ .vmem, ⟨13, _⟩ => ⟨S1x128, .f32⟩
  | .local _ .vmem, ⟨14, _⟩ => ⟨S1x512x2048, .f32⟩
  | .local _ .vmem, ⟨15, _⟩ => ⟨S1x512x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x128, .f32⟩
  | .local _ .vmem, ⟨19, _⟩ => ⟨S512x128, .f32⟩
  | .local _ .vmem, ⟨20, _⟩ => ⟨S8x512, .f32⟩
  | .local _ .vmem, ⟨21, _⟩ => ⟨S8x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S4x4096x1024 : Shape := ⟨3, ![4, 4096, 1024]⟩
abbrev S4x4096x2048 : Shape := ⟨3, ![4, 4096, 2048]⟩
abbrev S4x12288 : Shape := ⟨2, ![4, 12288]⟩
abbrev S1024 : Shape := ⟨1, ![1024]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x2048 : Shape := ⟨3, ![4, 1, 2048]⟩
abbrev S1x1x2048 : Shape := ⟨3, ![1, 1, 2048]⟩
abbrev S16384x2048 : Shape := ⟨2, ![16384, 2048]⟩
abbrev S16384x4 : Shape := ⟨2, ![16384, 4]⟩
abbrev S1x4 : Shape := ⟨2, ![1, 4]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x32 : Shape := ⟨2, ![16384, 32]⟩
abbrev S1x32 : Shape := ⟨2, ![1, 32]⟩
abbrev S16384x4x8 : Shape := ⟨3, ![16384, 4, 8]⟩
abbrev S16384x1x8 : Shape := ⟨3, ![16384, 1, 8]⟩
abbrev S16384x8 : Shape := ⟨2, ![16384, 8]⟩
abbrev S16384x2 : Shape := ⟨2, ![16384, 2]⟩

abbrev nBuf : Space → Nat
  | .hbm => 184
  | .vmem => 0
  | .smem => 0
  | _ => 0

abbrev hbmTy0_0 (i : Nat) : BufTy := match i % 128 with
  | 0 => ⟨S4x4096x1024, .bf16⟩
  | 1 => ⟨S4x4096x1024, .bf16⟩
  | 2 => ⟨S4x4096x2048, .f32⟩
  | 3 => ⟨S4x12288, .f32⟩
  | 4 => ⟨S1024, .f32⟩
  | 5 => ⟨S1024, .f32⟩
  | 6 => ⟨S2048, .f32⟩
  | 7 => ⟨S2048x2048, .f32⟩
  | 8 => ⟨S2048x4, .f32⟩
  | 9 => ⟨S4, .f32⟩
  | 10 => ⟨S2048x32, .f32⟩
  | 11 => ⟨S32, .f32⟩
  | 12 => ⟨S4x2048, .f32⟩
  | 13 => ⟨S4x2048, .f32⟩
  | 14 => ⟨S4x2048, .f32⟩
  | 15 => ⟨S4x2048, .f32⟩
  | 16 => ⟨S4x2048, .f32⟩
  | 17 => ⟨S4x2048, .f32⟩
  | 18 => ⟨S4x4096x1024, .f32⟩
  | 19 => ⟨S4x4096x1024, .f32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S_, .f32⟩
  | 27 => ⟨S4x4096x1, .f32⟩
  | 28 => ⟨S4x4096x1, .f32⟩
  | 29 => ⟨S4x4096x1, .f32⟩
  | 30 => ⟨S4x4096x1024, .f32⟩
  | 31 => ⟨S4x4096x1024, .f32⟩
  | 32 => ⟨S1x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S_, .f32⟩
  | 38 => ⟨S4x4096, .f32⟩
  | 39 => ⟨S4x4096x1, .f32⟩
  | 40 => ⟨S_, .f32⟩
  | 41 => ⟨S4x4096x1, .f32⟩
  | 42 => ⟨S4x4096x1, .f32⟩
  | 43 => ⟨S_, .f32⟩
  | 44 => ⟨S4x4096x1, .f32⟩
  | 45 => ⟨S4x4096x1, .f32⟩
  | 46 => ⟨S4x4096x1, .f32⟩
  | 47 => ⟨S4x4096x1024, .f32⟩
  | 48 => ⟨S4x4096x1024, .f32⟩
  | 49 => ⟨S1x1x1024, .f32⟩
  | 50 => ⟨S4x4096x1024, .f32⟩
  | 51 => ⟨S4x4096x1024, .f32⟩
  | 52 => ⟨S4x4096x2048, .f32⟩
  | 53 => ⟨S4x1x2048, .f32⟩
  | 54 => ⟨S4x4096x2048, .f32⟩
  | 55 => ⟨S4x4096x2048, .f32⟩
  | 56 => ⟨S4x4096x2048, .f32⟩
  | 57 => ⟨S4x4096x2048, .f32⟩
  | 58 => ⟨S4x4096x2048, .f32⟩
  | 59 => ⟨S_, .f32⟩
  | 60 => ⟨S4x4096, .f32⟩
  | 61 => ⟨S4x4096x1, .f32⟩
  | 62 => ⟨S_, .f32⟩
  | 63 => ⟨S4x4096x1, .f32⟩
  | 64 => ⟨S4x4096x1, .f32⟩
  | 65 => ⟨S_, .f32⟩
  | 66 => ⟨S4x4096x1, .f32⟩
  | 67 => ⟨S4x4096x1, .f32⟩
  | 68 => ⟨S4x4096x1, .f32⟩
  | 69 => ⟨S4x4096x2048, .f32⟩
  | 70 => ⟨S4x4096x2048, .f32⟩
  | 71 => ⟨S1x1x2048, .f32⟩
  | 72 => ⟨S4x4096x2048, .f32⟩
  | 73 => ⟨S4x4096x2048, .f32⟩
  | 74 => ⟨S4x1x2048, .f32⟩
  | 75 => ⟨S_, .f32⟩
  | 76 => ⟨S4x1x2048, .f32⟩
  | 77 => ⟨S4x1x2048, .f32⟩
  | 78 => ⟨S4x4096x2048, .f32⟩
  | 79 => ⟨S4x4096x2048, .f32⟩
  | 80 => ⟨S4x1x2048, .f32⟩
  | 81 => ⟨S4x4096x2048, .f32⟩
  | 82 => ⟨S4x4096x2048, .f32⟩
  | 83 => ⟨S16384x2048, .f32⟩
  | 84 => ⟨S16384x4, .f32⟩
  | 85 => ⟨S1x4, .f32⟩
  | 86 => ⟨S16384x4, .f32⟩
  | 87 => ⟨S16384x4, .f32⟩
  | 88 => ⟨S_, .f32⟩
  | 89 => ⟨S16384, .f32⟩
  | 90 => ⟨S_, .f32⟩
  | 91 => ⟨S16384, .f32⟩
  | 92 => ⟨S16384, .f32⟩
  | 93 => ⟨S16384x1, .f32⟩
  | 94 => ⟨S16384x4, .f32⟩
  | 95 => ⟨S16384x4, .f32⟩
  | 96 => ⟨S16384x4, .f32⟩
  | 97 => ⟨S_, .f32⟩
  | 98 => ⟨S16384, .f32⟩
  | 99 => ⟨S16384x1, .f32⟩
  | 100 => ⟨S16384x4, .f32⟩
  | 101 => ⟨S16384x4, .f32⟩
  | 102 => ⟨S16384x4, .i32⟩
  | 103 => ⟨S_, .f32⟩
  | 104 => ⟨S_, .i32⟩
  | 105 => ⟨S16384, .f32⟩
  | 106 => ⟨S16384, .i32⟩
  | 107 => ⟨S16384x1, .i32⟩
  | 108 => ⟨S_, .i32⟩
  | 109 => ⟨S16384x1, .i32⟩
  | 110 => ⟨S16384x1, .i1⟩
  | 111 => ⟨S_, .i32⟩
  | 112 => ⟨S16384x1, .i32⟩
  | 113 => ⟨S16384x1, .i32⟩
  | 114 => ⟨S16384x1, .i32⟩
  | 115 => ⟨S16384x1x1, .i32⟩
  | 116 => ⟨S1, .i32⟩
  | 117 => ⟨S_, .i32⟩
  | 118 => ⟨S16384x1x1, .i32⟩
  | 119 => ⟨S16384x1x1, .i1⟩
  | 120 => ⟨S1x1x1, .i32⟩
  | 121 => ⟨S16384x1x1, .i32⟩
  | 122 => ⟨S16384x1x1, .i1⟩
  | 123 => ⟨S16384x1x1, .i1⟩
  | 124 => ⟨S_, .i1⟩
  | 125 => ⟨S16384x1, .i1⟩
  | 126 => ⟨S16384x1, .f32⟩
  | 127 => ⟨S_, .f32⟩
  | _ => ⟨S4x4096x1024, .bf16⟩

abbrev hbmTy0_1 (i : Nat) : BufTy := match i % 128 with
  | 0 => ⟨S16384x1, .f32⟩
  | 1 => ⟨S16384x1, .f32⟩
  | 2 => ⟨S16384x32, .f32⟩
  | 3 => ⟨S1x32, .f32⟩
  | 4 => ⟨S16384x32, .f32⟩
  | 5 => ⟨S16384x32, .f32⟩
  | 6 => ⟨S16384x4x8, .f32⟩
  | 7 => ⟨S16384x1x1, .i32⟩
  | 8 => ⟨S_, .i32⟩
  | 9 => ⟨S16384x1x1, .i32⟩
  | 10 => ⟨S16384x1x1, .i1⟩
  | 11 => ⟨S_, .i32⟩
  | 12 => ⟨S16384x1x1, .i32⟩
  | 13 => ⟨S16384x1x1, .i32⟩
  | 14 => ⟨S16384x1x1, .i32⟩
  | 15 => ⟨S1, .i32⟩
  | 16 => ⟨S_, .i32⟩
  | 17 => ⟨S16384x1x1, .i32⟩
  | 18 => ⟨S16384x1x1, .i1⟩
  | 19 => ⟨S1x1x1, .i32⟩
  | 20 => ⟨S16384x1x1, .i32⟩
  | 21 => ⟨S16384x1x1, .i1⟩
  | 22 => ⟨S16384x1x1, .i1⟩
  | 23 => ⟨S_, .i1⟩
  | 24 => ⟨S16384x1, .i1⟩
  | 25 => ⟨S16384x1x8, .f32⟩
  | 26 => ⟨S16384x1x8, .i1⟩
  | 27 => ⟨S_, .f32⟩
  | 28 => ⟨S16384x1x8, .f32⟩
  | 29 => ⟨S16384x1x8, .f32⟩
  | 30 => ⟨S16384x8, .f32⟩
  | 31 => ⟨S16384x2, .f32⟩
  | 32 => ⟨S16384x2, .i32⟩
  | 33 => ⟨S_, .f32⟩
  | 34 => ⟨S16384, .f32⟩
  | 35 => ⟨S_, .f32⟩
  | 36 => ⟨S16384, .f32⟩
  | 37 => ⟨S16384, .f32⟩
  | 38 => ⟨S16384x1, .f32⟩
  | 39 => ⟨S16384x2, .f32⟩
  | 40 => ⟨S16384x2, .f32⟩
  | 41 => ⟨S16384x2, .f32⟩
  | 42 => ⟨S_, .f32⟩
  | 43 => ⟨S16384, .f32⟩
  | 44 => ⟨S16384x1, .f32⟩
  | 45 => ⟨S16384x2, .f32⟩
  | 46 => ⟨S16384x2, .f32⟩
  | 47 => ⟨S16384x2, .f32⟩
  | 48 => ⟨S16384x2, .f32⟩
  | 49 => ⟨S16384x1, .i32⟩
  | 50 => ⟨S_, .i32⟩
  | 51 => ⟨S16384x1, .i32⟩
  | 52 => ⟨S16384x1, .i32⟩
  | 53 => ⟨S16384x2, .i32⟩
  | 54 => ⟨S16384x2, .i32⟩
  | 55 => ⟨S16384x2, .f32⟩
  | _ => ⟨S4x4096x1024, .bf16⟩

abbrev hbmTy (i : Nat) : BufTy := match i / 128 with
  | 0 => hbmTy0_0 i
  | 1 => hbmTy0_1 i
  | _ => ⟨S4x4096x1024, .bf16⟩

abbrev bufTy : (tb : Table) → Fin (tcTables nBuf tb) → BufTy
  | .hbm, ⟨i, _⟩ => hbmTy i
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call0_v0 : Ref sig .tc := ⟨.hbm, 102, rfl⟩
abbrev main_call0_cst : Ref sig .tc := ⟨.hbm, 103, rfl⟩
abbrev main_call0_c : Ref sig .tc := ⟨.hbm, 104, rfl⟩
abbrev main_call0_v1_0 : Ref sig .tc := ⟨.hbm, 105, rfl⟩
abbrev main_v77 : Ref sig .tc := ⟨.hbm, 106, rfl⟩
abbrev main_v78 : Ref sig .tc := ⟨.hbm, 107, rfl⟩
abbrev main_call1_c : Ref sig .tc := ⟨.hbm, 108, rfl⟩
abbrev main_call1_v0 : Ref sig .tc := ⟨.hbm, 109, rfl⟩
abbrev main_call1_v1 : Ref sig .tc := ⟨.hbm, 110, rfl⟩
abbrev main_call1_c_0 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_c_1 : Ref sig .tc := ⟨.hbm, 116, rfl⟩
abbrev main_call1_c_2 : Ref sig .tc := ⟨.hbm, 117, rfl⟩
abbrev main_call1_v6 : Ref sig .tc := ⟨.hbm, 118, rfl⟩
abbrev main_call1_v7 : Ref sig .tc := ⟨.hbm, 119, rfl⟩
abbrev main_call1_v8 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_c_3 : Ref sig .tc := ⟨.hbm, 124, rfl⟩
abbrev main_call1_v12 : Ref sig .tc := ⟨.hbm, 125, rfl⟩
abbrev main_call1_v13 : Ref sig .tc := ⟨.hbm, 126, rfl⟩
abbrev main_call1_cst : Ref sig .tc := ⟨.hbm, 127, rfl⟩
abbrev main_call1_v14 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_call2_c : Ref sig .tc := ⟨.hbm, 136, rfl⟩
abbrev main_call2_v0 : Ref sig .tc := ⟨.hbm, 137, rfl⟩
abbrev main_call2_v1 : Ref sig .tc := ⟨.hbm, 138, rfl⟩
abbrev main_call2_c_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_c_1 : Ref sig .tc := ⟨.hbm, 143, rfl⟩
abbrev main_call2_c_2 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_v9 : Ref sig .tc := ⟨.hbm, 149, rfl⟩
abbrev main_call2_v10 : Ref sig .tc := ⟨.hbm, 150, rfl⟩
abbrev main_call2_c_3 : Ref sig .tc := ⟨.hbm, 151, rfl⟩
abbrev main_call2_v11 : Ref sig .tc := ⟨.hbm, 152, rfl⟩
abbrev main_call2_v12 : Ref sig .tc := ⟨.hbm, 153, rfl⟩
abbrev main_call2_v13 : Ref sig .tc := ⟨.hbm, 154, rfl⟩
abbrev main_call2_cst : Ref sig .tc := ⟨.hbm, 155, rfl⟩
abbrev main_call2_v14 : Ref sig .tc := ⟨.hbm, 156, rfl⟩
abbrev main_v86 : Ref sig .tc := ⟨.hbm, 157, rfl⟩
abbrev main_v87 : Ref sig .tc := ⟨.hbm, 158, rfl⟩
abbrev main_values : Ref sig .tc := ⟨.hbm, 159, rfl⟩
abbrev main_indices : Ref sig .tc := ⟨.hbm, 160, rfl⟩
abbrev main_cst_12 : Ref sig .tc := ⟨.hbm, 161, rfl⟩
abbrev main_v88 : Ref sig .tc := ⟨.hbm, 162, rfl⟩
abbrev main_cst_13 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_14 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_c : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩

abbrev nD : Nat := 1
abbrev τ : Topo := Topo.v7x

variable {F : FTy → Type} [FloatOps F]
-- ==== Proof.Base.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Frame
public import Idealize.ShloMosaic.Lib.Batch
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the run: the pipeline library's beside the counters of the kernel's own transfers. -/
local notation "𝕄" => MT nD τ sig Unit (Elt F) ℕ (Pipeline.UD sig nD τ) ℕ

/-! ## The buffers the body names -/

abbrev teM : Memref sig .tc .smem S96 .i32 := Memref.whole main_v23
abbrev nxM : Memref sig .tc .smem S96 .i32 := Memref.whole main_v50
abbrev ntM : Memref sig .tc .smem S1 .i32 := Memref.whole main_v51
abbrev gH : Memref sig .tc .hbm S32x2048x512 .f32 := Memref.whole main_arg2
abbrev uH : Memref sig .tc .hbm S32x2048x512 .f32 := Memref.whole main_arg3
abbrev dH : Memref sig .tc .hbm S32x512x2048 .f32 := Memref.whole main_arg4
abbrev gS : Memref sig .tc .vmem S2048x512 .f32 := Memref.whole cc0_scratch0
abbrev uS : Memref sig .tc .vmem S2048x512 .f32 := Memref.whole cc0_scratch1
abbrev dS : Memref sig .tc .vmem S512x2048 .f32 := Memref.whole cc0_scratch2
abbrev gB : Memref sig .tc .vmem S2048x512 .bf16 := Memref.whole cc0_scratch3
abbrev uB : Memref sig .tc .vmem S2048x512 .bf16 := Memref.whole cc0_scratch4
abbrev dB : Memref sig .tc .vmem S512x2048 .bf16 := Memref.whole cc0_scratch5

/-- A memref's buffer on core `c` held whole at share `q` and contents `f`. -/
abbrev pt (c : Dev nD) {sp : Space} {S : Shape} {e : EltTy} (q : PosShare TreeShare) (M : Memref sig .tc sp S e)
    (f : Buf (Elt F) (M.view.loc (c : Thread nD τ))) : sProp 𝕄 :=
  M.view.loc (c : Thread nD τ) ↦{q} f

/-- A memref's elements held at contents `f`: `owns` with the contents named. -/
abbrev held (c : Thread nD τ) {sp : Space} {S : Shape} {e : EltTy} (M : Memref sig c.2.kind sp S e) (f : Buf (Elt F) (M.view.loc c)) : sProp 𝕄 :=
  M.view.loc c ↦[M.view.set]{fullShare} f

/-! ## One expert's weights, and the copies that bring them -/

/-- The offset of expert `e` is inside the arrays of gate and up weights. -/
theorem off1_inb {e : BitVec 32} (he : e.toNat < 32) : ∀ a, k0_off1 e a + S1x2048x512.size a ≤ S32x2048x512.size a := by
  intro a
  match a with
  | 0 => show e.toNat + 1 ≤ 32; omega
  | 1 => show 0 + 2048 ≤ 2048; omega
  | 2 => show 0 + 512 ≤ 512; omega

/-- The offset of expert `e` is inside the array of down weights. -/
theorem off2_inb {e : BitVec 32} (he : e.toNat < 32) : ∀ a, k0_off2 e a + S1x512x2048.size a ≤ S32x512x2048.size a := by
  intro a
  match a with
  | 0 => show e.toNat + 1 ≤ 32; omega
  | 1 => show 0 + 512 ≤ 512; omega
  | 2 => show 0 + 2048 ≤ 2048; omega

/-- Expert `e`'s matrix in an array of gate or up weights. -/
abbrev expA (M : Memref sig .tc .hbm S32x2048x512 .f32) (e : BitVec 32) (he : e.toNat < 32) : Memref sig .tc .hbm S2048x512 .f32 :=
  (M.slice (Rect.unit (s := S32x2048x512) (k0_off1 e) S1x2048x512.size (off1_inb he)) (fun _ => rfl)).squeeze S2048x512 squeezes_S1x2048x512_S2048x512
/-- Expert `e`'s matrix in the array of down weights. -/
abbrev expB (M : Memref sig .tc .hbm S32x512x2048 .f32) (e : BitVec 32) (he : e.toNat < 32) : Memref sig .tc .hbm S512x2048 .f32 :=
  (M.slice (Rect.unit (s := S32x512x2048) (k0_off2 e) S1x512x2048.size (off2_inb he)) (fun _ => rfl)).squeeze S512x2048 squeezes_S1x512x2048_S512x2048

variable (c : Dev nD)

/-- The three weight arrays as the core finds them. -/
structure Weights (F : FTy → Type) (c : Dev nD) where
  g : Buf (Elt F) ((gH).view.loc (c : Thread nD τ))
  u : Buf (Elt F) ((uH).view.loc (c : Thread nD τ))
  d : Buf (Elt F) ((dH).view.loc (c : Thread nD τ))

/-- What the three VMEM buffers the copies land in hold. -/
structure Landing (F : FTy → Type) (c : Dev nD) where
  g : Buf (Elt F) ((gS).view.loc (c : Thread nD τ))
  u : Buf (Elt F) ((uS).view.loc (c : Thread nD τ))
  d : Buf (Elt F) ((dS).view.loc (c : Thread nD τ))

variable {c}

/-- Expert `e`'s gate, up and down matrices, as a copy reads them. -/
abbrev Weights.ge (w : Weights F c) (e : BitVec 32) (he : e.toNat < 32) : S2048x512.Idx → Elt F .f32 :=
  ReadAs.same.apply ((expA gH e he).view.read (Elt F) w.g)
abbrev Weights.ue (w : Weights F c) (e : BitVec 32) (he : e.toNat < 32) : S2048x512.Idx → Elt F .f32 :=
  ReadAs.same.apply ((expA uH e he).view.read (Elt F) w.u)
abbrev Weights.de (w : Weights F c) (e : BitVec 32) (he : e.toNat < 32) : S512x2048.Idx → Elt F .f32 :=
  ReadAs.same.apply ((expB dH e he).view.read (Elt F) w.d)

/-- The landing buffers once expert `e`'s matrices are there. -/
abbrev Weights.landed (w : Weights F c) (e : BitVec 32) (he : e.toNat < 32) : Landing F c := ⟨w.ge e he, w.ue e he, w.de e he⟩

/-- What each of the three copies of expert `e`'s matrices delivers: the VMEM buffer at the matrix, and the source back. -/
def deliv (w : Weights F c) (s : Landing F c) (e : BitVec 32) (he : e.toNat < 32) : Fin 3 → sProp 𝕄
  | 0 => iprop((gS.view.loc (c : Thread nD τ) ↦{fullShare} View.write (Elt F) gS.view s.g (w.ge e he) Finset.univ)
      ∗ (gH.view.loc (c : Thread nD τ) ↦[(expA gH e he).view.set]{fullShare} w.g))
  | 1 => iprop((uS.view.loc (c : Thread nD τ) ↦{fullShare} View.write (Elt F) uS.view s.u (w.ue e he) Finset.univ)
      ∗ (uH.view.loc (c : Thread nD τ) ↦[(expA uH e he).view.set]{fullShare} w.u))
  | 2 => iprop((dS.view.loc (c : Thread nD τ) ↦{fullShare} View.write (Elt F) dS.view s.d (w.de e he) Finset.univ)
      ∗ (dH.view.loc (c : Thread nD τ) ↦[(expB dH e he).view.set]{fullShare} w.d))

/-- A delivery of this form can be kept in an invariant. -/
theorem landed_storable (ℓ : Loc nD τ sig) (g : Buf (Elt F) ℓ)
    (ℓ' : Loc nD τ sig) (S' : Finset (Idx ℓ')) (g' : Buf (Elt F) ℓ') :
    Storable (upEmb : UEmb _ 𝕄) (iprop((ℓ ↦{fullShare} g) ∗ (ℓ' ↦[S']{fullShare} g')) : sProp 𝕄) := inferInstance

instance deliv_storable (w : Weights F c) (s : Landing F c) (e : BitVec 32) (he : e.toNat < 32) (t : Fin 3) :
    Storable (upEmb : UEmb _ 𝕄) (deliv w s e he t) :=
  match t with
  | 0 => landed_storable _ _ _ _ _
  | 1 => landed_storable _ _ _ _ _
  | 2 => landed_storable _ _ _ _ _

/-- One copy's amount on the semaphore; the three are equal. -/
abbrev amt : ℕ := gS.view.amount (SemLoc.dma (sig := sig) 4)

/-- The batch of expert `e`'s three copies with `k` started and none waited for. -/
abbrev batch (w : Weights F c) (s : Landing F c) (e : BitVec 32) (he : e.toNat < 32) (k : ℕ) : sProp 𝕄 :=
  Transfers.Batch (countersEmb (U := Pipeline.UD sig nD τ)) (c : Thread nD τ) (SemLoc.dma 4) () amt (deliv w s e he) k 0

/-- The semaphore at zero is a batch with nothing started. -/
theorem batch_start (w : Weights F c) (s : Landing F c) (e : BitVec 32) (he : e.toNat < 32) :
    (semVal ((c : Thread nD τ), SemLoc.dma 4) 0 : sProp 𝕄) ⊢ |={Set.univ}=> batch w s e he 0 :=
  Transfers.batch_alloc' (Lvl := ℕ) (countersEmb (U := Pipeline.UD sig nD τ)) (c : Thread nD τ) () amt (deliv w s e he) (sm := SemLoc.dma 4) (E := Set.univ)

/-! ## What the core holds between the steps -/

/-- The word of a table at an offset, as the body reads it. -/
abbrev rdW (M : Memref sig .tc .smem S96 .i32) (f : Buf (Elt F) (M.view.loc (c : Thread nD τ))) (off : Fin 1 → ℕ)
    (h : ∀ a, off a + S1.size a ≤ S96.size a) : Elt F .i32 :=
  View.readAt (Elt F) M.view (Rect.unit (s := S96) off S1.size h).toLoadRect f (Shape.Idx.first (numel1_S1.symm ▸ Nat.one_pos))
/-- The number of tiles in use, as the body reads it. -/
abbrev ntW (f : Buf (Elt F) (ntM.view.loc (c : Thread nD τ))) : Elt F .i32 :=
  View.readAt (Elt F) ntM.view (Rect.unit (s := S1) ![0] S1.size inb_S1_S1_0).toLoadRect f (Shape.Idx.first (numel1_S1.symm ▸ Nat.one_pos))

/-- The weight arrays whole. -/
abbrev whole (w : Weights F c) : sProp 𝕄 :=
  iprop(pt c fullShare gH w.g ∗ pt c fullShare uH w.u ∗ pt c fullShare dH w.d)

/-- The weight arrays without expert `e`'s matrices. -/
abbrev rests (w : Weights F c) (e : BitVec 32) (he : e.toNat < 32) : sProp 𝕄 :=
  iprop((gH.view.loc (c : Thread nD τ) ↦[Finset.univ \ (expA gH e he).view.set]{fullShare} w.g)
    ∗ (uH.view.loc (c : Thread nD τ) ↦[Finset.univ \ (expA uH e he).view.set]{fullShare} w.u)
    ∗ (dH.view.loc (c : Thread nD τ) ↦[Finset.univ \ (expB dH e he).view.set]{fullShare} w.d))

/-- The three VMEM buffers the copies land in. -/
abbrev land (s : Landing F c) : sProp 𝕄 :=
  iprop(pt c fullShare gS s.g ∗ pt c fullShare uS s.u ∗ pt c fullShare dS s.d)

/-- The three rounded matrices of expert `e`, as the products read them. -/
abbrev loaded (w : Weights F c) (e : BitVec 32) (he : e.toNat < 32) : sProp 𝕄 :=
  iprop(owns (c : Thread nD τ) gB fullShare (k0_pay3 (F := F) (w.ge e he)) ∗ owns (c : Thread nD τ) uB fullShare (k0_pay4 (F := F) (w.ue e he))
    ∗ owns (c : Thread nD τ) dB fullShare (k0_pay5 (F := F) (w.de e he)))

/-- A buffer in two parts is the buffer whole. -/
theorem join_rest (ℓ : Loc nD τ sig) (I : Finset (Idx ℓ)) (f : Buf (Elt F) ℓ) :
    iprop((ℓ ↦[I]{fullShare} f) ∗ ℓ ↦[Finset.univ \ I]{fullShare} f) ⊢ (ℓ ↦{fullShare} f : sProp 𝕄) :=
  (pointsTo_split_subset (Finset.subset_univ I)).2

/-- A store over all of a view leaves its payload. -/
theorem read_store_full {sp : Space} {S : Shape} {e : EltTy} (v : View sig .tc sp S e) (f : v.ty.Contents (Elt F))
    {off : Fin S.rank → ℕ} (inb : ∀ a, off a + S.size a ≤ S.size a) (x : S.Idx → Elt F e) :
    v.read (Elt F) (v.writes (Elt F) f [⟨Rect.unit off S.size inb, x⟩]) = x := by
  funext y
  have hr := View.read_writes_cons_emb (v := v) (f := f) (Rect.unit off S.size inb) x [] y
  have hy : (Rect.unit off S.size inb).emb y = y := by
    funext a
    refine Fin.ext ?_
    have h0 : off a = 0 := by have := inb a; omega
    show off a + 1 * (y a).val = (y a).val
    omega
  rw [hy] at hr
  exact hr

/-- The rounded buffers at some contents. -/
abbrev spare (c : Dev nD) : sProp 𝕄 :=
  iprop((∃ b, owns (Val := Elt F) (c : Thread nD τ) gB fullShare b) ∗ (∃ b, owns (Val := Elt F) (c : Thread nD τ) uB fullShare b)
    ∗ (∃ b, owns (Val := Elt F) (c : Thread nD τ) dB fullShare b))

end Cert.KernelIdeal.Hand

end
-- ==== Proof.Part.lean ====
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the run: the pipeline library's beside the counters of the kernel's own transfers. -/
local notation "𝕄" => MT nD τ sig Unit (Elt F) ℕ (Pipeline.UD sig nD τ) ℕ

/-- The part's program at the buffers of this call. -/
abbrev partProg (i : grid0.Coords) (arg4 : Memref sig .tc .vmem S512x2048 .f32) (harg4 : arg4.IsWhole)
    (arg8 : Memref sig .tc .vmem S512x2048 .f32) (harg8 : arg8.IsWhole) (arg0 : BitVec 32) :
    Prog (TpuEff nD τ sig (Elt F) Λ₀ .tc) (Σ' (v62 : Elt F .i32), BitVec 32) :=
  k0_part1 i teM (Memref.isWhole_whole _) nxM (Memref.isWhole_whole _) ntM (Memref.isWhole_whole _) arg4 harg4
    gH (Memref.isWhole_whole _) uH (Memref.isWhole_whole _) dH (Memref.isWhole_whole _) arg8 harg8
    gS (Memref.isWhole_whole _) uS (Memref.isWhole_whole _) dS (Memref.isWhole_whole _)
    gB (Memref.isWhole_whole _) uB (Memref.isWhole_whole _) dB (Memref.isWhole_whole _) cc0_scratch6 arg0

/-- Waiting for the three copies of expert `e`'s matrices and rounding them: the arrays are whole again, the landing
    buffers hold the matrices, the rounded buffers their roundings, and the semaphore is at zero. -/
theorem part_run {c : Dev nD} (i : grid0.Coords) (arg4 : Memref sig .tc .vmem S512x2048 .f32) (harg4 : arg4.IsWhole)
    (arg8 : Memref sig .tc .vmem S512x2048 .f32) (harg8 : arg8.IsWhole) (arg0 : BitVec 32)
    (w : Weights F c) (s : Landing F c) (e : BitVec 32) (he : e.toNat < 32) (q : PosShare TreeShare)
    (nx : Buf (Elt F) (nxM.view.loc (c : Thread nD τ))) (W : Waits sig Unit)
    (b3 : Buf (Elt F) (gB.view.loc (c : Thread nD τ))) (b4 : Buf (Elt F) (uB.view.loc (c : Thread nD τ)))
    (b5 : Buf (Elt F) (dB.view.loc (c : Thread nD τ))) :
    iprop(batch w s e he 3 ∗ rests w e he ∗ pt c q nxM nx
        ∗ held (c : Thread nD τ) gB b3
        ∗ held (c : Thread nD τ) uB b4 ∗ held (c : Thread nD τ) dB b5 ∗ owes (c : Thread nD τ) 0 W)
      ⊢ wp frame (wpE (defs₀ (F := F)) Variants.none c none) Set.univ (partProg i arg4 harg4 arg8 harg8 arg0)
          (fun p => iprop(⌜p = ⟨rdW nxM nx (k0_off5 i) (k0_off5_inb i), 0#32⟩⌝ ∗ semVal ((c : Thread nD τ), SemLoc.dma 4) 0
            ∗ whole w ∗ land (w.landed e he) ∗ loaded w e he ∗ pt c q nxM nx
            ∗ ∃ W', owes (c : Thread nD τ) 0 W')) := by
  unfold partProg
  simp only [k0_part1_eq_skeleton]; unfold k0_part1_skel
  unfold held loaded owns
  iintro ⟨HB, ⟨Hg, Hu, Hd⟩, Hnx, H3, H4, H5, HO⟩
  sl_exec
  sl_step
  isplitr; · ipureintro; rfl
  isplitl [HB]; · iexact HB
  isplitl [Hg Hu Hd]
  · isplitl [Hg]; · iexact Hg
    isplitl [Hu]; · iexact Hu
    iexact Hd
  rw [show View.write (Elt F) gS.view s.g (w.ge e he) Finset.univ = w.ge e he from View.write_whole_univ _ _ _,
    show View.write (Elt F) uS.view s.u (w.ue e he) Finset.univ = w.ue e he from View.write_whole_univ _ _ _,
    show View.write (Elt F) dS.view s.d (w.de e he) Finset.univ = w.de e he from View.write_whole_univ _ _ _]
  isplitl [HB_dst0 HB_dst1 HB_dst2]
  · isplitl [HB_dst0]; · iexact HB_dst0
    isplitl [HB_dst1]; · iexact HB_dst1
    iexact HB_dst2
  rw [show View.readAt (Elt F) gS.view (Rect.unit ![0, 0] S2048x512.size inb_S2048x512_S2048x512_0_0).toLoadRect (w.ge e he)
      = w.ge e he from View.readAt_full gS.view _ _,
    show View.readAt (Elt F) uS.view (Rect.unit ![0, 0] S2048x512.size inb_S2048x512_S2048x512_0_0).toLoadRect (w.ue e he)
      = w.ue e he from View.readAt_full uS.view _ _,
    show View.readAt (Elt F) dS.view (Rect.unit ![0, 0] S512x2048.size inb_S512x2048_S512x2048_0_0).toLoadRect (w.de e he)
      = w.de e he from View.readAt_full dS.view _ _]
  isplitl [H3 H4 H5]
  · isplitl [H3]
    · iexists _; isplitr; swap; · iexact H3
      ipureintro; exact read_store_full _ _ _ _
    isplitl [H4]
    · iexists _; isplitr; swap; · iexact H4
      ipureintro; exact read_store_full _ _ _ _
    iexists _; isplitr; swap; · iexact H5
    ipureintro; exact read_store_full _ _ _ _
  isplitl [Hnx]; · iexact Hnx
  iexists _; iexact HO

end Cert.KernelIdeal.Hand

end
-- ==== Proof.Runs.lean ====
module

public import proofs.«01_k».proof.Proof.Part

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the run: the pipeline library's beside the counters of the kernel's own transfers. -/
local notation "𝕄" => MT nD τ sig Unit (Elt F) ℕ (Pipeline.UD sig nD τ) ℕ

/-- The kernel's program at the buffers of this call. -/
abbrev prog (i : grid0.Coords) (arg4 : Memref sig .tc .vmem S512x2048 .f32) (harg4 : arg4.IsWhole)
    (arg8 : Memref sig .tc .vmem S512x2048 .f32) (harg8 : arg8.IsWhole) : Prog (TpuEff nD τ sig (Elt F) Λ₀ .tc) PUnit :=
  cc0_moe i teM (Memref.isWhole_whole _) nxM (Memref.isWhole_whole _) ntM (Memref.isWhole_whole _) arg4 harg4
    gH (Memref.isWhole_whole _) uH (Memref.isWhole_whole _) dH (Memref.isWhole_whole _) arg8 harg8
    gS (Memref.isWhole_whole _) uS (Memref.isWhole_whole _) dS (Memref.isWhole_whole _)
    gB (Memref.isWhole_whole _) uB (Memref.isWhole_whole _) dB (Memref.isWhole_whole _) cc0_scratch6

/-- What a tile's rows `x` become under expert `e`. -/
abbrev outV {c : Dev nD} (w : Weights F c) (e : BitVec 32) (he : e.toNat < 32) (x : S512x2048.Idx → Elt F .f32) : S512x2048.Idx → Elt F .f32 :=
  k0_pay1 (F := F) x (k0_pay3 (F := F) (w.ge e he)) (k0_pay4 (F := F) (w.ue e he)) (k0_pay5 (F := F) (w.de e he))

/-- The three tables, each at share `q`. -/
abbrev tabs {c : Dev nD} (q : PosShare TreeShare) (te : Buf (Elt F) (teM.view.loc (c : Thread nD τ)))
    (nx : Buf (Elt F) (nxM.view.loc (c : Thread nD τ))) (nt : Buf (Elt F) (ntM.view.loc (c : Thread nD τ))) : sProp 𝕄 :=
  iprop(pt c q teM te ∗ pt c q nxM nx ∗ pt c q ntM nt)

/-- A tile past the last used one: zeros. -/
theorem run_idle {c : Dev nD} (i : grid0.Coords) (arg4 : Memref sig .tc .vmem S512x2048 .f32) (harg4 : arg4.IsWhole)
    (arg8 : Memref sig .tc .vmem S512x2048 .f32) (harg8 : arg8.IsWhole) (q : PosShare TreeShare)
    (te : Buf (Elt F) (teM.view.loc (c : Thread nD τ))) (nx : Buf (Elt F) (nxM.view.loc (c : Thread nD τ)))
    (nt : Buf (Elt F) (ntM.view.loc (c : Thread nD τ))) (w : Weights F c) (x y : S512x2048.Idx → Elt F .f32)
    (W : Waits sig Unit) (K : PUnit → sProp 𝕄)
    (h1 : ¬ k0_cond1 i = 1#1) (h2 : ¬ k0_cond2 i (ntW nt) = 1#1) (h5 : k0_cond5 i (ntW nt) = 1#1) :
    iprop(tabs q te nx nt ∗ owns (c : Thread nD τ) arg8 fullShare y ∗ owes (c : Thread nD τ) 0 W
        ∗ (iprop(tabs q te nx nt ∗ owns (c : Thread nD τ) arg8 fullShare (k0_pay2 (F := F)) ∗ (∃ W', owes (c : Thread nD τ) 0 W')) -∗ K ⟨⟩))
      ⊢ wp frame (wpE (defs₀ (F := F)) Variants.none c none) Set.univ (prog i arg4 harg4 arg8 harg8) K := by
  unfold prog
  simp only [cc0_moe_eq_skeleton]; unfold cc0_moe_skel
  unfold owns
  iintro ⟨⟨Hte, Hnx, Hnt⟩, ⟨%f8, -, H8⟩, HO, HK⟩
  sl_exec
  sl_step
  iapply HK
  isplitl [Hte Hnx Hnt]
  · isplitl [Hte]; · iexact Hte
    isplitl [Hnx]; · iexact Hnx
    iexact Hnt
  isplitl [H8]
  · iexists _; isplitr; swap; · iexact H8
    ipureintro; exact read_store_full _ _ _ _
  iexists _; iexact HO

/-- A tile whose expert is the tile's before: the rounded matrices are there. -/
theorem run_same {c : Dev nD} (i : grid0.Coords) (arg4 : Memref sig .tc .vmem S512x2048 .f32) (harg4 : arg4.IsWhole)
    (arg8 : Memref sig .tc .vmem S512x2048 .f32) (harg8 : arg8.IsWhole) (q : PosShare TreeShare)
    (te : Buf (Elt F) (teM.view.loc (c : Thread nD τ))) (nx : Buf (Elt F) (nxM.view.loc (c : Thread nD τ)))
    (nt : Buf (Elt F) (ntM.view.loc (c : Thread nD τ))) (w : Weights F c) (x y : S512x2048.Idx → Elt F .f32)
    (W : Waits sig Unit) (K : PUnit → sProp 𝕄) (e : BitVec 32) (he : e.toNat < 32)
    (h1 : ¬ k0_cond1 i = 1#1) (h2 : k0_cond2 i (ntW nt) = 1#1) (h5 : ¬ k0_cond5 i (ntW nt) = 1#1)
    (h3 : ¬ k0_cond3 i (rdW teM te (k0_off3 i) (k0_off3_inb i)) (rdW teM te (k0_off4 i) (k0_off4_inb i)) = 1#1) :
    iprop(tabs q te nx nt ∗ loaded w e he ∗ owns (c : Thread nD τ) arg4 fullShare x ∗ owns (c : Thread nD τ) arg8 fullShare y ∗ owes (c : Thread nD τ) 0 W
        ∗ (iprop(tabs q te nx nt ∗ loaded w e he ∗ owns (c : Thread nD τ) arg4 fullShare x
              ∗ owns (c : Thread nD τ) arg8 fullShare (outV w e he x) ∗ (∃ W', owes (c : Thread nD τ) 0 W')) -∗ K ⟨⟩))
      ⊢ wp frame (wpE (defs₀ (F := F)) Variants.none c none) Set.univ (prog i arg4 harg4 arg8 harg8) K := by
  unfold prog
  simp only [cc0_moe_eq_skeleton]; unfold cc0_moe_skel
  unfold loaded owns
  iintro ⟨⟨Hte, Hnx, Hnt⟩, ⟨⟨%b3, %hb3, H3⟩, ⟨%b4, %hb4, H4⟩, ⟨%b5, %hb5, H5⟩⟩, ⟨%f4, %hx, Hx⟩, ⟨%f8, -, H8⟩, HO, HK⟩
  sl_exec
  sl_step
  iapply HK
  isplitl [Hte Hnx Hnt]
  · isplitl [Hte]; · iexact Hte
    isplitl [Hnx]; · iexact Hnx
    iexact Hnt
  isplitl [H3 H4 H5]
  · isplitl [H3]
    · iexists _; isplitr; swap; · iexact H3
      ipureintro; exact hb3
    isplitl [H4]
    · iexists _; isplitr; swap; · iexact H4
      ipureintro; exact hb4
    iexists _; isplitr; swap; · iexact H5
    ipureintro; exact hb5
  isplitl [Hx]
  · iexists _; isplitr; swap; · iexact Hx
    ipureintro; exact hx
  isplitl [H8]
  · iexists _; isplitr; swap; · iexact H8
    ipureintro
    rw [read_store_full, View.readAt_full, View.readAt_full, View.readAt_full, View.readAt_full, hx, hb3, hb4, hb5]
  iexists _; iexact HO

end Cert.KernelIdeal.Hand

end
-- ==== Proof.RunsB.lean ====
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the run: the pipeline library's beside the counters of the kernel's own transfers. -/
local notation "𝕄" => MT nD τ sig Unit (Elt F) ℕ (Pipeline.UD sig nD τ) ℕ

/-- The first tile of an expert with another to come: the expert's matrices are awaited and rounded, and the copies
    of the next one's are started. -/
theorem run_change_more {c : Dev nD} (i : grid0.Coords) (arg4 : Memref sig .tc .vmem S512x2048 .f32) (harg4 : arg4.IsWhole)
    (arg8 : Memref sig .tc .vmem S512x2048 .f32) (harg8 : arg8.IsWhole) (q : PosShare TreeShare)
    (te : Buf (Elt F) (teM.view.loc (c : Thread nD τ))) (nx : Buf (Elt F) (nxM.view.loc (c : Thread nD τ)))
    (nt : Buf (Elt F) (ntM.view.loc (c : Thread nD τ))) (w : Weights F c) (x y : S512x2048.Idx → Elt F .f32)
    (W : Waits sig Unit) (K : PUnit → sProp 𝕄) (s : Landing F c) (e : BitVec 32) (he : e.toNat < 32)
    (he' : BitVec.toNat (rdW nxM nx (k0_off6 i) (k0_off6_inb i)) < 32)
    (h1 : ¬ k0_cond1 i = 1#1) (h2 : k0_cond2 i (ntW nt) = 1#1) (h5 : ¬ k0_cond5 i (ntW nt) = 1#1)
    (h3 : k0_cond3 i (rdW teM te (k0_off3 i) (k0_off3_inb i)) (rdW teM te (k0_off4 i) (k0_off4_inb i)) = 1#1)
    (h4 : k0_cond4 (rdW nxM nx (k0_off5 i) (k0_off5_inb i)) = 1#1) :
    iprop(tabs q te nx nt ∗ (batch w s e he 3 ∗ rests w e he) ∗ spare c ∗ owns (c : Thread nD τ) arg4 fullShare x
        ∗ owns (c : Thread nD τ) arg8 fullShare y ∗ owes (c : Thread nD τ) 0 W
        ∗ (iprop(tabs q te nx nt ∗ (batch w (w.landed e he) (rdW nxM nx (k0_off6 i) (k0_off6_inb i)) he' 3 ∗ rests w (rdW nxM nx (k0_off6 i) (k0_off6_inb i)) he')
              ∗ loaded w e he ∗ owns (c : Thread nD τ) arg4 fullShare x
              ∗ owns (c : Thread nD τ) arg8 fullShare (outV w e he x) ∗ (∃ W', owes (c : Thread nD τ) 0 W')) -∗ K ⟨⟩))
      ⊢ wp frame (wpE (defs₀ (F := F)) Variants.none c none) Set.univ (prog i arg4 harg4 arg8 harg8) K := by
  have hk : k0_chk2 i (ntW nt) (rdW teM te (k0_off3 i) (k0_off3_inb i)) (rdW teM te (k0_off4 i) (k0_off4_inb i))
      (rdW nxM nx (k0_off5 i) (k0_off5_inb i)) (rdW nxM nx (k0_off6 i) (k0_off6_inb i)) :=
    ⟨fun _ _ _ => off1_inb he', fun _ _ _ => off2_inb he'⟩
  unfold prog
  simp only [cc0_moe_eq_skeleton]; unfold cc0_moe_skel
  unfold spare loaded owns
  iintro ⟨⟨Hte, Hnx, Hnt⟩, ⟨HB, ⟨Hg, Hu, Hd⟩⟩, ⟨⟨%d3, %b3, -, H3⟩, ⟨%d4, %b4, -, H4⟩, ⟨%d5, %b5, -, H5⟩⟩, ⟨%f4, %hx, Hx⟩, ⟨%f8, -, H8⟩, HO, HK⟩
  have hcut := part_run i arg4 harg4 arg8 harg8 (BitVec.ofNat 32 (i 0).val) w s e he q nx W b3 b4 b5
  unfold partProg at hcut
  sl_exec
  obtain rfl : v62 = rdW nxM nx (k0_off5 i) (k0_off5_inb i) := congrArg PSigma.fst hk0_part1_0
  rename' hk0_part1_8 => hb3, hk0_part1_10 => hb4, hk0_part1_12 => hb5
  irename Hk0_part1_1 => Hq
  imod (batch_start w (w.landed e he) (rdW nxM nx (k0_off6 i) (k0_off6_inb i)) he') $$ Hq with HB
  clear hcut hk0_part1_0
  sl_exec
  sl_step
  iapply HK
  isplitl [Hte Hk0_part1_14 Hnt]
  · isplitl [Hte]; · iexact Hte
    isplitl [Hk0_part1_14]; · iexact Hk0_part1_14
    iexact Hnt
  isplitl [HB Hk0_part1_2 Hk0_part1_3 Hk0_part1_4]
  · isplitl [HB]; · iexact HB
    isplitl [Hk0_part1_2]; · iexact Hk0_part1_2
    isplitl [Hk0_part1_3]; · iexact Hk0_part1_3
    iexact Hk0_part1_4
  isplitl [Hk0_part1_9 Hk0_part1_11 Hk0_part1_13]
  · isplitl [Hk0_part1_9]
    · iexists _; isplitr; swap; · iexact Hk0_part1_9
      ipureintro; exact hb3
    isplitl [Hk0_part1_11]
    · iexists _; isplitr; swap; · iexact Hk0_part1_11
      ipureintro; exact hb4
    iexists _; isplitr; swap; · iexact Hk0_part1_13
    ipureintro; exact hb5
  isplitl [Hx]
  · iexists _; isplitr; swap; · iexact Hx
    ipureintro; exact hx
  isplitl [H8]
  · iexists _; isplitr; swap; · iexact H8
    ipureintro
    rw [read_store_full, View.readAt_full, View.readAt_full, View.readAt_full, View.readAt_full, hx, hb3, hb4, hb5]
  iexists _; iexact Hk0_part1_15

/-- The first tile of the last expert: its matrices are awaited and rounded, and no copy is started. -/
theorem run_change_last {c : Dev nD} (i : grid0.Coords) (arg4 : Memref sig .tc .vmem S512x2048 .f32) (harg4 : arg4.IsWhole)
    (arg8 : Memref sig .tc .vmem S512x2048 .f32) (harg8 : arg8.IsWhole) (q : PosShare TreeShare)
    (te : Buf (Elt F) (teM.view.loc (c : Thread nD τ))) (nx : Buf (Elt F) (nxM.view.loc (c : Thread nD τ)))
    (nt : Buf (Elt F) (ntM.view.loc (c : Thread nD τ))) (w : Weights F c) (x y : S512x2048.Idx → Elt F .f32)
    (W : Waits sig Unit) (K : PUnit → sProp 𝕄) (s : Landing F c) (e : BitVec 32) (he : e.toNat < 32)
    (h1 : ¬ k0_cond1 i = 1#1) (h2 : k0_cond2 i (ntW nt) = 1#1) (h5 : ¬ k0_cond5 i (ntW nt) = 1#1)
    (h3 : k0_cond3 i (rdW teM te (k0_off3 i) (k0_off3_inb i)) (rdW teM te (k0_off4 i) (k0_off4_inb i)) = 1#1)
    (h4 : ¬ k0_cond4 (rdW nxM nx (k0_off5 i) (k0_off5_inb i)) = 1#1) :
    iprop(tabs q te nx nt ∗ (batch w s e he 3 ∗ rests w e he) ∗ spare c ∗ owns (c : Thread nD τ) arg4 fullShare x
        ∗ owns (c : Thread nD τ) arg8 fullShare y ∗ owes (c : Thread nD τ) 0 W
        ∗ (iprop(tabs q te nx nt ∗ (semVal ((c : Thread nD τ), SemLoc.dma 4) 0 ∗ whole w ∗ land (w.landed e he))
              ∗ loaded w e he ∗ owns (c : Thread nD τ) arg4 fullShare x
              ∗ owns (c : Thread nD τ) arg8 fullShare (outV w e he x) ∗ (∃ W', owes (c : Thread nD τ) 0 W')) -∗ K ⟨⟩))
      ⊢ wp frame (wpE (defs₀ (F := F)) Variants.none c none) Set.univ (prog i arg4 harg4 arg8 harg8) K := by
  unfold prog
  simp only [cc0_moe_eq_skeleton]; unfold cc0_moe_skel
  unfold spare loaded owns
  iintro ⟨⟨Hte, Hnx, Hnt⟩, ⟨HB, ⟨Hg, Hu, Hd⟩⟩, ⟨⟨%d3, %b3, -, H3⟩, ⟨%d4, %b4, -, H4⟩, ⟨%d5, %b5, -, H5⟩⟩, ⟨%f4, %hx, Hx⟩, ⟨%f8, -, H8⟩, HO, HK⟩
  have hcut := part_run i arg4 harg4 arg8 harg8 (BitVec.ofNat 32 (i 0).val) w s e he q nx W b3 b4 b5
  unfold partProg at hcut
  sl_exec
  obtain rfl : v62 = rdW nxM nx (k0_off5 i) (k0_off5_inb i) := congrArg PSigma.fst hk0_part1_0
  rename' hk0_part1_8 => hb3, hk0_part1_10 => hb4, hk0_part1_12 => hb5
  irename Hk0_part1_1 => Hq
  clear hcut hk0_part1_0
  sl_exec
  sl_step
  iapply HK
  isplitl [Hte Hk0_part1_14 Hnt]
  · isplitl [Hte]; · iexact Hte
    isplitl [Hk0_part1_14]; · iexact Hk0_part1_14
    iexact Hnt
  isplitl [Hq Hk0_part1_2 Hk0_part1_3 Hk0_part1_4 Hk0_part1_5 Hk0_part1_6 Hk0_part1_7]
  · isplitl [Hq]; · iexact Hq
    isplitl [Hk0_part1_2 Hk0_part1_3 Hk0_part1_4]
    · isplitl [Hk0_part1_2]; · iexact Hk0_part1_2
      isplitl [Hk0_part1_3]; · iexact Hk0_part1_3
      iexact Hk0_part1_4
    isplitl [Hk0_part1_5]; · iexact Hk0_part1_5
    isplitl [Hk0_part1_6]; · iexact Hk0_part1_6
    iexact Hk0_part1_7
  isplitl [Hk0_part1_9 Hk0_part1_11 Hk0_part1_13]
  · isplitl [Hk0_part1_9]
    · iexists _; isplitr; swap; · iexact Hk0_part1_9
      ipureintro; exact hb3
    isplitl [Hk0_part1_11]
    · iexists _; isplitr; swap; · iexact Hk0_part1_11
      ipureintro; exact hb4
    iexists _; isplitr; swap; · iexact Hk0_part1_13
    ipureintro; exact hb5
  isplitl [Hx]
  · iexists _; isplitr; swap; · iexact Hx
    ipureintro; exact hx
  isplitl [H8]
  · iexists _; isplitr; swap; · iexact H8
    ipureintro
    rw [read_store_full, View.readAt_full, View.readAt_full, View.readAt_full, View.readAt_full, hx, hb3, hb4, hb5]
  iexists _; iexact Hk0_part1_15

/-- The very first tile with another expert to come: the copies of its expert's matrices are started and awaited, the
    matrices rounded, and the copies of the next expert's started. -/
theorem run_first_more {c : Dev nD} (i : grid0.Coords) (arg4 : Memref sig .tc .vmem S512x2048 .f32) (harg4 : arg4.IsWhole)
    (arg8 : Memref sig .tc .vmem S512x2048 .f32) (harg8 : arg8.IsWhole) (q : PosShare TreeShare)
    (te : Buf (Elt F) (teM.view.loc (c : Thread nD τ))) (nx : Buf (Elt F) (nxM.view.loc (c : Thread nD τ)))
    (nt : Buf (Elt F) (ntM.view.loc (c : Thread nD τ))) (w : Weights F c) (x y : S512x2048.Idx → Elt F .f32)
    (W : Waits sig Unit) (K : PUnit → sProp 𝕄) (s : Landing F c) (he : BitVec.toNat (rdW teM te ![0] inb_S96_S1_0) < 32)
    (he' : BitVec.toNat (rdW nxM nx (k0_off6 i) (k0_off6_inb i)) < 32)
    (h1 : k0_cond1 i = 1#1) (h2 : k0_cond2 i (ntW nt) = 1#1) (h5 : ¬ k0_cond5 i (ntW nt) = 1#1)
    (h3 : k0_cond3 i (rdW teM te (k0_off3 i) (k0_off3_inb i)) (rdW teM te (k0_off4 i) (k0_off4_inb i)) = 1#1)
    (h4 : k0_cond4 (rdW nxM nx (k0_off5 i) (k0_off5_inb i)) = 1#1) :
    iprop(tabs q te nx nt ∗ (semVal ((c : Thread nD τ), SemLoc.dma 4) 0 ∗ whole w ∗ land s) ∗ spare c ∗ owns (c : Thread nD τ) arg4 fullShare x
        ∗ owns (c : Thread nD τ) arg8 fullShare y ∗ owes (c : Thread nD τ) 0 W
        ∗ (iprop(tabs q te nx nt ∗ (batch w (w.landed (rdW teM te ![0] inb_S96_S1_0) he) (rdW nxM nx (k0_off6 i) (k0_off6_inb i)) he' 3 ∗ rests w (rdW nxM nx (k0_off6 i) (k0_off6_inb i)) he')
              ∗ loaded w (rdW teM te ![0] inb_S96_S1_0) he ∗ owns (c : Thread nD τ) arg4 fullShare x
              ∗ owns (c : Thread nD τ) arg8 fullShare (outV w (rdW teM te ![0] inb_S96_S1_0) he x) ∗ (∃ W', owes (c : Thread nD τ) 0 W')) -∗ K ⟨⟩))
      ⊢ wp frame (wpE (defs₀ (F := F)) Variants.none c none) Set.univ (prog i arg4 harg4 arg8 harg8) K := by
  have hk1 : k0_chk1 i (rdW teM te ![0] inb_S96_S1_0) := ⟨fun _ => off1_inb he, fun _ => off2_inb he⟩
  have hk : k0_chk2 i (ntW nt) (rdW teM te (k0_off3 i) (k0_off3_inb i)) (rdW teM te (k0_off4 i) (k0_off4_inb i))
      (rdW nxM nx (k0_off5 i) (k0_off5_inb i)) (rdW nxM nx (k0_off6 i) (k0_off6_inb i)) :=
    ⟨fun _ _ _ => off1_inb he', fun _ _ _ => off2_inb he'⟩
  unfold prog
  simp only [cc0_moe_eq_skeleton]; unfold cc0_moe_skel
  unfold spare loaded owns
  iintro ⟨⟨Hte, Hnx, Hnt⟩, ⟨Hq, ⟨Hg, Hu, Hd⟩, ⟨S0, S1, S2⟩⟩, ⟨⟨%d3, %b3, -, H3⟩, ⟨%d4, %b4, -, H4⟩, ⟨%d5, %b5, -, H5⟩⟩, ⟨%f4, %hx, Hx⟩, ⟨%f8, -, H8⟩, HO, HK⟩
  imod (batch_start w s (rdW teM te ![0] inb_S96_S1_0) he) $$ Hq with HB
  have hcut := part_run i arg4 harg4 arg8 harg8 (BitVec.ofNat 32 (i 0).val) w s (rdW teM te ![0] inb_S96_S1_0) he q nx W b3 b4 b5
  unfold partProg at hcut
  sl_exec
  obtain rfl : v62 = rdW nxM nx (k0_off5 i) (k0_off5_inb i) := congrArg PSigma.fst hk0_part1_0
  rename' hk0_part1_8 => hb3, hk0_part1_10 => hb4, hk0_part1_12 => hb5
  irename Hk0_part1_1 => Hq
  imod (batch_start w (w.landed (rdW teM te ![0] inb_S96_S1_0) he) (rdW nxM nx (k0_off6 i) (k0_off6_inb i)) he') $$ Hq with HB
  clear hcut hk0_part1_0
  sl_exec
  sl_step
  iapply HK
  isplitl [Hte Hk0_part1_14 Hnt]
  · isplitl [Hte]; · iexact Hte
    isplitl [Hk0_part1_14]; · iexact Hk0_part1_14
    iexact Hnt
  isplitl [HB Hk0_part1_2 Hk0_part1_3 Hk0_part1_4]
  · isplitl [HB]; · iexact HB
    isplitl [Hk0_part1_2]; · iexact Hk0_part1_2
    isplitl [Hk0_part1_3]; · iexact Hk0_part1_3
    iexact Hk0_part1_4
  isplitl [Hk0_part1_9 Hk0_part1_11 Hk0_part1_13]
  · isplitl [Hk0_part1_9]
    · iexists _; isplitr; swap; · iexact Hk0_part1_9
      ipureintro; exact hb3
    isplitl [Hk0_part1_11]
    · iexists _; isplitr; swap; · iexact Hk0_part1_11
      ipureintro; exact hb4
    iexists _; isplitr; swap; · iexact Hk0_part1_13
    ipureintro; exact hb5
  isplitl [Hx]
  · iexists _; isplitr; swap; · iexact Hx
    ipureintro; exact hx
  isplitl [H8]
  · iexists _; isplitr; swap; · iexact H8
    ipureintro
    rw [read_store_full, View.readAt_full, View.readAt_full, View.readAt_full, View.readAt_full, hx, hb3, hb4, hb5]
  iexists _; iexact Hk0_part1_15

/-- The very first tile where no other expert is to come: the copies are started and awaited, the matrices rounded. -/
theorem run_first_last {c : Dev nD} (i : grid0.Coords) (arg4 : Memref sig .tc .vmem S512x2048 .f32) (harg4 : arg4.IsWhole)
    (arg8 : Memref sig .tc .vmem S512x2048 .f32) (harg8 : arg8.IsWhole) (q : PosShare TreeShare)
    (te : Buf (Elt F) (teM.view.loc (c : Thread nD τ))) (nx : Buf (Elt F) (nxM.view.loc (c : Thread nD τ)))
    (nt : Buf (Elt F) (ntM.view.loc (c : Thread nD τ))) (w : Weights F c) (x y : S512x2048.Idx → Elt F .f32)
    (W : Waits sig Unit) (K : PUnit → sProp 𝕄) (s : Landing F c) (he : BitVec.toNat (rdW teM te ![0] inb_S96_S1_0) < 32)
    (h1 : k0_cond1 i = 1#1) (h2 : k0_cond2 i (ntW nt) = 1#1) (h5 : ¬ k0_cond5 i (ntW nt) = 1#1)
    (h3 : k0_cond3 i (rdW teM te (k0_off3 i) (k0_off3_inb i)) (rdW teM te (k0_off4 i) (k0_off4_inb i)) = 1#1)
    (h4 : ¬ k0_cond4 (rdW nxM nx (k0_off5 i) (k0_off5_inb i)) = 1#1) :
    iprop(tabs q te nx nt ∗ (semVal ((c : Thread nD τ), SemLoc.dma 4) 0 ∗ whole w ∗ land s) ∗ spare c ∗ owns (c : Thread nD τ) arg4 fullShare x
        ∗ owns (c : Thread nD τ) arg8 fullShare y ∗ owes (c : Thread nD τ) 0 W
        ∗ (iprop(tabs q te nx nt ∗ (semVal ((c : Thread nD τ), SemLoc.dma 4) 0 ∗ whole w ∗ land (w.landed (rdW teM te ![0] inb_S96_S1_0) he))
              ∗ loaded w (rdW teM te ![0] inb_S96_S1_0) he ∗ owns (c : Thread nD τ) arg4 fullShare x
              ∗ owns (c : Thread nD τ) arg8 fullShare (outV w (rdW teM te ![0] inb_S96_S1_0) he x) ∗ (∃ W', owes (c : Thread nD τ) 0 W')) -∗ K ⟨⟩))
      ⊢ wp frame (wpE (defs₀ (F := F)) Variants.none c none) Set.univ (prog i arg4 harg4 arg8 harg8) K := by
  have hk1 : k0_chk1 i (rdW teM te ![0] inb_S96_S1_0) := ⟨fun _ => off1_inb he, fun _ => off2_inb he⟩
  unfold prog
  simp only [cc0_moe_eq_skeleton]; unfold cc0_moe_skel
  unfold spare loaded owns
  iintro ⟨⟨Hte, Hnx, Hnt⟩, ⟨Hq, ⟨Hg, Hu, Hd⟩, ⟨S0, S1, S2⟩⟩, ⟨⟨%d3, %b3, -, H3⟩, ⟨%d4, %b4, -, H4⟩, ⟨%d5, %b5, -, H5⟩⟩, ⟨%f4, %hx, Hx⟩, ⟨%f8, -, H8⟩, HO, HK⟩
  imod (batch_start w s (rdW teM te ![0] inb_S96_S1_0) he) $$ Hq with HB
  have hcut := part_run i arg4 harg4 arg8 harg8 (BitVec.ofNat 32 (i 0).val) w s (rdW teM te ![0] inb_S96_S1_0) he q nx W b3 b4 b5
  unfold partProg at hcut
  sl_exec
  obtain rfl : v62 = rdW nxM nx (k0_off5 i) (k0_off5_inb i) := congrArg PSigma.fst hk0_part1_0
  rename' hk0_part1_8 => hb3, hk0_part1_10 => hb4, hk0_part1_12 => hb5
  irename Hk0_part1_1 => Hq
  clear hcut hk0_part1_0
  sl_exec
  sl_step
  iapply HK
  isplitl [Hte Hk0_part1_14 Hnt]
  · isplitl [Hte]; · iexact Hte
    isplitl [Hk0_part1_14]; · iexact Hk0_part1_14
    iexact Hnt
  isplitl [Hq Hk0_part1_2 Hk0_part1_3 Hk0_part1_4 Hk0_part1_5 Hk0_part1_6 Hk0_part1_7]
  · isplitl [Hq]; · iexact Hq
    isplitl [Hk0_part1_2 Hk0_part1_3 Hk0_part1_4]
    · isplitl [Hk0_part1_2]; · iexact Hk0_part1_2
      isplitl [Hk0_part1_3]; · iexact Hk0_part1_3
      iexact Hk0_part1_4
    isplitl [Hk0_part1_5]; · iexact Hk0_part1_5
    isplitl [Hk0_part1_6]; · iexact Hk0_part1_6
    iexact Hk0_part1_7
  isplitl [Hk0_part1_9 Hk0_part1_11 Hk0_part1_13]
  · isplitl [Hk0_part1_9]
    · iexists _; isplitr; swap; · iexact Hk0_part1_9
      ipureintro; exact hb3
    isplitl [Hk0_part1_11]
    · iexists _; isplitr; swap; · iexact Hk0_part1_11
      ipureintro; exact hb4
    iexists _; isplitr; swap; · iexact Hk0_part1_13
    ipureintro; exact hb5
  isplitl [Hx]
  · iexists _; isplitr; swap; · iexact Hx
    ipureintro; exact hx
  isplitl [H8]
  · iexists _; isplitr; swap; · iexact H8
    ipureintro
    rw [read_store_full, View.readAt_full, View.readAt_full, View.readAt_full, View.readAt_full, hx, hb3, hb4, hb5]
  iexists _; iexact Hk0_part1_15

end Cert.KernelIdeal.Hand

end
-- ==== Proof.Tables.lean ====
module

public import proofs.«01_k».proof.Proof.RunsB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the run: the pipeline library's beside the counters of the kernel's own transfers. -/
local notation "𝕄" => MT nD τ sig Unit (Elt F) ℕ (Pipeline.UD sig nD τ) ℕ

/-! ## Words of the tables -/

/-- The index of tile `n` in a table of 96 words. -/
def ixw (n : ℕ) : S96.Idx := fun a => ⟨n % S96.size a, Nat.mod_lt _ (by match a with | 0 => decide)⟩

/-- Tile `n`'s word of a table. -/
def word (f : S96.Idx → BitVec 32) (n : ℕ) : BitVec 32 := f (ixw n)

/-- Every index of a table is a tile's. -/
theorem ixw_of_val (j : S96.Idx) : ixw (j 0).val = j := by
  funext a
  match a with
  | 0 => exact Fin.ext (Nat.mod_eq_of_lt (j 0).isLt)

/-- What the body reads of the table of experts at an offset is the word there. -/
theorem rdW_te {c : Dev nD} (f : Buf (Elt F) (teM.view.loc (c : Thread nD τ))) (off : Fin 1 → ℕ)
    (h : ∀ a, off a + S1.size a ≤ S96.size a) : rdW teM f off h = word f (off 0) := by
  have e : (Rect.unit (s := S96) off S1.size h).emb (Shape.Idx.first (numel1_S1.symm ▸ Nat.one_pos)) = ixw (off 0) := by
    funext a
    match a with
    | 0 =>
      have h0 : off 0 + 1 ≤ 96 := h 0
      refine Fin.ext ?_
      show off 0 + 1 * 0 = off 0 % 96
      rw [Nat.mod_eq_of_lt (by omega)]; omega
  show f _ = f _
  exact congrArg f e

/-- What the body reads of the table of next experts at an offset is the word there. -/
theorem rdW_nx {c : Dev nD} (f : Buf (Elt F) (nxM.view.loc (c : Thread nD τ))) (off : Fin 1 → ℕ)
    (h : ∀ a, off a + S1.size a ≤ S96.size a) : rdW nxM f off h = word f (off 0) := by
  have e : (Rect.unit (s := S96) off S1.size h).emb (Shape.Idx.first (numel1_S1.symm ▸ Nat.one_pos)) = ixw (off 0) := by
    funext a
    match a with
    | 0 =>
      have h0 : off 0 + 1 ≤ 96 := h 0
      refine Fin.ext ?_
      show off 0 + 1 * 0 = off 0 % 96
      rw [Nat.mod_eq_of_lt (by omega)]; omega
  show f _ = f _
  exact congrArg f e

/-- The one index of the count's buffer. -/
def ix1 : S1.Idx := fun a => ⟨0, by match a with | 0 => decide⟩

/-- What the body reads of the count is its one word. -/
theorem ntW_eq {c : Dev nD} (f : Buf (Elt F) (ntM.view.loc (c : Thread nD τ))) : ntW f = f ix1 := by
  have e : (Rect.unit (s := S1) ![0] S1.size inb_S1_S1_0).emb (Shape.Idx.first (numel1_S1.symm ▸ Nat.one_pos)) = ix1 := by
    funext a
    match a with
    | 0 => rfl
  show f _ = f _
  exact congrArg f e

/-! ## The body's conditions, at a grid point -/

/-- Condition 1 holds at the first point only. -/
theorem cond1_iff : ∀ i : grid0.Coords, k0_cond1 i = 1#1 ↔ (i 0).val = 0 := by decide +kernel

/-- The offset of the tile before, the first tile's being its own. -/
theorem off4_eq : ∀ i : grid0.Coords, k0_off4 i = ![(i 0).val - 1] := by decide +kernel

/-- A point's one coordinate is its number. -/
theorem coords_val : ∀ t : Fin grid0.N, ((grid0.coords t) 0).val = t.val := by decide +kernel

/-- A bit widened and tested against zero is the bit. -/
theorem widened (b : BitVec 1) : (IntOp.cmpi .ne (b.setWidth 32) 0#32 = 1#1) ↔ b = 1#1 := by
  revert b; decide

/-- Condition 2: the tile is in use. -/
theorem cond2_iff (i : grid0.Coords) {v : BitVec 32} (hv : v.toNat ≤ 96) : k0_cond2 i v = 1#1 ↔ (i 0).val < v.toNat := by
  have hi : (i 0).val < 96 := (i 0).isLt
  show (IntOp.cmpi .ne ((IntOp.cmpi .slt (BitVec.ofNat 32 (i 0).val) v).setWidth 32) 0#32 = 1#1) ↔ _
  rw [widened, WordCmp.cmpi_slt_eq, WordCmp.ofBool_decide_eq_one_iff, WordCmp.toInt_ofNat_of_lt (by omega),
    WordCmp.toInt_eq_toNat_of_lt_half (by omega)]
  omega

/-- Condition 5: the tile is not in use. -/
theorem cond5_iff (i : grid0.Coords) {v : BitVec 32} (hv : v.toNat ≤ 96) : k0_cond5 i v = 1#1 ↔ ¬ (i 0).val < v.toNat := by
  have hi : (i 0).val < 96 := (i 0).isLt
  show (IntOp.cmpi .ne ((IntOp.cmpi .sge (BitVec.ofNat 32 (i 0).val) v).setWidth 32) 0#32 = 1#1) ↔ _
  rw [widened, WordCmp.cmpi_sge_eq, WordCmp.ofBool_decide_eq_one_iff, WordCmp.toInt_ofNat_of_lt (by omega),
    WordCmp.toInt_eq_toNat_of_lt_half (by omega)]
  omega

/-- Condition 3: the first tile, or one whose expert is not the tile's before. -/
theorem cond3_iff (i : grid0.Coords) (a b : BitVec 32) : k0_cond3 i a b = 1#1 ↔ (i 0).val = 0 ∨ a ≠ b := by
  have hi : (i 0).val < 96 := (i 0).isLt
  show (IntOp.cmpi .ne ((IntOp.ori (IntOp.cmpi .eq (BitVec.ofNat 32 (i 0).val) 0#32) (IntOp.cmpi .ne a b)).setWidth 32) 0#32 = 1#1) ↔ _
  rw [widened, WordCmp.cmpi_eq_eq, WordCmp.cmpi_ne_eq, WordCmp.ori_ofBool, WordCmp.ofBool_eq_one_iff, Bool.or_eq_true,
    decide_eq_true_iff, decide_eq_true_iff, WordCmp.ofNat_eq_ofNat_iff (by omega) (by omega)]

/-- Condition 4: the word is not negative. -/
theorem cond4_iff (v : BitVec 32) : k0_cond4 v = 1#1 ↔ v.toNat < 2 ^ 31 := by
  show (IntOp.cmpi .ne ((IntOp.cmpi .sge v 0#32).setWidth 32) 0#32 = 1#1) ↔ _
  rw [widened, WordCmp.cmpi_sge_eq, WordCmp.ofBool_decide_eq_one_iff]
  have := v.isLt
  show (0 : ℤ) ≤ v.toInt ↔ _
  rw [BitVec.toInt_eq_toNat_cond]
  split <;> omega

/-! ## What the tables must say -/

/-- The tables of a call: `nt` tiles in use, each with its expert, and with the expert of the run of tiles after its own (none:
    a negative word). -/
structure Good (te nx : S96.Idx → BitVec 32) (nt : BitVec 32) : Prop where
  pos : 1 ≤ nt.toNat
  le : nt.toNat ≤ 96
  tile : ∀ n, n < nt.toNat → (word te n).toNat < 32
  next : ∀ n, n < nt.toNat → (word nx n).toNat < 2 ^ 31 → (word nx n).toNat < 32
  change : ∀ n, n + 1 < nt.toNat → word te (n + 1) ≠ word te n → word nx n = word te (n + 1)
  same : ∀ n, n + 1 < nt.toNat → word te (n + 1) = word te n → word nx (n + 1) = word nx n
  last : ¬ (word nx (nt.toNat - 1)).toNat < 2 ^ 31

end Cert.KernelIdeal.Hand

end
-- ==== Proof.Point.lean ====
module

public import proofs.«01_k».proof.Proof.Tables

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the run: the pipeline library's beside the counters of the kernel's own transfers. -/
local notation "𝕄" => MT nD τ sig Unit (Elt F) ℕ (Pipeline.UD sig nD τ) ℕ

/-! ## The invariant between the points -/

/-- Nothing in flight: the semaphore at zero, the weight arrays whole, the landing buffers at anything. -/
abbrev Idle {c : Dev nD} (w : Weights F c) : sProp 𝕄 :=
  iprop(semVal ((c : Thread nD τ), SemLoc.dma 4) 0 ∗ whole w ∗ ∃ s : Landing F c, land s)

/-- The copies of the expert a word names in flight; nothing in flight if it names none. -/
abbrev Flight {c : Dev nD} (w : Weights F c) (e : BitVec 32) : sProp 𝕄 :=
  if he : e.toNat < 32 then iprop(∃ s : Landing F c, batch w s e he 3 ∗ rests w e he) else Idle w

/-- The rounded matrices of the expert a word names; any contents if it names none. -/
abbrev Load {c : Dev nD} (w : Weights F c) (e : BitVec 32) : sProp 𝕄 :=
  if he : e.toNat < 32 then loaded w e he else spare (F := F) c

/-- What the core holds before point `n` beside the tables. -/
abbrev Mid {c : Dev nD} (w : Weights F c) (te nx : S96.Idx → BitVec 32) (nt : BitVec 32) (n : ℕ) : sProp 𝕄 :=
  if 1 ≤ n ∧ n ≤ nt.toNat then iprop(Flight w (word nx (n - 1)) ∗ Load w (word te (n - 1))) else iprop(Idle w ∗ spare (F := F) c)

/-- Rounded matrices are some contents. -/
theorem load_spare {c : Dev nD} (w : Weights F c) (e : BitVec 32) : Load w e ⊢ (spare (F := F) c : sProp 𝕄) := by
  unfold Load
  split
  · unfold loaded spare
    iintro ⟨H1, H2, H3⟩
    isplitl [H1]; · iexists _; iexact H1
    isplitl [H2]; · iexists _; iexact H2
    iexists _; iexact H3
  · exact .rfl

variable {te nx : S96.Idx → BitVec 32} {nt : BitVec 32}

/-- Past the last tile in use nothing is in flight. -/
theorem mid_end {c : Dev nD} (w : Weights F c) (hg : Good te nx nt) {n : ℕ} (hn : nt.toNat ≤ n) :
    Mid w te nx nt n ⊢ (iprop(Idle w ∗ spare (F := F) c) : sProp 𝕄) := by
  unfold Mid
  split
  · rename_i h
    obtain rfl : n = nt.toNat := by omega
    have hl := hg.last
    have hF : ¬ (word nx (nt.toNat - 1)).toNat < 32 := by omega
    unfold Flight
    rw [dif_neg hF]
    iintro ⟨H1, H2⟩
    isplitl [H1]; · iexact H1
    iapply load_spare w (word te (nt.toNat - 1)); iexact H2
  · exact .rfl

/-- Past the last tile in use the core holds nothing in flight. -/
theorem mid_after {c : Dev nD} (w : Weights F c) {n : ℕ} (hn : nt.toNat < n) :
    (iprop(Idle w ∗ spare (F := F) c) : sProp 𝕄) ⊢ Mid w te nx nt n := by
  unfold Mid
  rw [if_neg (by omega)]

/-- What a tile in use leaves: its expert's matrices, and the next expert's copies in flight. -/
theorem mid_succ {c : Dev nD} (w : Weights F c) {n : ℕ} (hn : n < nt.toNat) :
    (iprop(Flight w (word nx n) ∗ Load w (word te n)) : sProp 𝕄) ⊢ Mid w te nx nt (n + 1) := by
  unfold Mid
  rw [if_pos (by omega), Nat.add_sub_cancel]

/-- What the point after a tile in use finds. -/
theorem mid_pred {c : Dev nD} (w : Weights F c) {n : ℕ} (hn : n + 1 ≤ nt.toNat) :
    Mid w te nx nt (n + 1) ⊢ (iprop(Flight w (word nx n) ∗ Load w (word te n)) : sProp 𝕄) := by
  unfold Mid
  rw [if_pos (by omega), Nat.add_sub_cancel]

/-- The first point finds nothing in flight. -/
theorem mid_zero {c : Dev nD} (w : Weights F c) :
    Mid w te nx nt 0 ⊣⊢ (iprop(Idle w ∗ spare (F := F) c) : sProp 𝕄) := by
  unfold Mid
  rw [if_neg (by omega)]

/-! ## A tile's rows -/

/-- What tile `n` gets: the products of its rows with its expert's matrices, zeros past the last tile in use. -/
abbrev tileV {c : Dev nD} (w : Weights F c) (te : S96.Idx → BitVec 32) (nt : BitVec 32) (n : ℕ) (x : S512x2048.Idx → Elt F .f32) :
    S512x2048.Idx → Elt F .f32 :=
  if n < nt.toNat then (if he : (word te n).toNat < 32 then outV w (word te n) he x else k0_pay2 (F := F)) else k0_pay2 (F := F)

/-- The body at any point, from the tables and what is held before the point to what is held after it. -/
theorem point_run {c : Dev nD} (i : grid0.Coords) (arg4 : Memref sig .tc .vmem S512x2048 .f32) (harg4 : arg4.IsWhole)
    (arg8 : Memref sig .tc .vmem S512x2048 .f32) (harg8 : arg8.IsWhole) (q : PosShare TreeShare)
    (te : Buf (Elt F) (teM.view.loc (c : Thread nD τ))) (nx : Buf (Elt F) (nxM.view.loc (c : Thread nD τ)))
    (nt : Buf (Elt F) (ntM.view.loc (c : Thread nD τ))) (w : Weights F c) (x y : S512x2048.Idx → Elt F .f32)
    (W : Waits sig Unit) (K : PUnit → sProp 𝕄) (hg : Good te nx (nt ix1)) :
    iprop(tabs q te nx nt ∗ Mid w te nx (nt ix1) (i 0).val ∗ owns (c : Thread nD τ) arg4 fullShare x
        ∗ owns (c : Thread nD τ) arg8 fullShare y ∗ owes (c : Thread nD τ) 0 W
        ∗ (iprop(tabs q te nx nt ∗ Mid w te nx (nt ix1) ((i 0).val + 1) ∗ owns (c : Thread nD τ) arg4 fullShare x
              ∗ owns (c : Thread nD τ) arg8 fullShare (tileV w te (nt ix1) (i 0).val x) ∗ (∃ W', owes (c : Thread nD τ) 0 W')) -∗ K ⟨⟩))
      ⊢ wp frame (wpE (defs₀ (F := F)) Variants.none c none) Set.univ (prog i arg4 harg4 arg8 harg8) K := by
  have hi : (i 0).val < 96 := (i 0).isLt
  have e3 : rdW teM te (k0_off3 i) (k0_off3_inb i) = word te (i 0).val := by rw [rdW_te, k0_off3_eq]; rfl
  have e4 : rdW teM te (k0_off4 i) (k0_off4_inb i) = word te ((i 0).val - 1) := by rw [rdW_te, off4_eq]; rfl
  have e5 : rdW nxM nx (k0_off5 i) (k0_off5_inb i) = word nx (i 0).val := by rw [rdW_nx, k0_off5_eq]; rfl
  have e6 : rdW nxM nx (k0_off6 i) (k0_off6_inb i) = word nx (i 0).val := by rw [rdW_nx, k0_off6_eq]; rfl
  have e0 : rdW teM te ![0] inb_S96_S1_0 = word te 0 := by rw [rdW_te]; rfl
  have hc2 : k0_cond2 i (ntW nt) = 1#1 ↔ (i 0).val < (nt ix1).toNat := by rw [ntW_eq]; exact cond2_iff i hg.le
  have hc5 : k0_cond5 i (ntW nt) = 1#1 ↔ ¬ (i 0).val < (nt ix1).toNat := by rw [ntW_eq]; exact cond5_iff i hg.le
  have hc1 := cond1_iff i
  by_cases hu : (i 0).val < (nt ix1).toNat
  swap
  · -- past the last tile in use
    have h0 : ¬ (i 0).val = 0 := by have := hg.pos; omega
    have ev : tileV w te (nt ix1) (i 0).val x = k0_pay2 (F := F) := if_neg hu
    rw [ev]
    iintro ⟨Ht, HM, Hx, Hy, HO, HK⟩
    iapply (run_idle i arg4 harg4 arg8 harg8 q te nx nt w x y W K (mt hc1.1 h0) (mt hc2.1 hu) (hc5.2 hu))
    isplitl [Ht]; · iexact Ht
    isplitl [Hy]; · iexact Hy
    isplitl [HO]; · iexact HO
    iintro ⟨Ht, Hy, HO⟩
    iapply HK
    isplitl [Ht]; · iexact Ht
    isplitl [HM]
    · iapply mid_after w (by omega)
      iapply mid_end w hg (Nat.le_of_not_lt hu); iexact HM
    isplitl [Hx]; · iexact Hx
    isplitl [Hy]; · iexact Hy
    iexact HO
  have hT : (word te (i 0).val).toNat < 32 := hg.tile _ hu
  have ev : tileV w te (nt ix1) (i 0).val x = outV w (word te (i 0).val) hT x := by
    unfold tileV; rw [if_pos hu, dif_pos hT]
  have h2 := hc2.2 hu
  have h5 : ¬ k0_cond5 i (ntW nt) = 1#1 := fun h => hc5.1 h hu
  have hc3 := cond3_iff i (rdW teM te (k0_off3 i) (k0_off3_inb i)) (rdW teM te (k0_off4 i) (k0_off4_inb i))
  have hc4 := cond4_iff (rdW nxM nx (k0_off5 i) (k0_off5_inb i))
  rw [ev]
  by_cases h0 : (i 0).val = 0
  · -- the first tile
    have h1 := hc1.2 h0
    have h3 := hc3.2 (.inl h0)
    have ez : rdW teM te ![0] inb_S96_S1_0 = word te (i 0).val := by rw [e0, h0]
    by_cases hl : (word nx (i 0).val).toNat < 2 ^ 31
    · have hN := hg.next _ hu hl
      have h4 := hc4.2 (by rw [e5]; exact hl)
      have key := fun he he' s => run_first_more i arg4 harg4 arg8 harg8 q te nx nt w x y W K s he he' h1 h2 h5 h3 h4
      generalize rdW teM te ![0] inb_S96_S1_0 = e at key ez
      generalize rdW nxM nx (k0_off6 i) (k0_off6_inb i) = e' at key e6
      subst ez e6
      refine (sep_mono .rfl (sep_mono (show Mid w te nx (nt ix1) (i 0).val ⊢ (iprop(Idle w ∗ spare (F := F) c) : sProp 𝕄) by
        rw [h0]; exact (mid_zero w).1) .rfl)).trans ?_
      iintro ⟨Ht, ⟨⟨Hs, Hw, %s, Hl⟩, Hsp⟩, Hx, Hy, HO, HK⟩
      iapply (key hT hN s)
      isplitl [Ht]; · iexact Ht
      isplitl [Hs Hw Hl]
      · isplitl [Hs]; · iexact Hs
        isplitl [Hw]; · iexact Hw
        iexact Hl
      isplitl [Hsp]; · iexact Hsp
      isplitl [Hx]; · iexact Hx
      isplitl [Hy]; · iexact Hy
      isplitl [HO]; · iexact HO
      iintro ⟨Ht, HB, HL, Hx, Hy, HO⟩
      iapply HK
      isplitl [Ht]; · iexact Ht
      isplitl [HB HL]
      · iapply mid_succ w hu
        unfold Flight Load
        rw [dif_pos hN, dif_pos hT]
        isplitl [HB]; · iexists _; iexact HB
        iexact HL
      isplitl [Hx]; · iexact Hx
      isplitl [Hy]; · iexact Hy
      iexact HO
    · have hN : ¬ (word nx (i 0).val).toNat < 32 := by omega
      have h4 : ¬ k0_cond4 (rdW nxM nx (k0_off5 i) (k0_off5_inb i)) = 1#1 := by rw [hc4, e5]; exact hl
      have key := fun he s => run_first_last i arg4 harg4 arg8 harg8 q te nx nt w x y W K s he h1 h2 h5 h3 h4
      generalize rdW teM te ![0] inb_S96_S1_0 = e at key ez
      subst ez
      refine (sep_mono .rfl (sep_mono (show Mid w te nx (nt ix1) (i 0).val ⊢ (iprop(Idle w ∗ spare (F := F) c) : sProp 𝕄) by
        rw [h0]; exact (mid_zero w).1) .rfl)).trans ?_
      iintro ⟨Ht, ⟨⟨Hs, Hw, %s, Hl⟩, Hsp⟩, Hx, Hy, HO, HK⟩
      iapply (key hT s)
      isplitl [Ht]; · iexact Ht
      isplitl [Hs Hw Hl]
      · isplitl [Hs]; · iexact Hs
        isplitl [Hw]; · iexact Hw
        iexact Hl
      isplitl [Hsp]; · iexact Hsp
      isplitl [Hx]; · iexact Hx
      isplitl [Hy]; · iexact Hy
      isplitl [HO]; · iexact HO
      iintro ⟨Ht, ⟨Hs, Hw, Hl⟩, HL, Hx, Hy, HO⟩
      iapply HK
      isplitl [Ht]; · iexact Ht
      isplitl [Hs Hw Hl HL]
      · iapply mid_succ w hu
        unfold Flight Load
        rw [dif_neg hN, dif_pos hT]
        isplitl [Hs Hw Hl]
        · isplitl [Hs]; · iexact Hs
          isplitl [Hw]; · iexact Hw
          iexists _; iexact Hl
        iexact HL
      isplitl [Hx]; · iexact Hx
      isplitl [Hy]; · iexact Hy
      iexact HO
  -- a later tile in use
  have h1 := mt hc1.1 h0
  obtain ⟨n, hn⟩ : ∃ n, (i 0).val = n + 1 := ⟨(i 0).val - 1, by omega⟩
  have en : (i 0).val - 1 = n := by omega
  rw [en] at e4
  have hpre : Mid w te nx (nt ix1) (i 0).val ⊢ (iprop(Flight w (word nx n) ∗ Load w (word te n)) : sProp 𝕄) := by
    rw [hn]; exact mid_pred w (by omega)
  by_cases hch : word te (i 0).val = word te n
  · -- the expert of the tile before
    have h3 : ¬ k0_cond3 i (rdW teM te (k0_off3 i) (k0_off3_inb i)) (rdW teM te (k0_off4 i) (k0_off4_inb i)) = 1#1 := by
      rw [hc3, e3, e4]; rintro (h | h)
      · exact h0 h
      · exact h hch
    have hnx : word nx (i 0).val = word nx n := by rw [hn]; exact hg.same n (by omega) (by rw [← hn]; exact hch)
    have hpre' : Mid w te nx (nt ix1) (i 0).val ⊢ (iprop(Flight w (word nx n) ∗ loaded w (word te (i 0).val) hT) : sProp 𝕄) := by
      refine hpre.trans ?_
      rw [← hch]
      unfold Load
      rw [dif_pos hT]
    refine (sep_mono .rfl (sep_mono hpre' .rfl)).trans ?_
    iintro ⟨Ht, ⟨HF, HL⟩, Hx, Hy, HO, HK⟩
    iapply (run_same i arg4 harg4 arg8 harg8 q te nx nt w x y W K (word te (i 0).val) hT h1 h2 h5 h3)
    isplitl [Ht]; · iexact Ht
    isplitl [HL]; · iexact HL
    isplitl [Hx]; · iexact Hx
    isplitl [Hy]; · iexact Hy
    isplitl [HO]; · iexact HO
    iintro ⟨Ht, HL, Hx, Hy, HO⟩
    iapply HK
    isplitl [Ht]; · iexact Ht
    isplitl [HF HL]
    · iapply mid_succ w hu
      rw [hnx]
      unfold Load
      rw [dif_pos hT]
      isplitl [HF]; · iexact HF
      iexact HL
    isplitl [Hx]; · iexact Hx
    isplitl [Hy]; · iexact Hy
    iexact HO
  -- another expert: its copies are in flight
  have h3 := hc3.2 (.inr (by rw [e3, e4]; exact hch))
  have hnx : word nx n = word te (i 0).val := by
    rw [hn]; exact hg.change n (by omega) (by rw [← hn]; exact hch)
  have hpre' : Mid w te nx (nt ix1) (i 0).val
      ⊢ (iprop((∃ s : Landing F c, batch w s (word te (i 0).val) hT 3 ∗ rests w (word te (i 0).val) hT) ∗ spare (F := F) c) : sProp 𝕄) := by
    refine hpre.trans ?_
    rw [hnx]
    unfold Flight
    rw [dif_pos hT]
    exact sep_mono .rfl (load_spare w _)
  by_cases hl : (word nx (i 0).val).toNat < 2 ^ 31
  · have hN := hg.next _ hu hl
    have h4 := hc4.2 (by rw [e5]; exact hl)
    have key := fun he' s => run_change_more i arg4 harg4 arg8 harg8 q te nx nt w x y W K s (word te (i 0).val) hT he' h1 h2 h5 h3 h4
    generalize rdW nxM nx (k0_off6 i) (k0_off6_inb i) = e' at key e6
    subst e6
    refine (sep_mono .rfl (sep_mono hpre' .rfl)).trans ?_
    iintro ⟨Ht, ⟨⟨%s, HB⟩, Hsp⟩, Hx, Hy, HO, HK⟩
    iapply (key hN s)
    isplitl [Ht]; · iexact Ht
    isplitl [HB]; · iexact HB
    isplitl [Hsp]; · iexact Hsp
    isplitl [Hx]; · iexact Hx
    isplitl [Hy]; · iexact Hy
    isplitl [HO]; · iexact HO
    iintro ⟨Ht, HB, HL, Hx, Hy, HO⟩
    iapply HK
    isplitl [Ht]; · iexact Ht
    isplitl [HB HL]
    · iapply mid_succ w hu
      unfold Flight Load
      rw [dif_pos hN, dif_pos hT]
      isplitl [HB]; · iexists _; iexact HB
      iexact HL
    isplitl [Hx]; · iexact Hx
    isplitl [Hy]; · iexact Hy
    iexact HO
  · have hN : ¬ (word nx (i 0).val).toNat < 32 := by omega
    have h4 : ¬ k0_cond4 (rdW nxM nx (k0_off5 i) (k0_off5_inb i)) = 1#1 := by rw [hc4, e5]; exact hl
    have key := fun s => run_change_last i arg4 harg4 arg8 harg8 q te nx nt w x y W K s (word te (i 0).val) hT h1 h2 h5 h3 h4
    refine (sep_mono .rfl (sep_mono hpre' .rfl)).trans ?_
    iintro ⟨Ht, ⟨⟨%s, HB⟩, Hsp⟩, Hx, Hy, HO, HK⟩
    iapply (key s)
    isplitl [Ht]; · iexact Ht
    isplitl [HB]; · iexact HB
    isplitl [Hsp]; · iexact Hsp
    isplitl [Hx]; · iexact Hx
    isplitl [Hy]; · iexact Hy
    isplitl [HO]; · iexact HO
    iintro ⟨Ht, ⟨Hs, Hw, Hl⟩, HL, Hx, Hy, HO⟩
    iapply HK
    isplitl [Ht]; · iexact Ht
    isplitl [Hs Hw Hl HL]
    · iapply mid_succ w hu
      unfold Flight Load
      rw [dif_neg hN, dif_pos hT]
      isplitl [Hs Hw Hl]
      · isplitl [Hs]; · iexact Hs
        isplitl [Hw]; · iexact Hw
        iexists _; iexact Hl
      iexact HL
    isplitl [Hx]; · iexact Hx
    isplitl [Hy]; · iexact Hy
    iexact HO

end Cert.KernelIdeal.Hand

end
-- ==== Proof.Run.lean ====
module

public import proofs.«01_k».proof.Proof.Point
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the run: the pipeline library's beside the counters of the kernel's own transfers. -/
local notation "𝕄" => MT nD τ sig Unit (Elt F) ℕ (Pipeline.UD sig nD τ) ℕ

/-! ## The kernel's own cells and buffers -/

/-- The kernel's own semaphore: the one its copies signal. -/
abbrev osem0 : Fin 1 → SemLoc sig := fun j => (![SemLoc.dma 4] : Fin 1 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 4) 0 := by
  rw [Pipeline.ownSems0_eq_of_list c osem0 [0] (by decide) (by decide)]; rfl

/-- The weight arrays, which the body's copies read. -/
def H0 : Finset (Ref sig .tc) := {main_arg2, main_arg3, main_arg4}

theorem H0_sub : H0 ⊆ Pipeline.restRefsP sig pre0 spec0 := by decide

variable (V : (c : Dev nD) → (b : Ref sig .tc) → Buf (Elt F) ((c.tc : Thread nD τ).loc b))

/-- The weights the region finds. -/
abbrev wts (c : Dev nD) : Weights F c := ⟨V c main_arg2, V c main_arg3, V c main_arg4⟩

theorem hbmPts0_eq (c : Dev nD) :
    (bigSep H0 (fun b => ((c : Thread nD τ).loc b) ↦{fullShare} V c b) : sProp 𝕄) = whole (wts V c) := by
  rw [BI.bigSep_eq_bigSepL_of_eq [main_arg2, main_arg3, main_arg4] (by decide) (by decide)]; rfl

/-- What the launch hands the invariant: the scratch at anything, the generator register, the semaphore at zero, the weights. -/
theorem phiD_eq (c : Dev nD) :
    (Pipeline.ΦD osem0 spec0 H0 V c : sProp 𝕄)
      = iprop(iprop((∃ d, pt c fullShare gS d) ∗ (∃ d, pt c fullShare uS d) ∗ (∃ d, pt c fullShare dS d) ∗ spare (F := F) c)
          ∗ (∃ r, prngReg c r) ∗ semVal ((c : Thread nD τ), SemLoc.dma 4) 0 ∗ whole (wts V c)) := by
  rw [Pipeline.ΦD_eq, scopedRest0_eq, ownSems00_eq, hbmPts0_eq]; simp only [spare, owns_whole]; try rfl

variable (a : (pcfg0 (F := F)).Adm)

/-- The tables the region finds. -/
abbrev tblE (c : Dev nD) : Buf (Elt F) (teM.view.loc (c : Thread nD τ)) := a.1 0
abbrev tblX (c : Dev nD) : Buf (Elt F) (nxM.view.loc (c : Thread nD τ)) := a.1 1
abbrev tblN (c : Dev nD) : Buf (Elt F) (ntM.view.loc (c : Thread nD τ)) := a.1 2

theorem phiT_eq (c : Dev nD) :
    (Pipeline.ΦT (nD := nD) (τ := τ) (U := Pipeline.UD sig nD τ) pre0 a.1 c : sProp 𝕄)
      = tabs fullShare.right (tblE a c) (tblX a c) (tblN a c) := by
  unfold Pipeline.ΦT Pipeline.prefHeld
  rw [bigSep_univ_eq_bigSepL [(0 : Fin 3), (1 : Fin 3), (2 : Fin 3)] (by decide) (by decide)]; rfl

/-! ## The proof data -/

/-- Before point `n`: the tables, the generator register, and what the body keeps. -/
abbrev PhiN (c : Dev nD) (n : ℕ) : sProp 𝕄 :=
  iprop(tabs fullShare.right (tblE a c) (tblX a c) (tblN a c) ∗ (∃ r, prngReg c r)
    ∗ Mid (wts V c) (tblE a c) (tblX a c) (tblN a c ix1) n)

/-- The rows the input window brings at point `t`. -/
def rows (c : Dev nD) (t : Fin (cfg0 a).N) : S512x2048.Idx → Elt F .f32 :=
  (((cfg0 a).win 0).blk t).view.read (Elt F) (V c main_arg1)

/-- The proof data: what the windows' arrays hold at entry, what the body leaves in the staging buffers, and the invariant. -/
def dats (_ : Fin 1) (c : Dev nD) : Dat τ (Elt F) Unit ℕ (Pipeline.UD sig nD τ) ℕ (cfg0 a) c where
  A w := V c (Pipeline.arrRef spec0 w)
  after w t := match w with
    | 0 => rows V a c t
    | 1 => tileV (wts V c) (tblE a c) (tblN a c ix1) t.val (rows V a c t)
    | ⟨_ + 2, h⟩ => absurd h (Nat.not_lt.2 (Nat.le_add_left _ _))
  Φ t := PhiN V a c t.val
  q _ := fullShare
  owed _ := 0

theorem A_eq (c : Dev nD) (w : Fin (cfg0 a).W) : (dats V a 0 c).A w = V c (Pipeline.arrRef spec0 w) := by dsimp only [dats]

theorem after_0 (c : Dev nD) (t : Fin (cfg0 a).N) : (dats V a 0 c).after 0 t = rows V a c t := by dsimp only [dats]; rfl

theorem after_1 (c : Dev nD) (t : Fin (cfg0 a).N) :
    (dats V a 0 c).after 1 t = tileV (wts V c) (tblE a c) (tblN a c ix1) t.val (rows V a c t) := by dsimp only [dats]; rfl

theorem block_0 (c : Dev nD) (t : Fin (cfg0 a).N) : (dats V a 0 c).blockOf 0 t = rows V a c t := by
  unfold Dat.blockOf rows; rw [A_eq]; rfl

theorem before_0 (c : Dev nD) (t : Fin (cfg0 a).N) (d) : (dats V a 0 c).before 0 t d = rows V a c t := by
  refine ((dats V a 0 c).before_in_eq_fetched 0 rfl (fun _ => rfl) (fun _ _ _ => rfl) (fun t => ?_) t d).trans ?_
  · rw [after_0, block_0]; rfl
  · unfold Dat.fetched; rw [block_0]; rfl

/-! ## The body obligation -/

abbrev ms0 (t : Fin (cfg0 a).N) : Memref sig .tc .vmem S512x2048 .f32 := spec0_0.stage ((cfg0 a).slots t 0)
abbrev ms1 (t : Fin (cfg0 a).N) : Memref sig .tc .vmem S512x2048 .f32 := spec0_1.stage ((cfg0 a).slots t 1)

def bodyAt (t : Fin (cfg0 a).N) : Prog (TpuEff nD τ sig (Elt F) Λ₀ .tc) PUnit :=
  prog (grid0.coords t) (ms0 a t) (hstage0_0 (((cfg0 a).slots t 0).cast nbuf0_0)) (ms1 a t) (hstage0_1 (((cfg0 a).slots t 1).cast nbuf0_1))

theorem defs₀_row (t : Fin (cfg0 a).N) :
    defs₀ (F := F) .tc (cfg0 a).body ((cfg0 a).bodyArgs t ((cfg0 a).slots t)) = bodyAt a t := by
  unfold defs₀; rw [Defs.onTc_tc]; rfl

/-- The output window is written at every point. -/
theorem live1 (hg : ∀ c, Good (tblE a c) (tblX a c) (tblN a c ix1)) (t : Fin (cfg0 a).N) :
    idle0 a.1 1 ((pcfg0.gridAt a.1).coords t) = false := by
  show (!(k0_cond2 (grid0.coords t) (a.1.atD 2 ![0]) == 1#1) && !(k0_cond5 (grid0.coords t) (a.1.atD 2 ![0]) == 1#1)) = false
  have h := hg (0 : Fin 1)
  have e : a.1.atD 2 ![0] = tblN a (0 : Fin 1) ix1 := by
    unfold Pipeline.Prefetch.Contents.atD
    refine (dif_pos (show ∀ b : Fin 1, (![0] : Fin 1 → ℕ) b + 1 ≤ S1.size b by decide)).trans ?_
    exact congrArg (a.1 2) (show (_ : S1.Idx) = ix1 from funext fun (b : Fin 1) => by obtain rfl := Subsingleton.elim b 0; rfl)
  rw [e]
  by_cases hu : ((grid0.coords t) 0).val < (tblN a (0 : Fin 1) ix1).toNat
  · rw [(cond2_iff (grid0.coords t) h.le).2 hu]; rfl
  · rw [(cond5_iff (grid0.coords t) h.le).2 hu]; simp

/-- What the body is called with at a point, and what it returns. -/
def bodyPre (c : Dev nD) (t : Fin (cfg0 a).N) : sProp 𝕄 :=
  iprop((dats V a 0 c).Φ t.castSucc ∗ (dats V a 0 c).owesAt () t.castSucc
    ∗ (∃ d, owns (c : Thread nD τ) (ms0 a t) fullShare ((dats V a 0 c).before 0 t d))
    ∗ (∃ d, owns (c : Thread nD τ) (ms1 a t) fullShare ((dats V a 0 c).before 1 t d)))
def bodyPost (c : Dev nD) (t : Fin (cfg0 a).N) : sProp 𝕄 :=
  iprop((dats V a 0 c).Φ t.succ ∗ (dats V a 0 c).owesAt () t.succ
    ∗ owns (c : Thread nD τ) (ms0 a t) fullShare ((dats V a 0 c).after 0 t)
    ∗ owns (c : Thread nD τ) (ms1 a t) fullShare ((dats V a 0 c).after 1 t))

theorem sound_body (hg : ∀ c, Good (tblE a c) (tblX a c) (tblN a c ix1)) (c : Dev nD) (t : Fin (cfg0 a).N) :
    bodyPre V a c t ⊢ wp frame (wpE (defs₀ (F := F)) Variants.none c none) Set.univ (bodyAt a t) (fun _ => bodyPost V a c t) := by
  have hv : ((grid0.coords t) 0).val = t.val := coords_val t
  unfold bodyPre bodyPost bodyAt
  rw [show (dats V a 0 c).Φ t.castSucc = PhiN V a c t.val from by dsimp only [dats]; rfl,
    show (dats V a 0 c).Φ t.succ = PhiN V a c (t.val + 1) from by dsimp only [dats]; rfl,
    show (dats V a 0 c).owesAt () t.succ = (dats V a 0 c).owesAt () t.castSucc from rfl,
    after_0, after_1]
  simp only [before_0]
  unfold Dat.owesAt Pipeline.owesWithin
  rw [show (dats V a 0 c).owed t.castSucc = 0 from rfl]
  iintro ⟨⟨Ht, Hg, HM⟩, ⟨%W, %hW, HO⟩, ⟨%d0, H0⟩, ⟨%d1, H1⟩⟩
  have key := point_run (grid0.coords t) (ms0 a t) (hstage0_0 (((cfg0 a).slots t 0).cast nbuf0_0)) (ms1 a t)
    (hstage0_1 (((cfg0 a).slots t 1).cast nbuf0_1)) fullShare.right (tblE a c) (tblX a c) (tblN a c) (wts V c) (rows V a c t)
    ((dats V a 0 c).before 1 t d1) W
  rw [hv] at key
  iapply (key _ (hg c))
  isplitl [Ht]; · iexact Ht
  isplitl [HM]; · iexact HM
  isplitl [H0]; · iexact H0
  isplitl [H1]; · iexact H1
  isplitl [HO]; · iexact HO
  iintro ⟨Ht, HM, H0, H1, ⟨%W', HO⟩⟩
  isplitl [Ht Hg HM]
  · isplitl [Ht]; · iexact Ht
    isplitl [Hg]; · iexact Hg
    iexact HM
  isplitl [HO]
  · iexists W'; isplitr; · ipureintro; exact fun _ _ => Or.inl trivial
    iexact HO
  isplitl [H0]; · iexact H0
  iexact H1

/-- The pipeline library's obligation of the body. -/
theorem body_obligation (hg : ∀ c, Good (tblE a c) (tblX a c) (tblN a c ix1)) (c : Dev nD) :
    BodyObligation (dats V a 0 c) (defs₀ (F := F)) Variants.none () Set.univ := fun t => by
  have e := live1 a hg t
  have e' : (cfg0 a).idle 1 ((cfg0 a).grid.coords t) = false := e
  rw [bigSep_W0, bigSep_W0, defs₀_row]
  refine triple_restated (sound_body V a hg c t) rfl .rfl fun _ => ?_
  unfold bodyPost
  refine sep_mono .rfl (sep_mono .rfl (sep_mono .rfl ?_))
  dsimp only
  split
  · rename_i h; exact absurd (h.symm.trans e') (by decide)
  · exact .rfl

/-! ## The invariant's ends -/

theorem phi_in (c : Dev nD) :
    iprop(Pipeline.ΦD osem0 spec0 H0 V c ∗ Pipeline.ΦT (U := Pipeline.UD sig nD τ) pre0 a.1 c) ⊢ (dats V a 0 c).Φ 0 := by
  rw [show (dats V a 0 c).Φ 0 = PhiN V a c 0 from by dsimp only [dats]; rfl, phiD_eq, phiT_eq]
  iintro ⟨⟨⟨⟨%g, Hg⟩, ⟨%u, Hu⟩, ⟨%d, Hd⟩, Hsp⟩, Hr, Hs, Hw⟩, Ht⟩
  isplitl [Ht]; · iexact Ht
  isplitl [Hr]; · iexact Hr
  iapply (mid_zero (wts V c)).2
  isplitr [Hsp]
  · isplitl [Hs]; · iexact Hs
    isplitl [Hw]; · iexact Hw
    iexists (⟨g, u, d⟩ : Landing F c)
    isplitl [Hg]; · iexact Hg
    isplitl [Hu]; · iexact Hu
    iexact Hd
  iexact Hsp

theorem phi_out (hg : ∀ c, Good (tblE a c) (tblX a c) (tblN a c ix1)) (c : Dev nD) :
    (dats V a 0 c).Φ (Fin.last (cfg0 a).N) ⊢ Pipeline.ΦD osem0 spec0 H0 V c := by
  have hN : (cfg0 a).N = 96 := N_0
  rw [show (dats V a 0 c).Φ (Fin.last (cfg0 a).N) = PhiN V a c (cfg0 a).N from by dsimp only [dats]; rfl, phiD_eq, hN]
  refine (sep_mono .rfl (sep_mono .rfl (mid_end (wts V c) (hg c) (hg c).le))).trans ?_
  iintro ⟨Ht, Hr, ⟨Hs, Hw, %s, Hl⟩, Hsp⟩
  icases Hl with ⟨Hg, Hu, Hd⟩
  isplitr [Hr Hs Hw]
  · isplitl [Hg]; · iexists _; iexact Hg
    isplitl [Hu]; · iexists _; iexact Hu
    isplitl [Hd]; · iexists _; iexact Hd
    iexact Hsp
  isplitl [Hr]; · iexact Hr
  isplitl [Hs]; · iexact Hs
  iexact Hw

/-! ## The launch -/

/-- The host lines before the call. -/
abbrev hostLines : List (List (HloOp τ sig (Elt F))) :=
  [hostOps0, hostOps0_1, hostOps0_2, hostOps0_3, hostOps0_4, hostOps0_5, hostOps0_6, hostOps0_7, hostOps0_8, hostOps0_9]

variable (m : (ℓ : Loc nD τ sig) → Buf (Elt F) ℓ) (ρ : Dev nD → PrngReg)

/-- What the buffers hold when the call begins. -/
def VH (c : Dev nD) (b : Ref sig .tc) : Buf (Elt F) ((c.tc : Thread nD τ).loc b) :=
  StableHlo.after hostLines.flatten (fun b => m (c, b)) b

theorem hmainD (𝒱₀ : Variants) :
    Pipeline.HMainP (Ix := Unit) (Name := ℕ) (U := Pipeline.UD sig nD τ) (Lvl := ℕ) pcfgs 0 defs₀ 𝒱₀ m (main (F := F)) (VH m) :=
  Pipeline.hmainP_prefixes pcfgs 0 defs₀ 𝒱₀ m main hostLines
    ⟨hostOps0_sub, hostOps0_1_sub, hostOps0_2_sub, hostOps0_3_sub, hostOps0_4_sub, hostOps0_5_sub, hostOps0_6_sub, hostOps0_7_sub,
      hostOps0_8_sub, hostOps0_9_sub⟩
    (by simp only [List.Forall, hostLines]; repeat' (first | exact rfl | constructor))
    fun c => (main_chain c).trans rfl

set_option backward.isDefEq.respectTransparency.types false in
/-- The run: from tables that are good, every execution ends, with the arrays at what the points left and the semaphores at zero. -/
theorem run_tables (hpf : ∀ c k, VH m c (pre0.ref k) = a.1 k) (hg : ∀ c, Good (tblE a c) (tblX a c) (tblN a c ix1)) :
    θ_run defs (onTc (τ := τ) (main (F := F))) (s₀ m ρ)
      (fun r => Pipeline.FramePost (Pipeline.pin pcfgs (fun _ => a)) (dats (VH m) a) 0 (VH m) r ∧ r.2.sem = fun _ => 0) :=
  Pipeline.θ_run_frameP_dma (Q' := _) pcfgs (fun _ => a) (dats (VH m) a) (0 : Fin 1) launch0 osem0 defs₀ Variants.none ownSemFacts0 H0 H0_sub m ρ main
    (hbody := fun c => (body_obligation (VH m) a hg c).loose) (hshare := fun c => (dats (VH m) a 0 c).share_full fun _ => rfl)
    (howed := fun _ _ => rfl) (V := VH m) (hmain := hmainD m Variants.none) (hA := A_eq (VH m) a)
    (hpf := hpf) (hin := phi_in (VH m) a) (hout := phi_out (VH m) a hg)

/-! ## The output array -/

/-- Place `(p, q)` of an array of rows. -/
abbrev ixA (p q : ℕ) : S49152x2048.Idx := fun a => ⟨(![p, q] a) % S49152x2048.size a, Nat.mod_lt _ (by match a with | 0 => decide | 1 => decide)⟩
/-- Place `(p, q)` of a tile. -/
abbrev ixT (p q : ℕ) : S512x2048.Idx := fun a => ⟨(![p, q] a) % S512x2048.size a, Nat.mod_lt _ (by match a with | 0 => decide | 1 => decide)⟩

/-- The rows of tile `n`. -/
def tileOf (x : S49152x2048.Idx → Elt F .f32) (n : ℕ) : S512x2048.Idx → Elt F .f32 := fun y => x (ixA (n * 512 + (y 0).val) (y 1).val)

/-- The array the call leaves: each row is what its tile gets, at the row's place in the tile. -/
def outA {c : Dev nD} (w : Weights F c) (te : S96.Idx → BitVec 32) (nt : BitVec 32) (x : S49152x2048.Idx → Elt F .f32) :
    S49152x2048.Idx → Elt F .f32 :=
  fun j => tileV w te nt ((j 0).val / 512) (tileOf x ((j 0).val / 512)) (ixT ((j 0).val % 512) (j 1).val)

theorem flush1 (t : Fin (cfg0 a).N) : ((cfg0 a).win 1).flush t = true := by
  rw [Pipeline.Window.flush_eq_flushOf]
  exact (by decide +kernel : ∀ t : Fin grid0.N, Pipeline.Window.flushOf grid0 true cc0_transform_4 t = true) t

theorem index1 : ∀ t : Fin grid0.N, cc0_transform_4 (grid0.coords t) = ![t.val, 0] := by decide +kernel

theorem emb1 (t : Fin (cfg0 a).N) (y : S512x2048.Idx) :
    ((((cfg0 a).win 1).blk t).view.emb y : S49152x2048.Idx) = ixA (t.val * 512 + (y 0).val) (y 1).val := by
  have ht : t.val < 96 := t.isLt
  have h0 : (y 0).val < 512 := (y 0).isLt
  have h1 : (y 1).val < 2048 := (y 1).isLt
  have e := index1 t
  refine funext fun (b : Fin 2) => Fin.ext ?_
  match b with
  | 0 =>
    show cc0_transform_4 (grid0.coords t) 0 * 512 + 1 * (y 0).val = _ % 49152
    rw [e]
    show t.val * 512 + 1 * (y 0).val = (t.val * 512 + (y 0).val) % 49152
    omega
  | 1 =>
    show cc0_transform_4 (grid0.coords t) 1 * 2048 + 1 * (y 1).val = _ % 2048
    rw [e]
    show 0 * 2048 + 1 * (y 1).val = (y 1).val % 2048
    omega

theorem min_tile (v : BitVec 32) (k : ℕ) (hk : k < 96) (h1 : 1 ≤ v.toNat) (h2 : v.toNat ≤ 96) :
    (Scalar.minsi (BitVec.ofNat 32 k) (Scalar.subi v 1#32)).toNat = min k (v.toNat - 1) := by
  have hs : (Scalar.subi v 1#32).toNat = v.toNat - 1 := by
    show (v - 1#32).toNat = _
    rw [BitVec.toNat_sub_of_le (by show 1 ≤ v.toNat; omega)]; rfl
  have hi : (Scalar.subi v 1#32).toInt = (v.toNat - 1 : ℕ) := by
    rw [BitVec.toInt_eq_toNat_cond, hs, if_pos (by omega)]
  have ho : (BitVec.ofNat 32 k).toNat = k := by rw [BitVec.toNat_ofNat]; omega
  have hj : (BitVec.ofNat 32 k).toInt = k := by rw [BitVec.toInt_eq_toNat_cond, ho, if_pos (by omega)]
  unfold Scalar.minsi IntOp.minsi
  split
  · rename_i h
    rw [BitVec.slt_iff_toInt_lt, hi, hj] at h
    rw [ho]; omega
  · rename_i h
    rw [BitVec.slt_iff_toInt_lt, hi, hj] at h
    rw [hs]; omega

theorem index0 (pf : pre0.Contents (Elt F)) (i : grid0.Coords) (h1 : 1 ≤ BitVec.toNat (pf 2 ix1)) (h2 : BitVec.toNat (pf 2 ix1) ≤ 96) :
    cc0_transform_0 inb_S1_S1_0 numel1_S1 pf i = ![min (i 0).val (BitVec.toNat (pf 2 ix1) - 1), 0] := by
  unfold cc0_transform_0
  have e : pf.at 2 (Rect.unit (s := S1) ![0] S1.size inb_S1_S1_0) numel1_S1 = pf 2 ix1 :=
    congrArg (pf 2) (show (_ : S1.Idx) = ix1 from funext fun (b : Fin 1) => by obtain rfl := Subsingleton.elim b 0; rfl)
  rw [e]
  show ![(Scalar.minsi (BitVec.ofNat 32 (i 0).val) (Scalar.subi (pf 2 ix1) 1#32)).toNat, 0] = _
  rw [min_tile _ _ (i 0).isLt h1 h2]

/-- Good tables keep every block of the input window inside its array. -/
theorem ok_of_good (pf : pre0.Contents (Elt F)) (hg : Good (pf 0) (pf 1) (pf 2 ix1)) : ok0 pf := by
  intro i
  refine ⟨fun b => ?_, .inl rfl⟩
  have hi : (i 0).val < 96 := (i 0).isLt
  rw [index0 pf i hg.pos hg.le]
  match b with
  | 0 => show (min (i 0).val (BitVec.toNat (pf 2 ix1) - 1) + 1) * 512 ≤ 49152; omega
  | 1 => show (0 + 1) * 2048 ≤ 2048; omega

theorem rows_eq (c : Dev nD) (t : Fin (cfg0 a).N) (hn : (tblN a c ix1).toNat ≤ 96) (ht : t.val < (tblN a c ix1).toNat) :
    rows V a c t = tileOf (V c main_arg1) t.val := by
  funext y
  unfold rows tileOf
  show V c main_arg1 ((((cfg0 a).win 0).blk t).view.emb y) = _
  refine congrArg (V c main_arg1) ?_
  have ht' : t.val < 96 := t.isLt
  have h0 : (y 0).val < 512 := (y 0).isLt
  have h1 : (y 1).val < 2048 := (y 1).isLt
  have e : cc0_transform_0 inb_S1_S1_0 numel1_S1 a.1 (grid0.coords t) = ![t.val, 0] := by
    have hv : ((grid0.coords t) 0).val = t.val := coords_val t
    have ht'' : t.val < BitVec.toNat (a.1 2 ix1) := ht
    rw [index0 a.1 (grid0.coords t) (by omega) hn, hv, Nat.min_eq_left (by omega)]
  refine funext fun (b : Fin 2) => Fin.ext ?_
  match b with
  | 0 =>
    show cc0_transform_0 inb_S1_S1_0 numel1_S1 a.1 (grid0.coords t) 0 * 512 + 1 * (y 0).val = _ % 49152
    rw [e]
    show t.val * 512 + 1 * (y 0).val = (t.val * 512 + (y 0).val) % 49152
    omega
  | 1 =>
    show cc0_transform_0 inb_S1_S1_0 numel1_S1 a.1 (grid0.coords t) 1 * 2048 + 1 * (y 1).val = _ % 2048
    rw [e]
    show 0 * 2048 + 1 * (y 1).val = (y 1).val % 2048
    omega

theorem arrAt_out (c : Dev nD) (hg : Good (tblE a c) (tblX a c) (tblN a c ix1)) :
    (dats V a 0 c).arrAt 1 (cfg0 a).N = outA (wts V c) (tblE a c) (tblN a c ix1) (V c main_arg1) := by
  refine (dats V a 0 c).arrAt_eq_of_emb 1 _ (fun t _ (y : S512x2048.Idx) => ?_) fun (i : S49152x2048.Idx) => ?_
  · have ht' : t.val < 96 := t.isLt
    have h0 : (y 0).val < 512 := (y 0).isLt
    have h1 : (y 1).val < 2048 := (y 1).isLt
    show (dats V a 0 c).after 1 t y = outA _ _ _ _ (((cfg0 a).win 1).blk t |>.view.emb y)
    rw [after_1, emb1 a t y]
    have d0 : ((ixA (t.val * 512 + (y 0).val) (y 1).val) 0).val = t.val * 512 + (y 0).val := by
      show (t.val * 512 + (y 0).val) % 49152 = _; omega
    have d1 : ((ixA (t.val * 512 + (y 0).val) (y 1).val) 1).val = (y 1).val := by
      show (y 1).val % 2048 = _; omega
    unfold outA
    rw [d0, d1, show (t.val * 512 + (y 0).val) / 512 = t.val by omega, show (t.val * 512 + (y 0).val) % 512 = (y 0).val by omega]
    have ey : ixT (y 0).val (y 1).val = y := by
      funext b; apply Fin.ext
      match b with
      | 0 => exact Nat.mod_eq_of_lt h0
      | 1 => exact Nat.mod_eq_of_lt h1
    rw [ey]
    unfold tileV
    by_cases hu : t.val < (tblN a c ix1).toNat
    · rw [rows_eq V a c t hg.le hu]
    · rw [if_neg hu, if_neg hu]
  · have h0 : (i 0).val < 49152 := (i 0).isLt
    have h1 : (i 1).val < 2048 := (i 1).isLt
    refine ⟨⟨(i 0).val / 512, show (i 0).val / 512 < grid0.N by rw [N_0]; omega⟩, flush1 a _, ?_⟩
    have := (((cfg0 a).win 1).blk ⟨(i 0).val / 512, show (i 0).val / 512 < grid0.N by rw [N_0]; omega⟩).view.emb_mem_set (ixT ((i 0).val % 512) (i 1).val)
    rw [emb1] at this
    refine Eq.mp (congrArg (· ∈ _) (Eq.symm ?_)) this
    refine funext fun (b : Fin 2) => Fin.ext ?_
    match b with
    | 0 =>
      show (i 0).val = ((i 0).val / 512 * 512 + (i 0).val % 512 % 512) % 49152
      omega
    | 1 =>
      show (i 1).val = ((i 1).val % 2048) % 2048
      omega

/-! ## The run of the program -/

/-- The tables the host's lines leave. -/
def hostTables : pre0.Contents (Elt F) := fun k => VH m (0 : Fin 1) (pre0.ref k)

/-- What the program leaves, once the host's tables are known to be good: the output array, every buffer the host's lines
    leave and the call does not write, and the semaphores at zero. -/
theorem run_of_good (hg : Good (hostTables m 0) (hostTables m 1) (hostTables m 2 ix1)) :
    θ_run defs (onTc (τ := τ) (main (F := F))) (s₀ m ρ)
      (fun r => (∀ c : Dev nD, r.2.mem (c.tc.loc main_v52)
            = outA (wts (VH m) c) (VH m c main_v23) (VH m c main_v51 ix1) (VH m c main_arg1))
        ∧ (∀ c : Dev nD, r.2.mem (c.tc.loc main_arg0) = VH m c main_arg0)
        ∧ (∀ c : Dev nD, r.2.mem (c.tc.loc main_arg1) = VH m c main_arg1)
        ∧ (∀ c : Dev nD, r.2.mem (c.tc.loc main_arg2) = VH m c main_arg2)
        ∧ (∀ c : Dev nD, r.2.mem (c.tc.loc main_arg3) = VH m c main_arg3)
        ∧ (∀ c : Dev nD, r.2.mem (c.tc.loc main_arg4) = VH m c main_arg4)
        ∧ r.2.sem = fun _ => 0) := by
  have hc : ∀ c : Dev nD, c = (0 : Fin 1) := fun c => Subsingleton.elim _ _
  obtain ⟨a, ha⟩ : ∃ a : (pcfg0 (F := F)).Adm, a.1 = hostTables m := ⟨⟨hostTables m, ok_of_good _ hg⟩, rfl⟩
  have hga : ∀ c, Good (tblE a c) (tblX a c) (tblN a c ix1) := fun c => by rw [tblE, tblX, tblN, ha]; exact hg
  refine (θ_run defs _ _).mono (fun r h => ?_) (run_tables a m ρ (fun c k => by obtain rfl := hc c; rw [ha]; rfl) hga)
  obtain ⟨hp, hs⟩ := h
  refine ⟨fun c => ?_, fun c => ?_, fun c => ?_, fun c => ?_, fun c => ?_, fun c => ?_, hs⟩
  · refine ((hp c).1 1).trans ?_
    refine (arrAt_out (VH m) a c (hga c)).trans ?_
    obtain rfl := hc c; rw [tblE, tblN, ha]; rfl
  · exact (hp c).2 main_arg0 (Pipeline.mem_restRefs_of (win := spec0) main_arg0 (by decide) (by decide))
  · refine ((hp c).1 0).trans ?_
    refine ((dats (VH m) a 0 c).arrAt_in 0 rfl _).trans ?_
    exact A_eq (VH m) a c 0
  · exact (hp c).2 main_arg2 (Pipeline.mem_restRefs_of (win := spec0) main_arg2 (by decide) (by decide))
  · exact (hp c).2 main_arg3 (Pipeline.mem_restRefs_of (win := spec0) main_arg3 (by decide) (by decide))
  · exact (hp c).2 main_arg4 (Pipeline.mem_restRefs_of (win := spec0) main_arg4 (by decide) (by decide))

end Cert.KernelIdeal.Hand

end
-- ==== Proof.HostReads.lean ====
module

public import proofs.«01_k».proof.Proof.Run
public import Idealize.ShloMosaic.Lib.StableHlo.RunRead
public import Idealize.ShloMosaic.Lib.Routing.Model

@[expose] public section

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## The tables the host lines derive, as functions of the counts -/

/-- The tiles each expert takes: its rows over the rows of a tile, rounded up. -/
def tilesW (x : IVec S32 32) : IVec S32 32 :=
  Routing.pyDiv bcast_S_S32
    (subi (addi x (broadcastInDim S32 ![] bcast_S_S32 (constantI S_ 32 512#32))) (broadcastInDim S32 ![] bcast_S_S32 (constantI S_ 32 1#32)))
    (constantI S_ 32 512#32)

/-- The tile each expert's tiles end at. -/
def endW (x : IVec S32 32) : IVec S32 32 :=
  Host.reduceWindow IntOp.addi ![32] ![1] ![31] ![0] (tilesW x) (broadcastInDim S_ ![] bcast_S_S_ (constantI S_ 32 0#32))
    reduceWindows_S32_S32_w32s1p31_0 h_S_

/-- The number of tiles. -/
def ntW (x : IVec S32 32) : IVec S_ 32 :=
  shapeCast S_ (extractStridedSlice S1 ![31] (endW x) slices_S32_S1_31) shapeCasts_S1_S_

/-- The number of tiles, as the table of one word the kernel takes. -/
def ntT (x : IVec S32 32) : IVec S1 32 := shapeCast S1 (ntW x) shapeCasts_S_S1

/-- At each tile, the number of experts whose tiles end at or before it. -/
def teAllW (x : IVec S32 32) : IVec S96 32 :=
  Host.reduce IntOp.addi
    (extui 32 (cmpi .sge (broadcastInDim S96x32 ![0, 1] bcast_S96x1_S96x32_0_1 (broadcastInDim S96x1 ![0] bcast_S96_S96x1_0 (iotaInDim S96 32 0)))
      (broadcastInDim S96x32 ![0, 1] bcast_S1x32_S96x32_0_1 (broadcastInDim S1x32 ![1] bcast_S32_S1x32_1 (endW x)))) natLt_1_32)
    (constantI S_ 32 0#32) reducesTo_S96x32_S96_d1 h_S_

/-- The same number at the last tile. -/
def lastW (x : IVec S32 32) : IVec S_ 32 :=
  Host.reduce IntOp.addi
    (extui 32 (cmpi .sge (broadcastInDim S32 ![] bcast_S_S32 (subi (ntW x) (constantI S_ 32 1#32))) (endW x)) natLt_1_32)
    (constantI S_ 32 0#32) reducesTo_S32_S_d0 h_S_

/-- The expert of each tile, the last tile's past the last. -/
def teW (x : IVec S32 32) : IVec S96 32 :=
  select (cmpi .slt (iotaInDim S96 32 0) (broadcastInDim S96 ![] bcast_S_S96 (ntW x))) (teAllW x)
    (broadcastInDim S96 ![] bcast_S_S96 (lastW x))

/-- At expert `e`, column `k`: `k` where `k` comes after `e` and has rows, 32 elsewhere. -/
def laterW (x : IVec S32 32) : IVec S32x32 32 :=
  select
    (andi
      (cmpi .sgt (broadcastInDim S32x32 ![0, 1] bcast_S1x32_S32x32_0_1 (broadcastInDim S1x32 ![1] bcast_S32_S1x32_1 (iotaInDim S32 32 0)))
        (broadcastInDim S32x32 ![0, 1] bcast_S32x1_S32x32_0_1 (broadcastInDim S32x1 ![0] bcast_S32_S32x1_0 (iotaInDim S32 32 0))))
      (broadcastInDim S32x32 ![0, 1] bcast_S1x32_S32x32_0_1
        (cmpi .sgt (broadcastInDim S1x32 ![1] bcast_S32_S1x32_1 x) (broadcastInDim S1x32 ![] bcast_S_S1x32 (constantI S_ 32 0#32)))))
    (broadcastInDim S32x32 ![0, 1] bcast_S1x32_S32x32_0_1 (broadcastInDim S1x32 ![1] bcast_S32_S1x32_1 (iotaInDim S32 32 0)))
    (broadcastInDim S32x32 ![] bcast_S_S32x32 (constantI S_ 32 32#32))

/-- The first later expert with rows, 32 if there is none. -/
def firstW (x : IVec S32 32) : IVec S32 32 :=
  Host.reduce IntOp.minsi (laterW x) (constantI S_ 32 2147483647#32) reducesTo_S32x32_S32_d1 h_S_

/-- The same, with minus one for none. -/
def nxtW (x : IVec S32 32) : IVec S32 32 :=
  select (cmpi .slt (firstW x) (broadcastInDim S32 ![] bcast_S_S32 (constantI S_ 32 32#32))) (firstW x)
    (broadcastInDim S32 ![] bcast_S_S32 (constantI S_ 32 4294967295#32))

/-- The next expert at each tile. -/
def nextW (x : IVec S32 32) : IVec S96 32 :=
  Host.reduce IntOp.addi
    (muli
      (extui 32 (cmpi .eq (broadcastInDim S96x32 ![0, 1] bcast_S96x1_S96x32_0_1 (broadcastInDim S96x1 ![0] bcast_S96_S96x1_0 (teW x)))
        (broadcastInDim S96x32 ![0, 1] bcast_S1x32_S96x32_0_1 (broadcastInDim S1x32 ![1] bcast_S32_S1x32_1 (iotaInDim S32 32 0)))) natLt_1_32)
      (broadcastInDim S96x32 ![0, 1] bcast_S1x32_S96x32_0_1 (broadcastInDim S1x32 ![1] bcast_S32_S1x32_1 (nxtW x))))
    (constantI S_ 32 0#32) reducesTo_S96x32_S96_d1 h_S_

/-! ## The host lines leave those tables -/

variable (m : (ℓ : Loc nD τ sig) → Buf (Elt F) ℓ)

/-- The counts a device's memory holds. -/
abbrev counts (c : Dev nD) : IVec S32 32 := m (c.tc.loc main_arg0)

/-- Argument 0 is as the memory held it. -/
theorem VH_arg0 (c : Dev nD) : Hand.VH m c main_arg0 = m (c.tc.loc main_arg0) := by
  unfold Hand.VH Hand.hostLines
  simp only [List.flatten_cons, List.flatten_nil, List.append_nil, List.cons_append, List.nil_append]
  after_reads_simp

/-- Argument 1 is as the memory held it. -/
theorem VH_arg1 (c : Dev nD) : Hand.VH m c main_arg1 = m (c.tc.loc main_arg1) := by
  unfold Hand.VH Hand.hostLines
  simp only [List.flatten_cons, List.flatten_nil, List.append_nil, List.cons_append, List.nil_append]
  after_reads_simp

/-- Argument 2 is as the memory held it. -/
theorem VH_arg2 (c : Dev nD) : Hand.VH m c main_arg2 = m (c.tc.loc main_arg2) := by
  unfold Hand.VH Hand.hostLines
  simp only [List.flatten_cons, List.flatten_nil, List.append_nil, List.cons_append, List.nil_append]
  after_reads_simp

/-- Argument 3 is as the memory held it. -/
theorem VH_arg3 (c : Dev nD) : Hand.VH m c main_arg3 = m (c.tc.loc main_arg3) := by
  unfold Hand.VH Hand.hostLines
  simp only [List.flatten_cons, List.flatten_nil, List.append_nil, List.cons_append, List.nil_append]
  after_reads_simp

/-- Argument 4 is as the memory held it. -/
theorem VH_arg4 (c : Dev nD) : Hand.VH m c main_arg4 = m (c.tc.loc main_arg4) := by
  unfold Hand.VH Hand.hostLines
  simp only [List.flatten_cons, List.flatten_nil, List.append_nil, List.cons_append, List.nil_append]
  after_reads_simp

/-- The number of tiles is that of the counts. -/
theorem VH_main_v51 (c : Dev nD) : Hand.VH m c main_v51 = ntT (counts m c) := by
  unfold Hand.VH Hand.hostLines
  simp only [List.flatten_cons, List.flatten_nil, List.append_nil, List.cons_append, List.nil_append]
  after_reads_simp
  simp only [StableHlo.TRef.ofBuf_toBuf, StableHlo.TRef.ofBuf, StableHlo.TRef.toBuf, cast_cast, cast_eq, id_eq, ntT, tilesW, endW, ntW]
  rfl

/-- The table of experts is that of the counts. -/
theorem VH_main_v23 (c : Dev nD) : Hand.VH m c main_v23 = teW (counts m c) := by
  unfold Hand.VH Hand.hostLines
  simp only [List.flatten_cons, List.flatten_nil, List.append_nil, List.cons_append, List.nil_append]
  after_reads_simp
  simp only [StableHlo.TRef.ofBuf_toBuf, StableHlo.TRef.ofBuf, StableHlo.TRef.toBuf, cast_cast, cast_eq, id_eq, teW, teAllW, lastW, tilesW, endW, ntW]
  rfl

/-- The table of next experts is that of the counts. -/
theorem VH_main_v50 (c : Dev nD) : Hand.VH m c main_v50 = nextW (counts m c) := by
  unfold Hand.VH Hand.hostLines
  simp only [List.flatten_cons, List.flatten_nil, List.append_nil, List.cons_append, List.nil_append]
  after_reads_simp
  simp only [StableHlo.TRef.ofBuf_toBuf, StableHlo.TRef.ofBuf, StableHlo.TRef.toBuf, cast_cast, cast_eq, id_eq, nextW, nxtW, firstW, laterW, teW, teAllW, lastW, tilesW, endW, ntW]
  rfl

end Cert.KernelIdeal.Host

end
-- ==== Proof.Counts.lean ====
module

public import Idealize.ShloMosaic.Lib.Routing.Count

@[expose] public section

namespace Cert.KernelIdeal.Counts

open Idealize.ShloMosaic.Routing

/-! ## Tiles of experts, over the natural numbers -/

variable (c : ℕ → ℕ)

/-- The tiles of 512 rows expert `k` takes. -/
def tiles (k : ℕ) : ℕ := (c k + 511) / 512

/-- The tile at which the tiles of expert `k` end. -/
def tEnd (k : ℕ) : ℕ := ((List.range (k + 1)).map (tiles c)).sum

/-- The number of the 32 experts whose tiles end at or before tile `n`. -/
def tExp (n : ℕ) : ℕ := Nat.count (fun e => tEnd c e ≤ n) 32

/-- The counts fill 32768 rows. -/
def Full : Prop := ((List.range 32).map c).sum = 32768

/-- `k` is the first expert after `e` with rows, or 32 where there is none. -/
def IsNext (e k : ℕ) : Prop :=
  (k < 32 ∧ e < k ∧ 0 < c k ∧ ∀ k', e < k' → k' < 32 → 0 < c k' → k ≤ k') ∨ (k = 32 ∧ ∀ k', e < k' → k' < 32 → c k' = 0)

theorem tEnd_succ (k : ℕ) : tEnd c (k + 1) = tEnd c k + tiles c (k + 1) := by
  unfold tEnd
  rw [List.range_succ (n := k + 1), List.map_append, List.sum_append]
  simp

theorem tEnd_mono : Monotone (tEnd c) := monotone_nat_of_le_succ fun k => by rw [tEnd_succ]; omega

/-- An expert with no tile has no row. -/
theorem zero_of_tiles {k : ℕ} (h : tiles c k = 0) : c k = 0 := by
  unfold tiles at h
  omega

theorem pos_of_tiles {k : ℕ} (h : 0 < tiles c k) : 0 < c k := by
  unfold tiles at h
  omega

/-- The tiles of the first experts hold their rows, and waste fewer than 511 rows each. -/
theorem tEnd_bounds (k : ℕ) :
    ((List.range (k + 1)).map c).sum ≤ 512 * tEnd c k ∧ 512 * tEnd c k ≤ ((List.range (k + 1)).map c).sum + 511 * (k + 1) := by
  induction k with
  | zero => simp [tEnd, tiles]; omega
  | succ k ih =>
    rw [tEnd_succ, List.range_succ (n := k + 1), List.map_append, List.sum_append]
    simp only [List.map_cons, List.map_nil, List.sum_cons, List.sum_nil]
    unfold tiles
    omega

theorem last_bounds (h : Full c) : 1 ≤ tEnd c 31 ∧ tEnd c 31 ≤ 96 := by
  have := tEnd_bounds c 31
  unfold Full at h
  simp only [show 31 + 1 = 32 from rfl, h] at this
  omega

/-- An expert's tiles end at or before tile `n` exactly when the expert comes before the tile's. -/
theorem end_le_iff (n : ℕ) {e : ℕ} (he : e < 32) : tEnd c e ≤ n ↔ e < tExp c n :=
  lt_count_iff (Q := fun e => tEnd c e ≤ n) (fun _ _ hab _ hb => (tEnd_mono c hab).trans hb) he

theorem tExp_le (n : ℕ) : tExp c n ≤ 32 := Nat.count_le _

/-- A tile before the last end is an expert's. -/
theorem tExp_lt {n : ℕ} (h : n < tEnd c 31) : tExp c n < 32 := by
  have := end_le_iff c n (e := 31) (by omega)
  omega

theorem tExp_eq {n : ℕ} (h : tEnd c 31 ≤ n) : tExp c n = 32 := by
  have := end_le_iff c n (e := 31) (by omega)
  have := tExp_le c n
  omega

theorem tExp_mono : Monotone (tExp c) := fun a b hab => by
  by_contra h
  have h1 := tExp_le c a
  have h2 := (end_le_iff c a (e := tExp c b) (by omega)).2 (by omega)
  have h3 := (end_le_iff c b (e := tExp c b) (by omega)).1 (by omega)
  omega

/-- The first later expert with rows is unique. -/
theorem IsNext.unique {e k k' : ℕ} (h : IsNext c e k) (h' : IsNext c e k') : k = k' := by
  rcases h with ⟨a1, a2, a3, a4⟩ | ⟨a1, a2⟩ <;> rcases h' with ⟨b1, b2, b3, b4⟩ | ⟨b1, b2⟩
  · have := a4 k' b2 b1 b3
    have := b4 k a2 a1 a3
    omega
  · have := b2 k a2 a1
    omega
  · have := a2 k' b2 b1
    omega
  · omega

/-- Where the expert changes from a tile to the following one, the latter's is the first later expert with rows. -/
theorem next_of_change {n : ℕ} (hn : n + 1 < tEnd c 31) (h : tExp c (n + 1) ≠ tExp c n) : IsNext c (tExp c n) (tExp c (n + 1)) := by
  have hle : tExp c n ≤ tExp c (n + 1) := tExp_mono c (Nat.le_succ n)
  have hlt : tExp c (n + 1) < 32 := tExp_lt c hn
  have h0 : ¬ tEnd c (tExp c n) ≤ n := fun hc => by
    have := (end_le_iff c n (e := tExp c n) (by omega)).1 hc
    omega
  have hpre : ∀ k, k < tExp c (n + 1) → tEnd c k ≤ n + 1 := fun k hk => (end_le_iff c (n + 1) (e := k) (by omega)).2 hk
  have hz : ∀ k, tExp c n < k → k < tExp c (n + 1) → c k = 0 := fun k hk hk' => by
    obtain ⟨j, rfl⟩ : ∃ j, k = j + 1 := ⟨k - 1, by omega⟩
    have h1 := hpre _ hk'
    rw [tEnd_succ] at h1
    have h2 : tEnd c (tExp c n) ≤ tEnd c j := tEnd_mono c (by omega)
    exact zero_of_tiles c (by omega)
  have hp : 0 < c (tExp c (n + 1)) := by
    obtain ⟨j, hj⟩ : ∃ j, tExp c (n + 1) = j + 1 := ⟨tExp c (n + 1) - 1, by omega⟩
    have h1 := hpre j (by omega)
    have h2 : ¬ tEnd c (j + 1) ≤ n + 1 := fun hc => by
      have := (end_le_iff c (n + 1) (e := j + 1) (by omega)).1 hc
      omega
    rw [tEnd_succ] at h2
    rw [hj]
    exact pos_of_tiles c (by omega)
  refine Or.inl ⟨hlt, by omega, hp, fun k' h1 h2 h3 => ?_⟩
  by_contra hc
  have := hz k' h1 (by omega)
  omega

/-- After the last tile's expert no expert has rows. -/
theorem next_of_last (h1 : 1 ≤ tEnd c 31) : IsNext c (tExp c (tEnd c 31 - 1)) 32 := by
  have hlt : tExp c (tEnd c 31 - 1) < 32 := tExp_lt c (by omega)
  have h0 : ¬ tEnd c (tExp c (tEnd c 31 - 1)) ≤ tEnd c 31 - 1 := fun hc => by
    have := (end_le_iff c (tEnd c 31 - 1) (e := tExp c (tEnd c 31 - 1)) (by omega)).1 hc
    omega
  refine Or.inr ⟨rfl, fun k hk hk' => ?_⟩
  obtain ⟨j, rfl⟩ : ∃ j, k = j + 1 := ⟨k - 1, by omega⟩
  have h2 : tEnd c (tExp c (tEnd c 31 - 1)) ≤ tEnd c j := tEnd_mono c (by omega)
  have h3 : tEnd c (j + 1) ≤ tEnd c 31 := tEnd_mono c (by omega)
  rw [tEnd_succ] at h3
  exact zero_of_tiles c (by omega)

end Cert.KernelIdeal.Counts
-- ==== Proof.HostTables.lean ====
module

public import proofs.«01_k».proof.Proof.HostReads
public import proofs.«01_k».proof.Proof.Counts
public import proofs.«01_k».proof.Pre_routed
public import Idealize.ShloMosaic.Lib.Routing.Words
public import Idealize.ShloMosaic.Lib.Routing.OpsSearch
public import Idealize.ShloMosaic.Lib.SortNet.Extract

@[expose] public section

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

open Idealize.ShloMosaic.Routing Idealize.ShloMosaic.ValueIdx Cert.KernelIdeal.Counts

/-! ## Folds of words -/

/-- Summing words of which all are zero gives zero. -/
theorem fold_addi_zero {ι : Type} [DecidableEq ι] (S : Finset ι) (f : ι → BitVec 32) (h : ∀ i ∈ S, f i = 0#32) :
    S.fold IntOp.addi 0#32 f = 0#32 := by
  induction S using Finset.induction_on with
  | empty => rfl
  | insert a S ha ih =>
    rw [Finset.fold_insert ha, ih fun i hi => h i (Finset.mem_insert_of_mem hi), h a (Finset.mem_insert_self a S)]
    rfl

/-- Summing words of which all but one are zero gives that one. -/
theorem fold_addi_single {ι : Type} [DecidableEq ι] (S : Finset ι) (f : ι → BitVec 32) (i : ι) (hi : i ∈ S)
    (h : ∀ j ∈ S, j ≠ i → f j = 0#32) : S.fold IntOp.addi 0#32 f = f i := by
  rw [← Finset.insert_erase hi, Finset.fold_insert (Finset.notMem_erase i S),
    fold_addi_zero _ f fun j hj => h j (Finset.mem_of_mem_erase hj) (Finset.ne_of_mem_erase hj)]
  exact BitVec.add_zero _

/-- The least of words: none is below it, and it is one of them. -/
theorem fold_minsi {ι : Type} [DecidableEq ι] (S : Finset ι) (f : ι → BitVec 32) (v : BitVec 32) :
    (S.fold IntOp.minsi v f).toInt ≤ v.toInt ∧ (∀ i ∈ S, (S.fold IntOp.minsi v f).toInt ≤ (f i).toInt)
      ∧ (S.fold IntOp.minsi v f = v ∨ ∃ i ∈ S, S.fold IntOp.minsi v f = f i) := by
  induction S using Finset.induction_on with
  | empty => exact ⟨le_refl _, fun i hi => absurd hi (Finset.notMem_empty i), Or.inl rfl⟩
  | insert a S ha ih =>
    rw [Finset.fold_insert ha]
    obtain ⟨h1, h2, h3⟩ := ih
    have e := SortNet.toInt_minsi (f a) (S.fold IntOp.minsi v f)
    refine ⟨by omega, fun i hi => ?_, ?_⟩
    · rcases Finset.mem_insert.1 hi with rfl | hi
      · omega
      · have := h2 i hi
        omega
    · by_cases hc : (f a).slt (S.fold IntOp.minsi v f) = true
      · exact Or.inr ⟨a, Finset.mem_insert_self a S, by show (if _ then _ else _) = _; rw [if_pos hc]⟩
      · have hm : IntOp.minsi (f a) (S.fold IntOp.minsi v f) = S.fold IntOp.minsi v f := by
          show (if _ then _ else _) = _
          rw [if_neg hc]
        rw [hm]
        rcases h3 with h3 | ⟨i, hi, h3⟩
        · exact Or.inl h3
        · exact Or.inr ⟨i, Finset.mem_insert_of_mem hi, h3⟩

/-- A place of a rectangle drops to its row. -/
theorem drop_row {n m : ℕ} (h : (shape2 n m).ReducesTo [1] (shape1 n)) (i : Fin n) (j : (shape2 n m).Idx) :
    h.drop j = ValueIdx.ix1 i ↔ ∃ q : Fin m, j = ValueIdx.ix2 i q := by
  have hv : (h.drop j 0 : ℕ) = j 0 := Shape.ReducesTo.drop_apply_val h j 0
  constructor
  · intro e
    rw [e] at hv
    refine ⟨j 1, ?_⟩
    funext b
    match b with
    | ⟨0, _⟩ => exact Fin.ext hv.symm
    | ⟨1, _⟩ => rfl
  · rintro ⟨q, rfl⟩
    funext b
    match b with
    | ⟨0, _⟩ => exact Fin.ext hv

/-! ## What the precondition says of the counts -/

/-- The counts as natural numbers. -/
def cnt (x : IVec S32 32) (k : ℕ) : ℕ := if h : k < 32 then (x (ValueIdx.ix1 (⟨k, h⟩ : Fin 32))).toNat else 0

/-- Counts between 0 and 32768 that fill 32768 rows. -/
structure Routed (x : IVec S32 32) : Prop where
  le : ∀ k, cnt x k ≤ 32768
  full : Full (cnt x)

theorem cnt_ap (x : IVec S32 32) (i : Fin 32) : x (ValueIdx.ix1 i) = BitVec.ofNat 32 (cnt x i.val) := by
  unfold cnt
  rw [dif_pos i.isLt]
  exact (BitVec.eq_of_toNat_eq (by rw [BitVec.toNat_ofNat]; exact Nat.mod_eq_of_lt (BitVec.isLt _))).symm

/-- The sum of boundedly many bounded numbers. -/
theorem sum_le (f : ℕ → ℕ) (b n : ℕ) (h : ∀ k, f k ≤ b) : ((List.range n).map f).sum ≤ n * b := by
  induction n with
  | zero => simp
  | succ n ih =>
    rw [List.range_succ, List.map_append, List.sum_append]
    simp only [List.map_cons, List.map_nil, List.sum_cons, List.sum_nil]
    have := h n
    rw [Nat.succ_mul]
    omega

theorem andi_one {a b : BitVec 1} (h : IntOp.andi a b = 1#1) : a = 1#1 ∧ b = 1#1 := by
  revert a b
  decide

/-- The printed precondition says so. -/
theorem routed_of_pre {F : FTy → Type} [FloatOps F] [Cert.Pre_routed.Facts] (x : IVec S32 32) (a1 : FVec F S49152x2048 .f32)
    (a2 : FVec F S32x2048x512 .f32) (a3 : FVec F S32x2048x512 .f32) (a4 : FVec F S32x512x2048 .f32)
    (h : Cert.Pre_routed.fn (F := F) x a1 a2 a3 a4 = fun _ => 1#1) : Routed x := by
  have hi : ∀ i : Fin 32, (x (ValueIdx.ix1 i)).toNat ≤ 32768
      ∧ Host.reduce IntOp.addi x (constantI Cert.Pre_routed.S_ 32 0#32) Cert.Pre_routed.Facts.reducesTo_S32_S_d0 Cert.Pre_routed.Facts.h_S_ ValueIdx.ix0
        = 32768#32 := fun i => by
    have hh := congrFun h (ValueIdx.ix1 i)
    have h1 : IntOp.andi (IntOp.andi (IntOp.cmpi .sge (x (ValueIdx.ix1 i)) 0#32) (IntOp.cmpi .sle (x (ValueIdx.ix1 i)) 32768#32))
      (broadcastInDim Cert.Pre_routed.S32 ![] Cert.Pre_routed.Facts.bcast_S_S32
        (cmpi .eq (Host.reduce IntOp.addi x (constantI Cert.Pre_routed.S_ 32 0#32) Cert.Pre_routed.Facts.reducesTo_S32_S_d0 Cert.Pre_routed.Facts.h_S_)
          (constantI Cert.Pre_routed.S_ 32 32768#32)) (ValueIdx.ix1 i)) = 1#1 := hh
    obtain ⟨h2, h3⟩ := andi_one h1
    obtain ⟨h4, h5⟩ := andi_one h2
    rw [bc0] at h3
    refine ⟨?_, StableHlo.Predicate.cmpi_eq_iff.1 h3⟩
    rw [WordCmp.cmpi_sge_eq, WordCmp.ofBool_decide_eq_one_iff] at h4
    rw [WordCmp.cmpi_sle_eq, WordCmp.ofBool_decide_eq_one_iff] at h5
    have e0 : (0#32 : BitVec 32).toInt = 0 := by decide
    have e1 : (32768#32 : BitVec 32).toInt = 32768 := by decide
    rw [e0] at h4
    rw [e1] at h5
    have hlt := (x (ValueIdx.ix1 i)).isLt
    have hcond := BitVec.toInt_eq_toNat_cond (x (ValueIdx.ix1 i))
    split at hcond <;> omega
  have hle : ∀ k, cnt x k ≤ 32768 := fun k => by
    unfold cnt
    split
    · exact (hi _).1
    · omega
  refine ⟨hle, ?_⟩
  have hs := (hi 0).2
  have hr := reduce_sum x (cnt x) (cnt_ap x) Cert.Pre_routed.Facts.reducesTo_S32_S_d0 Cert.Pre_routed.Facts.h_S_
  have hb := sum_le (cnt x) 32768 32 hle
  have he := congrArg BitVec.toNat (hr.symm.trans hs)
  rw [BitVec.toNat_ofNat, BitVec.toNat_ofNat] at he
  unfold Full
  omega

/-! ## The tables at a place -/

section

variable {x : IVec S32 32} (hx : Routed x)
include hx

theorem tilesW_ap (i : Fin 32) : tilesW x (ValueIdx.ix1 i) = BitVec.ofNat 32 (tiles (cnt x) i.val) := by
  have hle := hx.le i.val
  refine pyDiv_ap _ _ _ _ (a := cnt x i.val + 511) (b := 512) ?_ rfl ?_ (by decide) (by decide)
  swap
  · show cnt x i.val + 511 < 2147483648
    omega
  show (x (ValueIdx.ix1 i) + 512#32) - 1#32 = _
  rw [cnt_ap x i]
  apply BitVec.eq_of_toNat_eq
  simp only [BitVec.toNat_sub, BitVec.toNat_add, BitVec.toNat_ofNat]
  omega

theorem endW_ap (i : Fin 32) : endW x (ValueIdx.ix1 i) = BitVec.ofNat 32 (tEnd (cnt x) i.val) :=
  cumsum1 (N := 32) (Nm1 := 31) rfl (tilesW x) (tiles (cnt x)) (tilesW_ap hx) _ rfl _ _ i

theorem ntW_ap : ntW x ValueIdx.ix0 = BitVec.ofNat 32 (tEnd (cnt x) 31) := by
  unfold ntW
  rw [shapeCast_apply (extractStridedSlice S1 ![31] (endW x) slices_S32_S1_31) shapeCasts_S1_S_ ValueIdx.ix0 (ValueIdx.ix1 (0 : Fin 1)) (by decide)]
  rw [slice1 31 (endW x) slices_S32_S1_31 (0 : Fin 1) (by decide)]
  exact endW_ap hx 31

theorem ntT_ap (j : S1.Idx) : ntT x j = BitVec.ofNat 32 (tEnd (cnt x) 31) := by
  unfold ntT
  rw [shapeCast_apply (ntW x) shapeCasts_S_S1 j ValueIdx.ix0 (by
    have h1 := (S_.rowMajor ValueIdx.ix0).isLt
    have h2 := (S1.rowMajor j).isLt
    have e1 : S_.numel = 1 := by decide
    have e2 : S1.numel = 1 := by decide
    omega)]
  exact ntW_ap hx

theorem tEnd_le (k : ℕ) (hk : k < 32) : tEnd (cnt x) k ≤ 96 :=
  (tEnd_mono (cnt x) (show k ≤ 31 by omega)).trans (last_bounds (cnt x) hx.full).2

theorem teAllW_ap (n : Fin 96) : teAllW x (ValueIdx.ix1 n) = BitVec.ofNat 32 (tExp (cnt x) n.val) := by
  refine reduce_count (by decide) _ _ _ _ n (fun e => tEnd (cnt x) e ≤ n.val) fun q => ?_
  rw [WordCmp.cmpi_at, bcRows, bcCols, endW_ap hx q]
  have := tEnd_le hx q.val q.isLt
  exact WordCmp.cmpi_sge_ofNat_eq_one_iff (a := n.val) (by have := n.isLt; omega) (by omega)

/-- A tile's expert. -/
theorem teW_ap (n : Fin 96) (hn : n.val < tEnd (cnt x) 31) : teW x (ValueIdx.ix1 n) = BitVec.ofNat 32 (tExp (cnt x) n.val) := by
  have h96 := tEnd_le hx 31 (by omega)
  unfold teW
  rw [WordCmp.select_at, WordCmp.cmpi_at, bc0, ntW_ap hx]
  have hc : IntOp.cmpi .slt (iotaInDim S96 32 0 (ValueIdx.ix1 n)) (BitVec.ofNat 32 (tEnd (cnt x) 31)) = 1#1 :=
    (WordCmp.cmpi_slt_ofNat_eq_one_iff (a := n.val) (by have := n.isLt; omega) (by omega)).2 hn
  rw [hc]
  exact teAllW_ap hx n

/-- A later expert with rows stands as itself, any other column as 32. -/
theorem laterW_ap (e k : Fin 32) :
    laterW x (ValueIdx.ix2 e k) = BitVec.ofNat 32 (if e.val < k.val ∧ 0 < cnt x k.val then k.val else 32) := by
  unfold laterW
  have hle := hx.le k.val
  have hk := k.isLt
  have he := e.isLt
  have h1 : broadcastInDim S32x32 ![0, 1] bcast_S1x32_S32x32_0_1
      (cmpi .sgt (broadcastInDim S1x32 ![1] bcast_S32_S1x32_1 x) (broadcastInDim S1x32 ![] bcast_S_S1x32 (constantI S_ 32 0#32))) (ValueIdx.ix2 e k)
        = IntOp.cmpi .sgt (x (ValueIdx.ix1 k)) 0#32 := by
    have h2 := bcCols bcast_S32_S1x32_1 bcast_S1x32_S32x32_0_1 (cmpi .sgt x (constantI S32 32 0#32)) e k
    refine Eq.trans ?_ h2
    rfl
  rw [WordCmp.select_at, WordCmp.andi_at, WordCmp.cmpi_at, bcCols, bcRows, bc0, h1, cnt_ap x k]
  have h3 : IntOp.cmpi .sgt (iotaInDim S32 32 0 (ValueIdx.ix1 k)) (iotaInDim S32 32 0 (ValueIdx.ix1 e)) = BitVec.ofBool (decide (e.val < k.val)) :=
    WordCmp.cmpi_sgt_ofNat (a := k.val) (b := e.val) (by omega) (by omega)
  have h4 : IntOp.cmpi .sgt (BitVec.ofNat 32 (cnt x k.val)) 0#32 = BitVec.ofBool (decide (0 < cnt x k.val)) :=
    WordCmp.cmpi_sgt_ofNat (by omega) (by omega)
  rw [h3, h4]
  by_cases a : e.val < k.val
  · by_cases b : 0 < cnt x k.val
    · rw [if_pos ⟨a, b⟩, decide_eq_true a, decide_eq_true b]; rfl
    · rw [if_neg (fun h => b h.2), decide_eq_true a, decide_eq_false b]; rfl
  · rw [if_neg (fun h => a h.1), decide_eq_false a]
    cases decide (0 < cnt x k.val) <;> rfl

/-- The first later expert with rows. -/
theorem firstW_ap (e : Fin 32) : ∃ k, IsNext (cnt x) e.val k ∧ firstW x (ValueIdx.ix1 e) = BitVec.ofNat 32 k := by
  classical
  have hmem : ∀ q : Fin 32, ValueIdx.ix2 e q ∈ (Finset.univ.filter fun i => reducesTo_S32x32_S32_d1.drop i = (ValueIdx.ix1 e : S32.Idx)) := fun q =>
    Finset.mem_filter.2 ⟨Finset.mem_univ _, (drop_row (n := 32) (m := 32) reducesTo_S32x32_S32_d1 e _).2 ⟨q, rfl⟩⟩
  have hr : firstW x (ValueIdx.ix1 e) = (Finset.univ.filter fun i => reducesTo_S32x32_S32_d1.drop i = (ValueIdx.ix1 e : S32.Idx)).fold IntOp.minsi 2147483647#32 (laterW x) :=
    Host.reduce_eq_fold IntOp.minsi (laterW x) (constantI S_ 32 2147483647#32) reducesTo_S32x32_S32_d1 h_S_ (ValueIdx.ix1 e)
  obtain ⟨h1, h2, h3⟩ := fold_minsi (Finset.univ.filter fun i => reducesTo_S32x32_S32_d1.drop i = (ValueIdx.ix1 e : S32.Idx)) (laterW x) 2147483647#32
  rw [← hr] at h1 h2 h3
  have hle : ∀ q : Fin 32, (firstW x (ValueIdx.ix1 e)).toInt ≤ ((if e.val < q.val ∧ 0 < cnt x q.val then q.val else 32 : ℕ) : ℤ) := fun q => by
    have h := h2 _ (hmem q)
    rw [laterW_ap hx e q, StableHlo.Predicate.toInt_ofNat_small _ (by have := q.isLt; split <;> omega)] at h
    exact h
  have h0 : ∃ q : Fin 32, firstW x (ValueIdx.ix1 e) = BitVec.ofNat 32 (if e.val < q.val ∧ 0 < cnt x q.val then q.val else 32) := by
    rcases h3 with h3 | ⟨i, hi, h3⟩
    · have h4 := hle 0
      rw [h3] at h4
      have e1 : (2147483647#32 : BitVec 32).toInt = 2147483647 := by decide
      rw [e1] at h4
      split at h4 <;> simp at h4
    · obtain ⟨q, rfl⟩ := (drop_row (n := 32) (m := 32) reducesTo_S32x32_S32_d1 e _).1 (Finset.mem_filter.1 hi).2
      exact ⟨q, h3.trans (laterW_ap hx e q)⟩
  obtain ⟨q, hq⟩ := h0
  refine ⟨_, ?_, hq⟩
  have hlt := q.isLt
  rw [hq, StableHlo.Predicate.toInt_ofNat_small _ (by split <;> omega)] at hle
  by_cases hc : e.val < q.val ∧ 0 < cnt x q.val
  · rw [if_pos hc] at hle ⊢
    refine Or.inl ⟨q.isLt, hc.1, hc.2, fun k' a b d => ?_⟩
    have := hle ⟨k', b⟩
    rw [if_pos ⟨a, d⟩] at this
    exact Int.ofNat_le.1 this
  · rw [if_neg hc] at hle ⊢
    refine Or.inr ⟨rfl, fun k' a b => ?_⟩
    have := hle ⟨k', b⟩
    by_contra hd
    rw [if_pos ⟨a, by show 0 < cnt x k'; omega⟩] at this
    have := Int.ofNat_le.1 this
    omega

/-- The same, as the table's word: minus one for none. -/
theorem nxtW_ap (e : Fin 32) :
    ∃ k, IsNext (cnt x) e.val k ∧ nxtW x (ValueIdx.ix1 e) = if k < 32 then BitVec.ofNat 32 k else 4294967295#32 := by
  obtain ⟨k, hk, hf⟩ := firstW_ap hx e
  have hk32 : k ≤ 32 := by
    rcases hk with h | h
    · omega
    · omega
  refine ⟨k, hk, ?_⟩
  unfold nxtW
  rw [WordCmp.select_at, WordCmp.cmpi_at, bc0, bc0, hf]
  have h3 : IntOp.cmpi .slt (BitVec.ofNat 32 k) (constantI S_ 32 32#32 ValueIdx.ix0) = BitVec.ofBool (decide (k < 32)) :=
    WordCmp.cmpi_slt_ofNat (by omega) (by omega)
  rw [h3]
  by_cases h : k < 32
  · rw [if_pos h, decide_eq_true h]; rfl
  · rw [if_neg h, decide_eq_false h]; rfl

/-- The next expert at a tile is the one after the tile's expert. -/
theorem nextW_ap (n : Fin 96) (hn : n.val < tEnd (cnt x) 31) :
    ∃ k, IsNext (cnt x) (tExp (cnt x) n.val) k ∧ nextW x (ValueIdx.ix1 n) = if k < 32 then BitVec.ofNat 32 k else 4294967295#32 := by
  classical
  have hlt := tExp_lt (cnt x) hn
  obtain ⟨k, hk, hw⟩ := nxtW_ap hx ⟨tExp (cnt x) n.val, hlt⟩
  refine ⟨k, hk, Eq.trans ?_ hw⟩
  have hval : ∀ q : Fin 32, (muli
      (extui 32 (cmpi .eq (broadcastInDim S96x32 ![0, 1] bcast_S96x1_S96x32_0_1 (broadcastInDim S96x1 ![0] bcast_S96_S96x1_0 (teW x)))
        (broadcastInDim S96x32 ![0, 1] bcast_S1x32_S96x32_0_1 (broadcastInDim S1x32 ![1] bcast_S32_S1x32_1 (iotaInDim S32 32 0)))) natLt_1_32)
      (broadcastInDim S96x32 ![0, 1] bcast_S1x32_S96x32_0_1 (broadcastInDim S1x32 ![1] bcast_S32_S1x32_1 (nxtW x)))) (ValueIdx.ix2 n q)
      = (BitVec.ofBool (decide (tExp (cnt x) n.val = q.val))).setWidth 32 * nxtW x (ValueIdx.ix1 q) := fun q => by
    have hq := q.isLt
    show IntOp.muli (BitVec.setWidth 32 (IntOp.cmpi .eq _ _)) _ = _
    rw [bcRows, bcCols, bcCols, teW_ap hx n hn]
    have h3 : IntOp.cmpi .eq (BitVec.ofNat 32 (tExp (cnt x) n.val)) (iotaInDim S32 32 0 (ValueIdx.ix1 q)) = BitVec.ofBool (decide (tExp (cnt x) n.val = q.val)) :=
      WordCmp.cmpi_eq_ofNat (a := tExp (cnt x) n.val) (b := q.val) (by omega) (by omega)
    rw [h3]
    rfl
  refine (Host.reduce_eq_fold IntOp.addi _ (constantI S_ 32 0#32) reducesTo_S96x32_S96_d1 h_S_ (ValueIdx.ix1 n)).trans ?_
  refine (fold_addi_single _ _ (ValueIdx.ix2 n (⟨tExp (cnt x) n.val, hlt⟩ : Fin 32)) ?_ ?_).trans ?_
  · exact Finset.mem_filter.2 ⟨Finset.mem_univ _, (drop_row (n := 96) (m := 32) reducesTo_S96x32_S96_d1 n _).2 ⟨_, rfl⟩⟩
  · intro j hj hne
    obtain ⟨q, rfl⟩ := (drop_row (n := 96) (m := 32) reducesTo_S96x32_S96_d1 n _).1 (Finset.mem_filter.1 hj).2
    rw [hval q, decide_eq_false (fun hc => hne (by
      have : q = (⟨tExp (cnt x) n.val, hlt⟩ : Fin 32) := Fin.ext hc.symm
      rw [this]))]
    exact BitVec.zero_mul
  · rw [hval, decide_eq_true rfl]
    exact BitVec.one_mul _

/-! ## The tables are good -/

omit hx in
theorem word_ap (f : S96.Idx → BitVec 32) (n : ℕ) (hn : n < 96) : Hand.word f n = f (ValueIdx.ix1 (⟨n, hn⟩ : Fin 96)) := by
  refine congrArg f (funext fun a => ?_)
  match a with
  | 0 => exact Fin.ext (Nat.mod_eq_of_lt hn)

/-- The table of experts at a tile. -/
theorem te_word (n : ℕ) (hn : n < tEnd (cnt x) 31) : Hand.word (teW x) n = BitVec.ofNat 32 (tExp (cnt x) n) := by
  have h96 := tEnd_le hx 31 (by omega)
  rw [word_ap _ n (by omega)]
  exact teW_ap hx ⟨n, by omega⟩ hn

theorem nx_word (n : ℕ) (hn : n < tEnd (cnt x) 31) :
    ∃ k, IsNext (cnt x) (tExp (cnt x) n) k ∧ Hand.word (nextW x) n = if k < 32 then BitVec.ofNat 32 k else 4294967295#32 := by
  have h96 := tEnd_le hx 31 (by omega)
  rw [word_ap _ n (by omega)]
  exact nextW_ap hx ⟨n, by omega⟩ hn

theorem nt_toNat (j : S1.Idx) : (ntT x j).toNat = tEnd (cnt x) 31 := by
  have h96 := tEnd_le hx 31 (by omega)
  rw [ntT_ap hx j, BitVec.toNat_ofNat]
  omega

/-- The tables of routed counts are good. -/
theorem good (j : S1.Idx) : Hand.Good (teW x) (nextW x) (ntT x j) := by
  have h96 := tEnd_le hx 31 (by omega)
  have h1 := (last_bounds (cnt x) hx.full).1
  have ht : ∀ n, n < tEnd (cnt x) 31 → (Hand.word (teW x) n).toNat = tExp (cnt x) n := fun n hn => by
    have := tExp_lt (cnt x) hn
    rw [te_word hx n hn, BitVec.toNat_ofNat]
    omega
  have e := nt_toNat hx j
  refine ⟨by omega, by omega, fun n hn => ?_, fun n hn hl => ?_, fun n hn hne => ?_, fun n hn he => ?_, ?_⟩
  · rw [ht n (by omega)]
    exact tExp_lt (cnt x) (by omega)
  · obtain ⟨k, hk, hw⟩ := nx_word hx n (by omega)
    rw [hw] at hl ⊢
    by_cases h : k < 32
    · rw [if_pos h, BitVec.toNat_ofNat]
      omega
    · rw [if_neg h] at hl
      exact absurd hl (by decide)
  · obtain ⟨k, hk, hw⟩ := nx_word hx n (by omega)
    have hne' : tExp (cnt x) (n + 1) ≠ tExp (cnt x) n := fun hc => hne (by
      rw [te_word hx n (by omega), te_word hx (n + 1) (by omega), hc])
    have hN := next_of_change (cnt x) (by omega) hne'
    have := hk.unique (cnt x) hN
    have hlt := tExp_lt (cnt x) (n := n + 1) (by omega)
    rw [hw, this, if_pos hlt, te_word hx (n + 1) (by omega)]
  · obtain ⟨k, hk, hw⟩ := nx_word hx n (by omega)
    obtain ⟨k', hk', hw'⟩ := nx_word hx (n + 1) (by omega)
    have hE : tExp (cnt x) (n + 1) = tExp (cnt x) n := by
      rw [← ht n (by omega), ← ht (n + 1) (by omega), he]
    rw [hE] at hk'
    rw [hw, hw', hk.unique (cnt x) hk']
  · obtain ⟨k, hk, hw⟩ := nx_word hx (tEnd (cnt x) 31 - 1) (by omega)
    rw [e, hw, hk.unique (cnt x) (next_of_last (cnt x) h1), if_neg (by omega)]
    decide

end

end Cert.KernelIdeal.Host

end
-- ==== Proof.Frames.lean ====
module

public import proofs.«01_k».proof.Defs
public import proofs.«01_k».proof.Proof.HostTables
public import proofs.«01_k».proof.Proof.Gen.Kernel
public import proofs.«01_k».proof.Proof.Gen.Pre_routed
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-- Routed counts give the kernel good tables. -/
theorem tables_good (hx : Routed (counts m 0)) :
    Hand.Good (Hand.hostTables m 0) (Hand.hostTables m 1) (Hand.hostTables m 2 Hand.ix1) := by
  have h0 : Hand.hostTables m 0 = teW (counts m 0) := VH_main_v23 m 0
  have h1 : Hand.hostTables m 1 = nextW (counts m 0) := VH_main_v50 m 0
  have h2 : Hand.hostTables m 2 = ntT (counts m 0) := VH_main_v51 m 0
  rw [h0, h1, h2]
  exact good hx _

/-- The weights a device's memory holds. -/
def weights (c : Dev nD) : Hand.Weights F c := ⟨m (c.tc.loc main_arg2), m (c.tc.loc main_arg3), m (c.tc.loc main_arg4)⟩

/-- From routed counts the program ends, its result the rows' gated products by their tiles' experts, its arguments
    unchanged and every semaphore at zero. -/
theorem run_main (hx : ∀ c, Routed (counts m c)) :
    θ_run defs (onTc (τ := τ) (main (F := F))) ⟨m, fun _ => 0, ρ⟩ (fun r => (∀ c : Dev nD,
        r.2.mem (c.tc.loc main_v52)
            = Hand.outA (weights m c) (teW (counts m c)) (ntT (counts m c) Hand.ix1) (m (c.tc.loc main_arg1))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4))
      ∧ r.2.sem = fun _ => 0) := by
  refine (θ_run defs _ _).mono (fun r h => ?_) (Hand.run_of_good m ρ (tables_good m (hx 0)))
  obtain ⟨hv, h0, h1, h2, h3, h4, hs⟩ := h
  refine ⟨fun c => ⟨(hv c).trans ?_, (h0 c).trans (VH_arg0 m c), (h1 c).trans (VH_arg1 m c), (h2 c).trans (VH_arg2 m c),
    (h3 c).trans (VH_arg3 m c), (h4 c).trans (VH_arg4 m c)⟩, hs⟩
  unfold weights Hand.wts
  rw [VH_main_v23, VH_main_v51, VH_arg1, VH_arg2, VH_arg3, VH_arg4]

end Cert.KernelIdeal.Host

namespace Cert.Proof

open Idealize.ShloMosaic Idealize.SL.Sem

/-- The kernel read over the reals ends, its arguments unchanged and its semaphores at zero. -/
theorem frame_kernelIdeal : Cert.quiescent_KernelIdeal := fun m ρ hp =>
  (θ_run Cert.KernelIdeal.defs _ _).mono (fun _ h => ⟨fun c => (h.1 c).2, h.2⟩)
    (Cert.KernelIdeal.Host.run_main (F := Ideal) m ρ fun c => Cert.KernelIdeal.Host.routed_of_pre _ _ _ _ _ (hp c))

/-- What the kernel's frame says, of the text of the program read over the reals, at the kernel's own floats. -/
def FrameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_routed.fn (F := Bits) (m (c.tc.loc Cert.KernelIdeal.main_arg0)) (m (c.tc.loc Cert.KernelIdeal.main_arg1)) (m (c.tc.loc Cert.KernelIdeal.main_arg2))
        (m (c.tc.loc Cert.KernelIdeal.main_arg3)) (m (c.tc.loc Cert.KernelIdeal.main_arg4))) = fun _ => 1#1) →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
      ∧ r.2.sem = fun _ => 0)

/-- The two programs have one text. -/
theorem same_text : Cert.quiescent_Kernel = FrameBits := by
  sl_kernel_rfl

/-- The kernel at its own floats ends, its arguments unchanged and its semaphores at zero. -/
theorem frame_kernel : Cert.quiescent_Kernel := by
  rw [same_text]
  exact fun m ρ hp =>
    (θ_run Cert.KernelIdeal.defs _ _).mono (fun _ h => ⟨fun c => (h.1 c).2, h.2⟩)
      (Cert.KernelIdeal.Host.run_main (F := Bits) m ρ fun c => Cert.KernelIdeal.Host.routed_of_pre _ _ _ _ _ (hp c))

/-- The reference ends, its arguments unchanged and its semaphores at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.RefSum.lean ====
module

public import proofs.«01_k».proof.Proof.Gen.ReferenceIdeal
public import proofs.«01_k».proof.Proof.Gen.ReferenceIdeal.Run

@[expose] public section

set_option maxRecDepth 16384

noncomputable section

namespace Cert.ReferenceIdeal.Sum

open Cert.ReferenceIdeal Cert.ReferenceIdeal.Gen Cert.ReferenceIdeal.Value
open Idealize.ShloMosaic Idealize.ShloMosaic.TcCoe
open Idealize.SL Idealize.SL.Sem Idealize.ShloMosaic.StableHlo

variable {F : FTy → Type} [FloatOps F]

/-! ## The reference's result as a sum over the experts -/

/-- A matrix of a stack of gate or up matrices is a slice of it. -/
theorem sliceA {e : ℕ} (he : e < 32) : S32x2048x512.Slices ![e, 0, 0] S1x2048x512 :=
  ⟨rfl, fun a => match a with
    | ⟨0, _⟩ => (by show e + 1 ≤ 32; omega)
    | ⟨1, _⟩ => (by show 0 + 2048 ≤ 2048; omega)
    | ⟨2, _⟩ => (by show 0 + 512 ≤ 512; omega)⟩

/-- A matrix of the stack of down matrices is a slice of it. -/
theorem sliceB {e : ℕ} (he : e < 32) : S32x512x2048.Slices ![e, 0, 0] S1x512x2048 :=
  ⟨rfl, fun a => match a with
    | ⟨0, _⟩ => (by show e + 1 ≤ 32; omega)
    | ⟨1, _⟩ => (by show 0 + 512 ≤ 512; omega)
    | ⟨2, _⟩ => (by show 0 + 2048 ≤ 2048; omega)⟩

/-- A column of the selection table is a slice of it. -/
theorem sliceC {e : ℕ} (he : e < 32) : S49152x32.Slices ![0, e] S49152x1 :=
  ⟨rfl, fun a => match a with
    | ⟨0, _⟩ => (by show 0 + 49152 ≤ 49152; omega)
    | ⟨1, _⟩ => (by show e + 1 ≤ 32; omega)⟩

/-- All rows times matrix `e` of a stack. -/
def rowsTimes (x : FVec F S49152x2048 .f32) (w : FVec F S32x2048x512 .f32) {e : ℕ} (he : e < 32) : FVec F S49152x512 .f32 :=
  Host.dotGeneral dot_S49152x2048_S2048x512_S49152x512_1_0_0_1_n_n none x
    (shapeCast _ (extractStridedSlice S1x2048x512 ![e, 0, 0] w (sliceA he)) shapeCasts_S1x2048x512_S2048x512)

/-- What expert `e` makes of all rows. -/
def expert (x : FVec F S49152x2048 .f32) (wg wu : FVec F S32x2048x512 .f32) (wd : FVec F S32x512x2048 .f32) {e : ℕ} (he : e < 32) :
    FVec F S49152x2048 .f32 :=
  Host.dotGeneral dot_S49152x512_S512x2048_S49152x2048_1_0_0_1_n_n none
    (mulf (mulf (rowsTimes x wg he)
        (Host.divf (broadcastInDim S49152x512 ![] bcast_S_S49152x512 (constant S_ .f32 0x3F800000#32))
          (addf (broadcastInDim S49152x512 ![] bcast_S_S49152x512 (constant S_ .f32 0x3F800000#32)) (Host.exp (Host.negf (rowsTimes x wg he))))))
      (rowsTimes x wu he))
    (shapeCast _ (extractStridedSlice S1x512x2048 ![e, 0, 0] wd (sliceB he)) shapeCasts_S1x512x2048_S512x2048)

/-- Column `e` of the selection table, along every row. -/
def chosen (s : FVec F S49152x32 .f32) {e : ℕ} (he : e < 32) : FVec F S49152x2048 .f32 :=
  broadcastInDim S49152x2048 ![0, 1] bcast_S49152x1_S49152x2048_0_1 (extractStridedSlice S49152x1 ![0, e] s (sliceC he))

/-- The sum over the experts below `n` of what each makes of the rows that the selection table gives it. -/
def upTo (s : FVec F S49152x32 .f32) (x : FVec F S49152x2048 .f32) (wg wu : FVec F S32x2048x512 .f32) (wd : FVec F S32x512x2048 .f32) :
    (n : ℕ) → n ≤ 32 → FVec F S49152x2048 .f32
  | 0, _ => broadcastInDim S49152x2048 ![] bcast_S_S49152x2048 (constant S_ .f32 0x00000000#32)
  | n + 1, h => addf (upTo s x wg wu wd n (Nat.le_of_succ_le h)) (mulf (chosen s h) (expert x wg wu wd h))

variable (V : Valuation τ sig (Elt F))

/-- The sum over the experts below `n`, at a memory's contents. -/
abbrev sumTo (n : ℕ) (h : n ≤ 32) : FVec F S49152x2048 .f32 :=
  upTo (res_main_v16 V) (V (Proc.devRef .tc main_arg1)) (V (Proc.devRef .tc main_arg2)) (V (Proc.devRef .tc main_arg3)) (V (Proc.devRef .tc main_arg4)) n h

theorem sum_v92 : res_main_v92 V = sumTo V 5 (by decide) := by
  unfold res_main_v92; rfl

theorem sum_v167 : res_main_v167 V = sumTo V 10 (by decide) := by
  unfold res_main_v167; rw [sum_v92]; rfl

theorem sum_v242 : res_main_v242 V = sumTo V 15 (by decide) := by
  unfold res_main_v242; rw [sum_v167]; rfl

theorem sum_v317 : res_main_v317 V = sumTo V 20 (by decide) := by
  unfold res_main_v317; rw [sum_v242]; rfl

theorem sum_v392 : res_main_v392 V = sumTo V 25 (by decide) := by
  unfold res_main_v392; rw [sum_v317]; rfl

theorem sum_v467 : res_main_v467 V = sumTo V 30 (by decide) := by
  unfold res_main_v467; rw [sum_v392]; rfl

/-- The reference's result is the sum over all experts. -/
theorem run_sum (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v497) = sumTo (launchContents m c) 32 (le_refl 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.ReferenceIdeal.Value.run m ρ)
  refine ⟨(h c).1.trans ?_, (h c).2⟩
  rw [sum_v467]
  rfl

end Cert.ReferenceIdeal.Sum

end
-- ==== Proof.RefTable.lean ====
module

public import proofs.«01_k».proof.Proof.RefSum
public import proofs.«01_k».proof.Proof.HostTables
public import Idealize.ShloMosaic.Lib.Routing.Words
public import Idealize.ShloMosaic.Lib.Routing.OpsSearch

@[expose] public section

set_option maxRecDepth 16384

noncomputable section

namespace Cert.ReferenceIdeal.Sum

open Cert.ReferenceIdeal Cert.ReferenceIdeal.Gen Cert.ReferenceIdeal.Value
open Idealize.ShloMosaic Idealize.ShloMosaic.TcCoe
open Idealize.SL Idealize.SL.Sem Idealize.ShloMosaic.StableHlo
open Idealize.ShloMosaic.Routing
open Cert.KernelIdeal.Host (endW endW_ap Routed cnt)
open Cert.KernelIdeal.Counts

variable {F : FTy → Type} [FloatOps F]

/-! ## The selection table -/

/-- At each row, the number of experts whose rows end at or before it. -/
def rowExpW (x : IVec S32 32) : IVec S49152 32 :=
  Host.reduce IntOp.addi
    (extui 32 (cmpi .sge (broadcastInDim S49152x32 ![0, 1] bcast_S49152x1_S49152x32_0_1 (broadcastInDim S49152x1 ![0] bcast_S49152_S49152x1_0 (iotaInDim S49152 32 0)))
      (broadcastInDim S49152x32 ![0, 1] bcast_S1x32_S49152x32_0_1 (broadcastInDim S1x32 ![1] bcast_S32_S1x32_1
        (muli (endW x) (broadcastInDim S32 ![] bcast_S_S32 (constantI S_ 32 512#32)))))) natLt_1_32)
    (constantI S_ 32 0#32) reducesTo_S49152x32_S49152_d1 h_S_

/-- One where the row's expert is the column, zero elsewhere. -/
def tableW (x : IVec S32 32) : FVec F S49152x32 .f32 :=
  uitofp .f32 (cmpi .eq (broadcastInDim S49152x32 ![0, 1] bcast_S49152x1_S49152x32_0_1 (broadcastInDim S49152x1 ![0] bcast_S49152_S49152x1_0 (rowExpW x)))
    (broadcastInDim S49152x32 ![0, 1] bcast_S1x32_S49152x32_0_1 (iotaInDim S1x32 32 1)))

/-- The reference's selection table is that of its counts. -/
theorem table_eq (V : Valuation τ sig (Elt F)) : res_main_v16 V = tableW (F := F) (V (Proc.devRef .tc main_arg0)) := rfl

variable {x : IVec S32 32} (hx : Routed x)
include hx

/-- A row's expert is its tile's. -/
theorem rowExpW_ap (r : Fin 49152) : rowExpW x (ValueIdx.ix1 r) = BitVec.ofNat 32 (tExp (cnt x) (r.val / 512)) := by
  have hr := r.isLt
  have hc := reduce_count (by decide) (cmpi .sge (broadcastInDim S49152x32 ![0, 1] bcast_S49152x1_S49152x32_0_1 (broadcastInDim S49152x1 ![0] bcast_S49152_S49152x1_0 (iotaInDim S49152 32 0)))
      (broadcastInDim S49152x32 ![0, 1] bcast_S1x32_S49152x32_0_1 (broadcastInDim S1x32 ![1] bcast_S32_S1x32_1
        (muli (endW x) (broadcastInDim S32 ![] bcast_S_S32 (constantI S_ 32 512#32))))))
    natLt_1_32 reducesTo_S49152x32_S49152_d1 h_S_ r (fun e => tEnd (cnt x) e ≤ r.val / 512) fun q => by
      have := Cert.KernelIdeal.Host.tEnd_le hx q.val q.isLt
      rw [WordCmp.cmpi_at, bcRows, bcCols, muli_ap, bc0, endW_ap hx q]
      have e1 : BitVec.ofNat 32 (tEnd (cnt x) q.val) * constantI S_ 32 512#32 ValueIdx.ix0 = BitVec.ofNat 32 (tEnd (cnt x) q.val * 512) := by
        show BitVec.ofNat 32 (tEnd (cnt x) q.val) * BitVec.ofNat 32 512 = _
        exact (BitVec.ofNat_mul ..).symm
      rw [e1]
      refine (WordCmp.cmpi_sge_ofNat_eq_one_iff (a := r.val) (by omega) (by omega)).trans ?_
      omega
  exact hc

/-- The table at a row and a column. -/
theorem tableW_ap (r : Fin 49152) (e : Fin 32) :
    tableW (F := Ideal) x (ValueIdx.ix2 r e) = if tExp (cnt x) (r.val / 512) = e.val then (1 : EReal) else 0 := by
  have h1 : tExp (cnt x) (r.val / 512) ≤ 32 := tExp_le (cnt x) _
  have he := e.isLt
  have h2 : tableW (F := Ideal) x (ValueIdx.ix2 r e) = FloatOps.uitofp .f32 (IntOp.cmpi .eq (rowExpW x (ValueIdx.ix1 r)) (BitVec.ofNat 32 e.val)) := by
    unfold tableW
    show FloatOps.uitofp .f32 (IntOp.cmpi .eq _ _) = _
    rw [bcRows]
    rfl
  rw [h2, rowExpW_ap hx r, WordCmp.cmpi_eq_ofNat (a := tExp (cnt x) (r.val / 512)) (b := e.val) (by omega) (by omega)]
  show (((BitVec.ofBool (decide (tExp (cnt x) (r.val / 512) = e.val))).toNat : ℝ) : EReal) = _
  by_cases h : tExp (cnt x) (r.val / 512) = e.val
  · rw [if_pos h, decide_eq_true h]; simp
  · rw [if_neg h, decide_eq_false h]; simp

end Cert.ReferenceIdeal.Sum

end
-- ==== Proof.Value.lean ====
module

public import proofs.«01_k».proof.Proof.RefTable
public import proofs.«01_k».proof.Proof.Run
public import Idealize.ShloMosaic.Lib.Pointwise
public import Idealize.ShloMosaic.Lib.Pipeline.ValueKit

@[expose] public section

set_option maxRecDepth 16384

noncomputable section

namespace Cert.Value

open Idealize.ShloMosaic Idealize.ShloMosaic.TcCoe
open Idealize.SL Idealize.SL.Sem Idealize.ShloMosaic.StableHlo
open Cert.KernelIdeal Cert.KernelIdeal.Gen
open Cert.ReferenceIdeal.Sum
open Cert.KernelIdeal.Host (Routed cnt)
open Cert.KernelIdeal.Counts

/-- The gated product of a row with the three matrices of an expert, at a column. -/
def gated (x : Fin 2048 → EReal) (g u : Fin 2048 → Fin 512 → EReal) (w : Fin 512 → Fin 2048 → EReal) (d : Fin 2048) : EReal :=
  ∑ k, ((∑ i, x i * g i k) * Ideal.div 1 (1 + Ideal.exp (-∑ i, x i * g i k)) * ∑ i, x i * u i k) * w k d

/-- The gated product depends on its entries alone. -/
theorem gated_congr {x x' : Fin 2048 → EReal} {g g' u u' : Fin 2048 → Fin 512 → EReal} {w w' : Fin 512 → Fin 2048 → EReal}
    (hx : x = x') (hg : g = g') (hu : u = u') (hw : w = w') (d : Fin 2048) : gated x g u w d = gated x' g' u' w' d := by
  rw [hx, hg, hu, hw]

/-- What an expert makes of a row, at a column. -/
theorem expert_ap (x : FVec Ideal S49152x2048 .f32) (wg wu : FVec Ideal S32x2048x512 .f32) (wd : FVec Ideal S32x512x2048 .f32)
    {e : ℕ} (he : e < 32) (r : Fin 49152) (d : Fin 2048) :
    expert x wg wu wd he (ix2 r d) = gated (fun i => x (ix2 r i)) (fun i k => wg (ix3 ⟨e, he⟩ i k)) (fun i k => wu (ix3 ⟨e, he⟩ i k))
      (fun k d => wd (ix3 ⟨e, he⟩ k d)) d := by
  pointwise [expert, rowsTimes, gated]

/-- What the kernel's body makes of a row of its tile, at a column. -/
theorem body_ap (x : FVec Ideal S512x2048 .f32) (wg wu : FVec Ideal S2048x512 .f32) (wd : FVec Ideal S512x2048 .f32)
    (p : Fin 512) (d : Fin 2048) :
    k0_pay1 (F := Ideal) x (k0_pay3 (F := Ideal) wg) (k0_pay4 (F := Ideal) wu) (k0_pay5 (F := Ideal) wd) (ix2 p d)
      = gated (fun i => x (ix2 p i)) (fun i k => wg (ix2 i k)) (fun i k => wu (ix2 i k)) (fun k d => wd (ix2 k d)) d := by
  pointwise [k0_pay1, k0_pay3, k0_pay4, k0_pay5, gated]
  rfl

/-- The zeros of a tile that no expert has. -/
theorem zeros_ap (p : Fin 512) (d : Fin 2048) : k0_pay2 (F := Ideal) (ix2 p d) = (0 : EReal) := by
  pointwise [k0_pay2]

/-- A column of the selection table, along a row. -/
theorem chosen_ap (s : FVec Ideal Cert.ReferenceIdeal.S49152x32 .f32) {e : ℕ} (he : e < 32) (r : Fin 49152) (d : Fin 2048) :
    chosen s he (ix2 r d) = s (ix2 r ⟨e, he⟩) := by
  pointwise [chosen]

/-- The sum over the first experts, at a row: what the row's expert makes of it, once that expert is among them. -/
theorem upTo_ap {n : IVec S32 32} (hn : Routed n) (x : FVec Ideal S49152x2048 .f32) (wg wu : FVec Ideal S32x2048x512 .f32)
    (wd : FVec Ideal S32x512x2048 .f32) (r : Fin 49152) (d : Fin 2048) (k : ℕ) (hk : k ≤ 32) :
    upTo (tableW (F := Ideal) n) x wg wu wd k hk (ix2 r d)
      = if h : tExp (cnt n) (r.val / 512) < k then expert x wg wu wd (Nat.lt_of_lt_of_le h hk) (ix2 r d) else (0 : EReal) := by
  induction k with
  | zero =>
    rw [dif_neg (Nat.not_lt_zero _)]
    pointwise [upTo]
  | succ k ih =>
    have e1 : upTo (tableW (F := Ideal) n) x wg wu wd (k + 1) hk (ix2 r d)
        = (upTo (tableW (F := Ideal) n) x wg wu wd k (Nat.le_of_succ_le hk) (ix2 r d) : EReal)
          + chosen (tableW (F := Ideal) n) hk (ix2 r d) * expert x wg wu wd hk (ix2 r d) := rfl
    rw [e1, ih, chosen_ap]
    have e2 : tableW (F := Ideal) n (ix2 r ⟨k, hk⟩) = if tExp (cnt n) (r.val / 512) = k then (1 : EReal) else 0 := tableW_ap hn r ⟨k, hk⟩
    rw [e2]
    rcases Nat.lt_trichotomy (tExp (cnt n) (r.val / 512)) k with h | h | h
    · rw [dif_pos h, if_neg (by omega), dif_pos (by omega), zero_mul, add_zero]
    · subst h
      rw [dif_neg (by omega), if_pos rfl, dif_pos (by omega), one_mul, zero_add]
    · rw [dif_neg (by omega), if_neg (by omega), dif_neg (by omega), zero_mul, add_zero]

open Cert.KernelIdeal.Hand (Weights)

variable {c : Dev nD} (w : Weights Ideal c)

/-- Dropping a leading axis of one member. -/
theorem oneA (y : S1x2048x512.Idx → EReal) (h : S1x2048x512.ShapeCasts S2048x512) (i : Fin 2048) (k : Fin 512) :
    shapeCast S2048x512 y h (ix2 i k) = y (ix3 (0 : Fin 1) i k) := by
  pointwise

/-- Dropping a leading axis of one member. -/
theorem oneB (y : S1x512x2048.Idx → EReal) (h : S1x512x2048.ShapeCasts S512x2048) (i : Fin 512) (k : Fin 2048) :
    shapeCast S512x2048 y h (ix2 i k) = y (ix3 (0 : Fin 1) i k) := by
  pointwise

/-- An expert's gate matrix, entry by entry. -/
theorem ge_ap (e : BitVec 32) (he : e.toNat < 32) (i : Fin 2048) (k : Fin 512) : w.ge e he (ix2 i k) = w.g (ix3 ⟨e.toNat, he⟩ i k) := by
  have h := congrFun (Memref.read_squeeze_slice (Val := Elt Ideal) Cert.KernelIdeal.Hand.gH (Rect.unit (s := S32x2048x512) (k0_off1 e) S1x2048x512.size (Cert.KernelIdeal.Hand.off1_inb he)) (fun _ => rfl)
    squeezes_S1x2048x512_S2048x512 Cert.ReferenceIdeal.Gen.shapeCasts_S1x2048x512_S2048x512 w.g) (ix2 i k)
  refine h.trans ((oneA _ _ i k).trans ?_)
  refine congrArg w.g (funext fun a => Fin.ext ?_)
  match a with
  | 0 => show e.toNat + 1 * 0 = e.toNat; omega
  | 1 => show 0 + 1 * i.val = i.val; omega
  | 2 => show 0 + 1 * k.val = k.val; omega

/-- An expert's up matrix, entry by entry. -/
theorem ue_ap (e : BitVec 32) (he : e.toNat < 32) (i : Fin 2048) (k : Fin 512) : w.ue e he (ix2 i k) = w.u (ix3 ⟨e.toNat, he⟩ i k) := by
  have h := congrFun (Memref.read_squeeze_slice (Val := Elt Ideal) Cert.KernelIdeal.Hand.uH (Rect.unit (s := S32x2048x512) (k0_off1 e) S1x2048x512.size (Cert.KernelIdeal.Hand.off1_inb he)) (fun _ => rfl)
    squeezes_S1x2048x512_S2048x512 Cert.ReferenceIdeal.Gen.shapeCasts_S1x2048x512_S2048x512 w.u) (ix2 i k)
  refine h.trans ((oneA _ _ i k).trans ?_)
  refine congrArg w.u (funext fun a => Fin.ext ?_)
  match a with
  | 0 => show e.toNat + 1 * 0 = e.toNat; omega
  | 1 => show 0 + 1 * i.val = i.val; omega
  | 2 => show 0 + 1 * k.val = k.val; omega

/-- An expert's down matrix, entry by entry. -/
theorem de_ap (e : BitVec 32) (he : e.toNat < 32) (i : Fin 512) (k : Fin 2048) : w.de e he (ix2 i k) = w.d (ix3 ⟨e.toNat, he⟩ i k) := by
  have h := congrFun (Memref.read_squeeze_slice (Val := Elt Ideal) Cert.KernelIdeal.Hand.dH (Rect.unit (s := S32x512x2048) (k0_off2 e) S1x512x2048.size (Cert.KernelIdeal.Hand.off2_inb he)) (fun _ => rfl)
    squeezes_S1x512x2048_S512x2048 Cert.ReferenceIdeal.Gen.shapeCasts_S1x512x2048_S512x2048 w.d) (ix2 i k)
  refine h.trans ((oneB _ _ i k).trans ?_)
  refine congrArg w.d (funext fun a => Fin.ext ?_)
  match a with
  | 0 => show e.toNat + 1 * 0 = e.toNat; omega
  | 1 => show 0 + 1 * i.val = i.val; omega
  | 2 => show 0 + 1 * k.val = k.val; omega

open Cert.KernelIdeal.Hand (outA tileV tileOf ixA ixT word) in
/-- What the kernel leaves is the sum over the experts of what each makes of the rows that the selection table gives it. -/
theorem equation {n : IVec S32 32} (hn : Routed n) (x : FVec Ideal S49152x2048 .f32) (wg wu : FVec Ideal S32x2048x512 .f32)
    (wd : FVec Ideal S32x512x2048 .f32) :
    outA (c := c) (F := Ideal) ⟨wg, wu, wd⟩ (Cert.KernelIdeal.Host.teW n) (Cert.KernelIdeal.Host.ntT n Cert.KernelIdeal.Hand.ix1) x
      = upTo (tableW (F := Ideal) n) x wg wu wd 32 (le_refl 32) := by
  funext j
  obtain ⟨r, d, rfl⟩ : ∃ (r : Fin 49152) (d : Fin 2048), j = ix2 r d := ⟨j 0, j 1, eq_ix2 j⟩
  have hr := r.isLt
  have hd := d.isLt
  refine Eq.trans ?_ (upTo_ap hn x wg wu wd r d 32 (le_refl 32)).symm
  have hp : r.val % 512 < 512 := Nat.mod_lt _ (by decide)
  have hi : (ixT (r.val % 512) d.val : S512x2048.Idx) = ix2 (⟨r.val % 512, hp⟩ : Fin 512) d := by
    refine (eq_ix2 _).trans ?_
    congr 1
    · exact Fin.ext (Nat.mod_eq_of_lt hp)
    · exact Fin.ext (Nat.mod_eq_of_lt hd)
  have ht : ∀ i : Fin 2048, tileOf (F := Ideal) x (r.val / 512) (ix2 (⟨r.val % 512, hp⟩ : Fin 512) i) = x (ix2 r i) := fun i => by
    refine congrArg x ((eq_ix2 _).trans ?_)
    congr 1
    · refine Fin.ext ?_
      show (r.val / 512 * 512 + r.val % 512) % 49152 = r.val
      omega
    · exact Fin.ext (Nat.mod_eq_of_lt i.isLt)
  show tileV (F := Ideal) _ _ _ (r.val / 512) (tileOf (F := Ideal) x (r.val / 512)) (ixT (r.val % 512) d.val) = _
  rw [hi]
  have hnt := Cert.KernelIdeal.Host.nt_toNat hn Cert.KernelIdeal.Hand.ix1
  by_cases hu : r.val / 512 < tEnd (cnt n) 31
  · have hw := Cert.KernelIdeal.Host.te_word hn (r.val / 512) hu
    have hl := tExp_lt (cnt n) hu
    have hv : (word (Cert.KernelIdeal.Host.teW n) (r.val / 512)).toNat = tExp (cnt n) (r.val / 512) := by
      rw [hw, BitVec.toNat_ofNat]; exact Nat.mod_eq_of_lt (by omega)
    have he : (word (Cert.KernelIdeal.Host.teW n) (r.val / 512)).toNat < 32 := by omega
    unfold tileV
    rw [if_pos (by omega), dif_pos he, dif_pos hl]
    refine (body_ap _ _ _ _ _ _).trans (Eq.trans ?_ (expert_ap x wg wu wd hl r d).symm)
    have hfin : (⟨(word (Cert.KernelIdeal.Host.teW n) (r.val / 512)).toNat, he⟩ : Fin 32) = ⟨tExp (cnt n) (r.val / 512), hl⟩ := Fin.ext hv
    refine gated_congr (funext ht) ?_ ?_ ?_ d
    · exact funext fun i => funext fun k => (ge_ap ⟨wg, wu, wd⟩ _ he i k).trans (congrArg (fun e => wg (ix3 e i k)) hfin)
    · exact funext fun i => funext fun k => (ue_ap ⟨wg, wu, wd⟩ _ he i k).trans (congrArg (fun e => wu (ix3 e i k)) hfin)
    · exact funext fun i => funext fun k => (de_ap ⟨wg, wu, wd⟩ _ he i k).trans (congrArg (fun e => wd (ix3 e i k)) hfin)
  · have hx := tExp_eq (cnt n) (by omega : tEnd (cnt n) 31 ≤ r.val / 512)
    unfold tileV
    rw [if_neg (by omega), dif_neg (by omega)]
    exact zeros_ap _ d

end Cert.Value

end
-- ==== Proof.Algebraic.lean ====
module

public import proofs.«01_k».proof.Proof.Frames
public import proofs.«01_k».proof.Proof.Value

@[expose] public section

set_option maxRecDepth 16384

noncomputable section

namespace Cert.Proof

open Idealize.ShloMosaic Idealize.ShloMosaic.TcCoe Idealize.SL.Sem

/-- The reference's sum over the experts, at a memory that holds given arguments. -/
theorem sum_of_args (V : Valuation Cert.ReferenceIdeal.τ Cert.ReferenceIdeal.sig (Elt Ideal)) (n : IVec Cert.ReferenceIdeal.S32 32)
    (x : FVec Ideal Cert.ReferenceIdeal.S49152x2048 .f32) (wg wu : FVec Ideal Cert.ReferenceIdeal.S32x2048x512 .f32)
    (wd : FVec Ideal Cert.ReferenceIdeal.S32x512x2048 .f32)
    (h0 : V (Proc.devRef .tc Cert.ReferenceIdeal.main_arg0) = n) (h1 : V (Proc.devRef .tc Cert.ReferenceIdeal.main_arg1) = x)
    (h2 : V (Proc.devRef .tc Cert.ReferenceIdeal.main_arg2) = wg) (h3 : V (Proc.devRef .tc Cert.ReferenceIdeal.main_arg3) = wu)
    (h4 : V (Proc.devRef .tc Cert.ReferenceIdeal.main_arg4) = wd) :
    Cert.ReferenceIdeal.Sum.sumTo V 32 (le_refl 32)
      = Cert.ReferenceIdeal.Sum.upTo (Cert.ReferenceIdeal.Sum.tableW (F := Ideal) n) x wg wu wd 32 (le_refl 32) := by
  unfold Cert.ReferenceIdeal.Sum.sumTo
  rw [Cert.ReferenceIdeal.Sum.table_eq, h0, h1, h2, h3, h4]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the arguments, the reference's sum is what the kernel leaves. -/
theorem result_eq (c : Dev Cert.KernelIdeal.nD) (hr : Cert.KernelIdeal.Host.Routed (Cert.KernelIdeal.Host.counts m c))
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Sum.sumTo (F := Ideal) (StableHlo.launchContents m' c) 32 (le_refl 32)
      = Cert.KernelIdeal.Hand.outA (F := Ideal) (Cert.KernelIdeal.Host.weights m c) (Cert.KernelIdeal.Host.teW (Cert.KernelIdeal.Host.counts m c))
        (Cert.KernelIdeal.Host.ntT (Cert.KernelIdeal.Host.counts m c) Cert.KernelIdeal.Hand.ix1) (m (c.tc.loc Cert.KernelIdeal.main_arg1)) := by
  have e := Cert.Value.equation (c := c) hr (m (c.tc.loc Cert.KernelIdeal.main_arg1)) (m (c.tc.loc Cert.KernelIdeal.main_arg2))
    (m (c.tc.loc Cert.KernelIdeal.main_arg3)) (m (c.tc.loc Cert.KernelIdeal.main_arg4))
  have e' := sum_of_args (StableHlo.launchContents m' c) (Cert.KernelIdeal.Host.counts m c) (m (c.tc.loc Cert.KernelIdeal.main_arg1)) (m (c.tc.loc Cert.KernelIdeal.main_arg2))
    (m (c.tc.loc Cert.KernelIdeal.main_arg3)) (m (c.tc.loc Cert.KernelIdeal.main_arg4)) hm.1 hm.2.1 hm.2.2.1 hm.2.2.2.1 hm.2.2.2.2
  exact e'.trans e.symm

/-- Over the reals the kernel and the reference end with one result, their arguments unchanged. -/
theorem algebraic : Cert.algebraic_KernelIdeal_ReferenceIdeal := by
  unfold Cert.algebraic_KernelIdeal_ReferenceIdeal
  intro m g m' g' hp hm
  have hr : ∀ c, Cert.KernelIdeal.Host.Routed (Cert.KernelIdeal.Host.counts m c) :=
    fun c => Cert.KernelIdeal.Host.routed_of_pre _ _ _ _ _ (hp c)
  have hk := Cert.KernelIdeal.Host.run_main (F := Ideal) m g hr
  have hs := Cert.ReferenceIdeal.Sum.run_sum (F := Ideal) m' g'
  exact ⟨fun c => Cert.KernelIdeal.Hand.outA (F := Ideal) (Cert.KernelIdeal.Host.weights m c) (Cert.KernelIdeal.Host.teW (Cert.KernelIdeal.Host.counts m c))
      (Cert.KernelIdeal.Host.ntT (Cert.KernelIdeal.Host.counts m c) Cert.KernelIdeal.Hand.ix1) (m (c.tc.loc Cert.KernelIdeal.main_arg1)),
    (θ_run Cert.KernelIdeal.defs _ _).mono (fun _ h => h.1) hk, (θ_run Cert.ReferenceIdeal.defs _ _).mono (fun r h c => ⟨(h c).1.trans (result_eq m m' c (hr c) (hm c)), (h c).2⟩) hs⟩

end Cert.Proof

end
-- ==== Proof.Proj.lean ====
module

public import proofs.«01_k».proof.Proof.Gen.Kernel2Ideal.Frame
public import proofs.«01_k».proof.Proof.Gen.Reference2Ideal.Run
public import Idealize.ShloMosaic.Lib.Pointwise
public import Idealize.ShloMosaic.Lib.Pipeline.ValueKit
public import Idealize.ShloMosaic.Lib.Claim

@[expose] public section

set_option maxRecDepth 16384

noncomputable section

namespace Cert.Reference2Ideal.Proj

open Idealize.ShloMosaic Idealize.ShloMosaic.TcCoe Idealize.SL.Sem
open Cert.Reference2Ideal Cert.Reference2Ideal.Gen

/-- The projection the reference computes: the normalised and modulated rows times the matrix. -/
abbrev REF (a0 : FVec Ideal S4x4096x2048 .f32) (a1 : FVec Ideal S4x12288 .f32) (a2 : FVec Ideal S2048 .f32)
    (a3 : FVec Ideal S2048x4608 .f32) : FVec Ideal S4x4096x4608 .bf16 :=
  truncf .bf16 (Host.dotGeneral dot_S4x4096x2048_S2048x4608_S4x4096x4608_2_0_01_1_n_n none (addf (mulf (mulf (mulf a0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf a0 a0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a2))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] a1 slices_S4x12288_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] a1 slices_S4x12288_S4x2048_0_0)))) a3) bitsLt_bf16_f32

end Cert.Reference2Ideal.Proj

namespace Cert.Kernel2Ideal.Proj

open Idealize.ShloMosaic Idealize.ShloMosaic.TcCoe Idealize.SL.Sem
open Cert.Kernel2Ideal Cert.Kernel2Ideal.Gen
open Cert.Reference2Ideal.Proj (REF)

variable (m : (ℓ : Loc nD τ sig) → Buf (Elt Ideal) ℓ)

/-- The block each window holds at each grid point. -/
theorem idx : ∀ t : Fin cfg0.N, win0_0.index t = ![t.val / 8, t.val % 8, 0]
    ∧ win0_1.index t = ![t.val / 8, 0, 0]
    ∧ win0_2.index t = ![0, 0]
    ∧ win0_3.index t = ![0, 0]
    ∧ win0_4.index t = ![t.val / 8, t.val % 8, 0] :=
  (by decide +kernel : ∀ t : Fin grid0.N, _)

/-- One column chunk of the product at a grid point is the reference's product at the same rows and columns. -/
theorem core (c : Dev nD) (t : Fin cfg0.N) (W : FVec Ideal S2048x512 .bf16) (x : S1x512x512.Idx) (j : S4x4096x4608.Idx)
    (hj0 : (j 0 : ℕ) = t.val / 8) (hj1 : (j 1 : ℕ) = t.val % 8 * 512 + x 1)
    (hW : ∀ k : Fin 2048, W (ix2 k (x 2)) = (m ((c : Thread nD τ).loc main_arg3) : FVec Ideal S2048x4608 .f32) (ix2 k (j 2))) :
    k0_pay7 (F := Ideal) (k0_pay12 (F := Ideal) (iblk m c 0 t) (iblk m c 1 t) (iblk m c 2 t) (iblk m c 3 t)) W x
      = REF (m ((c : Thread nD τ).loc main_arg0)) (m ((c : Thread nD τ).loc main_arg1)) (m ((c : Thread nD τ).loc main_arg2))
          (m ((c : Thread nD τ).loc main_arg3)) j := by
  pointwise [k0_pay7, k0_pay12, k0_pay5, REF]
  simp only [hW]
  blk_point [iblk, V, idx t]

/-- What the body leaves at an index of its block is the reference's entry there. -/
theorem point (c : Dev nD) (t : Fin cfg0.N) (y) :
    out0_4 (F := Ideal) (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  canon_tiles x h
  all_goals
    refine core m c t _ x _ ?_ ?_ (fun k => ?_)
    · blk_simp [idx t] <;> omega
    · blk_simp [idx t] <;> omega
    · blk_point [iblk, V, idx t]

/-- The array the kernel leaves is the reference's projection. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  exact point m c t y

end Cert.Kernel2Ideal.Proj

end
-- ==== Proof.Mix.lean ====
module

public import proofs.«01_k».proof.Proof.Gen.Kernel3Ideal.Frame
public import proofs.«01_k».proof.Proof.Gen.Reference3Ideal.Run
public import Idealize.ShloMosaic.Lib.Pointwise
public import Idealize.ShloMosaic.Lib.Pipeline.ValueKit
public import Idealize.ShloMosaic.Lib.Claim

@[expose] public section

set_option maxRecDepth 16384

noncomputable section

namespace Cert.Reference3Ideal.Mix

open Idealize.ShloMosaic Idealize.ShloMosaic.TcCoe Idealize.SL.Sem
open Cert.Reference3Ideal Cert.Reference3Ideal.Gen

/-- The residual stream after the attention, as the reference computes it. -/
def REF1 (a0 a1 : FVec Ideal S4x4096x1024 .bf16) (a2 : FVec Ideal S4x4096x2048 .f32) (a3 : FVec Ideal S4x12288 .f32)
    (a4 a5 : FVec Ideal S1024 .f32) (a7 : FVec Ideal S2048x2048 .f32) : FVec Ideal S4x4096x2048 .f32 :=
  addf a2 (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] a3 slices_S4x12288_S4x2048_0_4096))) (Host.dotGeneral dot_S4x4096x2048_S2048x2048_S4x4096x2048_2_0_01_1_n_n none (concatenate S4x4096x2048 2 [⟨S4x4096x1024, (mulf (mulf (extf .f32 a0 bitsLt_bf16_f32) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (extf .f32 a0 bitsLt_bf16_f32) (extf .f32 a0 bitsLt_bf16_f32)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a4)))⟩, ⟨S4x4096x1024, (mulf (mulf (extf .f32 a1 bitsLt_bf16_f32) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (extf .f32 a1 bitsLt_bf16_f32) (extf .f32 a1 bitsLt_bf16_f32)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a5)))⟩] concatenates_S4x4096x1024_S4x4096x1024_S4x4096x2048_d2) a7))

/-- The rows that enter the experts, as the reference computes them. -/
def REF2 (a0 a1 : FVec Ideal S4x4096x1024 .bf16) (a2 : FVec Ideal S4x4096x2048 .f32) (a3 : FVec Ideal S4x12288 .f32)
    (a4 a5 : FVec Ideal S1024 .f32) (a6 : FVec Ideal S2048 .f32) (a7 : FVec Ideal S2048x2048 .f32) : FVec Ideal S4x4096x2048 .f32 :=
  addf (mulf (mulf (mulf (REF1 a0 a1 a2 a3 a4 a5 a7) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (REF1 a0 a1 a2 a3 a4 a5 a7) (REF1 a0 a1 a2 a3 a4 a5 a7)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a6))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 8192] a3 slices_S4x12288_S4x2048_0_8192))))) (broadcastInDim S4x4096x2048 ![0, 1, 2] bcast_S4x1x2048_S4x4096x2048_0_1_2 (broadcastInDim S4x1x2048 ![0, 2] bcast_S4x2048_S4x1x2048_0_2 (extractStridedSlice S4x2048 ![0, 6144] a3 slices_S4x12288_S4x2048_0_6144)))

/-- An entry of the rows that enter the experts, from the residual stream. -/
theorem ref2_at (a0 a1 : FVec Ideal S4x4096x1024 .bf16) (a2 : FVec Ideal S4x4096x2048 .f32) (a3 : FVec Ideal S4x12288 .f32)
    (a4 a5 : FVec Ideal S1024 .f32) (a6 : FVec Ideal S2048 .f32) (a7 : FVec Ideal S2048x2048 .f32)
    (a : Fin 4) (b : Fin 4096) (q : Fin 2048) :
    REF2 a0 a1 a2 a3 a4 a5 a6 a7 (ix3 a b q)
      = REF1 a0 a1 a2 a3 a4 a5 a7 (ix3 a b q) * Ideal.rsqrt (Ideal.div (∑ x : Fin 2048, REF1 a0 a1 a2 a3 a4 a5 a7 (ix3 a b x) * REF1 a0 a1 a2 a3 a4 a5 a7 (ix3 a b x)) (Ideal.ofBits .f32 0x45000000#32)
            + Ideal.ofBits .f32 0x358637BD#32) * a6 (ix1 q) * (1 + a3 (ix2 a ⟨8192 + q, by omega⟩)) + a3 (ix2 a ⟨6144 + q, by omega⟩) := by
  pointwise [REF2]

/-- What the reference leaves, in these names. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v60) = REF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1, (h c).2.1, (h c).2.2⟩) (Cert.Reference3Ideal.Value.run (F := Ideal) m ρ)

end Cert.Reference3Ideal.Mix

namespace Cert.Kernel3Ideal.Mix

open Idealize.ShloMosaic Idealize.ShloMosaic.TcCoe Idealize.SL.Sem
open Cert.Kernel3Ideal Cert.Kernel3Ideal.Gen
open Cert.Reference3Ideal.Mix (REF1 REF2 ref2_at)

variable (m : (ℓ : Loc nD τ sig) → Buf (Elt Ideal) ℓ)

/-- The block each window holds at each grid point. -/
theorem idx : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, 0, 0]
    ∧ win0_4.index t = ![0, 0]
    ∧ win0_5.index t = ![0, 0]
    ∧ win0_6.index t = ![0, 0]
    ∧ win0_7.index t = ![0, 0]
    ∧ win0_10.index t = ![t.val / 8, t.val % 8, 0]
    ∧ win0_11.index t = ![t.val / 8, t.val % 8, 0] :=
  (by decide +kernel : ∀ t : Fin grid0.N, _)

set_option maxHeartbeats 1600000 in
/-- The residual stream at a row and column of the body's block is the reference's entry where they sit. -/
theorem core (c : Dev nD) (t : Fin cfg0.N) (r : Fin 512) (q : Fin 2048) (j : S4x4096x2048.Idx)
    (hj0 : (j 0 : ℕ) = t.val / 8) (hj1 : (j 1 : ℕ) = t.val % 8 * 512 + r) (hj2 : (j 2 : ℕ) = q) :
    k0_pay5 (F := Ideal) (k0_pay29 (F := Ideal) (iblk m c 0 t) (iblk m c 1 t) (iblk m c 2 t) (iblk m c 3 t) (iblk m c 4 t) (iblk m c 5 t) (iblk m c 6 t) (iblk m c 7 t) (iblk m c 8 t) (iblk m c 9 t))
        (k0_pay30 (F := Ideal) (iblk m c 0 t) (iblk m c 1 t) (iblk m c 2 t) (iblk m c 3 t) (iblk m c 4 t) (iblk m c 5 t) (iblk m c 6 t) (iblk m c 7 t) (iblk m c 8 t) (iblk m c 9 t))
        (k0_pay28 (F := Ideal) (iblk m c 0 t) (iblk m c 1 t) (iblk m c 2 t) (iblk m c 3 t) (iblk m c 4 t) (iblk m c 5 t) (iblk m c 6 t) (iblk m c 7 t) (iblk m c 8 t) (iblk m c 9 t))
        (View.ld (iblk m c 2 t) r0_3) (View.ld (iblk m c 3 t) r0_4) (ix2 r q)
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) j := by
  pointwise [k0_pay5, k0_pay29, k0_pay30, k0_pay28, k0_pay3, k0_pay4, REF1]
  blk_point [iblk, V, idx t]

/-- The load of a whole block is the block. -/
theorem ld2 (c : Dev nD) (t : Fin cfg0.N) : View.ld (iblk m c 2 t) r0_3 = iblk m c 2 t := by
  funext i
  blk_point [iblk, V, idx t]

/-- An entry of the rows for the experts that the body computes, from its residual stream. -/
theorem pay7_at (v36 : FVec Ideal S512x2048 .bf16) (v38 : FVec Ideal S2048x2048 .bf16) (cst : FVec Ideal S512x2048 .f32)
    (v40 : FVec Ideal S1x512x2048 .f32) (v42 : FVec Ideal S1x1x2048 .f32) (v50 : FVec Ideal S1x2048 .f32) (v64 v70 : FVec Ideal S1x1x2048 .f32)
    (r : Fin 512) (q : Fin 2048) (R : Fin 2048 → EReal) (hR : ∀ x : Fin 2048, k0_pay5 (F := Ideal) v36 v38 cst v40 v42 (ix2 r x) = R x) :
    k0_pay7 (F := Ideal) v36 v38 cst v40 v42 v50 v64 v70 (ix2 r q)
      = R q * Ideal.rsqrt (Ideal.div (∑ x : Fin 2048, R x * R x) (Ideal.ofBits .f32 0x45000000#32)
            + Ideal.ofBits .f32 0x358637BD#32) * v50 (ix2 0 q) * (1 + v64 (ix3 0 0 q)) + v70 (ix3 0 0 q) := by
  pointwise [k0_pay7]
  simp only [hR]

/-- A row for the experts at a row and column of the body's block is the reference's entry where they sit. -/
theorem core2 (c : Dev nD) (t : Fin cfg0.N) (r : Fin 512) (q : Fin 2048) (a : Fin 4) (b : Fin 4096)
    (ha : (a : ℕ) = t.val / 8) (hb : (b : ℕ) = t.val % 8 * 512 + r) :
    k0_pay31 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
      = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 a b q) := by
  unfold k0_pay31
  rw [ref2_at]
  refine (pay7_at _ _ _ _ _ _ _ _ r q (fun x => REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (ix3 a b x))
    fun x => core m c t r x (ix3 a b x) ha hb rfl).trans ?_
  pointwise
  blk_point [iblk, V, idx t]

/-- What the body leaves of the residual stream at an index of its block. -/
theorem point1 (c : Dev nD) (t : Fin cfg0.N) (y : S1x512x2048.Idx) (j : S4x4096x2048.Idx)
    (hj0 : (j 0 : ℕ) = t.val / 8) (hj1 : (j 1 : ℕ) = t.val % 8 * 512 + y 1) (hj2 : (j 2 : ℕ) = y 2) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) j := by
  frame_out
  pointwise [k0_pay6]
  rw [← ld2 m c t]
  exact core m c t (y 1) (y 2) j hj0 hj1 hj2

/-- What the body leaves of the rows for the experts at an index of its block. -/
theorem point2 (c : Dev nD) (t : Fin cfg0.N) (y : S1x512x2048.Idx) (j : S4x4096x2048.Idx)
    (hj0 : (j 0 : ℕ) = t.val / 8) (hj1 : (j 1 : ℕ) = t.val % 8 * 512 + y 1) (hj2 : (j 2 : ℕ) = y 2) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) y
      = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  frame_out
  pointwise [k0_pay8]
  refine (core2 m c t (y 1) (y 2) (j 0) (j 1) hj0 hj1).trans (congrArg _ ?_)
  blk_ext

/-- The residual stream the kernel leaves is the reference's. -/
theorem final1 (c : Dev nD) : (dats m 0 c).arrAt 10 (cfgs 0).N
    = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_covers 10 _ (by decide +kernel) fun t hf y => ?_
  blk_simp
  rw [after0_10]
  refine point1 m c t y _ ?_ ?_ ?_
  all_goals (blk_simp [idx t] <;> try omega)

/-- The rows for the experts the kernel leaves are the reference's. -/
theorem final2 (c : Dev nD) : (dats m 0 c).arrAt 11 (cfgs 0).N
    = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  refine point2 m c t y _ ?_ ?_ ?_
  all_goals (blk_simp [idx t] <;> try omega)

end Cert.Kernel3Ideal.Mix

end
-- ==== Proof.Ada.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Claim

@[expose] public section

set_option maxRecDepth 16384

noncomputable section

namespace Cert.Reference4Ideal.Ada

open Idealize.ShloMosaic Idealize.ShloMosaic.TcCoe Idealize.SL.Sem
open Cert.Reference4Ideal Cert.Reference4Ideal.Gen

/-- The modulation as the reference computes it. -/
def REF (a0 : FVec Ideal S4x2048 .f32) (a1 : FVec Ideal S2048x12288 .f32) (a2 : FVec Ideal S12288 .f32) : FVec Ideal S4x12288 .f32 :=
  addf (Host.dotGeneral dot_S4x2048_S2048x12288_S4x12288_1_0_0_1_n_n none (mulf a0 (Host.divf (broadcastInDim S4x2048 ![] bcast_S_S4x2048 (constant S_ .f32 0x3F800000#32)) (addf (broadcastInDim S4x2048 ![] bcast_S_S4x2048 (constant S_ .f32 0x3F800000#32)) (Host.exp (Host.negf a0))))) a1) (broadcastInDim S4x12288 ![0, 1] bcast_S1x12288_S4x12288_0_1 (broadcastInDim S1x12288 ![1] bcast_S12288_S1x12288_1 a2))

end Cert.Reference4Ideal.Ada

namespace Cert.Kernel4Ideal.Ada

open Idealize.ShloMosaic Idealize.ShloMosaic.TcCoe Idealize.SL.Sem
open Cert.Kernel4Ideal Cert.Kernel4Ideal.Gen

/-- One product of an activation entry and a weight entry, at a position of the contracted axis. -/
def term (A : FVec Ideal S4x2048x128 .f32) (W : FVec Ideal S2048x1024 .f32) (b : Fin 4) (l : Fin 128) (q : Fin 1024) (κ : ℕ) : EReal :=
  A (ix3 b ⟨κ % 2048, Nat.mod_lt _ (by decide)⟩ l) * W (ix2 ⟨κ % 2048, Nat.mod_lt _ (by decide)⟩ q)

/-- What an accumulator holds after a number of trips: its row and lane's products so far, one row of eight a trip. -/
def G (A : FVec Ideal S4x2048x128 .f32) (W : FVec Ideal S2048x1024 .f32) (n : ℕ) (b : Fin 4) (j : Fin 8) : FVec Ideal S8x128 .f32 :=
  fun x => ∑ k ∈ Finset.range n, term A W b (x 1) ⟨128 * j + x 1, by have : (x 1 : ℕ) < 128 := (x 1).isLt; have := j.isLt; omega⟩ (8 * k + x 0)

/-- One trip more is one product more. -/
theorem G_succ (A : FVec Ideal S4x2048x128 .f32) (W : FVec Ideal S2048x1024 .f32) (n : ℕ) (b : Fin 4) (j : Fin 8) (x : S8x128.Idx) :
    G A W (n + 1) b j x = G A W n b j x + term A W b (x 1) ⟨128 * j + x 1, by have : (x 1 : ℕ) < 128 := (x 1).isLt; have := j.isLt; omega⟩ (8 * n + x 0) :=
  Finset.sum_range_succ _ _

set_option maxHeartbeats 4000000 in
/-- One trip of the loop adds each accumulator's product. -/
theorem step (c : Dev nD) (i : grid0.Coords) (arg1 : Memref sig .tc .vmem S4x2048x128 .f32) (harg1 : arg1.IsWhole)
    (arg2 : Memref sig .tc .vmem S2048x1024 .f32) (harg2 : arg2.IsWhole) (arg3 : Memref sig .tc .vmem S1x1024 .f32) (harg3 : arg3.IsWhole)
    (arg4 : Memref sig .tc .vmem S4x1024 .f32) (harg4 : arg4.IsWhole)
    (A : FVec Ideal S4x2048x128 .f32) (W : FVec Ideal S2048x1024 .f32) (k : Fin k0_t1_loop.trips) :
    tripR_k0_t1 (F := Ideal) Variants.none c none i arg1 harg1 arg2 harg2 arg3 harg3 arg4 harg4 (harg1.unread A) (harg2.unread W) k
        (G A W k 0 0, G A W k 1 0, G A W k 2 0, G A W k 3 0, G A W k 0 1, G A W k 1 1, G A W k 2 1, G A W k 3 1, G A W k 0 2, G A W k 1 2, G A W k 2 2, G A W k 3 2, G A W k 0 3, G A W k 1 3, G A W k 2 3, G A W k 3 3, G A W k 0 4, G A W k 1 4, G A W k 2 4, G A W k 3 4, G A W k 0 5, G A W k 1 5, G A W k 2 5, G A W k 3 5, G A W k 0 6, G A W k 1 6, G A W k 2 6, G A W k 3 6, G A W k 0 7, G A W k 1 7, G A W k 2 7, G A W k 3 7)
      = (G A W (k + 1) 0 0, G A W (k + 1) 1 0, G A W (k + 1) 2 0, G A W (k + 1) 3 0, G A W (k + 1) 0 1, G A W (k + 1) 1 1, G A W (k + 1) 2 1, G A W (k + 1) 3 1, G A W (k + 1) 0 2, G A W (k + 1) 1 2, G A W (k + 1) 2 2, G A W (k + 1) 3 2, G A W (k + 1) 0 3, G A W (k + 1) 1 3, G A W (k + 1) 2 3, G A W (k + 1) 3 3, G A W (k + 1) 0 4, G A W (k + 1) 1 4, G A W (k + 1) 2 4, G A W (k + 1) 3 4, G A W (k + 1) 0 5, G A W (k + 1) 1 5, G A W (k + 1) 2 5, G A W (k + 1) 3 5, G A W (k + 1) 0 6, G A W (k + 1) 1 6, G A W (k + 1) 2 6, G A W (k + 1) 3 6, G A W (k + 1) 0 7, G A W (k + 1) 1 7, G A W (k + 1) 2 7, G A W (k + 1) 3 7) := by
  have hk : k.val < 256 := Nat.lt_of_lt_of_le k.isLt k0_t1_abs.2.1
  unfold tripR_k0_t1 trip_k0_t1
  dsimp only
  iterate 31
    refine congrArg₂ Prod.mk ?_ ?_
    on_goal 1 =>
      funext x
      rw [G_succ]
      frame_open
      simp only [View.readAt_eq_ld, Memref.IsWhole.read_unread]
      pointwise [k0_pay4, k0_pay5, k0_pay6, k0_pay7, k0_pay8, k0_pay9, k0_pay10, k0_pay11, k0_pay12, k0_pay13, k0_pay14, k0_pay15, k0_pay16, k0_pay17, k0_pay18, k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, term]
      have h0 : (x 0 : ℕ) < 8 := (x 0).isLt
      refine congrArg₂ (· + ·) rfl (congrArg₂ (· * ·) (congrArg A ?_) (congrArg W ?_))
      · refine congr (congr (congrArg ix3 (Fin.ext ?_)) (Fin.ext ?_)) (Fin.ext ?_)
        all_goals simp [k0_off1_eq, k0_off2_eq, k0_off3_eq, k0_off4_eq, k0_off5_eq, k0_off6_eq, k0_off7_eq, k0_off8_eq, k0_off9_eq, k0_off10_eq, k0_off11_eq, k0_off12_eq]
        all_goals omega
      · refine congr (congrArg ix2 (Fin.ext ?_)) (Fin.ext ?_)
        all_goals simp [k0_off1_eq, k0_off2_eq, k0_off3_eq, k0_off4_eq, k0_off5_eq, k0_off6_eq, k0_off7_eq, k0_off8_eq, k0_off9_eq, k0_off10_eq, k0_off11_eq, k0_off12_eq]
        all_goals omega
  funext x
  rw [G_succ]
  frame_open
  simp only [View.readAt_eq_ld, Memref.IsWhole.read_unread]
  pointwise [k0_pay4, k0_pay5, k0_pay6, k0_pay7, k0_pay8, k0_pay9, k0_pay10, k0_pay11, k0_pay12, k0_pay13, k0_pay14, k0_pay15, k0_pay16, k0_pay17, k0_pay18, k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, term]
  have h0 : (x 0 : ℕ) < 8 := (x 0).isLt
  refine congrArg₂ (· + ·) rfl (congrArg₂ (· * ·) (congrArg A ?_) (congrArg W ?_))
  · refine congr (congr (congrArg ix3 (Fin.ext ?_)) (Fin.ext ?_)) (Fin.ext ?_)
    all_goals simp [k0_off1_eq, k0_off2_eq, k0_off3_eq, k0_off4_eq, k0_off5_eq, k0_off6_eq, k0_off7_eq, k0_off8_eq, k0_off9_eq, k0_off10_eq, k0_off11_eq, k0_off12_eq]
    all_goals omega
  · refine congr (congrArg ix2 (Fin.ext ?_)) (Fin.ext ?_)
    all_goals simp [k0_off1_eq, k0_off2_eq, k0_off3_eq, k0_off4_eq, k0_off5_eq, k0_off6_eq, k0_off7_eq, k0_off8_eq, k0_off9_eq, k0_off10_eq, k0_off11_eq, k0_off12_eq]
    all_goals omega

/-- After a number of trips from zeros, every accumulator holds its products so far. -/
theorem state (c : Dev nD) (i : grid0.Coords) (arg1 : Memref sig .tc .vmem S4x2048x128 .f32) (harg1 : arg1.IsWhole)
    (arg2 : Memref sig .tc .vmem S2048x1024 .f32) (harg2 : arg2.IsWhole) (arg3 : Memref sig .tc .vmem S1x1024 .f32) (harg3 : arg3.IsWhole)
    (arg4 : Memref sig .tc .vmem S4x1024 .f32) (harg4 : arg4.IsWhole)
    (A : FVec Ideal S4x2048x128 .f32) (W : FVec Ideal S2048x1024 .f32) : ∀ n : ℕ, n ≤ 256 →
    st_k0_t1 (F := Ideal) Variants.none c none i arg1 harg1 arg2 harg2 arg3 harg3 arg4 harg4 (harg1.unread A) (harg2.unread W)
        (k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20, k0_pay20) n
      = (G A W n 0 0, G A W n 1 0, G A W n 2 0, G A W n 3 0, G A W n 0 1, G A W n 1 1, G A W n 2 1, G A W n 3 1, G A W n 0 2, G A W n 1 2, G A W n 2 2, G A W n 3 2, G A W n 0 3, G A W n 1 3, G A W n 2 3, G A W n 3 3, G A W n 0 4, G A W n 1 4, G A W n 2 4, G A W n 3 4, G A W n 0 5, G A W n 1 5, G A W n 2 5, G A W n 3 5, G A W n 0 6, G A W n 1 6, G A W n 2 6, G A W n 3 6, G A W n 0 7, G A W n 1 7, G A W n 2 7, G A W n 3 7)
  | 0, _ => by
    have hz : ∀ b j, G A W 0 b j = k0_pay20 := fun b j => by
      funext x
      pointwise [k0_pay20, G]
      exact Finset.sum_range_zero _
    rw [st_k0_t1_zero]
    simp only [hz]
  | n + 1, hn => by
    have ht : k0_t1_loop.trips = 256 := by decide +kernel
    refine (st_k0_t1_succ (F := Ideal) Variants.none c none i arg1 harg1 arg2 harg2 arg3 harg3 arg4 harg4 (harg1.unread A) (harg2.unread W) _ ⟨n, by omega⟩).trans ?_
    rw [state c i arg1 harg1 arg2 harg2 arg3 harg3 arg4 harg4 A W n (by omega)]
    exact step c i arg1 harg1 arg2 harg2 arg3 harg3 arg4 harg4 A W ⟨n, by omega⟩

/-- The eight rows of an accumulator after all trips add up to the whole product. -/
theorem total (A : FVec Ideal S4x2048x128 .f32) (W : FVec Ideal S2048x1024 .f32) (b : Fin 4) (j : Fin 8) (l : Fin 128) (q : Fin 1024)
    (hq : (q : ℕ) = 128 * j + l) :
    ∑ s : Fin 8, G A W 256 b j (ix2 s l) = ∑ κ : Fin 2048, A (ix3 b κ l) * W (ix2 κ q) := by
  obtain ⟨q, hq'⟩ := q
  subst hq
  show ∑ s : Fin 8, ∑ k ∈ Finset.range 256, term A W b l ⟨128 * j + l, hq'⟩ (8 * k + s) = _
  rw [Finset.sum_comm, Finset.sum_range fun k => ∑ s : Fin 8, term A W b l ⟨128 * j + l, hq'⟩ (8 * k + s), ← Fintype.sum_prod_type']
  refine Fintype.sum_equiv (finProdFinEquiv (m := 256) (n := 8)) _ _ fun p => ?_
  have h : (8 * (p.1 : ℕ) + p.2) % 2048 = (finProdFinEquiv p : Fin (256 * 8)) := by
    have := p.1.isLt; have := p.2.isLt
    simp [finProdFinEquiv]; omega
  have e : (⟨(8 * (p.1 : ℕ) + p.2) % 2048, Nat.mod_lt _ (by decide)⟩ : Fin 2048) = finProdFinEquiv p := Fin.ext h
  unfold term
  rw [e]

/-- The rows of an accumulator added up, and the bias: an entry of the product and its bias. -/
theorem close (A : FVec Ideal S4x2048x128 .f32) (W : FVec Ideal S2048x1024 .f32) (B : FVec Ideal S1x1024 .f32) (y : S4x1024.Idx)
    (b : Fin 4) (j : Fin 8) (l : Fin 128) (q : Fin 1024) (hb : (y 0 : ℕ) = b) (hl : (y 1 : ℕ) = 128 * j + l) (hq : (q : ℕ) = y 1) :
    (∑ s : Fin 8, G A W 256 b j (ix2 s l)) + B (ix2 0 q)
      = (∑ κ : Fin 2048, A (ix3 (y 0) κ ⟨(y 1 : ℕ) % 128, Nat.mod_lt _ (by decide)⟩) * W (ix2 κ (y 1))) + B (ix2 0 (y 1)) := by
  rw [total A W b j l q (by omega)]
  have e0 : y 0 = b := Fin.ext hb
  have e1 : y 1 = q := Fin.ext hq.symm
  have e2 : (⟨(y 1 : ℕ) % 128, Nat.mod_lt _ (by decide)⟩ : Fin 128) = l := Fin.ext (by
    show (y 1 : ℕ) % 128 = l
    omega)
  rw [e2, e0, e1]

set_option maxHeartbeats 4000000 in
/-- What the body leaves at an index of its block: the product's entry and its bias. -/
theorem point (c : Dev nD) (i : grid0.Coords) (arg1 : Memref sig .tc .vmem S4x2048x128 .f32) (harg1 : arg1.IsWhole)
    (arg2 : Memref sig .tc .vmem S2048x1024 .f32) (harg2 : arg2.IsWhole) (arg3 : Memref sig .tc .vmem S1x1024 .f32) (harg3 : arg3.IsWhole)
    (arg4 : Memref sig .tc .vmem S4x1024 .f32) (harg4 : arg4.IsWhole)
    (A : FVec Ideal S4x2048x128 .f32) (W : FVec Ideal S2048x1024 .f32) (B : FVec Ideal S1x1024 .f32) (y : S4x1024.Idx) :
    out0_A_3 (F := Ideal) c i arg1 harg1 arg2 harg2 arg3 harg3 arg4 harg4 A W B y
      = (∑ κ : Fin 2048, A (ix3 (y 0) κ ⟨(y 1 : ℕ) % 128, Nat.mod_lt _ (by decide)⟩) * W (ix2 κ (y 1))) + B (ix2 0 (y 1)) := by
  frame_out
  rw [show Scf.trips (0#32) (Scalar.addi 0#32 256#32) 1#32 = 256 by decide +kernel,
    state c i arg1 harg1 arg2 harg2 arg3 harg3 arg4 harg4 A W 256 (le_refl _)]
  dsimp only
  canon_tiles x h
  all_goals
    pointwise [k0_pay1, k0_pay2, k0_pay3, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    exact close A W B y _ _ _ _ (by simp <;> omega) (by simp <;> omega) (by simp <;> omega)

variable (m : (ℓ : Loc nD τ sig) → Buf (Elt Ideal) ℓ)

/-- The block each window holds at each grid point. -/
theorem idx : ∀ t : Fin cfg0.N, win0_0.index t = ![0, 0, 0]
    ∧ win0_1.index t = ![0, t.val]
    ∧ win0_2.index t = ![0, t.val]
    ∧ win0_3.index t = ![0, t.val] :=
  (by decide +kernel : ∀ t : Fin grid0.N, _)

open Cert.Reference4Ideal.Ada (REF)

/-- The activations the call takes: the conditioning through its sigmoid unit, repeated over the lanes. -/
theorem acts (c : Dev nD) : @Eq (FVec Ideal S4x2048x128 .f32) (V m c main_v2)
    <| broadcastInDim S4x2048x128 ![0, 1, 2] bcast_S4x2048x1_S4x2048x128_0_1_2 (broadcastInDim S4x2048x1 ![0, 1] bcast_S4x2048_S4x2048x1_0_1
        (mulf (m ((c : Thread nD τ).loc main_arg0) : FVec Ideal S4x2048 .f32) (Host.divf (broadcastInDim S4x2048 ![] bcast_S_S4x2048 (constant S_ .f32 0x3F800000#32)) (addf (broadcastInDim S4x2048 ![] bcast_S_S4x2048 (constant S_ .f32 0x3F800000#32)) (Host.exp (Host.negf (m ((c : Thread nD τ).loc main_arg0) : FVec Ideal S4x2048 .f32))))))) := by
  unfold V
  simp only [hostOps0, hostOps0_1, List.flatten, List.append, StableHlo.TRef.binary, StableHlo.TRef.nullary, StableHlo.TRef.unary, StableHlo.TRef.toBuf, StableHlo.TRef.ofBuf, cast_eq]
  after_results

/-- The bias row the call takes. -/
theorem bias (c : Dev nD) : @Eq (FVec Ideal S1x12288 .f32) (V m c main_v3) <| shapeCast S1x12288 (m ((c : Thread nD τ).loc main_arg2) : FVec Ideal S12288 .f32) shapeCasts_S12288_S1x12288 := by
  unfold V
  simp only [hostOps0, hostOps0_1, List.flatten, List.append, StableHlo.TRef.binary, StableHlo.TRef.nullary, StableHlo.TRef.unary, StableHlo.TRef.toBuf, StableHlo.TRef.ofBuf, cast_eq]
  after_results
  rfl

/-- An entry of the bias row. -/
theorem bias_at (c : Dev nD) (i : S1x12288.Idx) : (V m c main_v3 : FVec Ideal S1x12288 .f32) i = (m ((c : Thread nD τ).loc main_arg2) : FVec Ideal S12288 .f32) (ix1 (i 1)) := by
  rw [bias]
  obtain ⟨a, q, rfl⟩ : ∃ (a : Fin 1) (q : Fin 12288), i = ix2 a q := ⟨i 0, i 1, by blk_ext⟩
  refine (shapeCast_addUnit_apply ![12288] _ shapeCasts_S12288_S1x12288 (ix2 a q)).trans (congrArg _ ?_)
  funext r
  exact Fin.cases rfl (fun r => r.elim0) r

/-- The array the kernel leaves is the reference's modulation. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  refine (point c _ _ _ _ _ _ _ _ _ _ _ _ _).trans ?_
  pointwise [REF]
  blk_point [iblk, idx t]
  · rw [acts]
    pointwise
    blk_point [idx t]
  · rw [bias_at]
    blk_point [idx t]

end Cert.Kernel4Ideal.Ada
end
-- ==== Proof.Calls.lean ====
module

public import proofs.«01_k».proof.Defs
public import proofs.«01_k».proof.Proof.Gen.Kernel2.Frame
public import proofs.«01_k».proof.Proof.Gen.Kernel3.Frame
public import proofs.«01_k».proof.Proof.Proj
public import proofs.«01_k».proof.Proof.Mix
public import proofs.«01_k».proof.Proof.Gen.Kernel4.Frame
public import proofs.«01_k».proof.Proof.Ada

@[expose] public section

set_option maxRecDepth 16384

noncomputable section

namespace Cert.Proof

open Idealize.ShloMosaic Idealize.ShloMosaic.TcCoe Idealize.SL.Sem

/-- The projection at its own floats ends, its arguments unchanged and its semaphores at zero. -/
theorem frame_kernel2 : Cert.quiescent_Kernel2 := fun m ρ _ => Cert.Kernel2.Gen.frame m ρ

/-- The projection read over the reals ends, its arguments unchanged and its semaphores at zero. -/
theorem frame_kernel2Ideal : Cert.quiescent_Kernel2Ideal := fun m ρ _ => Cert.Kernel2Ideal.Gen.frame m ρ

/-- The projection's reference ends, its arguments unchanged and its semaphores at zero. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the reals the projection and its reference end with one result, their arguments unchanged. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.Proj.final m c).symm

/-- The mixing call at its own floats ends, its arguments unchanged and its semaphores at zero. -/
theorem frame_kernel3 : Cert.quiescent_Kernel3 := fun m ρ _ => Cert.Kernel3.Gen.frame m ρ

/-- The mixing call read over the reals ends, its arguments unchanged and its semaphores at zero. -/
theorem frame_kernel3Ideal : Cert.quiescent_Kernel3Ideal := fun m ρ _ => Cert.Kernel3Ideal.Gen.frame m ρ

/-- The mixing call's reference ends, its arguments unchanged and its semaphores at zero. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Over the reals the mixing call and its reference end with one residual stream and one set of rows for the
    experts, their arguments unchanged. -/
theorem algebraic3 : Cert.algebraic_Kernel3Ideal_Reference3Ideal := by
  pair_intro
  · run_from Cert.Kernel3Ideal.Gen.run_main m g
  · run_from Cert.Reference3Ideal.Mix.run m' g'
    · exact (Cert.Kernel3Ideal.Mix.final1 m c).symm
    · exact (Cert.Kernel3Ideal.Mix.final2 m c).symm

/-- The modulation at its own floats ends, its arguments unchanged and its semaphores at zero. -/
theorem frame_kernel4 : Cert.quiescent_Kernel4 := fun m ρ _ => Cert.Kernel4.Gen.frame m ρ

/-- The modulation read over the reals ends, its arguments unchanged and its semaphores at zero. -/
theorem frame_kernel4Ideal : Cert.quiescent_Kernel4Ideal := fun m ρ _ => Cert.Kernel4Ideal.Gen.frame m ρ

/-- The modulation's reference ends, its arguments unchanged and its semaphores at zero. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the reals the modulation and its reference end with one result, their arguments unchanged. -/
theorem algebraic4 : Cert.algebraic_Kernel4Ideal_Reference4Ideal := by
  pair_intro
  · run_from Cert.Kernel4Ideal.Value.run_blocks m g
  · run_from Cert.Reference4Ideal.Value.run m' g'
    exact (Cert.Kernel4Ideal.Ada.final m c).symm

end Cert.Proof

end
-- ==== Proof.RouterRun.lean ====
/- The router's reference as a list of its host operations, and its run read back: every weakly fair execution ends,
   with the result at the operations' composed term of the arguments and the arguments unchanged. -/
module

public import proofs.«01_k».proof.Proof.Gen.Reference5Ideal
public import Idealize.ShloMosaic.Lib.StableHlo.Run
public import Idealize.ShloMosaic.Lib.Pipeline.Frame

@[expose] public section

set_option Elab.async false

noncomputable section

namespace Cert.Reference5Ideal.Value

open Cert.Reference5Ideal Cert.Reference5Ideal.Gen Idealize.ShloMosaic Idealize.ShloMosaic.TcCoe Idealize.SL.Sem Idealize.ShloMosaic.StableHlo

variable {F : FTy → Type} [FloatOps F]

/-- The greatest of a row's four logits, first of the pair the arg-max leaves. -/
def amaxV (x : FVec F S16384x4 .f32) (y : IVec S16384x4 32) (u : FVec F S_ .f32) (v : IVec S_ 32) : FVec F S16384 .f32 :=
  fun j => (Host.argReduce reducer_argmax_f32_i32 x y u v reducesTo_S16384x4_S16384_d1 h_S_ j).1

/-- The position of the greatest of a row's four logits, second of the pair the arg-max leaves. -/
def amaxI (x : FVec F S16384x4 .f32) (y : IVec S16384x4 32) (u : FVec F S_ .f32) (v : IVec S_ 32) : IVec S16384 32 :=
  fun j => (Host.argReduce reducer_argmax_f32_i32 x y u v reducesTo_S16384x4_S16384_d1 h_S_ j).2

/-- The function of the operation that writes `main_v34`, named. It packs its operands into a list of dependent pairs
    whose shapes a later argument's type mentions, so `simp` cannot rewrite an operand where it stands; applied by
    name, the operands are plain arguments, which the window lemmas below rewrite before the name unfolds. -/
def fn_main_v34 : (⟨S4x4096x1024, .f32⟩ : BufTy).Contents (Elt F) → (⟨S4x4096x1024, .f32⟩ : BufTy).Contents (Elt F) → (⟨S4x4096x2048, .f32⟩ : BufTy).Contents (Elt F) :=
  (fun a b => concatenate S4x4096x2048 2 [⟨S4x4096x1024, a⟩, ⟨S4x4096x1024, b⟩] concatenates_S4x4096x1024_S4x4096x1024_S4x4096x2048_d2)

/-- @main's operations 1 … 60 of 172 (window `main_part0`). -/
abbrev ops_part0 : List (HloOp τ sig (Elt F)) :=
  [ unary main_arg3 main_v0 ((extractStridedSlice S4x2048 ![0, 0] · slices_S4x12288_S4x2048_0_0) : (⟨S4x12288, .f32⟩ : BufTy).Contents (Elt F) → (⟨S4x2048, .f32⟩ : BufTy).Contents (Elt F)),
    unary main_arg3 main_v1 ((extractStridedSlice S4x2048 ![0, 2048] · slices_S4x12288_S4x2048_0_2048) : (⟨S4x12288, .f32⟩ : BufTy).Contents (Elt F) → (⟨S4x2048, .f32⟩ : BufTy).Contents (Elt F)),
    unary main_arg3 main_v2 ((extractStridedSlice S4x2048 ![0, 4096] · slices_S4x12288_S4x2048_0_4096) : (⟨S4x12288, .f32⟩ : BufTy).Contents (Elt F) → (⟨S4x2048, .f32⟩ : BufTy).Contents (Elt F)),
    unary main_arg3 main_v3 ((extractStridedSlice S4x2048 ![0, 6144] · slices_S4x12288_S4x2048_0_6144) : (⟨S4x12288, .f32⟩ : BufTy).Contents (Elt F) → (⟨S4x2048, .f32⟩ : BufTy).Contents (Elt F)),
    unary main_arg3 main_v4 ((extractStridedSlice S4x2048 ![0, 8192] · slices_S4x12288_S4x2048_0_8192) : (⟨S4x12288, .f32⟩ : BufTy).Contents (Elt F) → (⟨S4x2048, .f32⟩ : BufTy).Contents (Elt F)),
    unary main_arg3 main_v5 ((extractStridedSlice S4x2048 ![0, 10240] · slices_S4x12288_S4x2048_0_10240) : (⟨S4x12288, .f32⟩ : BufTy).Contents (Elt F) → (⟨S4x2048, .f32⟩ : BufTy).Contents (Elt F)),
    unary main_arg0 main_v6 ((extf .f32 · bitsLt_bf16_f32) : (⟨S4x4096x1024, .bf16⟩ : BufTy).Contents (Elt F) → (⟨S4x4096x1024, .f32⟩ : BufTy).Contents (Elt F)),
    binary main_v6 main_v6 main_v7 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v7 main_cst main_v8 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v8 main_v9 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v10 (broadcastInDim S4x4096x1 ![] bcast_S_S4x4096x1 : (⟨S_, .f32⟩ : BufTy).Contents (Elt F) → (⟨S4x4096x1, .f32⟩ : BufTy).Contents (Elt F)),
    binary main_v9 main_v10 main_v11 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v12 (broadcastInDim S4x4096x1 ![] bcast_S_S4x4096x1 : (⟨S_, .f32⟩ : BufTy).Contents (Elt F) → (⟨S4x4096x1, .f32⟩ : BufTy).Contents (Elt F)),
    binary main_v11 main_v12 main_v13 (addf : (⟨S4x4096x1, .f32⟩ : BufTy).Contents (Elt F) → (⟨S4x4096x1, .f32⟩ : BufTy).Contents (Elt F) → (⟨S4x4096x1, .f32⟩ : BufTy).Contents (Elt F)),
    unary main_v13 main_v14 (Host.rsqrt : (⟨S4x4096x1, .f32⟩ : BufTy).Contents (Elt F) → (⟨S4x4096x1, .f32⟩ : BufTy).Contents (Elt F)),
    unary main_v14 main_v15 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v6 main_v15 main_v16 (mulf : (⟨S4x4096x1024, .f32⟩ : BufTy).Contents (Elt F) → (⟨S4x4096x1024, .f32⟩ : BufTy).Contents (Elt F) → (⟨S4x4096x1024, .f32⟩ : BufTy).Contents (Elt F)),
    unary main_arg4 main_v17 (broadcastInDim S1x1x1024 ![2] bcast_S1024_S1x1x1024_2 : (⟨S1024, .f32⟩ : BufTy).Contents (Elt F) → (⟨S1x1x1024, .f32⟩ : BufTy).Contents (Elt F)),
    unary main_v17 main_v18 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v16 main_v18 main_v19 (mulf : (⟨S4x4096x1024, .f32⟩ : BufTy).Contents (Elt F) → (⟨S4x4096x1024, .f32⟩ : BufTy).Contents (Elt F) → (⟨S4x4096x1024, .f32⟩ : BufTy).Contents (Elt F)),
    unary main_arg1 main_v20 ((extf .f32 · bitsLt_bf16_f32) : (⟨S4x4096x1024, .bf16⟩ : BufTy).Contents (Elt F) → (⟨S4x4096x1024, .f32⟩ : BufTy).Contents (Elt F)),
    binary main_v20 main_v20 main_v21 (mulf : (⟨S4x4096x1024, .f32⟩ : BufTy).Contents (Elt F) → (⟨S4x4096x1024, .f32⟩ : BufTy).Contents (Elt F) → (⟨S4x4096x1024, .f32⟩ : BufTy).Contents (Elt F)),
    nullary main_cst_2 (constant S_ .f32 0x00000000#32),
    binary main_v21 main_cst_2 main_v22 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v22 main_v23 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_3 (constant S_ .f32 0x44800000#32),
    unary main_cst_3 main_v24 (broadcastInDim S4x4096x1 ![] bcast_S_S4x4096x1 : (⟨S_, .f32⟩ : BufTy).Contents (Elt F) → (⟨S4x4096x1, .f32⟩ : BufTy).Contents (Elt F)),
    binary main_v23 main_v24 main_v25 (Host.divf : (⟨S4x4096x1, .f32⟩ : BufTy).Contents (Elt F) → (⟨S4x4096x1, .f32⟩ : BufTy).Contents (Elt F) → (⟨S4x4096x1, .f32⟩ : BufTy).Contents (Elt F)),
    nullary main_cst_4 (constant S_ .f32 0x358637BD#32),
    unary main_cst_4 main_v26 (broadcastInDim S4x4096x1 ![] bcast_S_S4x4096x1 : (⟨S_, .f32⟩ : BufTy).Contents (Elt F) → (⟨S4x4096x1, .f32⟩ : BufTy).Contents (Elt F)),
    binary main_v25 main_v26 main_v27 (addf : (⟨S4x4096x1, .f32⟩ : BufTy).Contents (Elt F) → (⟨S4x4096x1, .f32⟩ : BufTy).Contents (Elt F) → (⟨S4x4096x1, .f32⟩ : BufTy).Contents (Elt F)),
    unary main_v27 main_v28 (Host.rsqrt : (⟨S4x4096x1, .f32⟩ : BufTy).Contents (Elt F) → (⟨S4x4096x1, .f32⟩ : BufTy).Contents (Elt F)),
    unary main_v28 main_v29 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v20 main_v29 main_v30 (mulf : (⟨S4x4096x1024, .f32⟩ : BufTy).Contents (Elt F) → (⟨S4x4096x1024, .f32⟩ : BufTy).Contents (Elt F) → (⟨S4x4096x1024, .f32⟩ : BufTy).Contents (Elt F)),
    unary main_arg5 main_v31 (broadcastInDim S1x1x1024 ![2] bcast_S1024_S1x1x1024_2 : (⟨S1024, .f32⟩ : BufTy).Contents (Elt F) → (⟨S1x1x1024, .f32⟩ : BufTy).Contents (Elt F)),
    unary main_v31 main_v32 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v30 main_v32 main_v33 (mulf : (⟨S4x4096x1024, .f32⟩ : BufTy).Contents (Elt F) → (⟨S4x4096x1024, .f32⟩ : BufTy).Contents (Elt F) → (⟨S4x4096x1024, .f32⟩ : BufTy).Contents (Elt F)),
    binary main_v19 main_v33 main_v34 (fn_main_v34 (F := F)),
    unary main_v2 main_v35 (broadcastInDim S4x1x2048 ![0, 2] bcast_S4x2048_S4x1x2048_0_2 : (⟨S4x2048, .f32⟩ : BufTy).Contents (Elt F) → (⟨S4x1x2048, .f32⟩ : BufTy).Contents (Elt F)),
    binary main_v34 main_arg7 main_v36 ((fun l r => Host.dotGeneral dot_S4x4096x2048_S2048x2048_S4x4096x2048_2_0_01_1_n_n none l r) : (⟨S4x4096x2048, .f32⟩ : BufTy).Contents (Elt F) → (⟨S2048x2048, .f32⟩ : BufTy).Contents (Elt F) → (⟨S4x4096x2048, .f32⟩ : BufTy).Contents (Elt F)),
    unary main_v35 main_v37 (broadcastInDim S4x4096x2048 ![0, 1, 2] bcast_S4x1x2048_S4x4096x2048_0_1_2 : (⟨S4x1x2048, .f32⟩ : BufTy).Contents (Elt F) → (⟨S4x4096x2048, .f32⟩ : BufTy).Contents (Elt F)),
    binary main_v37 main_v36 main_v38 (mulf : (⟨S4x4096x2048, .f32⟩ : BufTy).Contents (Elt F) → (⟨S4x4096x2048, .f32⟩ : BufTy).Contents (Elt F) → (⟨S4x4096x2048, .f32⟩ : BufTy).Contents (Elt F)),
    binary main_arg2 main_v38 main_v39 (addf : (⟨S4x4096x2048, .f32⟩ : BufTy).Contents (Elt F) → (⟨S4x4096x2048, .f32⟩ : BufTy).Contents (Elt F) → (⟨S4x4096x2048, .f32⟩ : BufTy).Contents (Elt F)),
    binary main_v39 main_v39 main_v40 (mulf : (⟨S4x4096x2048, .f32⟩ : BufTy).Contents (Elt F) → (⟨S4x4096x2048, .f32⟩ : BufTy).Contents (Elt F) → (⟨S4x4096x2048, .f32⟩ : BufTy).Contents (Elt F)),
    nullary main_cst_5 (constant S_ .f32 0x00000000#32),
    binary main_v40 main_cst_5 main_v41 ((fun x v => Host.reduceAdd x v reducesTo_S4x4096x2048_S4x4096_d2 h_S_) : (⟨S4x4096x2048, .f32⟩ : BufTy).Contents (Elt F) → (⟨S_, .f32⟩ : BufTy).Contents (Elt F) → (⟨S4x4096, .f32⟩ : BufTy).Contents (Elt F)),
    unary main_v41 main_v42 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_6 (constant S_ .f32 0x45000000#32),
    unary main_cst_6 main_v43 (broadcastInDim S4x4096x1 ![] bcast_S_S4x4096x1 : (⟨S_, .f32⟩ : BufTy).Contents (Elt F) → (⟨S4x4096x1, .f32⟩ : BufTy).Contents (Elt F)),
    binary main_v42 main_v43 main_v44 (Host.divf : (⟨S4x4096x1, .f32⟩ : BufTy).Contents (Elt F) → (⟨S4x4096x1, .f32⟩ : BufTy).Contents (Elt F) → (⟨S4x4096x1, .f32⟩ : BufTy).Contents (Elt F)),
    nullary main_cst_7 (constant S_ .f32 0x358637BD#32),
    unary main_cst_7 main_v45 (broadcastInDim S4x4096x1 ![] bcast_S_S4x4096x1 : (⟨S_, .f32⟩ : BufTy).Contents (Elt F) → (⟨S4x4096x1, .f32⟩ : BufTy).Contents (Elt F)),
    binary main_v44 main_v45 main_v46 (addf : (⟨S4x4096x1, .f32⟩ : BufTy).Contents (Elt F) → (⟨S4x4096x1, .f32⟩ : BufTy).Contents (Elt F) → (⟨S4x4096x1, .f32⟩ : BufTy).Contents (Elt F)),
    unary main_v46 main_v47 (Host.rsqrt : (⟨S4x4096x1, .f32⟩ : BufTy).Contents (Elt F) → (⟨S4x4096x1, .f32⟩ : BufTy).Contents (Elt F)),
    unary main_v47 main_v48 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v39 main_v48 main_v49 (mulf : (⟨S4x4096x2048, .f32⟩ : BufTy).Contents (Elt F) → (⟨S4x4096x2048, .f32⟩ : BufTy).Contents (Elt F) → (⟨S4x4096x2048, .f32⟩ : BufTy).Contents (Elt F)),
    unary main_arg6 main_v50 (broadcastInDim S1x1x2048 ![2] bcast_S2048_S1x1x2048_2 : (⟨S2048, .f32⟩ : BufTy).Contents (Elt F) → (⟨S1x1x2048, .f32⟩ : BufTy).Contents (Elt F)) ]

/-- @main's operations 61 … 90 of 172 (window `main_part1`). -/
abbrev ops_part1_0 : List (HloOp τ sig (Elt F)) :=
  [ unary main_v50 main_v51 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    binary main_v49 main_v51 main_v52 (mulf : (⟨S4x4096x2048, .f32⟩ : BufTy).Contents (Elt F) → (⟨S4x4096x2048, .f32⟩ : BufTy).Contents (Elt F) → (⟨S4x4096x2048, .f32⟩ : BufTy).Contents (Elt F)),
    unary main_v4 main_v53 (broadcastInDim S4x1x2048 ![0, 2] bcast_S4x2048_S4x1x2048_0_2 : (⟨S4x2048, .f32⟩ : BufTy).Contents (Elt F) → (⟨S4x1x2048, .f32⟩ : BufTy).Contents (Elt F)),
    nullary main_cst_8 (constant S_ .f32 0x3F800000#32),
    unary main_cst_8 main_v54 (broadcastInDim S4x1x2048 ![] bcast_S_S4x1x2048 : (⟨S_, .f32⟩ : BufTy).Contents (Elt F) → (⟨S4x1x2048, .f32⟩ : BufTy).Contents (Elt F)),
    binary main_v54 main_v53 main_v55 (addf : (⟨S4x1x2048, .f32⟩ : BufTy).Contents (Elt F) → (⟨S4x1x2048, .f32⟩ : BufTy).Contents (Elt F) → (⟨S4x1x2048, .f32⟩ : BufTy).Contents (Elt F)),
    unary main_v55 main_v56 (broadcastInDim S4x4096x2048 ![0, 1, 2] bcast_S4x1x2048_S4x4096x2048_0_1_2 : (⟨S4x1x2048, .f32⟩ : BufTy).Contents (Elt F) → (⟨S4x4096x2048, .f32⟩ : BufTy).Contents (Elt F)),
    binary main_v52 main_v56 main_v57 (mulf : (⟨S4x4096x2048, .f32⟩ : BufTy).Contents (Elt F) → (⟨S4x4096x2048, .f32⟩ : BufTy).Contents (Elt F) → (⟨S4x4096x2048, .f32⟩ : BufTy).Contents (Elt F)),
    unary main_v3 main_v58 (broadcastInDim S4x1x2048 ![0, 2] bcast_S4x2048_S4x1x2048_0_2 : (⟨S4x2048, .f32⟩ : BufTy).Contents (Elt F) → (⟨S4x1x2048, .f32⟩ : BufTy).Contents (Elt F)),
    unary main_v58 main_v59 (broadcastInDim S4x4096x2048 ![0, 1, 2] bcast_S4x1x2048_S4x4096x2048_0_1_2 : (⟨S4x1x2048, .f32⟩ : BufTy).Contents (Elt F) → (⟨S4x4096x2048, .f32⟩ : BufTy).Contents (Elt F)),
    binary main_v57 main_v59 main_v60 (addf : (⟨S4x4096x2048, .f32⟩ : BufTy).Contents (Elt F) → (⟨S4x4096x2048, .f32⟩ : BufTy).Contents (Elt F) → (⟨S4x4096x2048, .f32⟩ : BufTy).Contents (Elt F)),
    reshape main_v60 main_v61 (rfl : (.f32 : EltTy) = .f32) shapeCasts_S4x4096x2048_S16384x2048,
    binary main_v61 main_arg8 main_v62 ((fun l r => Host.dotGeneral dot_S16384x2048_S2048x4_S16384x4_1_0_0_1_n_n none l r) : (⟨S16384x2048, .f32⟩ : BufTy).Contents (Elt F) → (⟨S2048x4, .f32⟩ : BufTy).Contents (Elt F) → (⟨S16384x4, .f32⟩ : BufTy).Contents (Elt F)),
    unary main_arg9 main_v63 (broadcastInDim S1x4 ![1] bcast_S4_S1x4_1 : (⟨S4, .f32⟩ : BufTy).Contents (Elt F) → (⟨S1x4, .f32⟩ : BufTy).Contents (Elt F)),
    unary main_v63 main_v64 (broadcastInDim S16384x4 ![0, 1] bcast_S1x4_S16384x4_0_1 : (⟨S1x4, .f32⟩ : BufTy).Contents (Elt F) → (⟨S16384x4, .f32⟩ : BufTy).Contents (Elt F)),
    binary main_v62 main_v64 main_v65 (addf : (⟨S16384x4, .f32⟩ : BufTy).Contents (Elt F) → (⟨S16384x4, .f32⟩ : BufTy).Contents (Elt F) → (⟨S16384x4, .f32⟩ : BufTy).Contents (Elt F)),
    nullary main_cst_9 (constant S_ .f32 0xFF800000#32),
    binary main_v65 main_cst_9 main_v66 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    nullary main_cst_10 (constant S_ .f32 0xFF800000#32),
    unary main_cst_10 main_v67 (broadcastInDim S16384 ![] bcast_S_S16384 : (⟨S_, .f32⟩ : BufTy).Contents (Elt F) → (⟨S16384, .f32⟩ : BufTy).Contents (Elt F)),
    binary main_v67 main_v66 main_v68 (maximumf : (⟨S16384, .f32⟩ : BufTy).Contents (Elt F) → (⟨S16384, .f32⟩ : BufTy).Contents (Elt F) → (⟨S16384, .f32⟩ : BufTy).Contents (Elt F)),
    unary main_v68 main_v69 (broadcastInDim S16384x1 ![0] bcast_S16384_S16384x1_0 : (⟨S16384, .f32⟩ : BufTy).Contents (Elt F) → (⟨S16384x1, .f32⟩ : BufTy).Contents (Elt F)),
    unary main_v69 main_v70 (broadcastInDim S16384x4 ![0, 1] bcast_S16384x1_S16384x4_0_1 : (⟨S16384x1, .f32⟩ : BufTy).Contents (Elt F) → (⟨S16384x4, .f32⟩ : BufTy).Contents (Elt F)),
    binary main_v65 main_v70 main_v71 (subf : (⟨S16384x4, .f32⟩ : BufTy).Contents (Elt F) → (⟨S16384x4, .f32⟩ : BufTy).Contents (Elt F) → (⟨S16384x4, .f32⟩ : BufTy).Contents (Elt F)),
    unary main_v71 main_v72 (Host.exp : (⟨S16384x4, .f32⟩ : BufTy).Contents (Elt F) → (⟨S16384x4, .f32⟩ : BufTy).Contents (Elt F)),
    nullary main_cst_11 (constant S_ .f32 0x00000000#32),
    binary main_v72 main_cst_11 main_v73 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_v73 main_v74 (broadcastInDim S16384x1 ![0] bcast_S16384_S16384x1_0 : (⟨S16384, .f32⟩ : BufTy).Contents (Elt F) → (⟨S16384x1, .f32⟩ : BufTy).Contents (Elt F)),
    unary main_v74 main_v75 (broadcastInDim S16384x4 ![0, 1] bcast_S16384x1_S16384x4_0_1 : (⟨S16384x1, .f32⟩ : BufTy).Contents (Elt F) → (⟨S16384x4, .f32⟩ : BufTy).Contents (Elt F)),
    binary main_v72 main_v75 main_v76 (Host.divf : (⟨S16384x4, .f32⟩ : BufTy).Contents (Elt F) → (⟨S16384x4, .f32⟩ : BufTy).Contents (Elt F) → (⟨S16384x4, .f32⟩ : BufTy).Contents (Elt F)) ]

/-- @main's operations 91 … 120 of 172 (window `main_part1`). -/
abbrev ops_part1_1 : List (HloOp τ sig (Elt F)) :=
  [ TRef.nullary (TRef.of (T := ⟨S16384x4, .i32⟩) main_call0_v0) (iotaInDim S16384x4 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x4, .f32⟩) main_v65) (TRef.of (T := ⟨S16384x4, .i32⟩) main_call0_v0) (TRef.of (T := ⟨S_, .f32⟩) main_call0_cst) (TRef.of (T := ⟨S_, .i32⟩) main_call0_c) (TRef.of (T := ⟨S16384, .f32⟩) main_call0_v1_0) (fun x y u v => amaxV x y u v),
    TRef.quaternary (TRef.of (T := ⟨S16384x4, .f32⟩) main_v65) (TRef.of (T := ⟨S16384x4, .i32⟩) main_call0_v0) (TRef.of (T := ⟨S_, .f32⟩) main_call0_cst) (TRef.of (T := ⟨S_, .i32⟩) main_call0_c) (TRef.of (T := ⟨S16384, .i32⟩) main_v77) (fun x y u v => amaxI x y u v),
    unary main_v77 main_v78 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v78) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 4#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v78) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v78) (TRef.of (T := ⟨S16384x1, .i32⟩) main_call1_v4) select,
    TRef.reshape (TRef.of (T := ⟨S16384x1, .i32⟩) main_call1_v4) (TRef.of (T := ⟨S16384x1x1, .i32⟩) main_call1_v5) (rfl : (.i32 : EltTy) = .i32) shapeCasts_S16384x1_S16384x1x1,
    TRef.nullary (TRef.of (T := ⟨S1, .i32⟩) main_call1_c_1) (constantI S1 32 3#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x4, .f32⟩) main_v76) (TRef.of (T := ⟨S16384x1x1, .i32⟩) main_call1_v5) (TRef.of (T := ⟨S16384x1, .f32⟩) main_call1_v13) (fun x i => Host.gather gather_S16384x4_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v79) select,
    binary main_v61 main_arg10 main_v80 ((fun l r => Host.dotGeneral dot_S16384x2048_S2048x32_S16384x32_1_0_0_1_n_n none l r) : (⟨S16384x2048, .f32⟩ : BufTy).Contents (Elt F) → (⟨S2048x32, .f32⟩ : BufTy).Contents (Elt F) → (⟨S16384x32, .f32⟩ : BufTy).Contents (Elt F)),
    unary main_arg11 main_v81 (broadcastInDim S1x32 ![1] bcast_S32_S1x32_1 : (⟨S32, .f32⟩ : BufTy).Contents (Elt F) → (⟨S1x32, .f32⟩ : BufTy).Contents (Elt F)) ]

/-- @main's operations 121 … 150 of 172 (window `main_part1`). -/
abbrev ops_part1_2 : List (HloOp τ sig (Elt F)) :=
  [ unary main_v81 main_v82 (broadcastInDim S16384x32 ![0, 1] bcast_S1x32_S16384x32_0_1 : (⟨S1x32, .f32⟩ : BufTy).Contents (Elt F) → (⟨S16384x32, .f32⟩ : BufTy).Contents (Elt F)),
    binary main_v80 main_v82 main_v83 (addf : (⟨S16384x32, .f32⟩ : BufTy).Contents (Elt F) → (⟨S16384x32, .f32⟩ : BufTy).Contents (Elt F) → (⟨S16384x32, .f32⟩ : BufTy).Contents (Elt F)),
    reshape main_v83 main_v84 (rfl : (.f32 : EltTy) = .f32) shapeCasts_S16384x32_S16384x4x8,
    unary main_v77 main_v85 (broadcastInDim S16384x1x1 ![0] bcast_S16384_S16384x1x1_0 : (⟨S16384, .i32⟩ : BufTy).Contents (Elt F) → (⟨S16384x1x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16384x1x1, .i32⟩) main_call2_v0) (broadcastInDim S16384x1x1 ![] bcast_S_S16384x1x1),
    TRef.binary (TRef.of (T := ⟨S16384x1x1, .i32⟩) main_v85) (TRef.of (T := ⟨S16384x1x1, .i32⟩) main_call2_v0) (TRef.of (T := ⟨S16384x1x1, .i1⟩) main_call2_v1) (cmpi .slt),
    TRef.nullary (TRef.of (T := ⟨S_, .i32⟩) main_call2_c_0) (constantI S_ 32 4#32),
    TRef.unary (TRef.of (T := ⟨S_, .i32⟩) main_call2_c_0) (TRef.of (T := ⟨S16384x1x1, .i32⟩) main_call2_v2) (broadcastInDim S16384x1x1 ![] bcast_S_S16384x1x1),
    TRef.binary (TRef.of (T := ⟨S16384x1x1, .i32⟩) main_v85) (TRef.of (T := ⟨S16384x1x1, .i32⟩) main_call2_v2) (TRef.of (T := ⟨S16384x1x1, .i32⟩) main_call2_v3) addi,
    TRef.ternary (TRef.of (T := ⟨S16384x1x1, .i1⟩) main_call2_v1) (TRef.of (T := ⟨S16384x1x1, .i32⟩) main_call2_v3) (TRef.of (T := ⟨S16384x1x1, .i32⟩) main_v85) (TRef.of (T := ⟨S16384x1x1, .i32⟩) main_call2_v4) select,
    TRef.nullary (TRef.of (T := ⟨S1, .i32⟩) main_call2_c_1) (constantI S1 32 3#32),
    TRef.nullary (TRef.of (T := ⟨S_, .i32⟩) main_call2_c_2) (constantI S_ 32 0#32),
    TRef.unary (TRef.of (T := ⟨S_, .i32⟩) main_call2_c_2) (TRef.of (T := ⟨S16384x1x1, .i32⟩) main_call2_v5) (broadcastInDim S16384x1x1 ![] bcast_S_S16384x1x1),
    TRef.binary (TRef.of (T := ⟨S16384x1x1, .i32⟩) main_call2_v4) (TRef.of (T := ⟨S16384x1x1, .i32⟩) main_call2_v5) (TRef.of (T := ⟨S16384x1x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S16384x1x1, .i32⟩) main_call2_v8) (broadcastInDim S16384x1x1 ![0, 1, 2] bcast_S1x1x1_S16384x1x1_0_1_2),
    TRef.binary (TRef.of (T := ⟨S16384x1x1, .i32⟩) main_call2_v4) (TRef.of (T := ⟨S16384x1x1, .i32⟩) main_call2_v8) (TRef.of (T := ⟨S16384x1x1, .i1⟩) main_call2_v9) (cmpi .sle),
    TRef.binary (TRef.of (T := ⟨S16384x1x1, .i1⟩) main_call2_v6) (TRef.of (T := ⟨S16384x1x1, .i1⟩) main_call2_v9) (TRef.of (T := ⟨S16384x1x1, .i1⟩) main_call2_v10) andi,
    TRef.nullary (TRef.of (T := ⟨S_, .i1⟩) main_call2_c_3) (constantI S_ 1 1#1),
    TRef.binary (TRef.of (T := ⟨S16384x1x1, .i1⟩) main_call2_v10) (TRef.of (T := ⟨S_, .i1⟩) main_call2_c_3) (TRef.of (T := ⟨S16384x1, .i1⟩) main_call2_v11) (fun x v => Host.reduce IntOp.andi x v reducesTo_S16384x1x1_S16384x1_d2 h_S_),
    TRef.binary (TRef.of (T := ⟨S16384x4x8, .f32⟩) main_v84) (TRef.of (T := ⟨S16384x1x1, .i32⟩) main_call2_v4) (TRef.of (T := ⟨S16384x1x8, .f32⟩) main_call2_v12) (fun x i => Host.gather gather_S16384x4x8_S16384x1x1_S16384x1x8_2_1_0_0_1_2_118 x i),
    TRef.unary (TRef.of (T := ⟨S16384x1, .i1⟩) main_call2_v11) (TRef.of (T := ⟨S16384x1x8, .i1⟩) main_call2_v13) (broadcastInDim S16384x1x8 ![0, 1] bcast_S16384x1_S16384x1x8_0_1),
    TRef.nullary (TRef.of (T := ⟨S_, .f32⟩) main_call2_cst) (constant S_ .f32 0x7FC00000#32),
    TRef.unary (TRef.of (T := ⟨S_, .f32⟩) main_call2_cst) (TRef.of (T := ⟨S16384x1x8, .f32⟩) main_call2_v14) (broadcastInDim S16384x1x8 ![] bcast_S_S16384x1x8),
    TRef.ternary (TRef.of (T := ⟨S16384x1x8, .i1⟩) main_call2_v13) (TRef.of (T := ⟨S16384x1x8, .f32⟩) main_call2_v12) (TRef.of (T := ⟨S16384x1x8, .f32⟩) main_call2_v14) (TRef.of (T := ⟨S16384x1x8, .f32⟩) main_v86) select,
    reshape main_v86 main_v87 (rfl : (.f32 : EltTy) = .f32) shapeCasts_S16384x1x8_S16384x8,
    unary main_v87 main_values ((fun x => (Host.topK S16384x2 1 (FloatOps.cmpfTotal .gt) x sliceFits_S16384x8_S16384x2).1) : (⟨S16384x8, .f32⟩ : BufTy).Contents (Elt F) → (⟨S16384x2, .f32⟩ : BufTy).Contents (Elt F)),
    unary main_v87 main_indices ((fun x => (Host.topK S16384x2 1 (FloatOps.cmpfTotal .gt) x sliceFits_S16384x8_S16384x2).2) : (⟨S16384x8, .f32⟩ : BufTy).Contents (Elt F) → (⟨S16384x2, .i32⟩ : BufTy).Contents (Elt F)),
    nullary main_cst_12 (constant S_ .f32 0xFF800000#32) ]

/-- @main's operations 151 … 166 of 172 (window `main_part1`). -/
abbrev ops_part1_3 : List (HloOp τ sig (Elt F)) :=
  [ binary main_values main_cst_12 main_v88 ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    nullary main_cst_13 (constant S_ .f32 0xFF800000#32),
    unary main_cst_13 main_v89 (broadcastInDim S16384 ![] bcast_S_S16384 : (⟨S_, .f32⟩ : BufTy).Contents (Elt F) → (⟨S16384, .f32⟩ : BufTy).Contents (Elt F)),
    binary main_v89 main_v88 main_v90 (maximumf : (⟨S16384, .f32⟩ : BufTy).Contents (Elt F) → (⟨S16384, .f32⟩ : BufTy).Contents (Elt F) → (⟨S16384, .f32⟩ : BufTy).Contents (Elt F)),
    unary main_v90 main_v91 (broadcastInDim S16384x1 ![0] bcast_S16384_S16384x1_0 : (⟨S16384, .f32⟩ : BufTy).Contents (Elt F) → (⟨S16384x1, .f32⟩ : BufTy).Contents (Elt F)),
    unary main_v91 main_v92 (broadcastInDim S16384x2 ![0, 1] bcast_S16384x1_S16384x2_0_1 : (⟨S16384x1, .f32⟩ : BufTy).Contents (Elt F) → (⟨S16384x2, .f32⟩ : BufTy).Contents (Elt F)),
    binary main_values main_v92 main_v93 (subf : (⟨S16384x2, .f32⟩ : BufTy).Contents (Elt F) → (⟨S16384x2, .f32⟩ : BufTy).Contents (Elt F) → (⟨S16384x2, .f32⟩ : BufTy).Contents (Elt F)),
    unary main_v93 main_v94 (Host.exp : (⟨S16384x2, .f32⟩ : BufTy).Contents (Elt F) → (⟨S16384x2, .f32⟩ : BufTy).Contents (Elt F)),
    nullary main_cst_14 (constant S_ .f32 0x00000000#32),
    binary main_v94 main_cst_14 main_v95 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_v95 main_v96 (broadcastInDim S16384x1 ![0] bcast_S16384_S16384x1_0 : (⟨S16384, .f32⟩ : BufTy).Contents (Elt F) → (⟨S16384x1, .f32⟩ : BufTy).Contents (Elt F)),
    unary main_v96 main_v97 (broadcastInDim S16384x2 ![0, 1] bcast_S16384x1_S16384x2_0_1 : (⟨S16384x1, .f32⟩ : BufTy).Contents (Elt F) → (⟨S16384x2, .f32⟩ : BufTy).Contents (Elt F)),
    binary main_v94 main_v97 main_v98 (Host.divf : (⟨S16384x2, .f32⟩ : BufTy).Contents (Elt F) → (⟨S16384x2, .f32⟩ : BufTy).Contents (Elt F) → (⟨S16384x2, .f32⟩ : BufTy).Contents (Elt F)),
    unary main_v79 main_v99 (broadcastInDim S16384x2 ![0, 1] bcast_S16384x1_S16384x2_0_1 : (⟨S16384x1, .f32⟩ : BufTy).Contents (Elt F) → (⟨S16384x2, .f32⟩ : BufTy).Contents (Elt F)),
    binary main_v98 main_v99 main_v100 (mulf : (⟨S16384x2, .f32⟩ : BufTy).Contents (Elt F) → (⟨S16384x2, .f32⟩ : BufTy).Contents (Elt F) → (⟨S16384x2, .f32⟩ : BufTy).Contents (Elt F)),
    unary main_v77 main_v101 (broadcastInDim S16384x1 ![0] bcast_S16384_S16384x1_0 : (⟨S16384, .i32⟩ : BufTy).Contents (Elt F) → (⟨S16384x1, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's operations 167 … 172 of 172 (window `main_part2`). -/
abbrev ops_part2 : List (HloOp τ sig (Elt F)) :=
  [ nullary main_c (constantI S_ 32 8#32),
    unary main_c main_v102 (broadcastInDim S16384x1 ![] bcast_S_S16384x1 : (⟨S_, .i32⟩ : BufTy).Contents (Elt F) → (⟨S16384x1, .i32⟩ : BufTy).Contents (Elt F)),
    binary main_v101 main_v102 main_v103 (muli : (⟨S16384x1, .i32⟩ : BufTy).Contents (Elt F) → (⟨S16384x1, .i32⟩ : BufTy).Contents (Elt F) → (⟨S16384x1, .i32⟩ : BufTy).Contents (Elt F)),
    unary main_v103 main_v104 (broadcastInDim S16384x2 ![0, 1] bcast_S16384x1_S16384x2_0_1 : (⟨S16384x1, .i32⟩ : BufTy).Contents (Elt F) → (⟨S16384x2, .i32⟩ : BufTy).Contents (Elt F)),
    binary main_v104 main_indices main_v105 (addi : (⟨S16384x2, .i32⟩ : BufTy).Contents (Elt F) → (⟨S16384x2, .i32⟩ : BufTy).Contents (Elt F) → (⟨S16384x2, .i32⟩ : BufTy).Contents (Elt F)),
    unary main_v105 main_v106 (sitofp .f32 : (⟨S16384x2, .i32⟩ : BufTy).Contents (Elt F) → (⟨S16384x2, .f32⟩ : BufTy).Contents (Elt F)) ]

/-- @main's 172 operations, in order (a called function's operations stand in its call's place, spelt `TRef.…`). -/
abbrev ops : List (HloOp τ sig (Elt F)) :=
  ops_part0 ++ (ops_part1 ++ (ops_part2))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., unary_bufs_sub .., nullary_bufs_sub .., unary_bufs_sub .., binary_bufs_sub .., unary_bufs_sub .., binary_bufs_sub .., unary_bufs_sub .., unary_bufs_sub .., binary_bufs_sub .., reshape_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., unary_bufs_sub .., binary_bufs_sub .., unary_bufs_sub ..⟩
set_option maxRecDepth 8192 in
theorem ops_part2_fresh : (ops_part2 : List (HloOp τ sig (Elt F))).Forall fun op => op.fresh = ∅ :=
  ⟨rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, List.mem_append, or_assoc] at h
    rcases h with h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_sub op h]
theorem ops_fresh : ∀ op ∈ (ops : List (HloOp τ sig (Elt F))), op.fresh = ∅ := fun op h => by
    simp only [ops, ops_part1, List.mem_append, or_assoc] at h
    rcases h with h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_fresh op h]

set_option maxRecDepth 8192 in
/-- `main_v6`'s composed term of the arguments (named: it is used 3 times). -/
def res_main_v6 (V0 : Valuation τ sig (Elt F)) : (Proc.devRef .tc main_v6 : DevRef τ sig).ty.Contents (Elt F) :=
  extf .f32 (V0 (Proc.devRef .tc main_arg0)) bitsLt_bf16_f32

set_option maxRecDepth 8192 in
/-- `main_v20`'s composed term of the arguments (named: it is used 3 times). -/
def res_main_v20 (V0 : Valuation τ sig (Elt F)) : (Proc.devRef .tc main_v20 : DevRef τ sig).ty.Contents (Elt F) :=
  extf .f32 (V0 (Proc.devRef .tc main_arg1)) bitsLt_bf16_f32

set_option maxRecDepth 8192 in
/-- `main_v39`'s composed term of the arguments (named: it is used 3 times). -/
def res_main_v39 (V0 : Valuation τ sig (Elt F)) : (Proc.devRef .tc main_v39 : DevRef τ sig).ty.Contents (Elt F) :=
  addf (V0 (Proc.devRef .tc main_arg2)) (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] (V0 (Proc.devRef .tc main_arg3)) slices_S4x12288_S4x2048_0_4096))) (Host.dotGeneral dot_S4x4096x2048_S2048x2048_S4x4096x2048_2_0_01_1_n_n none (concatenate S4x4096x2048 2 [⟨S4x4096x1024, (mulf (mulf (res_main_v6 V0) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v6 V0) (res_main_v6 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (V0 (Proc.devRef .tc main_arg4)))))⟩, ⟨S4x4096x1024, (mulf (mulf (res_main_v20 V0) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v20 V0) (res_main_v20 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (V0 (Proc.devRef .tc main_arg5)))))⟩] concatenates_S4x4096x1024_S4x4096x1024_S4x4096x2048_d2) (V0 (Proc.devRef .tc main_arg7))))

set_option maxRecDepth 8192 in
/-- `main_v61`'s composed term of the arguments (named: it is used 2 times). -/
def res_main_v61 (V0 : Valuation τ sig (Elt F)) : (Proc.devRef .tc main_v61 : DevRef τ sig).ty.Contents (Elt F) :=
  shapeCast _ (addf (mulf (mulf (mulf (res_main_v39 V0) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (res_main_v39 V0) (res_main_v39 V0)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (V0 (Proc.devRef .tc main_arg6))))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 8192] (V0 (Proc.devRef .tc main_arg3)) slices_S4x12288_S4x2048_0_8192))))) (broadcastInDim S4x4096x2048 ![0, 1, 2] bcast_S4x1x2048_S4x4096x2048_0_1_2 (broadcastInDim S4x1x2048 ![0, 2] bcast_S4x2048_S4x1x2048_0_2 (extractStridedSlice S4x2048 ![0, 6144] (V0 (Proc.devRef .tc main_arg3)) slices_S4x12288_S4x2048_0_6144)))) shapeCasts_S4x4096x2048_S16384x2048

set_option maxRecDepth 8192 in
/-- `main_v65`'s composed term of the arguments (named: it is used 4 times). -/
def res_main_v65 (V0 : Valuation τ sig (Elt F)) : (Proc.devRef .tc main_v65 : DevRef τ sig).ty.Contents (Elt F) :=
  addf (Host.dotGeneral dot_S16384x2048_S2048x4_S16384x4_1_0_0_1_n_n none (res_main_v61 V0) (V0 (Proc.devRef .tc main_arg8))) (broadcastInDim S16384x4 ![0, 1] bcast_S1x4_S16384x4_0_1 (broadcastInDim S1x4 ![1] bcast_S4_S1x4_1 (V0 (Proc.devRef .tc main_arg9))))

set_option maxRecDepth 8192 in
/-- `main_v72`'s composed term of the arguments (named: it is used 2 times). -/
def res_main_v72 (V0 : Valuation τ sig (Elt F)) : (Proc.devRef .tc main_v72 : DevRef τ sig).ty.Contents (Elt F) :=
  Host.exp (subf (res_main_v65 V0) (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf (res_main_v65 V0) (constant S_ .f32 0xFF800000#32) reducesTo_S16384x4_S16384_d1 h_S_)))))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S16384x4 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v77`'s composed term of the arguments (named: it is used 3 times). -/
def res_main_v77 (V0 : Valuation τ sig (Elt F)) : (Proc.devRef .tc main_v77 : DevRef τ sig).ty.Contents (Elt F) :=
  amaxI (res_main_v65 V0) (res_main_call0_v0 V0) (res_main_call0_cst V0) (res_main_call0_c V0)

set_option maxRecDepth 8192 in
/-- `main_v78`'s composed term of the arguments (named: it is used 3 times). -/
def res_main_v78 (V0 : Valuation τ sig (Elt F)) : (Proc.devRef .tc main_v78 : DevRef τ sig).ty.Contents (Elt F) :=
  broadcastInDim S16384x1 ![0] bcast_S16384_S16384x1_0 (res_main_v77 V0)

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v78 V0) (broadcastInDim S16384x1 ![] bcast_S_S16384x1 (constantI S_ 32 0#32))) (addi (res_main_v78 V0) (broadcastInDim S16384x1 ![] bcast_S_S16384x1 (constantI S_ 32 4#32))) (res_main_v78 V0)) shapeCasts_S16384x1_S16384x1x1

set_option maxRecDepth 8192 in
/-- `main_v85`'s composed term of the arguments (named: it is used 3 times). -/
def res_main_v85 (V0 : Valuation τ sig (Elt F)) : (Proc.devRef .tc main_v85 : DevRef τ sig).ty.Contents (Elt F) :=
  broadcastInDim S16384x1x1 ![0] bcast_S16384_S16384x1x1_0 (res_main_v77 V0)

set_option maxRecDepth 8192 in
/-- `main_call2_v4`'s composed term of the arguments (named: it is used 3 times). -/
def res_main_call2_v4 (V0 : Valuation τ sig (Elt F)) : (Proc.devRef .tc main_call2_v4 : DevRef τ sig).ty.Contents (Elt F) :=
  select (cmpi .slt (res_main_v85 V0) (broadcastInDim S16384x1x1 ![] bcast_S_S16384x1x1 (constantI S_ 32 0#32))) (addi (res_main_v85 V0) (broadcastInDim S16384x1x1 ![] bcast_S_S16384x1x1 (constantI S_ 32 4#32))) (res_main_v85 V0)

set_option maxRecDepth 8192 in
/-- `main_v87`'s composed term of the arguments (named: it is used 2 times). -/
def res_main_v87 (V0 : Valuation τ sig (Elt F)) : (Proc.devRef .tc main_v87 : DevRef τ sig).ty.Contents (Elt F) :=
  shapeCast _ (select (broadcastInDim S16384x1x8 ![0, 1] bcast_S16384x1_S16384x1x8_0_1 (Host.reduce IntOp.andi (andi (cmpi .sge (res_main_call2_v4 V0) (broadcastInDim S16384x1x1 ![] bcast_S_S16384x1x1 (constantI S_ 32 0#32))) (cmpi .sle (res_main_call2_v4 V0) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_)) (Host.gather gather_S16384x4x8_S16384x1x1_S16384x1x8_2_1_0_0_1_2_118 (shapeCast _ (addf (Host.dotGeneral dot_S16384x2048_S2048x32_S16384x32_1_0_0_1_n_n none (res_main_v61 V0) (V0 (Proc.devRef .tc main_arg10))) (broadcastInDim S16384x32 ![0, 1] bcast_S1x32_S16384x32_0_1 (broadcastInDim S1x32 ![1] bcast_S32_S1x32_1 (V0 (Proc.devRef .tc main_arg11))))) shapeCasts_S16384x32_S16384x4x8) (res_main_call2_v4 V0)) (broadcastInDim S16384x1x8 ![] bcast_S_S16384x1x8 (constant S_ .f32 0x7FC00000#32))) shapeCasts_S16384x1x8_S16384x8

set_option maxRecDepth 8192 in
/-- `main_values`'s composed term of the arguments (named: it is used 2 times). -/
def res_main_values (V0 : Valuation τ sig (Elt F)) : (Proc.devRef .tc main_values : DevRef τ sig).ty.Contents (Elt F) :=
  (Host.topK S16384x2 1 (FloatOps.cmpfTotal .gt) (res_main_v87 V0) sliceFits_S16384x8_S16384x2).1

set_option maxRecDepth 8192 in
/-- `main_v94`'s composed term of the arguments (named: it is used 2 times). -/
def res_main_v94 (V0 : Valuation τ sig (Elt F)) : (Proc.devRef .tc main_v94 : DevRef τ sig).ty.Contents (Elt F) :=
  Host.exp (subf (res_main_values V0) (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf (res_main_values V0) (constant S_ .f32 0xFF800000#32) reducesTo_S16384x2_S16384_d1 h_S_)))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_v5, main_v6, main_v7, main_cst, main_v8, main_v9, main_cst_0, main_v10, main_v11, main_cst_1, main_v12, main_v13, main_v14, main_v15, main_v16, main_v17, main_v18, main_v19, main_v20, main_v21, main_cst_2, main_v22, main_v23, main_cst_3, main_v24, main_v25, main_cst_4, main_v26, main_v27, main_v28, main_v29, main_v30, main_v31, main_v32, main_v33, main_v34, main_v35, main_v36, main_v37, main_v38, main_v39, main_v40, main_cst_5, main_v41, main_v42, main_cst_6, main_v43, main_v44, main_cst_7, main_v45, main_v46, main_v47, main_v48, main_v49, main_v50]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
set_option maxRecDepth 8192 in
set_option maxHeartbeats 2000000 in
theorem val1_main_v3 (V0 : Valuation τ sig (Elt F)) : val1 V0 (no_index (Proc.devRef .tc main_v3)) = extractStridedSlice S4x2048 ![0, 6144] (V0 (Proc.devRef .tc main_arg3)) slices_S4x12288_S4x2048_0_6144 := by
  unfold val1
  simp only [ops_part0]
  after_results_simp
  simp only [val0_main_arg3] <;> rfl
set_option maxRecDepth 8192 in
set_option maxHeartbeats 2000000 in
theorem val1_main_v4 (V0 : Valuation τ sig (Elt F)) : val1 V0 (no_index (Proc.devRef .tc main_v4)) = extractStridedSlice S4x2048 ![0, 8192] (V0 (Proc.devRef .tc main_arg3)) slices_S4x12288_S4x2048_0_8192 := by
  unfold val1
  simp only [ops_part0]
  after_results_simp
  simp only [val0_main_arg3] <;> rfl
set_option maxRecDepth 8192 in
set_option maxHeartbeats 2000000 in
theorem val1_main_v49 (V0 : Valuation τ sig (Elt F)) : val1 V0 (no_index (Proc.devRef .tc main_v49)) = mulf (res_main_v39 V0) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (res_main_v39 V0) (res_main_v39 V0)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))) := by
  unfold val1
  simp only [ops_part0]
  after_results_simp
  simp only [val0_main_arg7, val0_main_arg5, val0_main_arg1, val0_main_arg4, val0_main_arg0, val0_main_arg3, val0_main_arg2] <;> rfl
set_option maxRecDepth 8192 in
set_option maxHeartbeats 2000000 in
theorem val1_main_v50 (V0 : Valuation τ sig (Elt F)) : val1 V0 (no_index (Proc.devRef .tc main_v50)) = broadcastInDim S1x1x2048 ![2] bcast_S2048_S1x1x2048_2 (V0 (Proc.devRef .tc main_arg6)) := by
  unfold val1
  simp only [ops_part0]
  after_results_simp
  simp only [val0_main_arg6] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v51, main_v52, main_v53, main_cst_8, main_v54, main_v55, main_v56, main_v57, main_v58, main_v59, main_v60, main_v61, main_v62, main_v63, main_v64, main_v65, main_cst_9, main_v66, main_cst_10, main_v67, main_v68, main_v69, main_v70, main_v71, main_v72, main_cst_11, main_v73, main_v74, main_v75, main_v76]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_arg8 (V0 : Valuation τ sig (Elt F)) : val1_1 V0 (no_index (Proc.devRef .tc main_arg8)) = V0 (Proc.devRef .tc main_arg8) :=
  (val1_1_keep V0 main_arg8 (by decide)).trans (val1_main_arg8 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
theorem val1_1_main_arg11 (V0 : Valuation τ sig (Elt F)) : val1_1 V0 (no_index (Proc.devRef .tc main_arg11)) = V0 (Proc.devRef .tc main_arg11) :=
  (val1_1_keep V0 main_arg11 (by decide)).trans (val1_main_arg11 V0)
set_option maxRecDepth 8192 in
set_option maxHeartbeats 2000000 in
theorem val1_1_main_v61 (V0 : Valuation τ sig (Elt F)) : val1_1 V0 (no_index (Proc.devRef .tc main_v61)) = res_main_v61 V0 := by
  unfold val1_1
  simp only [ops_part1_0]
  after_results_simp
  simp only [val1_main_v3, val1_main_v4, val1_main_v50, val1_main_v49] <;> rfl
set_option maxRecDepth 8192 in
set_option maxHeartbeats 2000000 in
theorem val1_1_main_v65 (V0 : Valuation τ sig (Elt F)) : val1_1 V0 (no_index (Proc.devRef .tc main_v65)) = res_main_v65 V0 := by
  unfold val1_1
  simp only [ops_part1_0]
  after_results_simp
  simp only [val1_main_arg9, val1_main_arg8, val1_main_v3, val1_main_v4, val1_main_v50, val1_main_v49] <;> rfl
set_option maxRecDepth 8192 in
set_option maxHeartbeats 2000000 in
theorem val1_1_main_v76 (V0 : Valuation τ sig (Elt F)) : val1_1 V0 (no_index (Proc.devRef .tc main_v76)) = Host.divf (res_main_v72 V0) (broadcastInDim S16384x4 ![0, 1] bcast_S16384x1_S16384x4_0_1 (broadcastInDim S16384x1 ![0] bcast_S16384_S16384x1_0 (Host.reduceAdd (res_main_v72 V0) (constant S_ .f32 0x00000000#32) reducesTo_S16384x4_S16384_d1 h_S_))) := by
  unfold val1_1
  simp only [ops_part1_0]
  after_results_simp
  simp only [val1_main_arg9, val1_main_arg8, val1_main_v3, val1_main_v4, val1_main_v50, val1_main_v49] <;> rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call0_v0, main_call0_cst, main_call0_c, main_call0_v1_0, main_v77, main_v78, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v79, main_v80, main_v81]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_arg8 (V0 : Valuation τ sig (Elt F)) : val1_2 V0 (no_index (Proc.devRef .tc main_arg8)) = V0 (Proc.devRef .tc main_arg8) :=
  (val1_2_keep V0 main_arg8 (by decide)).trans (val1_1_main_arg8 V0)
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
theorem val1_2_main_arg10 (V0 : Valuation τ sig (Elt F)) : val1_2 V0 (no_index (Proc.devRef .tc main_arg10)) = V0 (Proc.devRef .tc main_arg10) :=
  (val1_2_keep V0 main_arg10 (by decide)).trans (val1_1_main_arg10 V0)
theorem val1_2_main_arg11 (V0 : Valuation τ sig (Elt F)) : val1_2 V0 (no_index (Proc.devRef .tc main_arg11)) = V0 (Proc.devRef .tc main_arg11) :=
  (val1_2_keep V0 main_arg11 (by decide)).trans (val1_1_main_arg11 V0)
set_option maxRecDepth 8192 in
set_option maxHeartbeats 2000000 in
theorem val1_2_main_v77 (V0 : Valuation τ sig (Elt F)) : val1_2 V0 (no_index (Proc.devRef .tc main_v77)) = res_main_v77 V0 := by
  unfold val1_2
  simp only [ops_part1_1, TRef.binary, TRef.nullary, TRef.quaternary, TRef.reshape, TRef.ternary, TRef.unary, TRef.toBuf, TRef.ofBuf, cast_eq]
  after_results_simp
  simp only [val1_1_main_v65] <;> rfl
set_option maxRecDepth 8192 in
set_option maxHeartbeats 2000000 in
theorem val1_2_main_v79 (V0 : Valuation τ sig (Elt F)) : val1_2 V0 (no_index (Proc.devRef .tc main_v79)) = select (Host.reduce IntOp.andi (andi (cmpi .sge (res_main_call1_v5 V0) (broadcastInDim S16384x1x1 ![] bcast_S_S16384x1x1 (constantI S_ 32 0#32))) (cmpi .sle (res_main_call1_v5 V0) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v72 V0) (broadcastInDim S16384x4 ![0, 1] bcast_S16384x1_S16384x4_0_1 (broadcastInDim S16384x1 ![0] bcast_S16384_S16384x1_0 (Host.reduceAdd (res_main_v72 V0) (constant S_ .f32 0x00000000#32) reducesTo_S16384x4_S16384_d1 h_S_)))) (res_main_call1_v5 V0)) (broadcastInDim S16384x1 ![] bcast_S_S16384x1 (constant S_ .f32 0x7FC00000#32)) := by
  unfold val1_2
  simp only [ops_part1_1, TRef.binary, TRef.nullary, TRef.quaternary, TRef.reshape, TRef.ternary, TRef.unary, TRef.toBuf, TRef.ofBuf, cast_eq]
  after_results_simp
  simp only [val1_1_main_v65, val1_1_main_v76] <;> rfl
set_option maxRecDepth 8192 in
set_option maxHeartbeats 2000000 in
theorem val1_2_main_v80 (V0 : Valuation τ sig (Elt F)) : val1_2 V0 (no_index (Proc.devRef .tc main_v80)) = Host.dotGeneral dot_S16384x2048_S2048x32_S16384x32_1_0_0_1_n_n none (res_main_v61 V0) (V0 (Proc.devRef .tc main_arg10)) := by
  unfold val1_2
  simp only [ops_part1_1, TRef.binary, TRef.nullary, TRef.quaternary, TRef.reshape, TRef.ternary, TRef.unary, TRef.toBuf, TRef.ofBuf, cast_eq]
  after_results_simp
  simp only [val1_1_main_arg10, val1_1_main_v61] <;> rfl
set_option maxRecDepth 8192 in
set_option maxHeartbeats 2000000 in
theorem val1_2_main_v81 (V0 : Valuation τ sig (Elt F)) : val1_2 V0 (no_index (Proc.devRef .tc main_v81)) = broadcastInDim S1x32 ![1] bcast_S32_S1x32_1 (V0 (Proc.devRef .tc main_arg11)) := by
  unfold val1_2
  simp only [ops_part1_1, TRef.binary, TRef.nullary, TRef.quaternary, TRef.reshape, TRef.ternary, TRef.unary, TRef.toBuf, TRef.ofBuf, cast_eq]
  after_results_simp
  simp only [val1_1_main_arg11] <;> rfl

/-- The device's buffer contents after @main's first 150 operations. -/
def val1_3 (V0 : Valuation τ sig (Elt F)) : Valuation τ sig (Elt F) := after ops_part1_2 (val1_2 V0)
/-- The buffers that window `ops_part1_2`'s operations write. -/
abbrev ops_part1_2_W : List (Ref sig .tc) := [main_v82, main_v83, main_v84, main_v85, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v86, main_v87, main_values, main_indices, main_cst_12]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_arg3 (V0 : Valuation τ sig (Elt F)) : val1_3 V0 (no_index (Proc.devRef .tc main_arg3)) = V0 (Proc.devRef .tc main_arg3) :=
  (val1_3_keep V0 main_arg3 (by decide)).trans (val1_2_main_arg3 V0)
theorem val1_3_main_arg4 (V0 : Valuation τ sig (Elt F)) : val1_3 V0 (no_index (Proc.devRef .tc main_arg4)) = V0 (Proc.devRef .tc main_arg4) :=
  (val1_3_keep V0 main_arg4 (by decide)).trans (val1_2_main_arg4 V0)
theorem val1_3_main_arg5 (V0 : Valuation τ sig (Elt F)) : val1_3 V0 (no_index (Proc.devRef .tc main_arg5)) = V0 (Proc.devRef .tc main_arg5) :=
  (val1_3_keep V0 main_arg5 (by decide)).trans (val1_2_main_arg5 V0)
theorem val1_3_main_arg6 (V0 : Valuation τ sig (Elt F)) : val1_3 V0 (no_index (Proc.devRef .tc main_arg6)) = V0 (Proc.devRef .tc main_arg6) :=
  (val1_3_keep V0 main_arg6 (by decide)).trans (val1_2_main_arg6 V0)
theorem val1_3_main_arg7 (V0 : Valuation τ sig (Elt F)) : val1_3 V0 (no_index (Proc.devRef .tc main_arg7)) = V0 (Proc.devRef .tc main_arg7) :=
  (val1_3_keep V0 main_arg7 (by decide)).trans (val1_2_main_arg7 V0)
theorem val1_3_main_arg8 (V0 : Valuation τ sig (Elt F)) : val1_3 V0 (no_index (Proc.devRef .tc main_arg8)) = V0 (Proc.devRef .tc main_arg8) :=
  (val1_3_keep V0 main_arg8 (by decide)).trans (val1_2_main_arg8 V0)
theorem val1_3_main_arg9 (V0 : Valuation τ sig (Elt F)) : val1_3 V0 (no_index (Proc.devRef .tc main_arg9)) = V0 (Proc.devRef .tc main_arg9) :=
  (val1_3_keep V0 main_arg9 (by decide)).trans (val1_2_main_arg9 V0)
theorem val1_3_main_arg10 (V0 : Valuation τ sig (Elt F)) : val1_3 V0 (no_index (Proc.devRef .tc main_arg10)) = V0 (Proc.devRef .tc main_arg10) :=
  (val1_3_keep V0 main_arg10 (by decide)).trans (val1_2_main_arg10 V0)
theorem val1_3_main_arg11 (V0 : Valuation τ sig (Elt F)) : val1_3 V0 (no_index (Proc.devRef .tc main_arg11)) = V0 (Proc.devRef .tc main_arg11) :=
  (val1_3_keep V0 main_arg11 (by decide)).trans (val1_2_main_arg11 V0)
theorem val1_3_main_v77 (V0 : Valuation τ sig (Elt F)) : val1_3 V0 (no_index (Proc.devRef .tc main_v77)) = res_main_v77 V0 :=
  (val1_3_keep V0 main_v77 (by decide)).trans (val1_2_main_v77 V0)
theorem val1_3_main_v79 (V0 : Valuation τ sig (Elt F)) : val1_3 V0 (no_index (Proc.devRef .tc main_v79)) = select (Host.reduce IntOp.andi (andi (cmpi .sge (res_main_call1_v5 V0) (broadcastInDim S16384x1x1 ![] bcast_S_S16384x1x1 (constantI S_ 32 0#32))) (cmpi .sle (res_main_call1_v5 V0) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v72 V0) (broadcastInDim S16384x4 ![0, 1] bcast_S16384x1_S16384x4_0_1 (broadcastInDim S16384x1 ![0] bcast_S16384_S16384x1_0 (Host.reduceAdd (res_main_v72 V0) (constant S_ .f32 0x00000000#32) reducesTo_S16384x4_S16384_d1 h_S_)))) (res_main_call1_v5 V0)) (broadcastInDim S16384x1 ![] bcast_S_S16384x1 (constant S_ .f32 0x7FC00000#32)) :=
  (val1_3_keep V0 main_v79 (by decide)).trans (val1_2_main_v79 V0)
set_option maxRecDepth 8192 in
set_option maxHeartbeats 2000000 in
theorem val1_3_main_values (V0 : Valuation τ sig (Elt F)) : val1_3 V0 (no_index (Proc.devRef .tc main_values)) = res_main_values V0 := by
  unfold val1_3
  simp only [ops_part1_2, TRef.binary, TRef.nullary, TRef.ternary, TRef.unary, TRef.toBuf, TRef.ofBuf, cast_eq]
  after_results_simp
  simp only [val1_2_main_v77, val1_2_main_v81, val1_2_main_v80] <;> rfl
set_option maxRecDepth 8192 in
set_option maxHeartbeats 2000000 in
theorem val1_3_main_indices (V0 : Valuation τ sig (Elt F)) : val1_3 V0 (no_index (Proc.devRef .tc main_indices)) = (Host.topK S16384x2 1 (FloatOps.cmpfTotal .gt) (res_main_v87 V0) sliceFits_S16384x8_S16384x2).2 := by
  unfold val1_3
  simp only [ops_part1_2, TRef.binary, TRef.nullary, TRef.ternary, TRef.unary, TRef.toBuf, TRef.ofBuf, cast_eq]
  after_results_simp
  simp only [val1_2_main_v77, val1_2_main_v81, val1_2_main_v80] <;> rfl
set_option maxRecDepth 8192 in
set_option maxHeartbeats 2000000 in
theorem val1_3_main_cst_12 (V0 : Valuation τ sig (Elt F)) : val1_3 V0 (no_index (Proc.devRef .tc main_cst_12)) = constant S_ .f32 0xFF800000#32 := by
  unfold val1_3
  simp only [ops_part1_2, TRef.binary, TRef.nullary, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_v88, main_cst_13, main_v89, main_v90, main_v91, main_v92, main_v93, main_v94, main_cst_14, main_v95, main_v96, main_v97, main_v98, main_v99, main_v100, main_v101]
set_option maxRecDepth 8192 in
theorem ops_part1_3_writes : (ops_part1_3 : List (HloOp τ sig (Elt F))).Forall fun op => op.writes ⊆ (ops_part1_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
theorem val2_main_arg0 (V0 : Valuation τ sig (Elt F)) : val2 V0 (no_index (Proc.devRef .tc main_arg0)) = V0 (Proc.devRef .tc main_arg0) :=
  (val2_keep V0 main_arg0 (by decide)).trans (val1_3_main_arg0 V0)
theorem val2_main_arg1 (V0 : Valuation τ sig (Elt F)) : val2 V0 (no_index (Proc.devRef .tc main_arg1)) = V0 (Proc.devRef .tc main_arg1) :=
  (val2_keep V0 main_arg1 (by decide)).trans (val1_3_main_arg1 V0)
theorem val2_main_arg2 (V0 : Valuation τ sig (Elt F)) : val2 V0 (no_index (Proc.devRef .tc main_arg2)) = V0 (Proc.devRef .tc main_arg2) :=
  (val2_keep V0 main_arg2 (by decide)).trans (val1_3_main_arg2 V0)
theorem val2_main_arg3 (V0 : Valuation τ sig (Elt F)) : val2 V0 (no_index (Proc.devRef .tc main_arg3)) = V0 (Proc.devRef .tc main_arg3) :=
  (val2_keep V0 main_arg3 (by decide)).trans (val1_3_main_arg3 V0)
theorem val2_main_arg4 (V0 : Valuation τ sig (Elt F)) : val2 V0 (no_index (Proc.devRef .tc main_arg4)) = V0 (Proc.devRef .tc main_arg4) :=
  (val2_keep V0 main_arg4 (by decide)).trans (val1_3_main_arg4 V0)
theorem val2_main_arg5 (V0 : Valuation τ sig (Elt F)) : val2 V0 (no_index (Proc.devRef .tc main_arg5)) = V0 (Proc.devRef .tc main_arg5) :=
  (val2_keep V0 main_arg5 (by decide)).trans (val1_3_main_arg5 V0)
theorem val2_main_arg6 (V0 : Valuation τ sig (Elt F)) : val2 V0 (no_index (Proc.devRef .tc main_arg6)) = V0 (Proc.devRef .tc main_arg6) :=
  (val2_keep V0 main_arg6 (by decide)).trans (val1_3_main_arg6 V0)
theorem val2_main_arg7 (V0 : Valuation τ sig (Elt F)) : val2 V0 (no_index (Proc.devRef .tc main_arg7)) = V0 (Proc.devRef .tc main_arg7) :=
  (val2_keep V0 main_arg7 (by decide)).trans (val1_3_main_arg7 V0)
theorem val2_main_arg8 (V0 : Valuation τ sig (Elt F)) : val2 V0 (no_index (Proc.devRef .tc main_arg8)) = V0 (Proc.devRef .tc main_arg8) :=
  (val2_keep V0 main_arg8 (by decide)).trans (val1_3_main_arg8 V0)
theorem val2_main_arg9 (V0 : Valuation τ sig (Elt F)) : val2 V0 (no_index (Proc.devRef .tc main_arg9)) = V0 (Proc.devRef .tc main_arg9) :=
  (val2_keep V0 main_arg9 (by decide)).trans (val1_3_main_arg9 V0)
theorem val2_main_arg10 (V0 : Valuation τ sig (Elt F)) : val2 V0 (no_index (Proc.devRef .tc main_arg10)) = V0 (Proc.devRef .tc main_arg10) :=
  (val2_keep V0 main_arg10 (by decide)).trans (val1_3_main_arg10 V0)
theorem val2_main_arg11 (V0 : Valuation τ sig (Elt F)) : val2 V0 (no_index (Proc.devRef .tc main_arg11)) = V0 (Proc.devRef .tc main_arg11) :=
  (val2_keep V0 main_arg11 (by decide)).trans (val1_3_main_arg11 V0)
theorem val2_main_indices (V0 : Valuation τ sig (Elt F)) : val2 V0 (no_index (Proc.devRef .tc main_indices)) = (Host.topK S16384x2 1 (FloatOps.cmpfTotal .gt) (res_main_v87 V0) sliceFits_S16384x8_S16384x2).2 :=
  (val2_keep V0 main_indices (by decide)).trans (val1_3_main_indices V0)
set_option maxRecDepth 8192 in
set_option maxHeartbeats 1600000 in
theorem val2_main_v100 (V0 : Valuation τ sig (Elt F)) : val2 V0 (no_index (Proc.devRef .tc main_v100)) = mulf (Host.divf (res_main_v94 V0) (broadcastInDim S16384x2 ![0, 1] bcast_S16384x1_S16384x2_0_1 (broadcastInDim S16384x1 ![0] bcast_S16384_S16384x1_0 (Host.reduceAdd (res_main_v94 V0) (constant S_ .f32 0x00000000#32) reducesTo_S16384x2_S16384_d1 h_S_)))) (broadcastInDim S16384x2 ![0, 1] bcast_S16384x1_S16384x2_0_1 (select (Host.reduce IntOp.andi (andi (cmpi .sge (res_main_call1_v5 V0) (broadcastInDim S16384x1x1 ![] bcast_S_S16384x1x1 (constantI S_ 32 0#32))) (cmpi .sle (res_main_call1_v5 V0) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v72 V0) (broadcastInDim S16384x4 ![0, 1] bcast_S16384x1_S16384x4_0_1 (broadcastInDim S16384x1 ![0] bcast_S16384_S16384x1_0 (Host.reduceAdd (res_main_v72 V0) (constant S_ .f32 0x00000000#32) reducesTo_S16384x4_S16384_d1 h_S_)))) (res_main_call1_v5 V0)) (broadcastInDim S16384x1 ![] bcast_S_S16384x1 (constant S_ .f32 0x7FC00000#32)))) := by
  unfold val2
  simp only [ops_part1_3]
  after_results_simp
  simp only [val1_3_main_v79, val1_3_main_cst_12, val1_3_main_values] <;> rfl
set_option maxRecDepth 8192 in
set_option maxHeartbeats 1600000 in
theorem val2_main_v101 (V0 : Valuation τ sig (Elt F)) : val2 V0 (no_index (Proc.devRef .tc main_v101)) = broadcastInDim S16384x1 ![0] bcast_S16384_S16384x1_0 (res_main_v77 V0) := by
  unfold val2
  simp only [ops_part1_3]
  after_results_simp
  simp only [val1_3_main_v77] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_c, main_v102, main_v103, main_v104, main_v105, main_v106]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_v100 (V0 : Valuation τ sig (Elt F)) : val3 V0 (no_index (Proc.devRef .tc main_v100)) = mulf (Host.divf (res_main_v94 V0) (broadcastInDim S16384x2 ![0, 1] bcast_S16384x1_S16384x2_0_1 (broadcastInDim S16384x1 ![0] bcast_S16384_S16384x1_0 (Host.reduceAdd (res_main_v94 V0) (constant S_ .f32 0x00000000#32) reducesTo_S16384x2_S16384_d1 h_S_)))) (broadcastInDim S16384x2 ![0, 1] bcast_S16384x1_S16384x2_0_1 (select (Host.reduce IntOp.andi (andi (cmpi .sge (res_main_call1_v5 V0) (broadcastInDim S16384x1x1 ![] bcast_S_S16384x1x1 (constantI S_ 32 0#32))) (cmpi .sle (res_main_call1_v5 V0) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v72 V0) (broadcastInDim S16384x4 ![0, 1] bcast_S16384x1_S16384x4_0_1 (broadcastInDim S16384x1 ![0] bcast_S16384_S16384x1_0 (Host.reduceAdd (res_main_v72 V0) (constant S_ .f32 0x00000000#32) reducesTo_S16384x4_S16384_d1 h_S_)))) (res_main_call1_v5 V0)) (broadcastInDim S16384x1 ![] bcast_S_S16384x1 (constant S_ .f32 0x7FC00000#32)))) :=
  (val3_keep V0 main_v100 (by decide)).trans (val2_main_v100 V0)
set_option maxRecDepth 8192 in
theorem val3_main_v106 (V0 : Valuation τ sig (Elt F)) : val3 V0 (no_index (Proc.devRef .tc main_v106)) = sitofp .f32 (addi (broadcastInDim S16384x2 ![0, 1] bcast_S16384x1_S16384x2_0_1 (muli (broadcastInDim S16384x1 ![0] bcast_S16384_S16384x1_0 (res_main_v77 V0)) (broadcastInDim S16384x1 ![] bcast_S_S16384x1 (constantI S_ 32 8#32)))) ((Host.topK S16384x2 1 (FloatOps.cmpfTotal .gt) (res_main_v87 V0) sliceFits_S16384x8_S16384x2).2)) := by
  unfold val3
  simp only [ops_part2]
  after_results_simp
  simp only [val2_main_indices, val2_main_v101] <;> rfl

theorem after_ops (V0 : Valuation τ sig (Elt F)) : after ops V0 = val3 V0 := by
  simp only [ops, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = sitofp .f32 (addi (broadcastInDim S16384x2 ![0, 1] bcast_S16384x1_S16384x2_0_1 (muli (broadcastInDim S16384x1 ![0] bcast_S16384_S16384x1_0 (res_main_v77 (launchContents m c))) (broadcastInDim S16384x1 ![] bcast_S_S16384x1 (constantI S_ 32 8#32)))) ((Host.topK S16384x2 1 (FloatOps.cmpfTotal .gt) (res_main_v87 (launchContents m c)) sliceFits_S16384x8_S16384x2).2))
      ∧ r.2.mem ((c.tc : Thread nD τ).loc main_v100) = mulf (Host.divf (res_main_v94 (launchContents m c)) (broadcastInDim S16384x2 ![0, 1] bcast_S16384x1_S16384x2_0_1 (broadcastInDim S16384x1 ![0] bcast_S16384_S16384x1_0 (Host.reduceAdd (res_main_v94 (launchContents m c)) (constant S_ .f32 0x00000000#32) reducesTo_S16384x2_S16384_d1 h_S_)))) (broadcastInDim S16384x2 ![0, 1] bcast_S16384x1_S16384x2_0_1 (select (Host.reduce IntOp.andi (andi (cmpi .sge (res_main_call1_v5 (launchContents m c)) (broadcastInDim S16384x1x1 ![] bcast_S_S16384x1x1 (constantI S_ 32 0#32))) (cmpi .sle (res_main_call1_v5 (launchContents m c)) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v72 (launchContents m c)) (broadcastInDim S16384x4 ![0, 1] bcast_S16384x1_S16384x4_0_1 (broadcastInDim S16384x1 ![0] bcast_S16384_S16384x1_0 (Host.reduceAdd (res_main_v72 (launchContents m c)) (constant S_ .f32 0x00000000#32) reducesTo_S16384x4_S16384_d1 h_S_)))) (res_main_call1_v5 (launchContents m c))) (broadcastInDim S16384x1 ![] bcast_S_S16384x1 (constant S_ .f32 0x7FC00000#32))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v106).trans ((congrFun (after_ops (launchContents m c)) (Proc.devRef .tc main_v106)).trans (val3_main_v106 (launchContents m c))),
      (h c main_v100).trans ((congrFun (after_ops (launchContents m c)) (Proc.devRef .tc main_v100)).trans (val3_main_v100 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c))),
      (h c main_arg6).trans ((congrFun (after_ops (launchContents m c)) (Proc.devRef .tc main_arg6)).trans (val3_main_arg6 (launchContents m c))),
      (h c main_arg7).trans ((congrFun (after_ops (launchContents m c)) (Proc.devRef .tc main_arg7)).trans (val3_main_arg7 (launchContents m c))),
      (h c main_arg8).trans ((congrFun (after_ops (launchContents m c)) (Proc.devRef .tc main_arg8)).trans (val3_main_arg8 (launchContents m c))),
      (h c main_arg9).trans ((congrFun (after_ops (launchContents m c)) (Proc.devRef .tc main_arg9)).trans (val3_main_arg9 (launchContents m c))),
      (h c main_arg10).trans ((congrFun (after_ops (launchContents m c)) (Proc.devRef .tc main_arg10)).trans (val3_main_arg10 (launchContents m c))),
      (h c main_arg11).trans ((congrFun (after_ops (launchContents m c)) (Proc.devRef .tc main_arg11)).trans (val3_main_arg11 (launchContents m c)))⟩)
    (run_seq scopedRefs_eq scopedSems_eq defs main (fun _ => ops) main_eq (fun _ => ops_sub) m ρ fun _ => ops_fresh)

end Cert.Reference5Ideal.Value

end
-- ==== Proof.RtHost.lean ====
/- What the router's tables hold that the host lays out over 128 lanes: the columns of the two weight matrices at lanes
   0..35, what a cast to the narrow format loses of them at lanes 64..99, and the two biases at lanes 0..35. -/
module

public import proofs.«01_k».proof.Proof.Gen.Kernel5Ideal.Frame
public import Idealize.ShloMosaic.Lib.Routing.OpsSet
public import Idealize.ShloMosaic.Lib.Pointwise
public import Idealize.ShloMosaic.Lib.Pipeline.ValueKit
public import Idealize.ShloMosaic.Lib.Claim

@[expose] public section

set_option maxRecDepth 16384

noncomputable section

namespace Cert.Kernel5Ideal.Rt

open Idealize.ShloMosaic Idealize.ShloMosaic.TcCoe Idealize.SL.Sem
open Cert.Kernel5Ideal Cert.Kernel5Ideal.Gen

/-- Where an entry of a block of 36 columns lands among the 128. -/
theorem land2 (idx : IVec S1 32) (n : ℕ) (hn : n + 36 ≤ 128) (hidx : ∀ i, (idx i).toInt = n) (k : S2048x36.Idx) :
    scatter_S2048x128_S1_S2048x36_01_n_1_0.resultIdx? k idx = some (ix2 (k 0) ⟨n + (k 1 : ℕ), by have := (k 1).isLt; simp [Shape.size] at this; omega⟩) := by
  have h1 := (k 1).isLt
  have h0 := (k 0).isLt
  have s0 : scatter_S2048x128_S1_S2048x36_01_n_1_0.start k idx 0 = 0 := by
    unfold ScatterDims.start; exact dif_neg (by decide)
  have s1 : scatter_S2048x128_S1_S2048x36_01_n_1_0.start k idx 1 = n := by
    unfold ScatterDims.start; rw [dif_pos (by decide)]; exact hidx _
  have w0 : scatter_S2048x128_S1_S2048x36_01_n_1_0.window k 0 = k 0 := by
    unfold ScatterDims.window; rw [dif_pos (by decide)]; rfl
  have w1 : scatter_S2048x128_S1_S2048x36_01_n_1_0.window k 1 = k 1 := by
    unfold ScatterDims.window; rw [dif_pos (by decide)]; rfl
  have h0' : (k 0 : ℕ) < 2048 := h0
  have h1' : (k 1 : ℕ) < 36 := h1
  unfold ScatterDims.resultIdx?
  rw [dif_pos (fun a => by
    fin_cases a
    · show 0 ≤ scatter_S2048x128_S1_S2048x36_01_n_1_0.start k idx 0 + (scatter_S2048x128_S1_S2048x36_01_n_1_0.window k 0 : ℕ) ∧ scatter_S2048x128_S1_S2048x36_01_n_1_0.start k idx 0 + (scatter_S2048x128_S1_S2048x36_01_n_1_0.window k 0 : ℕ) < ((2048 : ℕ) : ℤ)
      rw [s0, w0]; omega
    · show 0 ≤ scatter_S2048x128_S1_S2048x36_01_n_1_0.start k idx 1 + (scatter_S2048x128_S1_S2048x36_01_n_1_0.window k 1 : ℕ) ∧ scatter_S2048x128_S1_S2048x36_01_n_1_0.start k idx 1 + (scatter_S2048x128_S1_S2048x36_01_n_1_0.window k 1 : ℕ) < ((128 : ℕ) : ℤ)
      rw [s1, w1]; omega)]
  refine congrArg some (funext fun a => Fin.ext ?_)
  fin_cases a
  · show (scatter_S2048x128_S1_S2048x36_01_n_1_0.start k idx 0 + (scatter_S2048x128_S1_S2048x36_01_n_1_0.window k 0 : ℕ)).toNat = (k 0 : ℕ)
    rw [s0, w0]; omega
  · show (scatter_S2048x128_S1_S2048x36_01_n_1_0.start k idx 1 + (scatter_S2048x128_S1_S2048x36_01_n_1_0.window k 1 : ℕ)).toNat = n + (k 1 : ℕ)
    rw [s1, w1]; omega

/-- Where an entry of a row of 36 lands among the 128. -/
theorem land1 (idx : IVec S1 32) (hidx : ∀ i, (idx i).toInt = 0) (k : S36.Idx) :
    scatter_S128_S1_S36_0_n_0_0.resultIdx? k idx = some (ix1 ⟨(k 0 : ℕ), by have := (k 0).isLt; simp [Shape.size] at this; omega⟩) := by
  have h0 := (k 0).isLt
  have s0 : scatter_S128_S1_S36_0_n_0_0.start k idx 0 = 0 := by
    unfold ScatterDims.start; rw [dif_pos (by decide)]; exact hidx _
  have w0 : scatter_S128_S1_S36_0_n_0_0.window k 0 = k 0 := by
    unfold ScatterDims.window; rw [dif_pos (by decide)]; rfl
  have h0' : (k 0 : ℕ) < 36 := h0
  unfold ScatterDims.resultIdx?
  rw [dif_pos (fun a => by
    fin_cases a
    show 0 ≤ scatter_S128_S1_S36_0_n_0_0.start k idx 0 + (scatter_S128_S1_S36_0_n_0_0.window k 0 : ℕ) ∧ scatter_S128_S1_S36_0_n_0_0.start k idx 0 + (scatter_S128_S1_S36_0_n_0_0.window k 0 : ℕ) < ((128 : ℕ) : ℤ)
    rw [s0, w0]; omega)]
  refine congrArg some (funext fun a => Fin.ext ?_)
  fin_cases a
  show (scatter_S128_S1_S36_0_n_0_0.start k idx 0 + (scatter_S128_S1_S36_0_n_0_0.window k 0 : ℕ)).toNat = (k 0 : ℕ)
  rw [s0, w0]; omega

/-- A block of 36 columns set among 128, read in the block. -/
theorem set2_in {α : Type} (x : S2048x128.Idx → α) (idx : IVec S1 32) (n : ℕ) (hn : n + 36 ≤ 128) (hidx : ∀ i, (idx i).toInt = n)
    (u : S2048x36.Idx → α) (p : Fin 2048) (l : Fin 128) (q : Fin 36) (hl : (l : ℕ) = n + q) :
    Host.scatter scatter_S2048x128_S1_S2048x36_01_n_1_0 (fun _ b => b) x idx u (ix2 p l) = u (ix2 p q) := by
  refine Routing.scatter_set_hit _ x idx u (ix2 p l) _ (fun k hk => ?_) (ix2 p q) ?_
  · rw [land2 idx n hn hidx] at hk
    have e := Option.some.inj hk
    have e0 : k 0 = p := congrFun e 0
    have e1 := congrArg Fin.val (congrFun e 1)
    have e1' : n + (k 1 : ℕ) = l := e1
    refine congrArg u (funext fun a => ?_)
    fin_cases a
    · exact e0
    · exact Fin.ext (by show (k 1 : ℕ) = q; omega)
  · rw [land2 idx n hn hidx]
    refine congrArg some (funext fun a => ?_)
    fin_cases a
    · rfl
    · exact Fin.ext hl.symm

/-- A block of 36 columns set among 128, read left of the block. -/
theorem set2_out {α : Type} (x : S2048x128.Idx → α) (idx : IVec S1 32) (n : ℕ) (hn : n + 36 ≤ 128) (hidx : ∀ i, (idx i).toInt = n)
    (u : S2048x36.Idx → α) (p : Fin 2048) (l : Fin 128) (hl : (l : ℕ) < n) :
    Host.scatter scatter_S2048x128_S1_S2048x36_01_n_1_0 (fun _ b => b) x idx u (ix2 p l) = x (ix2 p l) := by
  refine Routing.scatter_set_miss _ x idx u (ix2 p l) fun k hk => ?_
  rw [land2 idx n hn hidx] at hk
  have e1 := congrArg Fin.val (congrFun (Option.some.inj hk) 1)
  have e1' : n + (k 1 : ℕ) = l := e1
  omega

/-- A row of 36 set among 128, read in the row. -/
theorem set1_in {α : Type} (x : S128.Idx → α) (idx : IVec S1 32) (hidx : ∀ i, (idx i).toInt = 0)
    (u : S36.Idx → α) (l : Fin 128) (q : Fin 36) (hl : (l : ℕ) = q) :
    Host.scatter scatter_S128_S1_S36_0_n_0_0 (fun _ b => b) x idx u (ix1 l) = u (ix1 q) := by
  refine Routing.scatter_set_hit _ x idx u (ix1 l) _ (fun k hk => ?_) (ix1 q) ?_
  · rw [land1 idx hidx] at hk
    have e1 := congrArg Fin.val (congrFun (Option.some.inj hk) 0)
    have e1' : (k 0 : ℕ) = l := e1
    refine congrArg u (funext fun a => ?_)
    fin_cases a
    exact Fin.ext (by show (k 0 : ℕ) = q; omega)
  · rw [land1 idx hidx]
    refine congrArg some (funext fun a => ?_)
    fin_cases a
    exact Fin.ext hl.symm

variable (m : (ℓ : Loc nD τ sig) → Buf (Elt Ideal) ℓ)

/-- The 36 columns of the two weight matrices. -/
def W (c : Dev nD) : FVec Ideal S2048x36 .f32 :=
  concatenate S2048x36 1 [⟨S2048x4, (m ((c : Thread nD τ).loc main_arg8) : FVec Ideal S2048x4 .f32)⟩, ⟨S2048x32, (m ((c : Thread nD τ).loc main_arg10) : FVec Ideal S2048x32 .f32)⟩] concatenates_S2048x4_S2048x32_S2048x36_d1

/-- The 36 entries of the two biases. -/
def B (c : Dev nD) : FVec Ideal S36 .f32 :=
  concatenate S36 0 [⟨S4, (m ((c : Thread nD τ).loc main_arg9) : FVec Ideal S4 .f32)⟩, ⟨S32, (m ((c : Thread nD τ).loc main_arg11) : FVec Ideal S32 .f32)⟩] concatenates_S4_S32_S36_d0

/-- The table of weights the region finds. -/
theorem V_w (c : Dev nD) : V m c main_v9
    = Host.scatter scatter_S2048x128_S1_S2048x36_01_n_1_0 (fun _ b => b)
        (Host.scatter scatter_S2048x128_S1_S2048x36_01_n_1_0 (fun _ b => b)
          (broadcastInDim S2048x128 ![] bcast_S_S2048x128 (constant S_ .bf16 0x0000#16))
          (broadcastInDim S1 ![] bcast_S_S1 (constantI S_ 32 0#32)) (truncf .bf16 (W m c) bitsLt_bf16_f32))
        (broadcastInDim S1 ![] bcast_S_S1 (constantI S_ 32 64#32))
        (truncf .bf16 (subf (W m c) (extf .f32 (truncf .bf16 (W m c) bitsLt_bf16_f32) bitsLt_bf16_f32)) bitsLt_bf16_f32) := by
  unfold W V V0 hostOps0
  simp only [List.flatten_cons, List.flatten_nil, List.append_nil, List.cons_append, List.nil_append]
  after_results_simp <;> rfl

/-- The table of biases the region finds. -/
theorem V_b (c : Dev nD) : V m c main_v19
    = shapeCast S1x128 (Host.scatter scatter_S128_S1_S36_0_n_0_0 (fun _ b => b)
        (broadcastInDim S128 ![] bcast_S_S128 (constant S_ .f32 0x00000000#32))
        (broadcastInDim S1 ![] bcast_S_S1 (constantI S_ 32 0#32)) (B m c)) shapeCasts_S128_S1x128 := by
  unfold B V V0 hostOps0
  simp only [List.flatten_cons, List.flatten_nil, List.append_nil, List.cons_append, List.nil_append]
  after_results_simp <;> rfl

/-! The arguments the region finds at another shape. -/

theorem V_14 (c : Dev nD) : V m c main_v14 = shapeCast S4x6x2048 (m ((c : Thread nD τ).loc main_arg3)) shapeCasts_S4x12288_S4x6x2048 := by
  unfold V V0 hostOps0
  simp only [List.flatten_cons, List.flatten_nil, List.append_nil, List.cons_append, List.nil_append]
  after_results_simp <;> rfl

theorem V_16 (c : Dev nD) : V m c main_v16 = shapeCast S1x1024 (m ((c : Thread nD τ).loc main_arg4)) shapeCasts_S1024_S1x1024 := by
  unfold V V0 hostOps0
  simp only [List.flatten_cons, List.flatten_nil, List.append_nil, List.cons_append, List.nil_append]
  after_results_simp <;> rfl

theorem V_17 (c : Dev nD) : V m c main_v17 = shapeCast S1x1024 (m ((c : Thread nD τ).loc main_arg5)) shapeCasts_S1024_S1x1024 := by
  unfold V V0 hostOps0
  simp only [List.flatten_cons, List.flatten_nil, List.append_nil, List.cons_append, List.nil_append]
  after_results_simp <;> rfl

theorem V_18 (c : Dev nD) : V m c main_v18 = shapeCast S1x2048 (m ((c : Thread nD τ).loc main_arg6)) shapeCasts_S2048_S1x2048 := by
  unfold V V0 hostOps0
  simp only [List.flatten_cons, List.flatten_nil, List.append_nil, List.cons_append, List.nil_append]
  after_results_simp <;> rfl

/-- A column of the weights at its lane. -/
theorem V_w_lo (c : Dev nD) (p : Fin 2048) (l : Fin 128) (q : Fin 36) (hl : (l : ℕ) = q) :
    V m c main_v9 (ix2 p l) = W m c (ix2 p q) := by
  rw [V_w, set2_out _ _ 64 (by omega) (fun i => by decide +revert) _ p l (by omega),
    set2_in _ _ 0 (by omega) (fun i => by decide +revert) _ p l q (by omega)]
  rfl

/-- What the cast loses of a column, 64 lanes on. -/
theorem V_w_hi (c : Dev nD) (p : Fin 2048) (l : Fin 128) (q : Fin 36) (hl : (l : ℕ) = 64 + q) :
    V m c main_v9 (ix2 p l) = W m c (ix2 p q) - W m c (ix2 p q) := by
  rw [V_w, set2_in _ _ 64 (by omega) (fun i => by decide +revert) _ p l q hl]
  rfl

/-- A bias at its lane. -/
theorem V_b_lo (c : Dev nD) (l : Fin 128) (q : Fin 36) (hl : (l : ℕ) = q) :
    V m c main_v19 (ix2 0 l) = B m c (ix1 q) := by
  rw [V_b]
  refine Eq.trans ?_ (set1_in (broadcastInDim S128 ![] bcast_S_S128 (constant (F := Ideal) S_ .f32 0x00000000#32)) (broadcastInDim S1 ![] bcast_S_S1 (constantI S_ 32 0#32)) (fun i => by decide +revert) (B m c) l q hl)
  pointwise

end Cert.Kernel5Ideal.Rt

end
-- ==== Proof.Pick.lean ====
/- The two greatest of a row of numbers, earliest first among equals: in what order they come, that a search by a
   maximum and then a least position finds the first, that a stable sort puts the two in its first two places, and that
   a fold that keeps the better of two pairs ends at the first. -/
module

public import Idealize.ShloMosaic.Lib.SortFacts
public import Idealize.ShloMosaic.Lib.IdealHost
public import Idealize.ShloMosaic.Lib.WordCmp
public import Mathlib.Data.Finset.Fold
public import Mathlib.Data.Finset.Max

@[expose] public section

namespace Cert.Pick

open Idealize.ShloMosaic

/-- Position `i` comes before position `k`: a greater number, or an equal one at an earlier position. -/
def Bf {n : ℕ} (v : Fin n → EReal) (i k : Fin n) : Prop := v k < v i ∨ (v k = v i ∧ i < k)

theorem Bf.le {n : ℕ} {v : Fin n → EReal} {i k : Fin n} (h : Bf v i k) : v k ≤ v i :=
  h.elim le_of_lt fun e => e.1.le

/-- Position `i` comes before every other. -/
def First {n : ℕ} (v : Fin n → EReal) (i : Fin n) : Prop := ∀ k, k ≠ i → Bf v i k

/-- Position `j` comes before every other but `i`. -/
def Second {n : ℕ} (v : Fin n → EReal) (i j : Fin n) : Prop := j ≠ i ∧ ∀ k, k ≠ i → k ≠ j → Bf v j k

/-- Among the positions of a set one comes before the others. -/
theorem exists_on {n : ℕ} (v : Fin n → EReal) (s : Finset (Fin n)) (hs : s.Nonempty) :
    ∃ i ∈ s, ∀ k ∈ s, k ≠ i → Bf v i k := by
  obtain ⟨a, ha, hm⟩ := s.exists_max_image v hs
  obtain ⟨i, hi, hl⟩ := (s.filter (fun k => v k = v a)).exists_min_image id ⟨a, by simp [ha]⟩
  simp only [Finset.mem_filter] at hi
  refine ⟨i, hi.1, fun k hk hne => ?_⟩
  rcases lt_or_eq_of_le (hm k hk) with h | h
  · left; rw [hi.2]; exact h
  · right
    exact ⟨h.trans hi.2.symm, lt_of_le_of_ne (hl k (by simp [hk, h])) (Ne.symm hne)⟩

theorem exists_first {n : ℕ} (v : Fin (n + 1) → EReal) : ∃ i, First v i := by
  obtain ⟨i, -, h⟩ := exists_on v Finset.univ ⟨0, Finset.mem_univ _⟩
  exact ⟨i, fun k hk => h k (Finset.mem_univ _) hk⟩

theorem exists_second {n : ℕ} (v : Fin (n + 2) → EReal) (i : Fin (n + 2)) : ∃ j, Second v i j := by
  have hs : (Finset.univ.erase i).Nonempty := by
    rw [← Finset.card_pos, Finset.card_erase_of_mem (Finset.mem_univ _), Finset.card_univ, Fintype.card_fin]
    omega
  obtain ⟨j, hj, h⟩ := exists_on v (Finset.univ.erase i) hs
  exact ⟨j, Finset.ne_of_mem_erase hj, fun k hk hk' => h k (Finset.mem_erase.2 ⟨hk, Finset.mem_univ _⟩) hk'⟩

/-! ## A search by a maximum and a least position -/

/-- The number of a lane. -/
noncomputable def num (l : ℕ) : EReal := ((l : ℝ) : EReal)

theorem num_le {a b : ℕ} : num a ≤ num b ↔ a ≤ b := by unfold num; rw [EReal.coe_le_coe_iff]; exact Nat.cast_le
theorem num_lt {a b : ℕ} : num a < num b ↔ a < b := by unfold num; rw [EReal.coe_lt_coe_iff]; exact Nat.cast_lt
theorem num_inj {a b : ℕ} : num a = num b ↔ a = b := by
  constructor
  · intro h; exact le_antisymm (num_le.1 h.le) (num_le.1 h.ge)
  · rintro rfl; rfl

theorem fold_max {n : ℕ} (v : Fin n → EReal) (i : Fin n) (h : First v i) : Finset.fold max ⊥ v Finset.univ = v i := by
  refine le_antisymm ((Finset.fold_max_le _).2 ⟨bot_le, fun k _ => ?_⟩) ((Finset.le_fold_max _).2 (Or.inr ⟨i, Finset.mem_univ _, le_rfl⟩))
  by_cases hk : k = i
  · rw [hk]
  · exact (h k hk).le

theorem fold_min (v : Fin 128 → EReal) (i : Fin 128) (h : First v i) :
    Finset.fold min ⊤ (fun x : Fin 128 => if v x = v i then num x else num 128) Finset.univ = num i := by
  refine le_antisymm ((Finset.fold_min_le _).2 (Or.inr ⟨i, Finset.mem_univ _, by rw [if_pos rfl]⟩)) ((Finset.le_fold_min _).2 ⟨le_top, fun k _ => ?_⟩)
  split
  · rename_i he
    by_cases hk : k = i
    · rw [hk]
    · rcases h k hk with h' | h'
      · exact absurd he h'.ne
      · exact num_le.2 h'.2.le
  · exact num_le.2 i.2.le

/-- Where only some lanes are read and the others hold minus infinity, the first among those read is the first. -/
theorem first_mask (L : Fin 128 → EReal) (P : Fin 128 → Prop) [DecidablePred P] (i : Fin 128) (hi : P i) (hb : L i ≠ ⊥)
    (h : ∀ k, P k → k ≠ i → Bf L i k) : First (fun l => if P l then L l else ⊥) i := by
  intro k hk
  unfold Bf
  simp only [if_pos hi]
  by_cases hp : P k
  · simp only [if_pos hp]; exact h k hp hk
  · simp only [if_neg hp]; exact Or.inl (bot_lt_iff_ne_bot.2 hb)

/-! ## A stable sort -/

/-- A stable sort of positions by a relation agrees with one by a relation that breaks ties by position. -/
theorem stableSort_tie {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => ?_
    exact h a b (hl.1 b ((perm_stableSort R' l).mem_iff.mp hb))

theorem sortedFrom_tie {n : ℕ} (R R' : Fin n → Fin n → Bool) (h : ∀ a b, a < b → R b a = R' b a) :
    sortedFrom R = sortedFrom R' := by
  have e : sortPositions n R = sortPositions n R' := stableSort_tie R R' h _ (List.pairwise_lt_finRange n)
  funext k
  unfold sortedFrom
  rw [List.get_of_eq e]
  rfl

open Classical in
/-- The order of the positions as a test. -/
noncomputable def bf {n : ℕ} (v : Fin n → EReal) (i k : Fin n) : Bool := decide (Bf v i k)

theorem bf_true {n : ℕ} {v : Fin n → EReal} {i k : Fin n} : bf v i k = true ↔ Bf v i k := by simp [bf]
theorem bf_false {n : ℕ} {v : Fin n → EReal} {i k : Fin n} : bf v i k = false ↔ ¬ Bf v i k := by simp [bf]

/-- The stable sort by "greater" leaves no position before an earlier place's. -/
theorem sorted_bf {n : ℕ} (v : Fin n → EReal) (R : Fin n → Fin n → Bool) (hR : ∀ a b, R a b = true ↔ v b < v a)
    (i j : Fin n) (hij : i < j) : ¬ Bf v (sortedFrom R j) (sortedFrom R i) := by
  have e : sortedFrom R = sortedFrom (bf v) := sortedFrom_tie _ _ fun a b hab => by
    rw [Bool.eq_iff_iff, hR, bf_true]
    unfold Bf
    exact ⟨Or.inl, fun h => h.elim id fun q => absurd q.2 (not_lt.2 hab.le)⟩
  rw [e, ← bf_false]
  refine sortedFrom_noInversion (bf v) (bf v) (fun a b h => ?_) (fun _ _ h => h) (fun a b c h h' => ?_) i j hij
  · rw [bf_true] at h; rw [bf_false]
    rintro (h2 | h2) <;> rcases h with h1 | h1
    · exact absurd h2 (not_lt.2 h1.le)
    · exact absurd h1.1 h2.ne'
    · exact absurd h2.1 h1.ne'
    · exact absurd h2.2 (not_lt.2 h1.2.le)
  · rw [bf_false] at h h' ⊢
    unfold Bf at h h' ⊢
    push Not at h h' ⊢
    refine ⟨h.1.trans h'.1, fun he => ?_⟩
    have h1 : v b = v a := le_antisymm (h'.1.trans he.le) h.1
    have h2 : v c = v b := he.trans h1.symm
    exact (h'.2 h2).trans (h.2 h1)

/-- The first place holds the first position. -/
theorem sorted_first {n : ℕ} (v : Fin (n + 2) → EReal) (R : Fin (n + 2) → Fin (n + 2) → Bool) (hR : ∀ a b, R a b = true ↔ v b < v a)
    (i : Fin (n + 2)) (h : First v i) : sortedFrom R 0 = i := by
  by_contra hne
  obtain ⟨p, hp⟩ := sortedFrom_surjective R i
  have hp0 : (0 : Fin (n + 2)) < p := by
    rw [Fin.pos_iff_ne_zero]; rintro rfl; exact hne hp
  exact sorted_bf v R hR 0 p hp0 (by rw [hp]; exact h _ hne)

/-- The second place holds the second position. -/
theorem sorted_second {n : ℕ} (v : Fin (n + 2) → EReal) (R : Fin (n + 2) → Fin (n + 2) → Bool) (hR : ∀ a b, R a b = true ↔ v b < v a)
    (i j : Fin (n + 2)) (h : First v i) (h2 : Second v i j) : sortedFrom R 1 = j := by
  by_contra hne
  obtain ⟨p, hp⟩ := sortedFrom_surjective R j
  have h0 := sorted_first v R hR i h
  have hp1 : (1 : Fin (n + 2)) < p := by
    have a0 : p ≠ 0 := by rintro rfl; exact h2.1 (hp.symm.trans h0)
    have a1 : p ≠ 1 := by rintro rfl; exact hne hp
    have := p.2
    rw [Fin.lt_def]
    have b0 : (p : ℕ) ≠ 0 := fun e => a0 (Fin.ext e)
    have b1 : (p : ℕ) ≠ 1 := fun e => a1 (Fin.ext (e.trans (by simp)))
    simp only [Fin.val_one]
    omega
  have hi1 : sortedFrom R 1 ≠ i := fun e => by
    have := sortedFrom_injective R (e.trans h0.symm)
    exact absurd (congrArg Fin.val this) (by simp)
  exact sorted_bf v R hR 1 p hp1 (by rw [hp]; exact h2.2 _ hi1 hne)

/-! ## A fold that keeps the better of two -/

/-- A fold that keeps the better of two ends at the one that is better than all others, where it starts from a worse
    one and meets that one on the way. -/
theorem fold_best {α : Type} (f : α → α → α) (best : α) (l : List α)
    (hl : ∀ p ∈ l, f best p = best ∧ (p ≠ best → f p best = best)) (h0 : best ∈ l) (a : α)
    (W : α → Prop) (hW : ∀ p, W p → f p best = best) (hWl : ∀ a p, W a → p ∈ l → p ≠ best → W (f a p)) (ha : W a) :
    l.foldl f a = best := by
  have stay : ∀ m : List α, (∀ p ∈ m, f best p = best) → m.foldl f best = best := by
    intro m hm
    induction m with
    | nil => rfl
    | cons p m ih => rw [List.foldl_cons, hm p List.mem_cons_self]; exact ih fun q hq => hm q (List.mem_cons_of_mem p hq)
  induction l generalizing a with
  | nil => exact absurd h0 List.not_mem_nil
  | cons p l ih =>
    rw [List.foldl_cons]
    by_cases hp : p = best
    · rw [hp, hW a ha]
      exact stay l fun q hq => (hl q (List.mem_cons_of_mem p hq)).1
    · refine ih (fun q hq => hl q (List.mem_cons_of_mem p hq)) ((List.mem_cons.1 h0).resolve_left (Ne.symm hp)) _ (fun b q hb hq => hWl b q hb (List.mem_cons_of_mem p hq)) (hWl a p ha List.mem_cons_self hp)

end Cert.Pick
-- ==== Proof.RtFinite.lean ====
/- Entries that are real numbers: the precondition says the arguments' are, and the rows that enter the router are then. -/
module

public import proofs.«01_k».proof.Proof.Mix
public import proofs.«01_k».proof.Pre_finite
public import Idealize.ShloMosaic.Lib.ReduceAll
public import Idealize.ShloMosaic.Lib.Pointwise
public import Idealize.ShloMosaic.Lib.Pipeline.ValueKit
public import Idealize.ShloMosaic.Lib.Claim

@[expose] public section

set_option maxRecDepth 16384

noncomputable section

namespace Cert.Finite

open Idealize.ShloMosaic Idealize.ShloMosaic.TcCoe Idealize.SL.Sem
open Cert.Reference3Ideal.Mix (REF1 REF2 ref2_at)

/-- A real number among the extended ones. -/
def Fn (x : EReal) : Prop := ∃ r : ℝ, x = r

theorem Fn.add {x y : EReal} (hx : Fn x) (hy : Fn y) : Fn (x + y) := by
  obtain ⟨a, rfl⟩ := hx
  obtain ⟨b, rfl⟩ := hy
  exact ⟨a + b, (EReal.coe_add a b).symm⟩

theorem Fn.mul {x y : EReal} (hx : Fn x) (hy : Fn y) : Fn (x * y) := by
  obtain ⟨a, rfl⟩ := hx
  obtain ⟨b, rfl⟩ := hy
  exact ⟨a * b, (EReal.coe_mul a b).symm⟩

theorem Fn.sum {ι : Type} {s : Finset ι} {f : ι → EReal} (h : ∀ i ∈ s, Fn (f i)) : Fn (∑ i ∈ s, f i) := by
  classical
  induction s using Finset.induction_on with
  | empty => exact ⟨0, by simp⟩
  | insert i s hi ih =>
    rw [Finset.sum_insert hi]
    exact (h i (Finset.mem_insert_self _ _)).add (ih fun k hk => h k (Finset.mem_insert_of_mem hk))

theorem Fn.sub_self {x : EReal} (hx : Fn x) : x - x = 0 := by
  obtain ⟨a, rfl⟩ := hx
  rw [← EReal.coe_sub, _root_.sub_self, EReal.coe_zero]

theorem Fn.ne_bot {x : EReal} (hx : Fn x) : x ≠ ⊥ := by
  obtain ⟨a, rfl⟩ := hx
  exact EReal.coe_ne_bot a

/-- A number whose size is less than the greatest is a real one. -/
theorem of_lt {x : EReal} (h : max x (-x) < ⊤) : Fn x := by
  induction x with
  | bot => simp at h
  | top => simp at h
  | coe r => exact ⟨r, rfl⟩

theorem one_fn : Fn (1 : EReal) := ⟨1, EReal.coe_one.symm⟩

/-- A sum of squares of real numbers is a real number, and not negative. -/
theorem squares {ι : Type} (s : Finset ι) (R : ι → EReal) (hR : ∀ i, Fn (R i)) : ∃ r : ℝ, 0 ≤ r ∧ ∑ x ∈ s, R x * R x = r := by
  classical
  induction s using Finset.induction_on with
  | empty => exact ⟨0, le_rfl, by simp⟩
  | insert i s hi ih =>
    obtain ⟨r, hr, e⟩ := ih
    obtain ⟨f, hf⟩ := hR i
    refine ⟨f * f + r, add_nonneg (mul_self_nonneg f) hr, ?_⟩
    rw [Finset.sum_insert hi, e, hf, ← EReal.coe_mul, ← EReal.coe_add]

/-- The factor of a row's mean square is a real number. -/
theorem rms {n : ℕ} (R : Fin n → EReal) (hR : ∀ i, Fn (R i)) (C E : EReal) (hC : ∃ c : ℝ, 0 < c ∧ C = c) (hE : ∃ e : ℝ, 0 < e ∧ E = e) :
    Fn (Ideal.rsqrt (Ideal.div (∑ x, R x * R x) C + E)) := by
  obtain ⟨c, hc, rfl⟩ := hC
  obtain ⟨e, he, rfl⟩ := hE
  obtain ⟨r, hr, hs⟩ := squares Finset.univ R hR
  have hc0 : (c : EReal) ≠ 0 := by
    rw [← EReal.coe_zero]
    exact fun h => hc.ne' (EReal.coe_injective h)
  have hd : Ideal.div (∑ x, R x * R x) (c : EReal) + (e : EReal) = ((r * c⁻¹ + e : ℝ) : EReal) := by
    unfold Ideal.div
    rw [if_neg hc0, hs, ← EReal.coe_inv, ← EReal.coe_mul, ← EReal.coe_add]
  have hp : 0 < r * c⁻¹ + e := add_pos_of_nonneg_of_pos (mul_nonneg hr (inv_nonneg.2 hc.le)) he
  rw [hd]
  refine ⟨(Real.sqrt (r * c⁻¹ + e))⁻¹, ?_⟩
  generalize r * c⁻¹ + e = v at hp
  show (if v < 0 then (⊥ : EReal) else if v = 0 then ⊤ else (((Real.sqrt v)⁻¹ : ℝ) : EReal)) = _
  rw [if_neg (not_lt.2 hp.le), if_neg hp.ne']

theorem c_1024 : ∃ c : ℝ, 0 < c ∧ Ideal.ofBits .f32 1149239296#32 = c :=
  ⟨1024, by norm_num, by simp [Ideal.ofBits, Ideal.ieee, -EReal.coe_mul]; norm_num⟩

theorem c_2048 : ∃ c : ℝ, 0 < c ∧ Ideal.ofBits .f32 0x45000000#32 = c :=
  ⟨2048, by norm_num, by simp [Ideal.ofBits, Ideal.ieee, -EReal.coe_mul]; norm_num⟩

theorem c_eps : ∃ c : ℝ, 0 < c ∧ Ideal.ofBits .f32 897988541#32 = c :=
  ⟨8796093 * (2 : ℝ) ^ (-43 : ℤ), by positivity, by simp [Ideal.ofBits, Ideal.ieee, -EReal.coe_mul]⟩

section
variable (a0 a1 : FVec Ideal Cert.Reference3Ideal.S4x4096x1024 .bf16) (a2 : FVec Ideal Cert.Reference3Ideal.S4x4096x2048 .f32) (a3 : FVec Ideal Cert.Reference3Ideal.S4x12288 .f32)
    (a4 a5 : FVec Ideal Cert.Reference3Ideal.S1024 .f32) (a6 : FVec Ideal Cert.Reference3Ideal.S2048 .f32) (a7 : FVec Ideal Cert.Reference3Ideal.S2048x2048 .f32)
    (h0 : ∀ i, Fn (a0 i)) (h1 : ∀ i, Fn (a1 i)) (h2 : ∀ i, Fn (a2 i)) (h3 : ∀ i, Fn (a3 i))
    (h4 : ∀ i, Fn (a4 i)) (h5 : ∀ i, Fn (a5 i)) (h6 : ∀ i, Fn (a6 i)) (h7 : ∀ i, Fn (a7 i))
include h0 h1 h2 h3 h4 h5 h7

/-- The residual stream after the attention is real where the arguments are. -/
theorem ref1_fn (a : Fin 4) (b : Fin 4096) (q : Fin 2048) : Fn (REF1 a0 a1 a2 a3 a4 a5 a7 (ix3 a b q)) := by
  pointwise [REF1]
  refine (h2 _).add ((h3 _).mul (Fn.add (Fn.sum fun x _ => ?_) (Fn.sum fun x _ => ?_)))
  · exact (((h0 _).mul (rms _ (fun i => h0 _) _ _ c_1024 c_eps)).mul (h4 _)).mul (h7 _)
  · exact (((h1 _).mul (rms _ (fun i => h1 _) _ _ c_1024 c_eps)).mul (h5 _)).mul (h7 _)

include h6
/-- The rows that enter the router are real where the arguments are. -/
theorem ref2_fn (a : Fin 4) (b : Fin 4096) (q : Fin 2048) : Fn (REF2 a0 a1 a2 a3 a4 a5 a6 a7 (ix3 a b q)) := by
  have hr := ref1_fn a0 a1 a2 a3 a4 a5 a7 h0 h1 h2 h3 h4 h5 h7 a b
  rw [ref2_at]
  exact ((((hr q).mul (rms _ hr _ _ c_2048 c_eps)).mul (h6 _)).mul (one_fn.add (h3 _))).add (h3 _)

end

/-- An array whose sizes are all less than the greatest number has real entries. -/
theorem all {s u t : Shape} {axes : List (Fin s.rank)} {φ : FTy} [Subsingleton t.Idx] (x : FVec Ideal s φ) (c : FVec Ideal s φ) (hc : ∀ i, c i = (⊤ : EReal))
    (init : u.Idx → BitVec 1) (h : s.ReducesTo axes t) (hu : 0 < u.numel) (j : t.Idx)
    (e : Host.reduce IntOp.andi (cmpf .olt (Host.absf x) c) init h hu j = 1#1) (i : s.Idx) : Fn (x i) := by
  have := Host.reduce_andi_all _ init h hu j e i
  refine of_lt ?_
  have h2 : Ideal.cmp .olt (max (x i) (-(x i))) (c i) = 1#1 := this
  rw [hc] at h2
  by_contra hn
  simp [Ideal.cmp, hn] at h2

theorem c_inf : Ideal.ofBits .f32 0x7F800000#32 = ⊤ := by simp [Ideal.ofBits, Ideal.ieee]
theorem c_inf16 : Ideal.ofBits .bf16 0x7F80#16 = ⊤ := by simp [Ideal.ofBits, Ideal.ieee]

open Cert.Pre_finite in
/-- The printed precondition says so of every argument. -/
theorem of_pre [Cert.Pre_finite.Facts] (a0 a1 : FVec Ideal S4x4096x1024 .bf16) (a2 : FVec Ideal S4x4096x2048 .f32) (a3 : FVec Ideal S4x12288 .f32)
    (a4 a5 : FVec Ideal S1024 .f32) (a6 : FVec Ideal S2048 .f32) (a7 : FVec Ideal S2048x2048 .f32) (a8 : FVec Ideal S2048x4 .f32)
    (a9 : FVec Ideal S4 .f32) (a10 : FVec Ideal S2048x32 .f32) (a11 : FVec Ideal S32 .f32)
    (h : Cert.Pre_finite.fn (F := Ideal) a0 a1 a2 a3 a4 a5 a6 a7 a8 a9 a10 a11 = fun _ => 1#1) :
    ((∀ i, Fn (a0 i)) ∧ (∀ i, Fn (a1 i)) ∧ (∀ i, Fn (a2 i)) ∧ (∀ i, Fn (a3 i))) ∧ ((∀ i, Fn (a4 i)) ∧ (∀ i, Fn (a5 i)) ∧ (∀ i, Fn (a6 i))
      ∧ (∀ i, Fn (a7 i))) ∧ ((∀ i, Fn (a8 i)) ∧ (∀ i, Fn (a9 i)) ∧ (∀ i, Fn (a10 i)) ∧ (∀ i, Fn (a11 i))) := by
  have : Subsingleton S_.Idx := ⟨fun a b => funext fun k => k.elim0⟩
  have h := congrFun h ix0
  unfold fn fn_part1 fn_part2 fn_part3 at h
  dsimp only [andi] at h
  obtain ⟨h, g11⟩ := IntOp.andi_eq_one.1 h
  obtain ⟨h, g10⟩ := IntOp.andi_eq_one.1 h
  obtain ⟨h, g9⟩ := IntOp.andi_eq_one.1 h
  obtain ⟨h, g8⟩ := IntOp.andi_eq_one.1 h
  obtain ⟨h, g7⟩ := IntOp.andi_eq_one.1 h
  obtain ⟨h, g6⟩ := IntOp.andi_eq_one.1 h
  obtain ⟨h, g5⟩ := IntOp.andi_eq_one.1 h
  obtain ⟨h, g4⟩ := IntOp.andi_eq_one.1 h
  obtain ⟨h, g3⟩ := IntOp.andi_eq_one.1 h
  obtain ⟨h, g2⟩ := IntOp.andi_eq_one.1 h
  obtain ⟨g0, g1⟩ := IntOp.andi_eq_one.1 h
  exact ⟨⟨all a0 _ (fun _ => c_inf16) _ _ _ _ g0, all a1 _ (fun _ => c_inf16) _ _ _ _ g1, all a2 _ (fun _ => c_inf) _ _ _ _ g2, all a3 _ (fun _ => c_inf) _ _ _ _ g3⟩,
    ⟨all a4 _ (fun _ => c_inf) _ _ _ _ g4, all a5 _ (fun _ => c_inf) _ _ _ _ g5, all a6 _ (fun _ => c_inf) _ _ _ _ g6, all a7 _ (fun _ => c_inf) _ _ _ _ g7⟩,
    ⟨all a8 _ (fun _ => c_inf) _ _ _ _ g8, all a9 _ (fun _ => c_inf) _ _ _ _ g9, all a10 _ (fun _ => c_inf) _ _ _ _ g10, all a11 _ (fun _ => c_inf) _ _ _ _ g11⟩⟩

end Cert.Finite

end
-- ==== Proof.RtSoft.lean ====
/- The two experts' weights as one real number, and the pieces of a row's softmax over the reals. -/
module

public import proofs.«01_k».proof.Proof.RtFinite
public import proofs.«01_k».proof.Proof.Pick
public import Idealize.ShloMosaic.Lib.Pointwise
public import Idealize.ShloMosaic.Lib.Claim

@[expose] public section

noncomputable section

namespace Cert.Soft

open Idealize.ShloMosaic
open Cert.Pick

/-- The weight of an expert with the logit `v` whose group has the greatest logits `v1` and `v2`, where the chosen group's
    softmax is the inverse of the sum of `exp (lg k - lg g)`. -/
def weight (lg : Fin 4 → ℝ) (g : Fin 4) (v1 v2 v : ℝ) : ℝ :=
  Real.exp (v - v1) / (1 + Real.exp (v2 - v1)) * (1 / ∑ k, Real.exp (lg k - lg g))

theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A quotient of real numbers, the divisor not zero. -/
theorem div_real (x y : ℝ) (h : y ≠ 0) : Ideal.div (x : EReal) (y : EReal) = ((x / y : ℝ) : EReal) := by
  rw [Ideal.div_coe h, ← EReal.coe_mul, mul_one_div]

/-- The exponential of a difference of real numbers. -/
theorem exp_sub (x y : ℝ) : Ideal.exp ((x : EReal) - (y : EReal)) = (Real.exp (x - y) : EReal) := by
  rw [← EReal.coe_sub, Ideal.exp_coe]

theorem sum_pos {n : ℕ} (f : Fin (n + 1) → ℝ) (c : ℝ) : 0 < ∑ k, Real.exp (f k - c) :=
  Finset.sum_pos (fun _ _ => Real.exp_pos _) Finset.univ_nonempty

/-- A sum over the lanes that is masked to the first four. -/
theorem sum_four (F : Fin 128 → EReal) (G : Fin 4 → EReal) (h : ∀ (k : Fin 4) (l : Fin 128), (l : ℕ) = k → F l = G k) :
    (∑ l : Fin 128, if (l : ℕ) < 4 then F l else 0) = ∑ k, G k := by
  rw [show (∑ l : Fin 128, if (l : ℕ) < 4 then F l else 0) = ∑ l : Fin (4 + 124), if (l : ℕ) < 4 then F l else 0 from rfl, Fin.sum_univ_add]
  have h1 : ∀ k : Fin 4, (if ((Fin.castAdd 124 k : Fin (4 + 124)) : ℕ) < 4 then F (Fin.castAdd 124 k) else 0) = G k := fun k =>
    (if_pos k.2).trans (h k _ rfl)
  have h2 : ∀ k : Fin 124, (if ((Fin.natAdd 4 k : Fin (4 + 124)) : ℕ) < 4 then F (Fin.natAdd 4 k) else 0) = 0 := fun k =>
    if_neg (by simp only [Fin.val_natAdd]; omega)
  simp only [h1, h2, Finset.sum_const_zero, add_zero]

end Cert.Soft

end
-- ==== Proof.RtPick.lean ====
/- What the router's body leaves at a row of its block, from the row's logits at the lanes: the two chosen experts'
   numbers, where the group and the two experts in it are the first greatest, and the two experts' weights. -/
module

public import proofs.«01_k».proof.Proof.Gen.Kernel5Ideal.Frame
public import proofs.«01_k».proof.Proof.Pick
public import proofs.«01_k».proof.Proof.RtSoft
public import Idealize.ShloMosaic.Lib.Pointwise
public import Idealize.ShloMosaic.Lib.Pipeline.ValueKit
public import Idealize.ShloMosaic.Lib.Claim

@[expose] public section

set_option maxRecDepth 16384

noncomputable section

namespace Cert.Kernel5Ideal.Rt

open Idealize.ShloMosaic Idealize.ShloMosaic.TcCoe Idealize.SL.Sem
open Cert.Kernel5Ideal Cert.Kernel5Ideal.Gen
open Cert.Pick Cert.Soft

theorem c_bot : Ideal.ofBits .f32 4286578688#32 = ⊥ := by simp [Ideal.ofBits, Ideal.ieee]
theorem c_top : Ideal.ofBits .f32 2139095040#32 = ⊤ := by simp [Ideal.ofBits, Ideal.ieee]
theorem c_128 : Ideal.ofBits .f32 1124073472#32 = num 128 := by
  unfold num
  simp [Ideal.ofBits, Ideal.ieee, -EReal.coe_mul]; norm_num
theorem c_4 : Ideal.ofBits .f32 1082130432#32 = num 4 := by
  unfold num
  simp [Ideal.ofBits, Ideal.ieee, -EReal.coe_mul]; norm_num
theorem c_8 : Ideal.ofBits .f32 1090519040#32 = num 8 := by
  unfold num
  simp [Ideal.ofBits, Ideal.ieee, -EReal.coe_mul]; norm_num

theorem num_add (a b : ℕ) : num a + num b = num (a + b) := by unfold num; rw [← EReal.coe_add, Nat.cast_add]
theorem num_mul (a b : ℕ) : num a * num b = num (a * b) := by unfold num; rw [← EReal.coe_mul, Nat.cast_mul]
theorem num_sub (a b : ℕ) (h : b ≤ a) : num a - num b = num (a - b) := by unfold num; rw [← EReal.coe_sub, Nat.cast_sub h]

/-- A lane's number as the body counts it. -/
theorem lane_num (l : Fin 128) : (FloatOps.sitofp .f32 (BitVec.ofNat 32 (l : ℕ)) : Ideal .f32) = num l := by
  show (((BitVec.ofNat 32 (l : ℕ)).toInt : ℝ) : EReal) = num l
  have h : (BitVec.ofNat 32 (l : ℕ)).toInt = (l : ℕ) := by
    have := l.2
    rw [BitVec.toInt_eq_toNat_of_lt (by rw [BitVec.toNat_ofNat]; omega), BitVec.toNat_ofNat]
    omega
  rw [h]; unfold num; push_cast; rfl

theorem pay10_at (r : Fin 512) (l : Fin 128) : k0_pay10 (F := Ideal) (ix2 r l) = num l := by
  pointwise [k0_pay10]
  exact lane_num l

theorem pay16_at (r : Fin 512) : k0_pay16 (F := Ideal) (ix2 r 0) = num 8 := by
  pointwise [k0_pay16]
  exact c_8

section group
variable (v73 : FVec Ideal S512x2048 .f32) (v82 : FVec Ideal S2048x128 .bf16) (v90 : FVec Ideal S1x128 .f32) (r : Fin 512)

theorem pay12_at (l : Fin 128) : k0_pay12 (F := Ideal) v73 v82 v90 (ix2 r l)
    = if (l : ℕ) < 4 then k0_pay9 (F := Ideal) v73 v82 v90 (ix2 r l) else ⊥ := by
  pointwise [k0_pay12, k0_pay11]
  rw [c_bot]
  have h : (IntOp.cmpi CmpIPredicate.slt (BitVec.ofNat 32 (l : ℕ)) 4#32) = if (l : ℕ) < 4 then 1#1 else 0#1 := by
    revert l; decide
  rw [h]
  split <;> rfl

variable (g : Fin 4) (hg : First (fun k : Fin 4 => k0_pay9 (F := Ideal) v73 v82 v90 (ix2 r ⟨k, by omega⟩)) g)
  (hb : k0_pay9 (F := Ideal) v73 v82 v90 (ix2 r ⟨g, by omega⟩) ≠ ⊥)

include hg hb in
theorem group_first : First (fun l : Fin 128 => k0_pay12 (F := Ideal) v73 v82 v90 (ix2 r l)) ⟨g, by omega⟩ := by
  have e : (fun l : Fin 128 => k0_pay12 (F := Ideal) v73 v82 v90 (ix2 r l))
      = fun l : Fin 128 => if (l : ℕ) < 4 then k0_pay9 (F := Ideal) v73 v82 v90 (ix2 r l) else ⊥ := funext fun l => pay12_at v73 v82 v90 r l
  rw [e]
  refine first_mask (fun l => k0_pay9 (F := Ideal) v73 v82 v90 (ix2 r l)) (fun l => (l : ℕ) < 4) ⟨g, by omega⟩ g.2 hb fun k hk hne => ?_
  exact hg ⟨k, hk⟩ fun e => hne (Fin.ext (by have := congrArg Fin.val e; exact this))

include hg hb in
/-- The greatest of the groups' logits. -/
theorem pay13_at : k0_pay13 (F := Ideal) v73 v82 v90 (ix2 r 0) = k0_pay9 (F := Ideal) v73 v82 v90 (ix2 r ⟨g, by omega⟩) := by
  pointwise [k0_pay13]
  rw [c_bot, fold_max _ _ (group_first v73 v82 v90 r g hg hb), pay12_at, if_pos g.2]

include hg hb in
/-- The number of the chosen group. -/
theorem pay14_at : k0_pay14 (F := Ideal) v73 v82 v90 (ix2 r 0) = num g := by
  have hf := group_first v73 v82 v90 r g hg hb
  have h13 : k0_pay13 (F := Ideal) v73 v82 v90 (ix2 r 0) = k0_pay12 (F := Ideal) v73 v82 v90 (ix2 r ⟨g, by omega⟩) := by
    rw [pay13_at v73 v82 v90 r g hg hb, pay12_at, if_pos g.2]
  pointwise [k0_pay14]
  simp only [c_top, c_128, pay10_at, h13]
  exact fold_min _ _ hf
end group

section experts
variable (v93 : FVec Ideal S512x128 .f32) (v107 v117 : FVec Ideal S512x1 .f32) (r : Fin 512) (g : Fin 4)
  (h107 : v107 (ix2 r 0) = num g) (h117 : v117 (ix2 r 0) = num 8)

include h107 h117 in
theorem pay17_at (l : Fin 128) : k0_pay17 (F := Ideal) v93 (k0_pay10 (F := Ideal)) v107 v117 (ix2 r l)
    = if 4 + (g : ℕ) * 8 ≤ l ∧ (l : ℕ) < 4 + (g : ℕ) * 8 + 8 then v93 (ix2 r l) else ⊥ := by
  pointwise [k0_pay17]
  rw [pay10_at, h107, h117, c_4, c_8, c_bot, num_mul, num_add, num_add]
  simp only [num_le, num_lt]
  by_cases h1 : 4 + (g : ℕ) * 8 ≤ l <;> by_cases h2 : (l : ℕ) < 4 + (g : ℕ) * 8 + 8 <;> simp [h1, h2, Scalar.select, IntOp.andi]

variable (a : Fin 8) (ha : First (fun k : Fin 8 => v93 (ix2 r ⟨4 + (g : ℕ) * 8 + k, by omega⟩)) a)
  (hab : v93 (ix2 r ⟨4 + (g : ℕ) * 8 + a, by omega⟩) ≠ ⊥)

include h107 h117 ha hab in
theorem expert_first : First (fun l : Fin 128 => k0_pay17 (F := Ideal) v93 (k0_pay10 (F := Ideal)) v107 v117 (ix2 r l)) ⟨4 + (g : ℕ) * 8 + a, by omega⟩ := by
  have e := funext fun l => pay17_at v93 v107 v117 r g h107 h117 l
  rw [e]
  refine first_mask (fun l => v93 (ix2 r l)) (fun l => 4 + (g : ℕ) * 8 ≤ l ∧ (l : ℕ) < 4 + (g : ℕ) * 8 + 8) ⟨4 + (g : ℕ) * 8 + a, by omega⟩
    ⟨by show 4 + (g : ℕ) * 8 ≤ 4 + (g : ℕ) * 8 + a; omega, by show 4 + (g : ℕ) * 8 + (a : ℕ) < _; omega⟩ hab fun k hk hne => ?_
  have h := ha ⟨(k : ℕ) - (4 + (g : ℕ) * 8), by omega⟩ fun e => hne (Fin.ext (by
    have := congrArg Fin.val e
    show (k : ℕ) = 4 + (g : ℕ) * 8 + a
    simp only at this; omega))
  have ek : (⟨4 + (g : ℕ) * 8 + ((k : ℕ) - (4 + (g : ℕ) * 8)), by omega⟩ : Fin 128) = k := Fin.ext (by show 4 + (g : ℕ) * 8 + ((k : ℕ) - (4 + (g : ℕ) * 8)) = k; omega)
  unfold Bf at h ⊢
  simp only [ek] at h
  refine h.imp id fun q => ⟨q.1, ?_⟩
  have := q.2
  simp only [Fin.lt_def] at this ⊢
  omega

include h107 h117 ha hab in
/-- The greatest of the group's logits. -/
theorem pay18_at : k0_pay18 (F := Ideal) v93 (k0_pay10 (F := Ideal)) v107 v117 (ix2 r 0) = v93 (ix2 r ⟨4 + (g : ℕ) * 8 + a, by omega⟩) := by
  pointwise [k0_pay18]
  rw [c_bot, fold_max _ _ (expert_first v93 v107 v117 r g h107 h117 a ha hab), pay17_at v93 v107 v117 r g h107 h117]
  exact if_pos ⟨by simp only; omega, by simp only; omega⟩

include h107 h117 ha hab in
/-- The lane of the first expert. -/
theorem pay19_at : k0_pay19 (F := Ideal) v93 (k0_pay10 (F := Ideal)) v107 v117 (ix2 r 0) = num (4 + (g : ℕ) * 8 + a) := by
  have hf := expert_first v93 v107 v117 r g h107 h117 a ha hab
  have h18 : k0_pay18 (F := Ideal) v93 (k0_pay10 (F := Ideal)) v107 v117 (ix2 r 0)
      = k0_pay17 (F := Ideal) v93 (k0_pay10 (F := Ideal)) v107 v117 (ix2 r ⟨4 + (g : ℕ) * 8 + a, by omega⟩) := by
    rw [pay18_at v93 v107 v117 r g h107 h117 a ha hab, pay17_at v93 v107 v117 r g h107 h117]
    exact (if_pos ⟨by simp only; omega, by simp only; omega⟩).symm
  pointwise [k0_pay19]
  simp only [c_top, c_128, pay10_at, h18]
  exact fold_min _ _ hf

include h107 h117 ha hab in
theorem pay20_at (l : Fin 128) : k0_pay20 (F := Ideal) v93 (k0_pay10 (F := Ideal)) v107 v117 (ix2 r l)
    = if (4 + (g : ℕ) * 8 ≤ l ∧ (l : ℕ) < 4 + (g : ℕ) * 8 + 8) ∧ (l : ℕ) ≠ 4 + (g : ℕ) * 8 + a then v93 (ix2 r l) else ⊥ := by
  pointwise [k0_pay20]
  rw [pay10_at, pay19_at v93 v107 v117 r g h107 h117 a ha hab, pay17_at v93 v107 v117 r g h107 h117, c_bot]
  simp only [num_inj]
  by_cases h1 : (l : ℕ) = 4 + (g : ℕ) * 8 + a
  · simp [h1]
  · simp [h1]

variable (b : Fin 8) (hb : Second (fun k : Fin 8 => v93 (ix2 r ⟨4 + (g : ℕ) * 8 + k, by omega⟩)) a b)
  (hbb : v93 (ix2 r ⟨4 + (g : ℕ) * 8 + b, by omega⟩) ≠ ⊥)

include h107 h117 ha hab hb hbb in
theorem expert_second : First (fun l : Fin 128 => k0_pay20 (F := Ideal) v93 (k0_pay10 (F := Ideal)) v107 v117 (ix2 r l)) ⟨4 + (g : ℕ) * 8 + b, by omega⟩ := by
  have e := funext fun l => pay20_at v93 v107 v117 r g h107 h117 a ha hab l
  have hne' : (b : ℕ) ≠ a := fun e => hb.1 (Fin.ext e)
  rw [e]
  refine first_mask (fun l => v93 (ix2 r l)) (fun l => (4 + (g : ℕ) * 8 ≤ l ∧ (l : ℕ) < 4 + (g : ℕ) * 8 + 8) ∧ (l : ℕ) ≠ 4 + (g : ℕ) * 8 + a) ⟨4 + (g : ℕ) * 8 + b, by omega⟩
    ⟨⟨by show 4 + (g : ℕ) * 8 ≤ 4 + (g : ℕ) * 8 + b; omega, by show 4 + (g : ℕ) * 8 + (b : ℕ) < _; omega⟩, by show 4 + (g : ℕ) * 8 + (b : ℕ) ≠ _; omega⟩ hbb fun k hk hne => ?_
  have h := hb.2 ⟨(k : ℕ) - (4 + (g : ℕ) * 8), by omega⟩ (fun e => hk.2 (by
    have := congrArg Fin.val e
    simp only at this; omega)) fun e => hne (Fin.ext (by
    have := congrArg Fin.val e
    show (k : ℕ) = 4 + (g : ℕ) * 8 + b
    simp only at this; omega))
  have ek : (⟨4 + (g : ℕ) * 8 + ((k : ℕ) - (4 + (g : ℕ) * 8)), by omega⟩ : Fin 128) = k := Fin.ext (by show 4 + (g : ℕ) * 8 + ((k : ℕ) - (4 + (g : ℕ) * 8)) = k; omega)
  unfold Bf at h ⊢
  simp only [ek] at h
  refine h.imp id fun q => ⟨q.1, ?_⟩
  have := q.2
  simp only [Fin.lt_def] at this ⊢
  omega

include h107 h117 ha hab hb hbb in
/-- The second greatest of the group's logits. -/
theorem pay21_at : k0_pay21 (F := Ideal) v93 (k0_pay10 (F := Ideal)) v107 v117 (ix2 r 0) = v93 (ix2 r ⟨4 + (g : ℕ) * 8 + b, by omega⟩) := by
  have hne' : (b : ℕ) ≠ a := fun e => hb.1 (Fin.ext e)
  pointwise [k0_pay21]
  rw [c_bot, fold_max _ _ (expert_second v93 v107 v117 r g h107 h117 a ha hab b hb hbb), pay20_at v93 v107 v117 r g h107 h117 a ha hab]
  exact if_pos ⟨⟨by simp only; omega, by simp only; omega⟩, by simp only; omega⟩

include h107 h117 ha hab hb hbb in
/-- The lane of the second expert. -/
theorem pay22_at : k0_pay22 (F := Ideal) v93 (k0_pay10 (F := Ideal)) v107 v117 (ix2 r 0) = num (4 + (g : ℕ) * 8 + b) := by
  have hne' : (b : ℕ) ≠ a := fun e => hb.1 (Fin.ext e)
  have hf := expert_second v93 v107 v117 r g h107 h117 a ha hab b hb hbb
  have h21 : k0_pay21 (F := Ideal) v93 (k0_pay10 (F := Ideal)) v107 v117 (ix2 r 0)
      = k0_pay20 (F := Ideal) v93 (k0_pay10 (F := Ideal)) v107 v117 (ix2 r ⟨4 + (g : ℕ) * 8 + b, by omega⟩) := by
    rw [pay21_at v93 v107 v117 r g h107 h117 a ha hab b hb hbb, pay20_at v93 v107 v117 r g h107 h117 a ha hab]
    exact (if_pos ⟨⟨by simp only; omega, by simp only; omega⟩, by simp only; omega⟩).symm
  pointwise [k0_pay22]
  simp only [c_top, c_128, pay10_at, h21]
  exact fold_min _ _ hf

include h107 h117 ha hab in
/-- The number of the first expert. -/
theorem pay27_at : k0_pay27 (F := Ideal) v93 (k0_pay10 (F := Ideal)) v107 v117 (ix2 r 0) = num ((g : ℕ) * 8 + a) := by
  pointwise [k0_pay27]
  rw [pay19_at v93 v107 v117 r g h107 h117 a ha hab, c_4, num_sub _ _ (by omega)]
  exact congrArg num (by omega)
end experts

/-- The first two lanes of a row of what the body leaves. -/
theorem pay1_at (v149 v154 v158 v162 : FVec Ideal S512x1 .f32) (r : Fin 512) (l : Fin 128) (p : Fin 2) (hl : (l : ℕ) = p) :
    k0_pay1 (F := Ideal) (iota .tc S512x128 32 [1] iota_S512x128_d1_w32) v149 v154 v158 (k0_pay26 (iota .tc S512x128 32 [1] iota_S512x128_d1_w32)) v162 1#32 (ix2 r l)
      = if p = 0 then v162 (ix2 r 0) else v149 (ix2 r 0) - num 4 := by
  pointwise [k0_pay1, k0_pay26]
  rw [hl, c_4]
  fin_cases p <;> rfl

/-- What the body leaves of a row's first two lanes, from its logits. -/
theorem picked (v73 : FVec Ideal S512x2048 .f32) (v82 : FVec Ideal S2048x128 .bf16) (v90 : FVec Ideal S1x128 .f32) (r : Fin 512)
    (lg : Fin 4 → EReal) (le : Fin 8 → EReal) (g : Fin 4) (a b : Fin 8)
    (hlg : ∀ (k : Fin 4) (l : Fin 128), (l : ℕ) = k → k0_pay9 (F := Ideal) v73 v82 v90 (ix2 r l) = lg k)
    (hle : ∀ (k : Fin 8) (l : Fin 128), (l : ℕ) = 4 + (g * 8 + k) → k0_pay9 (F := Ideal) v73 v82 v90 (ix2 r l) = le k)
    (ng : ∀ k, lg k ≠ ⊥) (ne : ∀ k, le k ≠ ⊥) (hg : First lg g) (ha : First le a) (hb : Second le a b)
    (v154 v158 : FVec Ideal S512x1 .f32) (l : Fin 128) (p : Fin 2) (hl : (l : ℕ) = p) :
    k0_pay1 (F := Ideal) (iota .tc S512x128 32 [1] iota_S512x128_d1_w32)
        (k0_pay22 (F := Ideal) (k0_pay9 v73 v82 v90) (k0_pay10 (F := Ideal)) (k0_pay14 v73 v82 v90) (k0_pay16 (F := Ideal))) v154 v158
        (k0_pay26 (iota .tc S512x128 32 [1] iota_S512x128_d1_w32))
        (k0_pay27 (F := Ideal) (k0_pay9 v73 v82 v90) (k0_pay10 (F := Ideal)) (k0_pay14 v73 v82 v90) (k0_pay16 (F := Ideal))) 1#32 (ix2 r l)
      = num (g * 8 + if p = 0 then (a : ℕ) else b) := by
  have e4 : ∀ k : Fin 4, k0_pay9 (F := Ideal) v73 v82 v90 (ix2 r ⟨k, by omega⟩) = lg k := fun k => hlg k _ rfl
  have e8 : ∀ k : Fin 8, k0_pay9 (F := Ideal) v73 v82 v90 (ix2 r ⟨4 + (g : ℕ) * 8 + k, by omega⟩) = le k := fun k => hle k _ (by simp only; omega)
  have h107 := pay14_at v73 v82 v90 r g (by simp only [e4]; exact hg) (by rw [e4]; exact ng g)
  have h117 := pay16_at r
  have ha' : First (fun k : Fin 8 => k0_pay9 (F := Ideal) v73 v82 v90 (ix2 r ⟨4 + (g : ℕ) * 8 + k, by omega⟩)) a := by simp only [e8]; exact ha
  have hb' : Second (fun k : Fin 8 => k0_pay9 (F := Ideal) v73 v82 v90 (ix2 r ⟨4 + (g : ℕ) * 8 + k, by omega⟩)) a b := by simp only [e8]; exact hb
  have hab := (e8 a).trans_ne (ne _)
  have hbb := (e8 b).trans_ne (ne _)
  rw [pay1_at _ _ _ _ r l p hl]
  split
  · exact pay27_at _ _ _ r g h107 h117 a ha' hab
  · rw [pay22_at _ _ _ r g h107 h117 a ha' hab b hb' hbb, num_sub _ _ (by omega)]
    exact congrArg num (by omega)

/-! ## The two experts' weights -/

theorem c_one : Ideal.ofBits .f32 1065353216#32 = 1 := by
  simp [Ideal.ofBits, Ideal.ieee, -EReal.coe_mul]; try norm_num
theorem c_zero : Ideal.ofBits .f32 0#32 = 0 := by simp [Ideal.ofBits, Ideal.ieee]

/-- The chosen group's weight: one over the sum of the exponentials, its own being one. -/
theorem pay15_at (v73 : FVec Ideal S512x2048 .f32) (v82 : FVec Ideal S2048x128 .bf16) (v90 : FVec Ideal S1x128 .f32) (r : Fin 512)
    (lg : Fin 4 → ℝ) (g : Fin 4) (hlg : ∀ (k : Fin 4) (l : Fin 128), (l : ℕ) = k → k0_pay9 (F := Ideal) v73 v82 v90 (ix2 r l) = (lg k : EReal))
    (h13 : k0_pay13 (F := Ideal) v73 v82 v90 (ix2 r 0) = (lg g : EReal)) :
    k0_pay15 (F := Ideal) v73 v82 v90 (ix2 r 0) = ((1 / ∑ k, Real.exp (lg k - lg g) : ℝ) : EReal) := by
  pointwise [k0_pay15, k0_pay11]
  have h : ∀ l : Fin 128, (IntOp.cmpi CmpIPredicate.slt (BitVec.ofNat 32 (l : ℕ)) 4#32) = if (l : ℕ) < 4 then 1#1 else 0#1 := by
    decide
  simp only [h, h13, c_one, c_zero]
  have e : ∀ l : Fin 128, (Scalar.select (if (l : ℕ) < 4 then 1#1 else 0#1) (Ideal.exp (k0_pay9 (F := Ideal) v73 v82 v90 (ix2 r l) - (lg g : EReal))) 0 : EReal)
      = if (l : ℕ) < 4 then Ideal.exp (k0_pay9 (F := Ideal) v73 v82 v90 (ix2 r l) - (lg g : EReal)) else 0 := fun l => by
    split <;> rfl
  simp only [e]
  rw [sum_four _ (fun k => ((Real.exp (lg k - lg g) : ℝ) : EReal)) (fun k l hk => by rw [hlg k l hk, exp_sub]), sum_coe, ← EReal.coe_one,
    div_real _ _ (sum_pos lg _).ne']

theorem first_eq (x y : ℝ) : 1 / x * y = y / x := by ring

theorem second_eq (P e s : ℝ) : P * e / s = e / s * P := by ring

section weights
variable (v93 v95 : FVec Ideal S512x128 .f32) (v107 v116 v117 : FVec Ideal S512x1 .f32) (r : Fin 512) (x1 x2 P : ℝ)
  (h18 : k0_pay18 (F := Ideal) v93 v95 v107 v117 (ix2 r 0) = (x1 : EReal)) (h21 : k0_pay21 (F := Ideal) v93 v95 v107 v117 (ix2 r 0) = (x2 : EReal))
  (h116 : v116 (ix2 r 0) = (P : EReal))
include h18 h21

theorem pay23_at : k0_pay23 (F := Ideal) v93 v95 v107 v117 (ix2 r 0) = ((Real.exp (x2 - x1) : ℝ) : EReal) := by
  pointwise [k0_pay23]
  rw [h18, h21, exp_sub]

include h116

/-- The first expert's weight. -/
theorem pay24_at : k0_pay24 (F := Ideal) v93 v95 v107 v116 v117 (ix2 r 0) = ((P / (1 + Real.exp (x2 - x1)) : ℝ) : EReal) := by
  pointwise [k0_pay24]
  rw [pay23_at v93 v95 v107 v117 r x1 x2 h18 h21, h116, ← EReal.coe_one, ← EReal.coe_add,
    div_real _ _ (add_pos one_pos (Real.exp_pos _)).ne']

/-- The second expert's weight. -/
theorem pay25_at : k0_pay25 (F := Ideal) v93 v95 v107 v116 v117 (ix2 r 0) = ((P * Real.exp (x2 - x1) / (1 + Real.exp (x2 - x1)) : ℝ) : EReal) := by
  pointwise [k0_pay25]
  rw [pay23_at v93 v95 v107 v117 r x1 x2 h18 h21, h116, ← EReal.coe_one, ← EReal.coe_add, ← EReal.coe_mul,
    div_real _ _ (add_pos one_pos (Real.exp_pos _)).ne']
end weights

/-- The next two lanes of a row of what the body leaves. -/
theorem pay1_next (v149 v154 v158 v162 : FVec Ideal S512x1 .f32) (r : Fin 512) (l : Fin 128) (p : Fin 2) (hl : (l : ℕ) = 2 + p) :
    k0_pay1 (F := Ideal) (iota .tc S512x128 32 [1] iota_S512x128_d1_w32) v149 v154 v158 (k0_pay26 (iota .tc S512x128 32 [1] iota_S512x128_d1_w32)) v162 1#32 (ix2 r l)
      = if p = 0 then v154 (ix2 r 0) else v158 (ix2 r 0) := by
  pointwise [k0_pay1, k0_pay26]
  rw [hl]
  fin_cases p <;> rfl

/-- What the body leaves of a row's next two lanes, from its logits: the two experts' weights. -/
theorem weighed (v73 : FVec Ideal S512x2048 .f32) (v82 : FVec Ideal S2048x128 .bf16) (v90 : FVec Ideal S1x128 .f32) (r : Fin 512)
    (lg : Fin 4 → ℝ) (le : Fin 8 → ℝ) (g : Fin 4) (a b : Fin 8)
    (hlg : ∀ (k : Fin 4) (l : Fin 128), (l : ℕ) = k → k0_pay9 (F := Ideal) v73 v82 v90 (ix2 r l) = (lg k : EReal))
    (hle : ∀ (k : Fin 8) (l : Fin 128), (l : ℕ) = 4 + (g * 8 + k) → k0_pay9 (F := Ideal) v73 v82 v90 (ix2 r l) = (le k : EReal))
    (hg : First (fun k => (lg k : EReal)) g) (ha : First (fun k => (le k : EReal)) a) (hb : Second (fun k => (le k : EReal)) a b)
    (v149 v162 : FVec Ideal S512x1 .f32) (l : Fin 128) (p : Fin 2) (hl : (l : ℕ) = 2 + p) :
    k0_pay1 (F := Ideal) (iota .tc S512x128 32 [1] iota_S512x128_d1_w32) v149
        (k0_pay24 (F := Ideal) (k0_pay9 v73 v82 v90) (k0_pay10 (F := Ideal)) (k0_pay14 v73 v82 v90) (k0_pay15 v73 v82 v90) (k0_pay16 (F := Ideal)))
        (k0_pay25 (F := Ideal) (k0_pay9 v73 v82 v90) (k0_pay10 (F := Ideal)) (k0_pay14 v73 v82 v90) (k0_pay15 v73 v82 v90) (k0_pay16 (F := Ideal)))
        (k0_pay26 (iota .tc S512x128 32 [1] iota_S512x128_d1_w32)) v162 1#32 (ix2 r l)
      = (weight lg g (le a) (le b) (if p = 0 then le a else le b) : EReal) := by
  have e4 : ∀ k : Fin 4, k0_pay9 (F := Ideal) v73 v82 v90 (ix2 r ⟨k, by omega⟩) = (lg k : EReal) := fun k => hlg k _ rfl
  have e8 : ∀ k : Fin 8, k0_pay9 (F := Ideal) v73 v82 v90 (ix2 r ⟨4 + (g : ℕ) * 8 + k, by omega⟩) = (le k : EReal) := fun k => hle k _ (by simp only; omega)
  have hg' : First (fun k : Fin 4 => k0_pay9 (F := Ideal) v73 v82 v90 (ix2 r ⟨k, by omega⟩)) g := by simp only [e4]; exact hg
  have ngb : k0_pay9 (F := Ideal) v73 v82 v90 (ix2 r ⟨g, by omega⟩) ≠ ⊥ := (e4 g).trans_ne (EReal.coe_ne_bot _)
  have h107 := pay14_at v73 v82 v90 r g hg' ngb
  have h13 := (pay13_at v73 v82 v90 r g hg' ngb).trans (e4 g)
  have h117 := pay16_at r
  have ha' : First (fun k : Fin 8 => k0_pay9 (F := Ideal) v73 v82 v90 (ix2 r ⟨4 + (g : ℕ) * 8 + k, by omega⟩)) a := by simp only [e8]; exact ha
  have hb' : Second (fun k : Fin 8 => k0_pay9 (F := Ideal) v73 v82 v90 (ix2 r ⟨4 + (g : ℕ) * 8 + k, by omega⟩)) a b := by simp only [e8]; exact hb
  have hab := (e8 a).trans_ne (EReal.coe_ne_bot _)
  have hbb := (e8 b).trans_ne (EReal.coe_ne_bot _)
  have h18 := (pay18_at _ _ _ r g h107 h117 a ha' hab).trans (e8 a)
  have h21 := (pay21_at _ _ _ r g h107 h117 a ha' hab b hb' hbb).trans (e8 b)
  have h15 := pay15_at v73 v82 v90 r lg g hlg h13
  rw [pay1_next _ _ _ _ r l p hl]
  by_cases hp : p = 0
  · rw [if_pos hp, if_pos hp, pay24_at _ _ _ _ _ r (le a) (le b) _ h18 h21 h15]
    refine congrArg Real.toEReal ?_
    unfold weight
    rw [_root_.sub_self, Real.exp_zero]
    exact (first_eq _ _).symm
  · rw [if_neg hp, if_neg hp, pay25_at _ _ _ _ _ r (le a) (le b) _ h18 h21 h15]
    refine congrArg Real.toEReal ?_
    unfold weight
    exact second_eq _ _ _

end Cert.Kernel5Ideal.Rt

end
-- ==== Proof.RtRef.lean ====
/- The router as the reference computes it: the logits, the chosen group, the logits of its experts, the two greatest of
   them and the numbers of their experts. -/
module

public import proofs.«01_k».proof.Proof.RouterRun
public import proofs.«01_k».proof.Proof.Mix
public import proofs.«01_k».proof.Proof.Pick
public import Idealize.ShloMosaic.Lib.Pointwise
public import Idealize.ShloMosaic.Lib.Pipeline.ValueKit
public import Idealize.ShloMosaic.Lib.Claim

@[expose] public section

set_option maxRecDepth 16384

noncomputable section

namespace Cert.Reference5Ideal.Rt

open Idealize.ShloMosaic Idealize.ShloMosaic.TcCoe Idealize.SL.Sem Idealize.ShloMosaic.StableHlo
open Cert.Reference5Ideal Cert.Reference5Ideal.Gen
open Cert.Reference5Ideal.Value
open Cert.Reference3Ideal.Mix (REF2)
open Cert.Pick

/-- The rows that enter the router, one row a token. -/
def HF (h2 : FVec Ideal S4x4096x2048 .f32) : FVec Ideal S16384x2048 .f32 := shapeCast _ h2 shapeCasts_S4x4096x2048_S16384x2048

/-- The groups' logits. -/
def LG (h2 : FVec Ideal S4x4096x2048 .f32) (a8 : FVec Ideal S2048x4 .f32) (a9 : FVec Ideal S4 .f32) : FVec Ideal S16384x4 .f32 :=
  addf (Host.dotGeneral dot_S16384x2048_S2048x4_S16384x4_1_0_0_1_n_n none (HF h2) a8) (broadcastInDim S16384x4 ![0, 1] bcast_S1x4_S16384x4_0_1 (broadcastInDim S1x4 ![1] bcast_S4_S1x4_1 a9))

/-- The experts' logits. -/
def LE (h2 : FVec Ideal S4x4096x2048 .f32) (a10 : FVec Ideal S2048x32 .f32) (a11 : FVec Ideal S32 .f32) : FVec Ideal S16384x32 .f32 :=
  addf (Host.dotGeneral dot_S16384x2048_S2048x32_S16384x32_1_0_0_1_n_n none (HF h2) a10) (broadcastInDim S16384x32 ![0, 1] bcast_S1x32_S16384x32_0_1 (broadcastInDim S1x32 ![1] bcast_S32_S1x32_1 a11))

/-- The number of the chosen group. -/
def GI (x : FVec Ideal S16384x4 .f32) : IVec S16384 32 :=
  amaxI x (iotaInDim S16384x4 32 1) (constant S_ .f32 0xFF800000#32) (constantI S_ 32 0#32)

/-- The same as an index, counted from the end where it is negative. -/
def IX (g : IVec S16384 32) : IVec S16384x1x1 32 :=
  select (cmpi .slt (broadcastInDim S16384x1x1 ![0] bcast_S16384_S16384x1x1_0 g) (broadcastInDim S16384x1x1 ![] bcast_S_S16384x1x1 (constantI S_ 32 0#32))) (addi (broadcastInDim S16384x1x1 ![0] bcast_S16384_S16384x1x1_0 g) (broadcastInDim S16384x1x1 ![] bcast_S_S16384x1x1 (constantI S_ 32 4#32))) (broadcastInDim S16384x1x1 ![0] bcast_S16384_S16384x1x1_0 g)

/-- The logits of the chosen group's experts. -/
def SEL (g : IVec S16384 32) (y : FVec Ideal S16384x32 .f32) : FVec Ideal S16384x8 .f32 :=
  shapeCast _ (select (broadcastInDim S16384x1x8 ![0, 1] bcast_S16384x1_S16384x1x8_0_1 (Host.reduce IntOp.andi (andi (cmpi .sge (IX g) (broadcastInDim S16384x1x1 ![] bcast_S_S16384x1x1 (constantI S_ 32 0#32))) (cmpi .sle (IX g) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_)) (Host.gather gather_S16384x4x8_S16384x1x1_S16384x1x8_2_1_0_0_1_2_118 (shapeCast _ y shapeCasts_S16384x32_S16384x4x8) (IX g)) (broadcastInDim S16384x1x8 ![] bcast_S_S16384x1x8 (constant S_ .f32 0x7FC00000#32))) shapeCasts_S16384x1x8_S16384x8

/-- The positions of the two greatest. -/
def TI (z : FVec Ideal S16384x8 .f32) : IVec S16384x2 32 :=
  (Host.topK S16384x2 1 (FloatOps.cmpfTotal .gt) z sliceFits_S16384x8_S16384x2).2

/-- The numbers of the two chosen experts. -/
def IDS (g : IVec S16384 32) (t : IVec S16384x2 32) : FVec Ideal S16384x2 .f32 :=
  sitofp .f32 (addi (broadcastInDim S16384x2 ![0, 1] bcast_S16384x1_S16384x2_0_1 (muli (broadcastInDim S16384x1 ![0] bcast_S16384_S16384x1_0 g) (broadcastInDim S16384x1 ![] bcast_S_S16384x1 (constantI S_ 32 8#32)))) t)

/-- The two experts' numbers, from the rows that enter the router. -/
def ROUTE (h2 : FVec Ideal S4x4096x2048 .f32) (a8 : FVec Ideal S2048x4 .f32) (a9 : FVec Ideal S4 .f32)
    (a10 : FVec Ideal S2048x32 .f32) (a11 : FVec Ideal S32 .f32) : FVec Ideal S16384x2 .f32 :=
  IDS (GI (LG h2 a8 a9)) (TI (SEL (GI (LG h2 a8 a9)) (LE h2 a10 a11)))

/-- What the reference leaves of the numbers, in these names. -/
theorem res_eq (m : (ℓ : Loc nD τ sig) → Buf (Elt Ideal) ℓ) (c : Dev nD) :
    sitofp .f32 (addi (broadcastInDim S16384x2 ![0, 1] bcast_S16384x1_S16384x2_0_1 (muli (broadcastInDim S16384x1 ![0] bcast_S16384_S16384x1_0 (res_main_v77 (launchContents m c))) (broadcastInDim S16384x1 ![] bcast_S_S16384x1 (constantI S_ 32 8#32)))) ((Host.topK S16384x2 1 (FloatOps.cmpfTotal .gt) (res_main_v87 (launchContents m c)) sliceFits_S16384x8_S16384x2).2))
      = ROUTE (REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
        (m ((c : Thread nD τ).loc main_arg8)) (m ((c : Thread nD τ).loc main_arg9)) (m ((c : Thread nD τ).loc main_arg10)) (m ((c : Thread nD τ).loc main_arg11)) := by
  rfl

/-! ## The chosen group -/

/-- What the fold over a row keeps of two pairs: the first where its number is greater, or where the numbers are equal and
    its position is earlier, and else the second. -/
theorem keep (a b : EReal × BitVec 32) : reducer_argmax_f32_i32 (F := Ideal) a b
    = if b.1 < a.1 ∨ (a.1 = b.1 ∧ a.2.slt b.2 = true) then a else b := by
  obtain ⟨a1, a2⟩ := a
  obtain ⟨b1, b2⟩ := b
  unfold reducer_argmax_f32_i32
  simp only [Ideal.cmpf_def, Ideal.cmp, IntOp.cmpi]
  by_cases h1 : b1 < a1
  · have h2 : a1 ≠ b1 := h1.ne'
    simp [h1, h2, Scalar.select, IntOp.ori, IntOp.andi]
  · by_cases h2 : a1 = b1
    · subst h2
      by_cases h3 : a2.slt b2 = true <;> simp [h3, Scalar.select, IntOp.ori, IntOp.andi]
    · simp [h1, h2, Scalar.select, IntOp.ori, IntOp.andi]

theorem keep_or (a b : EReal × BitVec 32) : reducer_argmax_f32_i32 (F := Ideal) a b = a ∨ reducer_argmax_f32_i32 (F := Ideal) a b = b := by
  rw [keep]
  split
  · exact Or.inl rfl
  · exact Or.inr rfl

theorem slt4 : ∀ a b : Fin 4, (BitVec.ofNat 32 (a : ℕ)).slt (BitVec.ofNat 32 (b : ℕ)) = true ↔ a < b := by decide

theorem drop_row (i : S16384x4.Idx) : reducesTo_S16384x4_S16384_d1.drop i = ix1 (i 0) := by
  funext b
  fin_cases b
  rfl

/-- The position of the first greatest of a row's four numbers. -/
theorem GI_at (x : FVec Ideal S16384x4 .f32) (R : Fin 16384) (g : Fin 4) (hg : First (fun k : Fin 4 => x (ix2 R k)) g)
    (hb : x (ix2 R g) ≠ ⊥) : GI x (ix1 R) = BitVec.ofNat 32 g := by
  have main : Host.argReduce (F := Ideal) reducer_argmax_f32_i32 x (iotaInDim S16384x4 32 1) (constant S_ .f32 0xFF800000#32) (constantI S_ 32 0#32) reducesTo_S16384x4_S16384_d1 h_S_ (ix1 R)
      = (x (ix2 R g), BitVec.ofNat 32 g) := by
    rw [Ideal.argReduce_eq_reduce2, Host.reduce2_eq_foldl_fiber]
    -- every pair met on the way is a logit of the row with its position
    have hmem : ∀ p ∈ Host.argReduceFiber x (iotaInDim S16384x4 32 1) reducesTo_S16384x4_S16384_d1 (ix1 R),
        ∃ k : Fin 4, p = (x (ix2 R k), BitVec.ofNat 32 k) := by
      intro p hp
      unfold Host.argReduceFiber at hp
      obtain ⟨n, hn, rfl⟩ := List.mem_map.1 hp
      have hd := of_decide_eq_true (List.mem_filter.1 hn).2
      rw [drop_row] at hd
      have h0 : (S16384x4.rowMajor.symm n) 0 = R := congrFun hd 0
      have hi : S16384x4.rowMajor.symm n = ix2 R ((S16384x4.rowMajor.symm n) 1) := by
        funext a
        fin_cases a
        · exact h0
        · rfl
      exact ⟨(S16384x4.rowMajor.symm n) 1, Prod.ext (congrArg x hi) rfl⟩
    have hin : (x (ix2 R g), BitVec.ofNat 32 g) ∈ Host.argReduceFiber x (iotaInDim S16384x4 32 1) reducesTo_S16384x4_S16384_d1 (ix1 R) := by
      unfold Host.argReduceFiber
      refine List.mem_map.2 ⟨S16384x4.rowMajor (ix2 R g), List.mem_filter.2 ⟨List.mem_finRange _, decide_eq_true ?_⟩, ?_⟩
      · rw [Equiv.symm_apply_apply, drop_row]; rfl
      · rw [Equiv.symm_apply_apply]; rfl
    -- a pair the chosen one is better than
    let W : EReal × BitVec 32 → Prop := fun p => p.1 < x (ix2 R g) ∨ (p.1 = x (ix2 R g) ∧ ∃ k : Fin 4, p.2 = BitVec.ofNat 32 k ∧ g < k)
    have hWk : ∀ k : Fin 4, k ≠ g → W (x (ix2 R k), BitVec.ofNat 32 k) := fun k hk =>
      (hg k hk).imp id fun q => ⟨q.1, k, rfl, q.2⟩
    have hW1 : ∀ p, W p → reducer_argmax_f32_i32 (F := Ideal) p (x (ix2 R g), BitVec.ofNat 32 g) = (x (ix2 R g), BitVec.ofNat 32 g) := by
      intro p hp
      rw [keep]
      refine if_neg ?_
      rintro (h | h)
      · rcases hp with hp | hp
        · exact absurd h (not_lt.2 hp.le)
        · exact absurd hp.1 h.ne'
      · rcases hp with hp | ⟨_, k, hk, hlt⟩
        · exact absurd h.1 hp.ne
        · have h2 := h.2
          rw [hk] at h2
          exact absurd ((slt4 k g).1 h2) (not_lt.2 hlt.le)
    have hW2 : ∀ p, W p → reducer_argmax_f32_i32 (F := Ideal) (x (ix2 R g), BitVec.ofNat 32 g) p = (x (ix2 R g), BitVec.ofNat 32 g) := by
      intro p hp
      rw [keep]
      refine if_pos ?_
      rcases hp with hp | ⟨he, k, hk, hlt⟩
      · exact Or.inl hp
      · exact Or.inr ⟨he.symm, by rw [hk]; exact (slt4 g k).2 hlt⟩
    have hcase : ∀ p ∈ Host.argReduceFiber x (iotaInDim S16384x4 32 1) reducesTo_S16384x4_S16384_d1 (ix1 R),
        p = (x (ix2 R g), BitVec.ofNat 32 g) ∨ W p := by
      intro p hp
      obtain ⟨k, rfl⟩ := hmem p hp
      by_cases hk : k = g
      · left; rw [hk]
      · exact Or.inr (hWk k hk)
    refine fold_best _ _ _ (fun p hp => ?_) hin _ W hW1 (fun a p ha hp hne => ?_) ?_
    · rcases hcase p hp with rfl | hw
      · exact ⟨by rcases keep_or (x (ix2 R g), BitVec.ofNat 32 g) (x (ix2 R g), BitVec.ofNat 32 g) with e | e <;> exact e, fun h => absurd rfl h⟩
      · exact ⟨hW2 p hw, fun _ => hW1 p hw⟩
    · have hp' := (hcase p hp).resolve_left hne
      rcases keep_or a p with e | e
      · rw [e]; exact ha
      · rw [e]; exact hp'
    · left
      have e : Ideal.ofBits .f32 0xFF800000#32 = ⊥ := by simp [Ideal.ofBits, Ideal.ieee]
      show Ideal.ofBits .f32 0xFF800000#32 < _
      rw [e]
      exact bot_lt_iff_ne_bot.2 hb
  unfold GI amaxI
  rw [main]

/-! ## The chosen group's logits -/

/-- A small number as a word is itself when read with its sign. -/
theorem small_int {n : ℕ} (h : n < 128) : (BitVec.ofNat 32 n).toInt = n := by
  rw [BitVec.toInt_eq_toNat_of_lt (by rw [BitVec.toNat_ofNat]; omega), BitVec.toNat_ofNat]
  omega

theorem IX_at (g : IVec S16384 32) (R : Fin 16384) (x : Fin 1) (k : Fin 4) (h : g (ix1 R) = BitVec.ofNat 32 k) :
    IX g (ix3 R 0 x) = BitVec.ofNat 32 k := by
  pointwise [IX]
  rw [h]
  fin_cases k <;> rfl

/-- The place of the table that a place of the gathered row reads. -/
theorem place (idx : IVec S16384x1x1 32) (R : Fin 16384) (k : Fin 8) (g : Fin 4) (h : idx (ix3 R 0 0) = BitVec.ofNat 32 g) :
    gather_S16384x4x8_S16384x1x1_S16384x1x8_2_1_0_0_1_2_118.operandIdx (ix3 R 0 k) idx = ix3 R g k := by
  funext a
  apply Fin.ext
  unfold GatherDims.operandIdx
  fin_cases a
  · show gather_S16384x4x8_S16384x1x1_S16384x1x8_2_1_0_0_1_2_118.start (ix3 R 0 k) idx 0 + gather_S16384x4x8_S16384x1x1_S16384x1x8_2_1_0_0_1_2_118.batchCoord (ix3 R 0 k) 0 + gather_S16384x4x8_S16384x1x1_S16384x1x8_2_1_0_0_1_2_118.offCoord (ix3 R 0 k) 0 = (R : ℕ)
    rw [GatherDims.start, dif_neg (by decide), GatherDims.offCoord, dif_neg (by decide), GatherDims.batchCoord, dif_pos (by decide)]
    show 0 + (R : ℕ) + 0 = R
    omega
  · show gather_S16384x4x8_S16384x1x1_S16384x1x8_2_1_0_0_1_2_118.start (ix3 R 0 k) idx 1 + gather_S16384x4x8_S16384x1x1_S16384x1x8_2_1_0_0_1_2_118.batchCoord (ix3 R 0 k) 1 + gather_S16384x4x8_S16384x1x1_S16384x1x8_2_1_0_0_1_2_118.offCoord (ix3 R 0 k) 1 = (g : ℕ)
    rw [GatherDims.start, dif_pos (by decide), GatherDims.offCoord, dif_neg (by decide), GatherDims.batchCoord, dif_neg (by decide)]
    have e : gather_S16384x4x8_S16384x1x1_S16384x1x8_2_1_0_0_1_2_118.siIdx (ix3 R 0 k) ⟨List.idxOf (1 : Fin 3) [1], by decide⟩ = ix3 R 0 0 := by
      funext b
      apply Fin.ext
      fin_cases b <;> rfl
    show min (idx (gather_S16384x4x8_S16384x1x1_S16384x1x8_2_1_0_0_1_2_118.siIdx (ix3 R 0 k) ⟨List.idxOf (1 : Fin 3) [1], by decide⟩)).toInt.toNat 3 + 0 + 0 = (g : ℕ)
    rw [e, h, small_int (by omega)]
    simp only [Int.toNat_natCast]
    omega
  · show gather_S16384x4x8_S16384x1x1_S16384x1x8_2_1_0_0_1_2_118.start (ix3 R 0 k) idx 2 + gather_S16384x4x8_S16384x1x1_S16384x1x8_2_1_0_0_1_2_118.batchCoord (ix3 R 0 k) 2 + gather_S16384x4x8_S16384x1x1_S16384x1x8_2_1_0_0_1_2_118.offCoord (ix3 R 0 k) 2 = (k : ℕ)
    rw [GatherDims.start, dif_neg (by decide), GatherDims.offCoord, dif_pos (by decide), GatherDims.batchCoord, dif_neg (by decide)]
    show 0 + 0 + (k : ℕ) = k
    omega

/-- The chosen group's logits are its eight columns of the experts'. -/
theorem SEL_at (g : IVec S16384 32) (y : FVec Ideal S16384x32 .f32) (R : Fin 16384) (gg : Fin 4) (h : g (ix1 R) = BitVec.ofNat 32 gg)
    (k : Fin 8) (q : Fin 32) (hq : (q : ℕ) = gg * 8 + k) : SEL g y (ix2 R k) = y (ix2 R q) := by
  pointwise [SEL]
  have hm : (Finset.fold IntOp.andi (1#1)
        (fun x : Fin 1 =>
          IntOp.andi (IntOp.cmpi CmpIPredicate.sge (IX g (ix3 R 0 x)) 0#32)
            (IntOp.cmpi CmpIPredicate.sle (IX g (ix3 R 0 x)) 3#32))
        Finset.univ) = 1#1 := by
    rw [Finset.univ_unique, Finset.fold_singleton, IX_at g R _ gg h]
    fin_cases gg <;> rfl
  rw [hm]
  show Host.gather gather_S16384x4x8_S16384x1x1_S16384x1x8_2_1_0_0_1_2_118
        (shapeCast S16384x4x8 y shapeCasts_S16384x32_S16384x4x8) (IX g) (ix3 R 0 k) = _
  unfold Host.gather
  rw [place (IX g) R k gg (IX_at g R 0 gg h)]
  pointwise
  congr 1
  funext a
  apply Fin.ext
  fin_cases a
  · rfl
  · exact hq.symm

/-! ## The two chosen experts -/

theorem gt_iff (a b : EReal) : (FloatOps.cmpfTotal (F := Ideal) (φ := .f32) .gt a b == 1#1) = true ↔ b < a := by
  rw [Ideal.cmpfTotal_def]
  by_cases h : b < a <;> simp [Ideal.cmp, CmpDirection.ordered, h]

/-- The first two places of a row of eight. -/
theorem cut (y : IVec S16384x8 32) (R : Fin 16384) (p : Fin 2) (q : Fin 8) (hq : (q : ℕ) = p) :
    extractStridedSlice S16384x2 (fun _ => 0) y sliceFits_S16384x8_S16384x2 (ix2 R p) = y (ix2 R q) := by
  unfold extractStridedSlice
  congr 1
  funext c
  apply Fin.ext
  fin_cases c
  · exact Nat.zero_add _
  · exact (Nat.zero_add _).trans hq.symm

/-- The two positions of the sorted row that are kept. -/
theorem TI_at (z : FVec Ideal S16384x8 .f32) (R : Fin 16384) (a b : Fin 8) (ha : First (fun k : Fin 8 => z (ix2 R k)) a)
    (hb : Second (fun k : Fin 8 => z (ix2 R k)) a b) (p : Fin 2) :
    TI z (ix2 R p) = if p = 0 then BitVec.ofNat 32 a else BitVec.ofNat 32 b := by
  have key : ∀ q : Fin 8, (Host.sort2 S16384x8 1 (fun l r => FloatOps.cmpfTotal (F := Ideal) (φ := .f32) .gt l.1 r.1) z
      (fun i => if hd : 1 < S16384x8.rank then iotaInDim S16384x8 32 ⟨1, hd⟩ i else 0#32)).2 (ix2 R q)
      = BitVec.ofNat 32 (sortedFrom (fun k k' : Fin 8 => FloatOps.cmpfTotal (F := Ideal) (φ := .f32) .gt (z (ix2 R k)) (z (ix2 R k')) == 1#1) q) := by
    intro q
    have al : ∀ k : Fin 8, (ix2 R q : S16384x8.Idx).along (1 : Fin 2) k = ix2 R k := by
      intro k
      funext b
      fin_cases b <;> rfl
    unfold Host.sort2
    rw [dif_pos (by decide)]
    show (if hd : 1 < S16384x8.rank then iotaInDim S16384x8 32 ⟨1, hd⟩ _ else 0#32) = _
    rw [dif_pos (by decide)]
    show BitVec.ofNat 32 (((ix2 R q : S16384x8.Idx).along (1 : Fin 2) (sortedFrom (fun k k' : Fin 8 => FloatOps.cmpfTotal (F := Ideal) (φ := .f32) .gt (z ((ix2 R q : S16384x8.Idx).along (1 : Fin 2) k)) (z ((ix2 R q : S16384x8.Idx).along (1 : Fin 2) k')) == 1#1) q)) 1 : ℕ) = _
    simp only [al]
    rfl
  unfold TI Host.topK
  fin_cases p
  · refine (cut _ R 0 0 rfl).trans ((key 0).trans ?_)
    rw [sorted_first (fun k : Fin 8 => z (ix2 R k)) _ (fun k k' => gt_iff _ _) a ha]; rfl
  · refine (cut _ R 1 1 rfl).trans ((key 1).trans ?_)
    rw [sorted_second (fun k : Fin 8 => z (ix2 R k)) _ (fun k k' => gt_iff _ _) a b ha hb]; rfl

/-- An expert's number from its group's and its place in it. -/
theorem IDS_at (g : IVec S16384 32) (t : IVec S16384x2 32) (R : Fin 16384) (p : Fin 2) (gg : Fin 4) (a : Fin 8)
    (hg : g (ix1 R) = BitVec.ofNat 32 gg) (ht : t (ix2 R p) = BitVec.ofNat 32 a) : IDS g t (ix2 R p) = num (gg * 8 + a) := by
  pointwise [IDS]
  rw [hg, ht]
  have e : IntOp.addi (IntOp.muli (BitVec.ofNat 32 (gg : ℕ)) 8#32) (BitVec.ofNat 32 (a : ℕ)) = BitVec.ofNat 32 (gg * 8 + a) := by
    clear hg ht
    revert gg a
    decide
  rw [e]
  show (((BitVec.ofNat 32 (gg * 8 + a : ℕ)).toInt : ℝ) : EReal) = _
  rw [small_int (by omega)]
  unfold num
  norm_cast

/-- The two experts the reference chooses: the first and the second of the chosen group's logits. -/
theorem ROUTE_at (h2 : FVec Ideal S4x4096x2048 .f32) (a8 : FVec Ideal S2048x4 .f32) (a9 : FVec Ideal S4 .f32)
    (a10 : FVec Ideal S2048x32 .f32) (a11 : FVec Ideal S32 .f32) (R : Fin 16384) (g : Fin 4) (a b : Fin 8)
    (hg : First (fun k : Fin 4 => LG h2 a8 a9 (ix2 R k)) g) (hgb : LG h2 a8 a9 (ix2 R g) ≠ ⊥)
    (ha : First (fun k : Fin 8 => LE h2 a10 a11 (ix2 R ⟨g * 8 + k, by omega⟩)) a)
    (hb : Second (fun k : Fin 8 => LE h2 a10 a11 (ix2 R ⟨g * 8 + k, by omega⟩)) a b) (p : Fin 2) :
    ROUTE h2 a8 a9 a10 a11 (ix2 R p) = num (g * 8 + if p = 0 then (a : ℕ) else b) := by
  have hG := GI_at (LG h2 a8 a9) R g hg hgb
  have hS : ∀ k : Fin 8, SEL (GI (LG h2 a8 a9)) (LE h2 a10 a11) (ix2 R k) = LE h2 a10 a11 (ix2 R ⟨g * 8 + k, by omega⟩) :=
    fun k => SEL_at _ _ R g hG k _ rfl
  have hT := TI_at (SEL (GI (LG h2 a8 a9)) (LE h2 a10 a11)) R a b (by simp only [hS]; exact ha) (by simp only [hS]; exact hb) p
  unfold ROUTE
  fin_cases p
  · exact IDS_at _ _ R _ g a hG hT
  · exact IDS_at _ _ R _ g b hG hT

/-! ## The logits -/

theorem LG_at (h2 : FVec Ideal S4x4096x2048 .f32) (a8 : FVec Ideal S2048x4 .f32) (a9 : FVec Ideal S4 .f32) (R : Fin 16384) (k : Fin 4) :
    LG h2 a8 a9 (ix2 R k) = ∑ x : Fin 2048, h2 (ix3 ⟨R / 4096, by omega⟩ ⟨R % 4096, by omega⟩ x) * a8 (ix2 x k) + a9 (ix1 k) := by
  pointwise [LG, HF]

theorem LE_at (h2 : FVec Ideal S4x4096x2048 .f32) (a10 : FVec Ideal S2048x32 .f32) (a11 : FVec Ideal S32 .f32) (R : Fin 16384) (k : Fin 32) :
    LE h2 a10 a11 (ix2 R k) = ∑ x : Fin 2048, h2 (ix3 ⟨R / 4096, by omega⟩ ⟨R % 4096, by omega⟩ x) * a10 (ix2 x k) + a11 (ix1 k) := by
  pointwise [LE, HF]

end Cert.Reference5Ideal.Rt

end
-- ==== Proof.RtCore.lean ====
/- The launch that runs the router beside the mixing: the rows that enter the router, its logits and what it leaves of the
   chosen experts' numbers. -/
module

public import proofs.«01_k».proof.Proof.RtHost
public import proofs.«01_k».proof.Proof.RtPick
public import proofs.«01_k».proof.Proof.RtRef
public import proofs.«01_k».proof.Proof.RtFinite
public import Idealize.ShloMosaic.Lib.Pointwise
public import Idealize.ShloMosaic.Lib.Pipeline.ValueKit
public import Idealize.ShloMosaic.Lib.Claim

@[expose] public section

set_option maxRecDepth 16384

noncomputable section

namespace Cert.Kernel5Ideal.Rt

open Idealize.ShloMosaic Idealize.ShloMosaic.TcCoe Idealize.SL.Sem
open Cert.Kernel5Ideal Cert.Kernel5Ideal.Gen
open Cert.Reference3Ideal.Mix (REF1 REF2 ref2_at)

variable (m : (ℓ : Loc nD τ sig) → Buf (Elt Ideal) ℓ)

/-- The block each window holds at each grid point. -/
theorem idx : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_12.index t = ![t.val, 0] :=
  (by decide +kernel : ∀ t : Fin grid0.N, _)

/-! ## Reads of the arrays the region finds -/

theorem at_14 (c : Dev nD) (a : Fin 4) (s : Fin 6) (q : Fin 2048) : V m c main_v14 (ix3 a s q) = m ((c : Thread nD τ).loc main_arg3) (ix2 a ⟨s * 2048 + q, by omega⟩) := by
  rw [V_14]; pointwise

theorem at_16 (c : Dev nD) (q : Fin 1024) : V m c main_v16 (ix2 0 q) = m ((c : Thread nD τ).loc main_arg4) (ix1 q) := by
  rw [V_16]; pointwise

theorem at_17 (c : Dev nD) (q : Fin 1024) : V m c main_v17 (ix2 0 q) = m ((c : Thread nD τ).loc main_arg5) (ix1 q) := by
  rw [V_17]; pointwise

theorem at_18 (c : Dev nD) (q : Fin 2048) : V m c main_v18 (ix2 0 q) = m ((c : Thread nD τ).loc main_arg6) (ix1 q) := by
  rw [V_18]; pointwise

theorem emb3 (t : Fin cfg0.N) (s : Fin 6) (q : Fin 2048) : (win0_3.blk t).view.emb (ix3 0 s q) = ix3 ⟨t.val / 8, by have := t.2; have : cfg0.N = 32 := rfl; omega⟩ s q := by
  blk_ext [idx t]

theorem emb4 (t : Fin cfg0.N) (q : Fin 1024) : (win0_4.blk t).view.emb (ix2 0 q) = ix2 0 q := by
  blk_ext [idx t]

theorem emb5 (t : Fin cfg0.N) (q : Fin 1024) : (win0_5.blk t).view.emb (ix2 0 q) = ix2 0 q := by
  blk_ext [idx t]

theorem emb6 (t : Fin cfg0.N) (q : Fin 2048) : (win0_6.blk t).view.emb (ix2 0 q) = ix2 0 q := by
  blk_ext [idx t]

theorem ld8 (c : Dev nD) (t : Fin cfg0.N) : View.ld (iblk m c 8 t) r0_8 = iblk m c 8 t :=
  View.ld_unit_zero (by funext a; fin_cases a <;> rfl) _ _

theorem ld9 (c : Dev nD) (t : Fin cfg0.N) : View.ld (iblk m c 9 t) r0_9 = iblk m c 9 t :=
  View.ld_unit_zero (by funext a; fin_cases a <;> rfl) _ _

theorem emb8 (t : Fin cfg0.N) (p : Fin 2048) (l : Fin 128) : (win0_8.blk t).view.emb (ix2 p l) = ix2 p l := by
  blk_ext [idx t]

theorem emb9 (t : Fin cfg0.N) (l : Fin 128) : (win0_9.blk t).view.emb (ix2 0 l) = ix2 0 l := by
  blk_ext [idx t]
/-- A read of window 8's block is a read of its array, whatever the arrays hold. -/
theorem blk_rd8 (c : Dev nD) (X : (b : Ref sig .tc) → Buf (Elt Ideal) ((c : Thread nD τ).loc b)) (t : Fin cfg0.N) (i : S2048x128.Idx) :
    ((cfg0.win 8).blk t).view.read (Elt Ideal) (X (Pipeline.arrRef spec0 8)) i = X main_v9 ((win0_8.blk t).view.emb i) := rfl

theorem rd8 (c : Dev nD) (t : Fin cfg0.N) (i : S2048x128.Idx) : iblk m c 8 t i = V m c main_v9 ((win0_8.blk t).view.emb i) := by
  unfold iblk
  exact blk_rd8 c (V m c) t i

/-- A read of window 9's block is a read of its array, whatever the arrays hold. -/
theorem blk_rd9 (c : Dev nD) (X : (b : Ref sig .tc) → Buf (Elt Ideal) ((c : Thread nD τ).loc b)) (t : Fin cfg0.N) (i : S1x128.Idx) :
    ((cfg0.win 9).blk t).view.read (Elt Ideal) (X (Pipeline.arrRef spec0 9)) i = X main_v19 ((win0_9.blk t).view.emb i) := rfl

theorem rd9 (c : Dev nD) (t : Fin cfg0.N) (i : S1x128.Idx) : iblk m c 9 t i = V m c main_v19 ((win0_9.blk t).view.emb i) := by
  unfold iblk
  exact blk_rd9 c (V m c) t i

/-- The table of weights a grid point reads is the whole one. -/
theorem w_at (c : Dev nD) (t : Fin cfg0.N) (p : Fin 2048) (l : Fin 128) : View.ld (iblk m c 8 t) r0_8 (ix2 p l) = V m c main_v9 (ix2 p l) := by
  rw [ld8, rd8, emb8]

/-- The row of biases a grid point reads is the whole one. -/
theorem b_at (c : Dev nD) (t : Fin cfg0.N) (l : Fin 128) : View.ld (iblk m c 9 t) r0_9 (ix2 0 l) = V m c main_v19 (ix2 0 l) := by
  rw [ld9, rd9, emb9]

/-! The weights' and the biases' entries are the arguments'. -/

theorem W_lo (c : Dev nD) (p : Fin 2048) (q : Fin 36) (k : Fin 4) (h : (q : ℕ) = k) : W m c (ix2 p q) = m ((c : Thread nD τ).loc main_arg8) (ix2 p k) := by
  have e : q = ⟨k, by omega⟩ := Fin.ext h
  rw [e]
  clear e
  pointwise [W]

theorem W_hi (c : Dev nD) (p : Fin 2048) (q : Fin 36) (k : Fin 32) (h : (q : ℕ) = 4 + k) : W m c (ix2 p q) = m ((c : Thread nD τ).loc main_arg10) (ix2 p k) := by
  have e : q = ⟨4 + k, by omega⟩ := Fin.ext h
  rw [e]
  clear e
  pointwise [W]

theorem B_lo (c : Dev nD) (q : Fin 36) (k : Fin 4) (h : (q : ℕ) = k) : B m c (ix1 q) = m ((c : Thread nD τ).loc main_arg9) (ix1 k) := by
  have e : q = ⟨k, by omega⟩ := Fin.ext h
  rw [e]
  clear e
  pointwise [B]

theorem B_hi (c : Dev nD) (q : Fin 36) (k : Fin 32) (h : (q : ℕ) = 4 + k) : B m c (ix1 q) = m ((c : Thread nD τ).loc main_arg11) (ix1 k) := by
  have e : q = ⟨4 + k, by omega⟩ := Fin.ext h
  rw [e]
  clear e
  pointwise [B]

/-! ## The rows that enter the router -/

set_option maxHeartbeats 1600000 in
/-- The residual stream at a row and column of the body's block is the reference's entry where they sit. -/
theorem core (c : Dev nD) (t : Fin cfg0.N) (r : Fin 512) (q : Fin 2048) (j : S4x4096x2048.Idx)
    (hj0 : (j 0 : ℕ) = t.val / 8) (hj1 : (j 1 : ℕ) = t.val % 8 * 512 + r) (hj2 : (j 2 : ℕ) = q) :
    k0_pay5 (F := Ideal) (k0_pay29 (F := Ideal) (iblk m c 0 t) (iblk m c 1 t) (iblk m c 2 t) (iblk m c 3 t) (iblk m c 4 t) (iblk m c 5 t) (iblk m c 6 t) (iblk m c 7 t) (iblk m c 8 t) (iblk m c 9 t))
        (k0_pay30 (F := Ideal) (iblk m c 0 t) (iblk m c 1 t) (iblk m c 2 t) (iblk m c 3 t) (iblk m c 4 t) (iblk m c 5 t) (iblk m c 6 t) (iblk m c 7 t) (iblk m c 8 t) (iblk m c 9 t))
        (k0_pay28 (F := Ideal) (iblk m c 0 t) (iblk m c 1 t) (iblk m c 2 t) (iblk m c 3 t) (iblk m c 4 t) (iblk m c 5 t) (iblk m c 6 t) (iblk m c 7 t) (iblk m c 8 t) (iblk m c 9 t))
        (View.ld (iblk m c 2 t) r0_3) (View.ld (iblk m c 3 t) r0_4) (ix2 r q)
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) j := by
  pointwise [k0_pay5, k0_pay29, k0_pay30, k0_pay28, k0_pay3, k0_pay4, REF1]
  blk_point [iblk, V, idx t]
  · refine (congrArg (V m c main_v14) (emb3 t 2 q)).trans ((at_14 m c _ 2 q).trans (congrArg _ ?_))
    funext k
    apply Fin.ext
    fin_cases k
    · exact hj0.symm
    · exact congrArg (4096 + ·) hj2.symm
  · exact (congrArg (V m c main_v16) (emb4 t x)).trans (at_16 m c x)
  · exact (congrArg (V m c main_v17) (emb5 t x)).trans (at_17 m c x)

/-- The load of a whole block is the block. -/
theorem ld2 (c : Dev nD) (t : Fin cfg0.N) : View.ld (iblk m c 2 t) r0_3 = iblk m c 2 t := by
  funext i
  blk_point [iblk, V, idx t]

/-- An entry of the rows for the experts that the body computes, from its residual stream. -/
theorem pay7_at (v36 : FVec Ideal S512x2048 .bf16) (v38 : FVec Ideal S2048x2048 .bf16) (cst : FVec Ideal S512x2048 .f32)
    (v40 : FVec Ideal S1x512x2048 .f32) (v42 : FVec Ideal S1x1x2048 .f32) (v50 : FVec Ideal S1x2048 .f32) (v64 v70 : FVec Ideal S1x1x2048 .f32)
    (r : Fin 512) (q : Fin 2048) (R : Fin 2048 → EReal) (hR : ∀ x : Fin 2048, k0_pay5 (F := Ideal) v36 v38 cst v40 v42 (ix2 r x) = R x) :
    k0_pay7 (F := Ideal) v36 v38 cst v40 v42 v50 v64 v70 (ix2 r q)
      = R q * Ideal.rsqrt (Ideal.div (∑ x : Fin 2048, R x * R x) (Ideal.ofBits .f32 0x45000000#32)
            + Ideal.ofBits .f32 0x358637BD#32) * v50 (ix2 0 q) * (1 + v64 (ix3 0 0 q)) + v70 (ix3 0 0 q) := by
  pointwise [k0_pay7]
  simp only [hR]

/-- A row for the experts at a row and column of the body's block is the reference's entry where they sit. -/
theorem core2 (c : Dev nD) (t : Fin cfg0.N) (r : Fin 512) (q : Fin 2048) (a : Fin 4) (b : Fin 4096)
    (ha : (a : ℕ) = t.val / 8) (hb : (b : ℕ) = t.val % 8 * 512 + r) :
    k0_pay31 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
      = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 a b q) := by
  unfold k0_pay31
  rw [ref2_at]
  refine (pay7_at _ _ _ _ _ _ _ _ r q (fun x => REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (ix3 a b x))
    fun x => core m c t r x (ix3 a b x) ha hb rfl).trans ?_
  pointwise
  blk_point [iblk, V, idx t]
  · exact (congrArg (V m c main_v18) (emb6 t q)).trans (at_18 m c q)
  · refine (congrArg (V m c main_v14) (emb3 t 4 q)).trans ((at_14 m c _ 4 q).trans (congrArg _ ?_))
    funext k
    apply Fin.ext
    fin_cases k
    · exact ha.symm
    · rfl
  · refine (congrArg (V m c main_v14) (emb3 t 3 q)).trans ((at_14 m c _ 3 q).trans (congrArg _ ?_))
    funext k
    apply Fin.ext
    fin_cases k
    · exact ha.symm
    · rfl

end Cert.Kernel5Ideal.Rt

end
-- ==== Proof.RtWeight.lean ====
/- The router's weights as the reference computes them: the softmax of the two greatest logits, times the chosen group's
   own softmax. -/
module

public import proofs.«01_k».proof.Proof.RtRef
public import proofs.«01_k».proof.Proof.RtSoft
public import Idealize.ShloMosaic.Lib.Pointwise
public import Idealize.ShloMosaic.Lib.Pipeline.ValueKit
public import Idealize.ShloMosaic.Lib.Claim

@[expose] public section

set_option maxRecDepth 16384

noncomputable section

namespace Cert.Reference5Ideal.Rt

open Idealize.ShloMosaic Idealize.ShloMosaic.TcCoe Idealize.SL.Sem Idealize.ShloMosaic.StableHlo
open Cert.Reference5Ideal Cert.Reference5Ideal.Gen
open Cert.Reference5Ideal.Value
open Cert.Reference3Ideal.Mix (REF2)
open Cert.Pick Cert.Soft

/-- The exponentials of the groups' logits, less the greatest. -/
def EG (x : FVec Ideal S16384x4 .f32) : FVec Ideal S16384x4 .f32 :=
  Host.exp (subf x (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf x (constant S_ .f32 0xFF800000#32) reducesTo_S16384x4_S16384_d1 h_S_)))))

/-- The groups' softmax. -/
def PG (x : FVec Ideal S16384x4 .f32) : FVec Ideal S16384x4 .f32 :=
  Host.divf (EG x) (broadcastInDim S16384x4 ![0, 1] bcast_S16384x1_S16384x4_0_1 (broadcastInDim S16384x1 ![0] bcast_S16384_S16384x1_0 (Host.reduceAdd (EG x) (constant S_ .f32 0x00000000#32) reducesTo_S16384x4_S16384_d1 h_S_)))

/-- The chosen group's number as an index, counted from the end where it is negative. -/
def IY (g : IVec S16384 32) : IVec S16384x1x1 32 :=
  shapeCast _ (select (cmpi .slt (broadcastInDim S16384x1 ![0] bcast_S16384_S16384x1_0 g) (broadcastInDim S16384x1 ![] bcast_S_S16384x1 (constantI S_ 32 0#32))) (addi (broadcastInDim S16384x1 ![0] bcast_S16384_S16384x1_0 g) (broadcastInDim S16384x1 ![] bcast_S_S16384x1 (constantI S_ 32 4#32))) (broadcastInDim S16384x1 ![0] bcast_S16384_S16384x1_0 g)) shapeCasts_S16384x1_S16384x1x1

/-- The chosen group's softmax. -/
def PSEL (g : IVec S16384 32) (y : FVec Ideal S16384x4 .f32) : FVec Ideal S16384x1 .f32 :=
  select (Host.reduce IntOp.andi (andi (cmpi .sge (IY g) (broadcastInDim S16384x1x1 ![] bcast_S_S16384x1x1 (constantI S_ 32 0#32))) (cmpi .sle (IY g) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 y (IY g)) (broadcastInDim S16384x1 ![] bcast_S_S16384x1 (constant S_ .f32 0x7FC00000#32))

/-- The two greatest logits. -/
def TV (z : FVec Ideal S16384x8 .f32) : FVec Ideal S16384x2 .f32 :=
  (Host.topK S16384x2 1 (FloatOps.cmpfTotal .gt) z sliceFits_S16384x8_S16384x2).1

/-- The exponentials of the two greatest logits, less the greatest. -/
def EE (x : FVec Ideal S16384x2 .f32) : FVec Ideal S16384x2 .f32 :=
  Host.exp (subf x (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf x (constant S_ .f32 0xFF800000#32) reducesTo_S16384x2_S16384_d1 h_S_)))))

/-- The softmax of the two greatest logits. -/
def PE (x : FVec Ideal S16384x2 .f32) : FVec Ideal S16384x2 .f32 :=
  Host.divf (EE x) (broadcastInDim S16384x2 ![0, 1] bcast_S16384x1_S16384x2_0_1 (broadcastInDim S16384x1 ![0] bcast_S16384_S16384x1_0 (Host.reduceAdd (EE x) (constant S_ .f32 0x00000000#32) reducesTo_S16384x2_S16384_d1 h_S_)))

/-- The two experts' weights, from the rows that enter the router. -/
def WEIGH (h2 : FVec Ideal S4x4096x2048 .f32) (a8 : FVec Ideal S2048x4 .f32) (a9 : FVec Ideal S4 .f32)
    (a10 : FVec Ideal S2048x32 .f32) (a11 : FVec Ideal S32 .f32) : FVec Ideal S16384x2 .f32 :=
  mulf (PE (TV (SEL (GI (LG h2 a8 a9)) (LE h2 a10 a11)))) (broadcastInDim S16384x2 ![0, 1] bcast_S16384x1_S16384x2_0_1 (PSEL (GI (LG h2 a8 a9)) (PG (LG h2 a8 a9))))

/-- What the reference leaves of the weights, in these names. -/
theorem res_weigh (m : (ℓ : Loc nD τ sig) → Buf (Elt Ideal) ℓ) (c : Dev nD) :
    mulf (Host.divf (res_main_v94 (launchContents m c)) (broadcastInDim S16384x2 ![0, 1] bcast_S16384x1_S16384x2_0_1 (broadcastInDim S16384x1 ![0] bcast_S16384_S16384x1_0 (Host.reduceAdd (res_main_v94 (launchContents m c)) (constant S_ .f32 0x00000000#32) reducesTo_S16384x2_S16384_d1 h_S_)))) (broadcastInDim S16384x2 ![0, 1] bcast_S16384x1_S16384x2_0_1 (select (Host.reduce IntOp.andi (andi (cmpi .sge (res_main_call1_v5 (launchContents m c)) (broadcastInDim S16384x1x1 ![] bcast_S_S16384x1x1 (constantI S_ 32 0#32))) (cmpi .sle (res_main_call1_v5 (launchContents m c)) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v72 (launchContents m c)) (broadcastInDim S16384x4 ![0, 1] bcast_S16384x1_S16384x4_0_1 (broadcastInDim S16384x1 ![0] bcast_S16384_S16384x1_0 (Host.reduceAdd (res_main_v72 (launchContents m c)) (constant S_ .f32 0x00000000#32) reducesTo_S16384x4_S16384_d1 h_S_)))) (res_main_call1_v5 (launchContents m c))) (broadcastInDim S16384x1 ![] bcast_S_S16384x1 (constant S_ .f32 0x7FC00000#32))))
      = WEIGH (REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
        (m ((c : Thread nD τ).loc main_arg8)) (m ((c : Thread nD τ).loc main_arg9)) (m ((c : Thread nD τ).loc main_arg10)) (m ((c : Thread nD τ).loc main_arg11)) := by
  rfl

theorem z_bot : Ideal.ofBits .f32 4286578688#32 = ⊥ := by simp [Ideal.ofBits, Ideal.ieee]
theorem z_zero : Ideal.ofBits .f32 0#32 = 0 := by simp [Ideal.ofBits, Ideal.ieee]

/-! ## The groups' softmax -/

theorem EG_at (x : FVec Ideal S16384x4 .f32) (R : Fin 16384) (lg : Fin 4 → ℝ) (g : Fin 4) (hx : ∀ k : Fin 4, x (ix2 R k) = (lg k : EReal))
    (hg : First (fun k => (lg k : EReal)) g) (k : Fin 4) : EG x (ix2 R k) = ((Real.exp (lg k - lg g) : ℝ) : EReal) := by
  pointwise [EG]
  simp only [hx, z_bot]
  rw [fold_max _ g hg, max_eq_right bot_le, exp_sub]

theorem PG_at (x : FVec Ideal S16384x4 .f32) (R : Fin 16384) (lg : Fin 4 → ℝ) (g : Fin 4) (hx : ∀ k : Fin 4, x (ix2 R k) = (lg k : EReal))
    (hg : First (fun k => (lg k : EReal)) g) (k : Fin 4) :
    PG x (ix2 R k) = ((Real.exp (lg k - lg g) / ∑ j, Real.exp (lg j - lg g) : ℝ) : EReal) := by
  pointwise [PG]
  simp only [EG_at x R lg g hx hg]
  rw [sum_coe, div_real _ _ (sum_pos lg _).ne']

theorem IY_at (g : IVec S16384 32) (R : Fin 16384) (x : Fin 1) (k : Fin 4) (h : g (ix1 R) = BitVec.ofNat 32 k) :
    IY g (ix3 R 0 x) = BitVec.ofNat 32 k := by
  pointwise [IY]
  rw [h]
  fin_cases k <;> rfl

/-- The place of the table that a row of the gathered column reads. -/
theorem place_col (idx : IVec S16384x1x1 32) (R : Fin 16384) (g : Fin 4) (h : idx (ix3 R 0 0) = BitVec.ofNat 32 g) :
    gather_S16384x4_S16384x1x1_S16384x1_n_1_0_0_1_2_11.operandIdx (ix2 R 0) idx = ix2 R g := by
  funext a
  apply Fin.ext
  unfold GatherDims.operandIdx
  fin_cases a
  · show gather_S16384x4_S16384x1x1_S16384x1_n_1_0_0_1_2_11.start (ix2 R 0) idx 0 + gather_S16384x4_S16384x1x1_S16384x1_n_1_0_0_1_2_11.batchCoord (ix2 R 0) 0 + gather_S16384x4_S16384x1x1_S16384x1_n_1_0_0_1_2_11.offCoord (ix2 R 0) 0 = (R : ℕ)
    rw [GatherDims.start, dif_neg (by decide), GatherDims.offCoord, dif_neg (by decide), GatherDims.batchCoord, dif_pos (by decide)]
    show 0 + (R : ℕ) + 0 = R
    omega
  · show gather_S16384x4_S16384x1x1_S16384x1_n_1_0_0_1_2_11.start (ix2 R 0) idx 1 + gather_S16384x4_S16384x1x1_S16384x1_n_1_0_0_1_2_11.batchCoord (ix2 R 0) 1 + gather_S16384x4_S16384x1x1_S16384x1_n_1_0_0_1_2_11.offCoord (ix2 R 0) 1 = (g : ℕ)
    rw [GatherDims.start, dif_pos (by decide), GatherDims.offCoord, dif_neg (by decide), GatherDims.batchCoord, dif_neg (by decide)]
    have e : gather_S16384x4_S16384x1x1_S16384x1_n_1_0_0_1_2_11.siIdx (ix2 R 0) ⟨List.idxOf (1 : Fin 2) [1], by decide⟩ = ix3 R 0 0 := by
      funext b
      apply Fin.ext
      fin_cases b <;> rfl
    show min (idx (gather_S16384x4_S16384x1x1_S16384x1_n_1_0_0_1_2_11.siIdx (ix2 R 0) ⟨List.idxOf (1 : Fin 2) [1], by decide⟩)).toInt.toNat 3 + 0 + 0 = (g : ℕ)
    rw [e, h, small_int (by omega)]
    simp only [Int.toNat_natCast]
    omega

/-- The chosen group's entry of a row. -/
theorem PSEL_at (g : IVec S16384 32) (y : FVec Ideal S16384x4 .f32) (R : Fin 16384) (gg : Fin 4) (h : g (ix1 R) = BitVec.ofNat 32 gg) :
    PSEL g y (ix2 R 0) = y (ix2 R gg) := by
  pointwise [PSEL]
  have hm : (Finset.fold IntOp.andi (1#1)
        (fun x : Fin 1 =>
          IntOp.andi (IntOp.cmpi CmpIPredicate.sge (IY g (ix3 R 0 x)) 0#32)
            (IntOp.cmpi CmpIPredicate.sle (IY g (ix3 R 0 x)) 3#32))
        Finset.univ) = 1#1 := by
    rw [Finset.univ_unique, Finset.fold_singleton, IY_at g R _ gg h]
    fin_cases gg <;> rfl
  rw [hm]
  show Host.gather gather_S16384x4_S16384x1x1_S16384x1_n_1_0_0_1_2_11 y (IY g) (ix2 R 0) = _
  unfold Host.gather
  rw [place_col (IY g) R gg (IY_at g R 0 gg h)]

/-! ## The two experts' softmax -/

theorem cut_real (y : FVec Ideal S16384x8 .f32) (R : Fin 16384) (p : Fin 2) (q : Fin 8) (hq : (q : ℕ) = p) :
    extractStridedSlice S16384x2 (fun _ => 0) y sliceFits_S16384x8_S16384x2 (ix2 R p) = y (ix2 R q) := by
  unfold extractStridedSlice
  congr 1
  funext c
  apply Fin.ext
  fin_cases c
  · exact Nat.zero_add _
  · exact (Nat.zero_add _).trans hq.symm

/-- The two logits of the sorted row that are kept. -/
theorem TV_at (z : FVec Ideal S16384x8 .f32) (R : Fin 16384) (a b : Fin 8) (ha : First (fun k : Fin 8 => z (ix2 R k)) a)
    (hb : Second (fun k : Fin 8 => z (ix2 R k)) a b) (p : Fin 2) :
    TV z (ix2 R p) = if p = 0 then z (ix2 R a) else z (ix2 R b) := by
  have key : ∀ q : Fin 8, (Host.sort2 S16384x8 1 (fun l r => FloatOps.cmpfTotal (F := Ideal) (φ := .f32) .gt l.1 r.1) z
      (fun i => if hd : 1 < S16384x8.rank then iotaInDim S16384x8 32 ⟨1, hd⟩ i else 0#32)).1 (ix2 R q)
      = z (ix2 R (sortedFrom (fun k k' : Fin 8 => FloatOps.cmpfTotal (F := Ideal) (φ := .f32) .gt (z (ix2 R k)) (z (ix2 R k')) == 1#1) q)) := by
    intro q
    have al : ∀ k : Fin 8, (ix2 R q : S16384x8.Idx).along (1 : Fin 2) k = ix2 R k := by
      intro k
      funext b
      fin_cases b <;> rfl
    unfold Host.sort2
    rw [dif_pos (by decide)]
    show z ((ix2 R q : S16384x8.Idx).along (1 : Fin 2) (sortedFrom (fun k k' : Fin 8 => FloatOps.cmpfTotal (F := Ideal) (φ := .f32) .gt (z ((ix2 R q : S16384x8.Idx).along (1 : Fin 2) k)) (z ((ix2 R q : S16384x8.Idx).along (1 : Fin 2) k')) == 1#1) q)) = _
    simp only [al]
    exact congrArg z (al _)
  unfold TV Host.topK
  fin_cases p
  · refine (cut_real _ R 0 0 rfl).trans ((key 0).trans ?_)
    rw [sorted_first (fun k : Fin 8 => z (ix2 R k)) _ (fun k k' => gt_iff _ _) a ha]; rfl
  · refine (cut_real _ R 1 1 rfl).trans ((key 1).trans ?_)
    rw [sorted_second (fun k : Fin 8 => z (ix2 R k)) _ (fun k k' => gt_iff _ _) a b ha hb]; rfl

theorem EE_at (x : FVec Ideal S16384x2 .f32) (R : Fin 16384) (v : Fin 2 → ℝ) (hx : ∀ p : Fin 2, x (ix2 R p) = (v p : EReal)) (hv : v 1 ≤ v 0)
    (p : Fin 2) : EE x (ix2 R p) = ((Real.exp (v p - v 0) : ℝ) : EReal) := by
  have hf : First (fun p => (v p : EReal)) 0 := by
    intro k hk
    have e : k = 1 := by omega
    subst e
    rcases hv.lt_or_eq with h | h
    · exact Or.inl (EReal.coe_lt_coe_iff.2 h)
    · exact Or.inr ⟨congrArg Real.toEReal h, by decide⟩
  pointwise [EE]
  simp only [hx, z_bot]
  rw [fold_max _ 0 hf, max_eq_right bot_le, exp_sub]

theorem PE_at (x : FVec Ideal S16384x2 .f32) (R : Fin 16384) (v : Fin 2 → ℝ) (hx : ∀ p : Fin 2, x (ix2 R p) = (v p : EReal)) (hv : v 1 ≤ v 0)
    (p : Fin 2) : PE x (ix2 R p) = ((Real.exp (v p - v 0) / (1 + Real.exp (v 1 - v 0)) : ℝ) : EReal) := by
  pointwise [PE]
  simp only [EE_at x R v hx hv]
  have e : (∑ k : Fin 2, Real.exp (v k - v 0)) = 1 + Real.exp (v 1 - v 0) := by
    rw [Fin.sum_univ_two, sub_self, Real.exp_zero]
  rw [sum_coe, e, div_real _ _ (add_pos one_pos (Real.exp_pos _)).ne']

/-- The two weights the reference gives. -/
theorem WEIGH_at (h2 : FVec Ideal S4x4096x2048 .f32) (a8 : FVec Ideal S2048x4 .f32) (a9 : FVec Ideal S4 .f32)
    (a10 : FVec Ideal S2048x32 .f32) (a11 : FVec Ideal S32 .f32) (R : Fin 16384) (g : Fin 4) (a b : Fin 8)
    (lg : Fin 4 → ℝ) (le : Fin 8 → ℝ) (hlg : ∀ k : Fin 4, LG h2 a8 a9 (ix2 R k) = (lg k : EReal))
    (hle : ∀ (k : Fin 8) (q : Fin 32), (q : ℕ) = g * 8 + k → LE h2 a10 a11 (ix2 R q) = (le k : EReal))
    (hg : First (fun k => (lg k : EReal)) g) (ha : First (fun k => (le k : EReal)) a) (hb : Second (fun k => (le k : EReal)) a b) (p : Fin 2) :
    WEIGH h2 a8 a9 a10 a11 (ix2 R p) = (weight lg g (le a) (le b) (if p = 0 then le a else le b) : EReal) := by
  have hG := GI_at (LG h2 a8 a9) R g (by simp only [hlg]; exact hg) ((hlg g).trans_ne (EReal.coe_ne_bot _))
  have hS : ∀ k : Fin 8, SEL (GI (LG h2 a8 a9)) (LE h2 a10 a11) (ix2 R k) = (le k : EReal) :=
    fun k => (SEL_at _ _ R g hG k ⟨g * 8 + k, by omega⟩ rfl).trans (hle k _ rfl)
  have hT : ∀ p : Fin 2, TV (SEL (GI (LG h2 a8 a9)) (LE h2 a10 a11)) (ix2 R p) = ((if p = 0 then le a else le b : ℝ) : EReal) := by
    intro p
    rw [TV_at _ R a b (by simp only [hS]; exact ha) (by simp only [hS]; exact hb) p, hS, hS]
    split <;> rfl
  have hv : le b ≤ le a := EReal.coe_le_coe_iff.1 (ha b hb.1).le
  have hP := PE_at _ R (fun p => if p = 0 then le a else le b) hT hv p
  have hQ := (PSEL_at _ (PG (LG h2 a8 a9)) R g hG).trans (PG_at _ R lg g hlg hg g)
  pointwise [WEIGH]
  rw [hP, hQ, ← EReal.coe_mul]
  refine congrArg Real.toEReal ?_
  unfold weight
  rw [sub_self, Real.exp_zero]
  rfl

end Cert.Reference5Ideal.Rt

end
-- ==== Proof.RtFinal.lean ====
/- What the launch leaves of the chosen experts' numbers and of their weights is what the router of the reference gives. -/
module

public import proofs.«01_k».proof.Proof.RtCore
public import proofs.«01_k».proof.Proof.RtWeight
public import Idealize.ShloMosaic.Lib.Pointwise
public import Idealize.ShloMosaic.Lib.Pipeline.ValueKit
public import Idealize.ShloMosaic.Lib.Claim

@[expose] public section

set_option maxRecDepth 16384

noncomputable section

namespace Cert.Kernel5Ideal.Rt

open Idealize.ShloMosaic Idealize.ShloMosaic.TcCoe Idealize.SL.Sem
open Cert.Kernel5Ideal Cert.Kernel5Ideal.Gen
open Cert.Reference3Ideal.Mix (REF1 REF2 ref2_at)
open Cert.Reference5Ideal.Rt (LG LE LG_at LE_at ROUTE ROUTE_at WEIGH WEIGH_at)
open Cert.Pick Cert.Finite

variable (m : (ℓ : Loc nD τ sig) → Buf (Elt Ideal) ℓ)

/-- The rows that enter the router. -/
def H2 (c : Dev nD) : FVec Ideal S4x4096x2048 .f32 :=
  REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Every entry the router meets is a real number. -/
structure Real (c : Dev nD) : Prop where
  h2 : ∀ (a : Fin 4) (b : Fin 4096) (q : Fin 2048), Fn (H2 m c (ix3 a b q))
  w8 : ∀ i, Fn ((m ((c : Thread nD τ).loc main_arg8) : FVec Ideal S2048x4 .f32) i)
  b9 : ∀ i, Fn ((m ((c : Thread nD τ).loc main_arg9) : FVec Ideal S4 .f32) i)
  w10 : ∀ i, Fn ((m ((c : Thread nD τ).loc main_arg10) : FVec Ideal S2048x32 .f32) i)
  b11 : ∀ i, Fn ((m ((c : Thread nD τ).loc main_arg11) : FVec Ideal S32 .f32) i)

/-! ## The logits -/

/-- A logit of the body: with real entries the parts the casts leave over are zero. -/
theorem pay9_of (v73 : FVec Ideal S512x2048 .f32) (v82 : FVec Ideal S2048x128 .bf16) (v90 : FVec Ideal S1x128 .f32) (r : Fin 512) (l : Fin 128)
    (h w : Fin 2048 → EReal) (b : EReal) (h73 : ∀ x, v73 (ix2 r x) = h x) (hf : ∀ x, Fn (h x)) (hlo : ∀ x, v82 (ix2 x l) = w x)
    (hhi : ∀ x, v82 (ix2 x ⟨((l : ℕ) + 128 - 64) % 128, by omega⟩) = 0) (hb : v90 (ix2 0 l) = b) :
    k0_pay9 (F := Ideal) v73 v82 v90 (ix2 r l) = ∑ x : Fin 2048, h x * w x + b := by
  pointwise [k0_pay9]
  simp only [h73, hlo, hhi, hb, (hf _).sub_self, zero_mul, mul_zero, Finset.sum_const_zero, add_zero]

/-- The body's logits at a grid point. -/
def L (c : Dev nD) (t : Fin cfg0.N) : FVec Ideal S512x128 .f32 :=
  k0_pay9 (k0_pay31 (F := Ideal) (iblk m c 0 t) (iblk m c 1 t) (iblk m c 2 t) (iblk m c 3 t) (iblk m c 4 t) (iblk m c 5 t) (iblk m c 6 t) (iblk m c 7 t) (iblk m c 8 t) (iblk m c 9 t))
    (View.ld (iblk m c 8 t) r0_8) (View.ld (iblk m c 9 t) r0_9)

section logits
variable (c : Dev nD) (hR : Real m c) (t : Fin cfg0.N) (r : Fin 512) (R : Fin 16384) (hRt : (R : ℕ) = t.val * 512 + r)

include hR hRt in
/-- A logit of the body from the entries of its column. -/
theorem logit (l : Fin 128) (q : Fin 36) (hl : (l : ℕ) = q) (w : Fin 2048 → EReal) (b : EReal) (hw : ∀ x, W m c (ix2 x q) = w x)
    (hwf : ∀ x, Fn (w x)) (hb : B m c (ix1 q) = b) :
    L m c t (ix2 r l) = ∑ x : Fin 2048, H2 m c (ix3 ⟨R / 4096, by omega⟩ ⟨R % 4096, by omega⟩ x) * w x + b := by
  unfold L
  refine pay9_of _ _ _ r l _ w b (fun x => core2 m c t r x ⟨R / 4096, by omega⟩ ⟨R % 4096, by omega⟩ (by simp only; omega) (by simp only; omega))
    (fun x => hR.h2 _ _ _) (fun x => ?_) (fun x => ?_) ?_
  · exact (w_at m c t x l).trans ((V_w_lo m c x l q hl).trans (hw x))
  · refine (w_at m c t x _).trans ((V_w_hi m c x _ q (by simp only; omega)).trans ?_)
    rw [hw]
    exact (hwf x).sub_self
  · exact (b_at m c t l).trans ((V_b_lo m c l q hl).trans hb)

include hR hRt in
/-- The first four lanes are the groups' logits. -/
theorem logit_group (k : Fin 4) : L m c t (ix2 r ⟨k, by omega⟩)
    = LG (H2 m c) (m ((c : Thread nD τ).loc main_arg8)) (m ((c : Thread nD τ).loc main_arg9)) (ix2 R k) := by
  rw [LG_at]
  exact logit m c hR t r R hRt _ ⟨k, by omega⟩ rfl _ _ (fun x => W_lo m c x _ k rfl) (fun x => hR.w8 _) (B_lo m c _ k rfl)

include hR hRt in
/-- The next 32 are the experts'. -/
theorem logit_expert (k : Fin 32) : L m c t (ix2 r ⟨4 + k, by omega⟩)
    = LE (H2 m c) (m ((c : Thread nD τ).loc main_arg10)) (m ((c : Thread nD τ).loc main_arg11)) (ix2 R k) := by
  rw [LE_at]
  exact logit m c hR t r R hRt _ ⟨4 + k, by omega⟩ rfl _ _ (fun x => W_hi m c x _ k rfl) (fun x => hR.w10 _) (B_hi m c _ k rfl)

include hR in
/-- A group's logit is a real number. -/
theorem group_fn (k : Fin 4) : Fn (LG (H2 m c) (m ((c : Thread nD τ).loc main_arg8)) (m ((c : Thread nD τ).loc main_arg9)) (ix2 R k)) := by
  rw [LG_at]
  exact (Fn.sum fun x _ => (hR.h2 _ _ _).mul (hR.w8 _)).add (hR.b9 _)

include hR in
/-- An expert's logit is a real number. -/
theorem expert_fn (k : Fin 32) : Fn (LE (H2 m c) (m ((c : Thread nD τ).loc main_arg10)) (m ((c : Thread nD τ).loc main_arg11)) (ix2 R k)) := by
  rw [LE_at]
  exact (Fn.sum fun x _ => (hR.h2 _ _ _).mul (hR.w10 _)).add (hR.b11 _)

end logits

/-! ## The two experts -/

/-- What the body leaves at a grid point of the router's row. -/
def out (c : Dev nD) (t : Fin cfg0.N) : S512x128.Idx → EReal :=
  out0_12 (F := Ideal) (iblk m c 0 t) (iblk m c 1 t) (iblk m c 2 t) (iblk m c 3 t) (iblk m c 4 t) (iblk m c 5 t) (iblk m c 6 t) (iblk m c 7 t) (iblk m c 8 t) (iblk m c 9 t)

/-- The router of the reference on the arguments. -/
def RT (c : Dev nD) : FVec Ideal S16384x2 .f32 :=
  ROUTE (H2 m c) (m ((c : Thread nD τ).loc main_arg8)) (m ((c : Thread nD τ).loc main_arg9)) (m ((c : Thread nD τ).loc main_arg10)) (m ((c : Thread nD τ).loc main_arg11))

/-- The first two lanes of a row are the two experts' numbers. -/
theorem point (c : Dev nD) (hR : Real m c) (t : Fin cfg0.N) (r : Fin 512) (R : Fin 16384) (hRt : (R : ℕ) = t.val * 512 + r)
    (l : Fin 128) (p : Fin 2) (hl : (l : ℕ) = p) : out m c t (ix2 r l) = RT m c (ix2 R p) := by
  obtain ⟨g, hg⟩ := exists_first (fun k : Fin 4 => LG (H2 m c) (m ((c : Thread nD τ).loc main_arg8)) (m ((c : Thread nD τ).loc main_arg9)) (ix2 R k))
  obtain ⟨a, ha⟩ := exists_first (fun k : Fin 8 => LE (H2 m c) (m ((c : Thread nD τ).loc main_arg10)) (m ((c : Thread nD τ).loc main_arg11)) (ix2 R ⟨g * 8 + k, by omega⟩))
  obtain ⟨b, hb⟩ := exists_second (fun k : Fin 8 => LE (H2 m c) (m ((c : Thread nD τ).loc main_arg10)) (m ((c : Thread nD τ).loc main_arg11)) (ix2 R ⟨g * 8 + k, by omega⟩)) a
  refine Eq.trans ?_ (ROUTE_at _ _ _ _ _ R g a b hg (group_fn m c hR R g).ne_bot ha hb p).symm
  unfold out
  frame_out
  exact picked _ _ _ r _ _ g a b (fun k l e => (congrArg (fun l => L m c t (ix2 r l)) (Fin.ext e)).trans (logit_group m c hR t r R hRt k))
    (fun k l e => (congrArg (fun l => L m c t (ix2 r l)) (Fin.ext e)).trans (logit_expert m c hR t r R hRt ⟨g * 8 + k, by omega⟩))
    (fun k => (group_fn m c hR R k).ne_bot) (fun k => (expert_fn m c hR R _).ne_bot) hg ha hb _ _ l p hl

/-- The weights of the reference on the arguments. -/
def WT (c : Dev nD) : FVec Ideal S16384x2 .f32 :=
  WEIGH (H2 m c) (m ((c : Thread nD τ).loc main_arg8)) (m ((c : Thread nD τ).loc main_arg9)) (m ((c : Thread nD τ).loc main_arg10)) (m ((c : Thread nD τ).loc main_arg11))

/-- The next two lanes of a row are the two experts' weights. -/
theorem point_next (c : Dev nD) (hR : Real m c) (t : Fin cfg0.N) (r : Fin 512) (R : Fin 16384) (hRt : (R : ℕ) = t.val * 512 + r)
    (l : Fin 128) (p : Fin 2) (hl : (l : ℕ) = 2 + p) : out m c t (ix2 r l) = WT m c (ix2 R p) := by
  have h4 := fun k : Fin 4 => group_fn m c hR R k
  have h32 := fun k : Fin 32 => expert_fn m c hR R k
  choose lg hlg using h4
  choose lx hlx using h32
  obtain ⟨g, hg⟩ := exists_first (fun k : Fin 4 => (lg k : EReal))
  obtain ⟨a, ha⟩ := exists_first (fun k : Fin 8 => (lx ⟨g * 8 + k, by omega⟩ : EReal))
  obtain ⟨b, hb⟩ := exists_second (fun k : Fin 8 => (lx ⟨g * 8 + k, by omega⟩ : EReal)) a
  refine Eq.trans ?_ (WEIGH_at _ _ _ _ _ R g a b lg (fun k => lx ⟨g * 8 + k, by omega⟩) hlg
    (fun k q e => (congrArg (fun q => LE (H2 m c) (m ((c : Thread nD τ).loc main_arg10)) (m ((c : Thread nD τ).loc main_arg11)) (ix2 R q)) (Fin.ext e)).trans (hlx _)) hg ha hb p).symm
  unfold out
  frame_out
  exact weighed _ _ _ r lg (fun k => lx ⟨g * 8 + k, by omega⟩) g a b
    (fun k l e => (congrArg (fun l => L m c t (ix2 r l)) (Fin.ext e)).trans ((logit_group m c hR t r R hRt k).trans (hlg k)))
    (fun k l e => (congrArg (fun l => L m c t (ix2 r l)) (Fin.ext e)).trans ((logit_expert m c hR t r R hRt ⟨g * 8 + k, by omega⟩).trans (hlx _)))
    hg ha hb _ _ l p hl

/-- The rows the launch leaves, each the body's at its grid point. -/
def ROWS (c : Dev nD) : S16384x128.Idx → EReal := fun j =>
  out m c ⟨(j 0 : ℕ) / 512, by have h : (j 0 : ℕ) < 16384 := (j 0).isLt; have e : cfg0.N = 32 := rfl; omega⟩ (ix2 ⟨(j 0 : ℕ) % 512, by omega⟩ (j 1))

/-- A row of the launch at a grid point. -/
theorem rows_at (c : Dev nD) (t : Fin cfg0.N) (y : S512x128.Idx) (j : S16384x128.Idx) (h0 : (j 0 : ℕ) = t.val * 512 + y 0) (h1 : (j 1 : ℕ) = y 1) :
    out m c t y = ROWS m c j := by
  have hy : (y 0 : ℕ) < 512 := (y 0).isLt
  unfold ROWS
  have e1 : (⟨(j 0 : ℕ) / 512, by have h : (j 0 : ℕ) < 16384 := (j 0).isLt; have e : cfg0.N = 32 := rfl; omega⟩ : Fin cfg0.N) = t := Fin.ext (by simp only; omega)
  have e2 : (ix2 ⟨(j 0 : ℕ) % 512, by omega⟩ (j 1) : S512x128.Idx) = y := by
    funext k
    apply Fin.ext
    fin_cases k
    · show (j 0 : ℕ) % 512 = y 0
      omega
    · exact h1
  rw [e1, e2]

/-- The rows of the router the kernel leaves. -/
theorem final (c : Dev nD) : (dats m 0 c).arrAt 12 (cfgs 0).N = ROWS m c := by
  refine (dats m 0 c).arrAt_eq_of_covers 12 _ (by decide +kernel) fun t hf y => ?_
  blk_simp
  rw [after0_12]
  refine rows_at m c t y _ ?_ ?_
  all_goals (blk_simp [idx t] <;> try omega)

/-- The two experts' numbers the kernel returns are the reference's. -/
theorem result (c : Dev nD) (hR : Real m c) : extractStridedSlice S16384x2 ![0, 0] (ROWS m c) slices_S16384x128_S16384x2_0_0 = RT m c := by
  funext i
  obtain ⟨R, p, rfl⟩ : ∃ (R : Fin 16384) (p : Fin 2), i = ix2 R p := ⟨i 0, i 1, by funext k; fin_cases k <;> rfl⟩
  refine Eq.trans ?_ (point m c hR ⟨(R : ℕ) / 512, by have e : cfg0.N = 32 := rfl; omega⟩ ⟨(R : ℕ) % 512, by omega⟩ R (by simp only; omega) ⟨p, by omega⟩ p rfl)
  pointwise
  exact (rows_at m c _ _ _ (by show (R : ℕ) = (R : ℕ) / 512 * 512 + (R : ℕ) % 512; omega) rfl).symm

/-- The two experts' weights the kernel returns are the reference's. -/
theorem result_next (c : Dev nD) (hR : Real m c) : extractStridedSlice S16384x2 ![0, 2] (ROWS m c) slices_S16384x128_S16384x2_0_2 = WT m c := by
  funext i
  obtain ⟨R, p, rfl⟩ : ∃ (R : Fin 16384) (p : Fin 2), i = ix2 R p := ⟨i 0, i 1, by funext k; fin_cases k <;> rfl⟩
  refine Eq.trans ?_ (point_next m c hR ⟨(R : ℕ) / 512, by have e : cfg0.N = 32 := rfl; omega⟩ ⟨(R : ℕ) % 512, by omega⟩ R (by simp only; omega) ⟨2 + p, by omega⟩ p rfl)
  pointwise
  exact (rows_at m c _ _ _ (by show (R : ℕ) = (R : ℕ) / 512 * 512 + (R : ℕ) % 512; omega) rfl).symm

end Cert.Kernel5Ideal.Rt

end
-- ==== Proof.RtClaim.lean ====
/- The claims of the router: its runs end with the arguments unchanged, and over the reals the kernel's two experts'
   numbers and their weights are the reference's. -/
module

public import proofs.«01_k».proof.Defs
public import proofs.«01_k».proof.Proof.Gen.Kernel5.Frame
public import proofs.«01_k».proof.Proof.Gen.Kernel5Ideal.Run
public import proofs.«01_k».proof.Proof.Gen.Pre_finite
public import proofs.«01_k».proof.Proof.RouterRun
public import proofs.«01_k».proof.Proof.RtFinal

@[expose] public section

set_option maxRecDepth 16384

noncomputable section

namespace Cert.Proof

open Idealize.ShloMosaic Idealize.ShloMosaic.TcCoe Idealize.SL.Sem

/-- The router at its own floats ends, its arguments unchanged and its semaphores at zero. -/
theorem frame_kernel5 : Cert.quiescent_Kernel5 := fun m ρ _ => Cert.Kernel5.Gen.frame m ρ

/-- The router read over the reals ends, its arguments unchanged and its semaphores at zero. -/
theorem frame_kernel5Ideal : Cert.quiescent_Kernel5Ideal := fun m ρ _ => Cert.Kernel5Ideal.Gen.frame m ρ

/-- So it does from finite arguments. -/
theorem frame_kernel5Ideal_finite : Cert.quiescent_Kernel5Ideal_pre_finite := fun m ρ _ => Cert.Kernel5Ideal.Gen.frame m ρ

/-- The router's reference ends, its arguments unchanged and its semaphores at zero. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- So it does from finite arguments. -/
theorem frame_reference5_finite : Cert.quiescent_Reference5Ideal_pre_finite := fun m ρ _ =>
  (θ_run Cert.Reference5Ideal.defs _ _).mono (fun r h => ⟨fun c => (h c).2.2, sem_eq_zero_of_no_sems (by decide) r.2⟩)
    (Cert.Reference5Ideal.Value.run (F := Ideal) m ρ)

section router
variable (m : (ℓ : Loc Cert.Kernel5Ideal.nD Cert.Kernel5Ideal.τ Cert.Kernel5Ideal.sig) → Buf (Elt Ideal) ℓ)

/-- Finite arguments give the router real entries. -/
theorem real_of_pre (hp : Cert.Pre_Kernel5Ideal_finite m) (c : Dev Cert.Kernel5Ideal.nD) : Cert.Kernel5Ideal.Rt.Real m c := by
  obtain ⟨⟨h0, h1, h2, h3⟩, ⟨h4, h5, h6, h7⟩, h8, h9, h10, h11⟩ := Cert.Finite.of_pre _ _ _ _ _ _ _ _ _ _ _ _ (hp c)
  exact ⟨fun a b q => Cert.Finite.ref2_fn _ _ _ _ _ _ _ _ h0 h1 h2 h3 h4 h5 h6 h7 a b q, h8, h9, h10, h11⟩

/-- What the kernel returns is the reference's router on the arguments. -/
theorem router (hp : Cert.Pre_Kernel5Ideal_finite m) (c : Dev Cert.Kernel5Ideal.nD) :
    extractStridedSlice Cert.Kernel5Ideal.S16384x2 ![0, 0] (Cert.Kernel5Ideal.Value.reg_main_v20_2 m c)
      Cert.Kernel5Ideal.Gen.slices_S16384x128_S16384x2_0_0 = Cert.Kernel5Ideal.Rt.RT m c := by
  have e : Cert.Kernel5Ideal.Value.reg_main_v20_2 m c = Cert.Kernel5Ideal.Rt.ROWS m c := Cert.Kernel5Ideal.Rt.final m c
  rw [e]
  exact Cert.Kernel5Ideal.Rt.result m c (real_of_pre m hp c)

/-- So are the weights it returns. -/
theorem weights (hp : Cert.Pre_Kernel5Ideal_finite m) (c : Dev Cert.Kernel5Ideal.nD) :
    extractStridedSlice Cert.Kernel5Ideal.S16384x2 ![0, 2] (Cert.Kernel5Ideal.Value.reg_main_v20_2 m c)
      Cert.Kernel5Ideal.Gen.slices_S16384x128_S16384x2_0_2 = Cert.Kernel5Ideal.Rt.WT m c := by
  have e : Cert.Kernel5Ideal.Value.reg_main_v20_2 m c = Cert.Kernel5Ideal.Rt.ROWS m c := Cert.Kernel5Ideal.Rt.final m c
  rw [e]
  exact Cert.Kernel5Ideal.Rt.result_next m c (real_of_pre m hp c)

end router

/-- Over the reals, from finite arguments, the router and its reference end with the same two experts' numbers for each
    token and the same weights, their arguments unchanged. -/
theorem algebraic5 : Cert.algebraic_Kernel5Ideal_Reference5Ideal_pre_finite := by
  unfold Cert.algebraic_Kernel5Ideal_Reference5Ideal_pre_finite
  intro m g m' g' hp hm
  refine ⟨fun c => Cert.Kernel5Ideal.Rt.RT m c, fun c => Cert.Kernel5Ideal.Rt.WT m c,
    (θ_run Cert.Kernel5Ideal.defs _ _).mono (fun _ h c => ⟨(h c).1.trans (router m hp c), (h c).2.1.trans (weights m hp c), (h c).2.2⟩)
      (Cert.Kernel5Ideal.Value.run (F := Ideal) m g),
    (θ_run Cert.Reference5Ideal.defs _ _).mono (fun _ h c => ⟨(h c).1.trans ?_, (h c).2.1.trans ?_, (h c).2.2⟩)
      (Cert.Reference5Ideal.Value.run (F := Ideal) m' g')⟩
  · obtain ⟨e0, e1, e2, e3, e4, e5, e6, e7, e8, e9, e10, e11⟩ := hm c
    refine (Cert.Reference5Ideal.Rt.res_eq m' c).trans ?_
    unfold Cert.Kernel5Ideal.Rt.RT Cert.Kernel5Ideal.Rt.H2
    exact congr (congr (congr (congr (congrArg Cert.Reference5Ideal.Rt.ROUTE (congr (congr (congr (congr (congr (congr (congr
      (congrArg Cert.Reference3Ideal.Mix.REF2 e0) e1) e2) e3) e4) e5) e6) e7)) e8) e9) e10) e11
  · obtain ⟨e0, e1, e2, e3, e4, e5, e6, e7, e8, e9, e10, e11⟩ := hm c
    refine (Cert.Reference5Ideal.Rt.res_weigh m' c).trans ?_
    unfold Cert.Kernel5Ideal.Rt.WT Cert.Kernel5Ideal.Rt.H2
    exact congr (congr (congr (congr (congrArg Cert.Reference5Ideal.Rt.WEIGH (congr (congr (congr (congr (congr (congr (congr
      (congrArg Cert.Reference3Ideal.Mix.REF2 e0) e1) e2) e3) e4) e5) e6) e7)) e8) e9) e10) e11

end Cert.Proof

end
-- ==== Proof.lean ====
module

public import Idealize.ShloMosaic.Adequacy
public import Idealize.ShloMosaic.Init
public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_routed
public import proofs.«01_k».proof.Proof.Gen.Kernel2
public import proofs.«01_k».proof.Proof.Gen.Kernel2.Launch
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Launch
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Launch
public import proofs.«01_k».proof.Proof.Gen.Kernel4.Skeleton
public import proofs.«01_k».proof.Proof.Gen.Kernel4.Frame
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Launch
public import proofs.«01_k».proof.Proof.Gen.Kernel5.Skeleton
public import proofs.«01_k».proof.Proof.Gen.Kernel5.Frame
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Frame
public import proofs.«01_k».proof.Proof.Gen.Kernel5Ideal.Run
public import proofs.«01_k».proof.Proof.Gen.Reference5Ideal
public import proofs.«01_k».proof.Proof.Gen.Pre_finite
public import proofs.«01_k».proof.Proof.Algebraic
public import proofs.«01_k».proof.Proof.Calls
public import proofs.«01_k».proof.Proof.RtClaim

@[expose] public section

noncomputable section

namespace Cert.Proof

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_routed.Gen.facts, Cert.Pre_finite.Gen.facts,
    frame_kernel, frame_kernelIdeal, frame_reference, frame_kernel2, frame_kernel2Ideal, frame_reference2,
    frame_kernel3, frame_kernel3Ideal, frame_reference3,
    frame_kernel4, frame_kernel4Ideal, frame_reference4,
    frame_kernel5, frame_kernel5Ideal, frame_kernel5Ideal_finite, frame_reference5, frame_reference5_finite,
    trivial, algebraic, trivial, algebraic2, trivial, algebraic3, trivial, algebraic4, trivial, algebraic5⟩

end Cert.Proof

end
